-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_proj [hPre_finite_proj : Cert.Pre_finite_proj.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_proj.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_proj [hPre_finite_proj : Cert.Pre_finite_proj.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_proj.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_fox [hPre_finite_fox : Cert.Pre_finite_fox.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_fox.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_fox [hPre_finite_fox : Cert.Pre_finite_fox.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_fox.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1))) = (fun _ => 1#1)

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_KernelSIdeal_finite_sb [hPre_finite_sb : Cert.Pre_finite_sb.Facts] (m : (ℓ : Loc Cert.KernelSIdeal.nD Cert.KernelSIdeal.τ Cert.KernelSIdeal.sig) → Buf (Elt Ideal) ℓ) : Prop :=
  ∀ c : Dev Cert.KernelSIdeal.nD,
    (Cert.Pre_finite_sb.fn (F := Ideal) (m ((c.tc : Thread Cert.KernelSIdeal.nD Cert.KernelSIdeal.τ).loc Cert.KernelSIdeal.main_arg0))) = (fun _ => 1#1)

def Pre_ReferenceSIdeal (m : (ℓ : Loc Cert.ReferenceSIdeal.nD Cert.ReferenceSIdeal.τ Cert.ReferenceSIdeal.sig) → Buf (Elt Ideal) ℓ) : Prop :=
  True

def Pre_ReferenceSIdeal_finite_sb [hPre_finite_sb : Cert.Pre_finite_sb.Facts] (m : (ℓ : Loc Cert.ReferenceSIdeal.nD Cert.ReferenceSIdeal.τ Cert.ReferenceSIdeal.sig) → Buf (Elt Ideal) ℓ) : Prop :=
  ∀ c : Dev Cert.ReferenceSIdeal.nD,
    (Cert.Pre_finite_sb.fn (F := Ideal) (m ((c.tc : Thread Cert.ReferenceSIdeal.nD Cert.ReferenceSIdeal.τ).loc Cert.ReferenceSIdeal.main_arg0))) = (fun _ => 1#1)

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_KernelAIdeal_pre_finite_proj [hKernelAIdeal : Cert.KernelAIdeal.Facts] [hPre_finite_proj : Cert.Pre_finite_proj.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_proj m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def quiescent_ReferenceAIdeal_pre_finite_proj [hReferenceAIdeal : Cert.ReferenceAIdeal.Facts] [hPre_finite_proj : Cert.Pre_finite_proj.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_proj m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ r.2.sem = fun _ => 0)

def quiescent_KernelFIdeal_pre_finite_fox [hKernelFIdeal : Cert.KernelFIdeal.Facts] [hPre_finite_fox : Cert.Pre_finite_fox.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_fox m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0)

def quiescent_ReferenceFIdeal_pre_finite_fox [hReferenceFIdeal : Cert.ReferenceFIdeal.Facts] [hPre_finite_fox : Cert.Pre_finite_fox.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_fox m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0))
      ∧ r.2.sem = fun _ => 0)

def quiescent_KernelSIdeal_pre_finite_sb [hKernelSIdeal : Cert.KernelSIdeal.Facts] [hPre_finite_sb : Cert.Pre_finite_sb.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal_finite_sb m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0))
      ∧ r.2.sem = fun _ => 0)

def quiescent_ReferenceSIdeal_pre_finite_sb [hReferenceSIdeal : Cert.ReferenceSIdeal.Facts] [hPre_finite_sb : Cert.Pre_finite_sb.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal_finite_sb m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5))
      ∧ r.2.sem = fun _ => 0)

def preserves_Kernel_KernelIdeal : Prop :=
  IdealRules.named_const.Statement Cert.KernelIdeal.κ "scale" .f32 0x3D93CD3A#32 (((Real.sqrt 192)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelA_KernelAIdeal : Prop :=
  True

def algebraic_KernelAIdeal_ReferenceAIdeal_pre_finite_proj [hKernelAIdeal : Cert.KernelAIdeal.Facts] [hReferenceAIdeal : Cert.ReferenceAIdeal.Facts] [hPre_finite_proj : Cert.Pre_finite_proj.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_proj m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)) →
    ∃ (v0 : (c : Dev Cert.KernelAIdeal.nD) → Buf (Elt Ideal) ((c.tc : Thread Cert.KernelAIdeal.nD Cert.KernelAIdeal.τ).loc Cert.KernelAIdeal.main_v13)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v13) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v10) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)) →
    ∃ (v0 : (c : Dev Cert.KernelBIdeal.nD) → Buf (Elt Ideal) ((c.tc : Thread Cert.KernelBIdeal.nD Cert.KernelBIdeal.τ).loc Cert.KernelBIdeal.main_v6)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v6) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v6) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v8)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v8) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v8) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)) →
    ∃ (v0 : (c : Dev Cert.KernelDIdeal.nD) → Buf (Elt Ideal) ((c.tc : Thread Cert.KernelDIdeal.nD Cert.KernelDIdeal.τ).loc Cert.KernelDIdeal.main_v11)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v11) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v10) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1))

def preserves_KernelF_KernelFIdeal : Prop :=
  IdealRules.named_const.Statement Cert.KernelFIdeal.κ "scale" .f32 0x3DB504F3#32 (((Real.sqrt 128)⁻¹ : ℝ) : EReal)

def algebraic_KernelFIdeal_ReferenceFIdeal_pre_finite_fox [hKernelFIdeal : Cert.KernelFIdeal.Facts] [hReferenceFIdeal : Cert.ReferenceFIdeal.Facts] [hPre_finite_fox : Cert.Pre_finite_fox.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_fox m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)) →
    ∃ (v0 : (c : Dev Cert.KernelFIdeal.nD) → Buf (Elt Ideal) ((c.tc : Thread Cert.KernelFIdeal.nD Cert.KernelFIdeal.τ).loc Cert.KernelFIdeal.main_v5)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v5) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v40) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1))

def preserves_KernelS_KernelSIdeal : Prop :=
  IdealRules.named_const.Statement Cert.KernelSIdeal.κ "scale" .f32 0x3DB504F3#32 (((Real.sqrt 128)⁻¹ : ℝ) : EReal)

def algebraic_KernelSIdeal_ReferenceSIdeal_pre_finite_sb [hKernelSIdeal : Cert.KernelSIdeal.Facts] [hReferenceSIdeal : Cert.ReferenceSIdeal.Facts] [hPre_finite_sb : Cert.Pre_finite_sb.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal_finite_sb m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)) →
    ∃ (v0 : (c : Dev Cert.KernelSIdeal.nD) → Buf (Elt Ideal) ((c.tc : Thread Cert.KernelSIdeal.nD Cert.KernelSIdeal.τ).loc Cert.KernelSIdeal.main_v5)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v5) = v0 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v28) = v0 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0))

def preserves_KernelO_KernelOIdeal : Prop :=
  IdealRules.named_const.Statement Cert.KernelOIdeal.κ "alpha" .f32 0x3FD744FD#32 ((Real.sqrt (Real.sqrt 8) : ℝ) : EReal)
  ∧ IdealRules.named_const.Statement Cert.KernelOIdeal.κ "eps" .f32 0x3727C5AC#32 ((100000⁻¹ : ℝ) : EReal)

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)) →
    ∃ (v0 : (c : Dev Cert.KernelOIdeal.nD) → Buf (Elt Ideal) ((c.tc : Thread Cert.KernelOIdeal.nD Cert.KernelOIdeal.τ).loc Cert.KernelOIdeal.main_v3_0)) (v1 : (c : Dev Cert.KernelOIdeal.nD) → Buf (Elt Ideal) ((c.tc : Thread Cert.KernelOIdeal.nD Cert.KernelOIdeal.τ).loc Cert.KernelOIdeal.main_v3_1)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v3_0) = v0 c
          ∧ r.2.mem ((c.tc : Thread Cert.KernelOIdeal.nD Cert.KernelOIdeal.τ).loc Cert.KernelOIdeal.main_v3_1) = v1 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v33) = v0 c
          ∧ r.2.mem ((c.tc : Thread Cert.ReferenceOIdeal.nD Cert.ReferenceOIdeal.τ).loc Cert.ReferenceOIdeal.main_v34) = v1 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelD : Cert.KernelD.Facts) (hKernelDIdeal : Cert.KernelDIdeal.Facts) (hReferenceDIdeal : Cert.ReferenceDIdeal.Facts) (hKernelF : Cert.KernelF.Facts) (hKernelFIdeal : Cert.KernelFIdeal.Facts) (hReferenceFIdeal : Cert.ReferenceFIdeal.Facts) (hKernelS : Cert.KernelS.Facts) (hKernelSIdeal : Cert.KernelSIdeal.Facts) (hReferenceSIdeal : Cert.ReferenceSIdeal.Facts) (hKernelO : Cert.KernelO.Facts) (hKernelOIdeal : Cert.KernelOIdeal.Facts) (hReferenceOIdeal : Cert.ReferenceOIdeal.Facts) (hPre_finite_scores : Cert.Pre_finite_scores.Facts) (hPre_finite_proj : Cert.Pre_finite_proj.Facts) (hPre_finite_fox : Cert.Pre_finite_fox.Facts) (hPre_finite_sb : Cert.Pre_finite_sb.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelA (hKernelA := hKernelA)
    ∧ quiescent_KernelAIdeal (hKernelAIdeal := hKernelAIdeal)
    ∧ quiescent_KernelAIdeal_pre_finite_proj (hKernelAIdeal := hKernelAIdeal) (hPre_finite_proj := hPre_finite_proj)
    ∧ quiescent_ReferenceAIdeal (hReferenceAIdeal := hReferenceAIdeal)
    ∧ quiescent_ReferenceAIdeal_pre_finite_proj (hReferenceAIdeal := hReferenceAIdeal) (hPre_finite_proj := hPre_finite_proj)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelF (hKernelF := hKernelF)
    ∧ quiescent_KernelFIdeal (hKernelFIdeal := hKernelFIdeal)
    ∧ quiescent_KernelFIdeal_pre_finite_fox (hKernelFIdeal := hKernelFIdeal) (hPre_finite_fox := hPre_finite_fox)
    ∧ quiescent_ReferenceFIdeal (hReferenceFIdeal := hReferenceFIdeal)
    ∧ quiescent_ReferenceFIdeal_pre_finite_fox (hReferenceFIdeal := hReferenceFIdeal) (hPre_finite_fox := hPre_finite_fox)
    ∧ quiescent_KernelS (hKernelS := hKernelS)
    ∧ quiescent_KernelSIdeal (hKernelSIdeal := hKernelSIdeal)
    ∧ quiescent_KernelSIdeal_pre_finite_sb (hKernelSIdeal := hKernelSIdeal) (hPre_finite_sb := hPre_finite_sb)
    ∧ quiescent_ReferenceSIdeal (hReferenceSIdeal := hReferenceSIdeal)
    ∧ quiescent_ReferenceSIdeal_pre_finite_sb (hReferenceSIdeal := hReferenceSIdeal) (hPre_finite_sb := hPre_finite_sb)
    ∧ quiescent_KernelO (hKernelO := hKernelO)
    ∧ quiescent_KernelOIdeal (hKernelOIdeal := hKernelOIdeal)
    ∧ quiescent_ReferenceOIdeal (hReferenceOIdeal := hReferenceOIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelA_KernelAIdeal
    ∧ algebraic_KernelAIdeal_ReferenceAIdeal_pre_finite_proj (hKernelAIdeal := hKernelAIdeal) (hReferenceAIdeal := hReferenceAIdeal) (hPre_finite_proj := hPre_finite_proj)
    ∧ preserves_KernelB_KernelBIdeal
    ∧ algebraic_KernelBIdeal_ReferenceBIdeal (hKernelBIdeal := hKernelBIdeal) (hReferenceBIdeal := hReferenceBIdeal)
    ∧ preserves_KernelC_KernelCIdeal
    ∧ algebraic_KernelCIdeal_ReferenceCIdeal (hKernelCIdeal := hKernelCIdeal) (hReferenceCIdeal := hReferenceCIdeal)
    ∧ preserves_KernelD_KernelDIdeal
    ∧ algebraic_KernelDIdeal_ReferenceDIdeal (hKernelDIdeal := hKernelDIdeal) (hReferenceDIdeal := hReferenceDIdeal)
    ∧ preserves_KernelF_KernelFIdeal
    ∧ algebraic_KernelFIdeal_ReferenceFIdeal_pre_finite_fox (hKernelFIdeal := hKernelFIdeal) (hReferenceFIdeal := hReferenceFIdeal) (hPre_finite_fox := hPre_finite_fox)
    ∧ preserves_KernelS_KernelSIdeal
    ∧ algebraic_KernelSIdeal_ReferenceSIdeal_pre_finite_sb (hKernelSIdeal := hKernelSIdeal) (hReferenceSIdeal := hReferenceSIdeal) (hPre_finite_sb := hPre_finite_sb)
    ∧ preserves_KernelO_KernelOIdeal
    ∧ algebraic_KernelOIdeal_ReferenceOIdeal (hKernelOIdeal := hKernelOIdeal) (hReferenceOIdeal := hReferenceOIdeal)
-- ==== Pre_finite_fox.lean ====
abbrev S8192x5376 : Shape := ⟨2, ![8192, 5376]⟩
abbrev S8192x128 : Shape := ⟨2, ![8192, 128]⟩
abbrev S8192x2560 : Shape := ⟨2, ![8192, 2560]⟩
abbrev S_ : Shape := ⟨0, ![]⟩
abbrev S8192x16 : Shape := ⟨2, ![8192, 16]⟩

class Facts : Prop where
  slices_S8192x5376_S8192x2560_0_2048 : S8192x5376.Slices ![0, 2048] S8192x2560
  bcast_S_S8192x2560 : S_.BroadcastsInDim S8192x2560 (![] : Fin 0 → Fin S8192x2560.rank)
  reducesTo_S8192x2560_S_d0_1 : S8192x2560.ReducesTo [0, 1] S_
  h_S_ : 0 < S_.numel
  slices_S8192x128_S8192x16_0_0 : S8192x128.Slices ![0, 0] S8192x16
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x5376 .f32) (main_arg1 : FVec F S8192x128 .f32) : IVec S_ 1 :=
  let main_v0 : FVec F S8192x2560 .f32 := (extractStridedSlice S8192x2560 ![0, 2048] · slices_S8192x5376_S8192x2560_0_2048) main_arg0
  let main_cst : FVec F S_ .f32 := constant S_ .f32 0xFF800000#32
  let main_v1 : FVec F S8192x2560 .f32 := broadcastInDim S8192x2560 ![] bcast_S_S8192x2560 main_cst
  let main_v2 : IVec S8192x2560 1 := cmpf .ogt main_v0 main_v1
  let main_v3 : FVec F S8192x2560 .f32 := (extractStridedSlice S8192x2560 ![0, 2048] · slices_S8192x5376_S8192x2560_0_2048) main_arg0
  let main_cst_0 : FVec F S_ .f32 := constant S_ .f32 0x7F800000#32
  let main_v4 : FVec F S8192x2560 .f32 := broadcastInDim S8192x2560 ![] bcast_S_S8192x2560 main_cst_0
  let main_v5 : IVec S8192x2560 1 := cmpf .olt main_v3 main_v4
  let main_v6 : IVec S8192x2560 1 := andi main_v2 main_v5
  let main_c : IVec S_ 1 := constantI S_ 1 1#1
  let main_v7 : IVec S_ 1 := (fun x v => Host.reduce IntOp.andi x v reducesTo_S8192x2560_S_d0_1 h_S_) main_v6 main_c
  let main_v8 : FVec F S8192x16 .f32 := (extractStridedSlice S8192x16 ![0, 0] · slices_S8192x128_S8192x16_0_0) main_arg1
  let main_cst_1 : FVec F S_ .f32 := constant S_ .f32 0xFF800000#32
  let main_v9 : FVec F S8192x16 .f32 := broadcastInDim S8192x16 ![] bcast_S_S8192x16 main_cst_1
  let main_v10 : IVec S8192x16 1 := cmpf .ogt main_v8 main_v9
  let main_v11 : FVec F S8192x16 .f32 := (extractStridedSlice S8192x16 ![0, 0] · slices_S8192x128_S8192x16_0_0) main_arg1
  let main_cst_2 : FVec F S_ .f32 := constant S_ .f32 0x7F800000#32
  let main_v12 : FVec F S8192x16 .f32 := broadcastInDim S8192x16 ![] bcast_S_S8192x16 main_cst_2
  let main_v13 : IVec S8192x16 1 := cmpf .olt main_v11 main_v12
  let main_v14 : IVec S8192x16 1 := andi main_v10 main_v13
  let main_c_3 : IVec S_ 1 := constantI S_ 1 1#1
  let main_v15 : IVec S_ 1 := (fun x v => Host.reduce IntOp.andi x v reducesTo_S8192x16_S_d0_1 h_S_) main_v14 main_c_3
  let main_v16 : IVec S_ 1 := andi main_v7 main_v15
  main_v16
-- ==== Pre_finite_proj.lean ====
abbrev S2x4096x2048 : Shape := ⟨3, ![2, 4096, 2048]⟩
abbrev S2048x3136 : Shape := ⟨2, ![2048, 3136]⟩
abbrev S2048x32 : Shape := ⟨2, ![2048, 32]⟩
abbrev S_ : Shape := ⟨0, ![]⟩

class Facts : Prop where
  slices_S2048x3136_S2048x32_0_1056 : S2048x3136.Slices ![0, 1056] S2048x32
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S2x4096x2048 .f32) (main_arg1 : FVec F S2048x3136 .f32) : IVec S_ 1 :=
  let main_v0 : FVec F S2048x32 .f32 := (extractStridedSlice S2048x32 ![0, 1056] · slices_S2048x3136_S2048x32_0_1056) main_arg1
  let main_cst : FVec F S_ .f32 := constant S_ .f32 0xFF800000#32
  let main_v1 : FVec F S2x4096x2048 .f32 := broadcastInDim S2x4096x2048 ![] bcast_S_S2x4096x2048 main_cst
  let main_v2 : IVec S2x4096x2048 1 := cmpf .ogt main_arg0 main_v1
  let main_cst_0 : FVec F S_ .f32 := constant S_ .f32 0x7F800000#32
  let main_v3 : FVec F S2x4096x2048 .f32 := broadcastInDim S2x4096x2048 ![] bcast_S_S2x4096x2048 main_cst_0
  let main_v4 : IVec S2x4096x2048 1 := cmpf .olt main_arg0 main_v3
  let main_v5 : IVec S2x4096x2048 1 := andi main_v2 main_v4
  let main_c : IVec S_ 1 := constantI S_ 1 1#1
  let main_v6 : IVec S_ 1 := (fun x v => Host.reduce IntOp.andi x v reducesTo_S2x4096x2048_S_d0_1_2 h_S_) main_v5 main_c
  let main_cst_1 : FVec F S_ .f32 := constant S_ .f32 0xFF800000#32
  let main_v7 : FVec F S2048x32 .f32 := broadcastInDim S2048x32 ![] bcast_S_S2048x32 main_cst_1
  let main_v8 : IVec S2048x32 1 := cmpf .ogt main_v0 main_v7
  let main_cst_2 : FVec F S_ .f32 := constant S_ .f32 0x7F800000#32
  let main_v9 : FVec F S2048x32 .f32 := broadcastInDim S2048x32 ![] bcast_S_S2048x32 main_cst_2
  let main_v10 : IVec S2048x32 1 := cmpf .olt main_v0 main_v9
  let main_v11 : IVec S2048x32 1 := andi main_v8 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v6 main_v12
  main_v13
-- ==== Pre_finite_sb.lean ====
abbrev S8192x5120 : Shape := ⟨2, ![8192, 5120]⟩
abbrev S8192x2560 : Shape := ⟨2, ![8192, 2560]⟩
abbrev S_ : Shape := ⟨0, ![]⟩

class Facts : Prop where
  slices_S8192x5120_S8192x2560_0_2048 : S8192x5120.Slices ![0, 2048] S8192x2560
  bcast_S_S8192x2560 : S_.BroadcastsInDim S8192x2560 (![] : Fin 0 → Fin S8192x2560.rank)
  reducesTo_S8192x2560_S_d0_1 : S8192x2560.ReducesTo [0, 1] S_
  h_S_ : 0 < S_.numel

variable [Facts]

def fn {F : FTy → Type} [FloatOps F] (main_arg0 : FVec F S8192x5120 .f32) : IVec S_ 1 :=
  let main_v0 : FVec F S8192x2560 .f32 := (extractStridedSlice S8192x2560 ![0, 2048] · slices_S8192x5120_S8192x2560_0_2048) main_arg0
  let main_cst : FVec F S_ .f32 := constant S_ .f32 0xFF800000#32
  let main_v1 : FVec F S8192x2560 .f32 := broadcastInDim S8192x2560 ![] bcast_S_S8192x2560 main_cst
  let main_v2 : IVec S8192x2560 1 := cmpf .ogt main_v0 main_v1
  let main_v3 : FVec F S8192x2560 .f32 := (extractStridedSlice S8192x2560 ![0, 2048] · slices_S8192x5120_S8192x2560_0_2048) main_arg0
  let main_cst_0 : FVec F S_ .f32 := constant S_ .f32 0x7F800000#32
  let main_v4 : FVec F S8192x2560 .f32 := broadcastInDim S8192x2560 ![] bcast_S_S8192x2560 main_cst_0
  let main_v5 : IVec S8192x2560 1 := cmpf .olt main_v3 main_v4
  let main_v6 : IVec S8192x2560 1 := andi main_v2 main_v5
  let main_c : IVec S_ 1 := constantI S_ 1 1#1
  let main_v7 : IVec S_ 1 := (fun x v => Host.reduce IntOp.andi x v reducesTo_S8192x2560_S_d0_1 h_S_) main_v6 main_c
  main_v7
-- ==== Pre_finite_scores.lean ====
abbrev S8192x4096 : Shape := ⟨2, ![8192, 4096]⟩
abbrev S8192x2048 : Shape := ⟨2, ![8192, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .bf16) (main_arg1 : FVec F S8192x4096 .bf16) (main_arg2 : FVec F S8192x2048 .bf16) : IVec S_ 1 :=
  let main_v0 : FVec F S8192x4096 .f32 := (extf .f32 · bitsLt_bf16_f32) main_arg0
  let main_v1 : FVec F S8192x4096 .f32 := (extf .f32 · bitsLt_bf16_f32) main_arg1
  let main_cst : FVec F S_ .f32 := constant S_ .f32 0xFF800000#32
  let main_v2 : FVec F S8192x4096 .f32 := broadcastInDim S8192x4096 ![] bcast_S_S8192x4096 main_cst
  let main_v3 : IVec S8192x4096 1 := cmpf .ogt main_v0 main_v2
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v0 main_v4
  let main_v6 : IVec S8192x4096 1 := andi main_v3 main_v5
  let main_c : IVec S_ 1 := constantI S_ 1 1#1
  let main_v7 : IVec S_ 1 := (fun x v => Host.reduce IntOp.andi x v reducesTo_S8192x4096_S_d0_1 h_S_) main_v6 main_c
  let main_cst_1 : FVec F S_ .f32 := constant S_ .f32 0xFF800000#32
  let main_v8 : FVec F S8192x4096 .f32 := broadcastInDim S8192x4096 ![] bcast_S_S8192x4096 main_cst_1
  let main_v9 : IVec S8192x4096 1 := cmpf .ogt main_v1 main_v8
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v1 main_v10
  let main_v12 : IVec S8192x4096 1 := andi main_v9 main_v11
  let main_c_3 : IVec S_ 1 := constantI S_ 1 1#1
  let main_v13 : IVec S_ 1 := (fun x v => Host.reduce IntOp.andi x v reducesTo_S8192x4096_S_d0_1 h_S_) main_v12 main_c_3
  let main_v14 : IVec S_ 1 := andi main_v7 main_v13
  main_v14
-- ==== Kernel.lean ====
abbrev S8192x4096 : Shape := ⟨2, ![8192, 4096]⟩
abbrev S8192x2048 : Shape := ⟨2, ![8192, 2048]⟩
abbrev S10 : Shape := ⟨1, ![10]⟩
abbrev S1024x256 : Shape := ⟨2, ![1024, 256]⟩
abbrev S1 : Shape := ⟨1, ![1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 4
  | .vmem => 11
  | .smem => 2
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .smem, ⟨0, _⟩ => ⟨S10, .i32⟩
  | .local _ .smem, ⟨1, _⟩ => ⟨S10, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v15 : BitVec 1 := Scalar.cmpi .eq v3 v1
  let v16 : BitVec 32 := Scalar.extui v15
  let c0_i32_6 : BitVec 32 := 0#32
  let v17 : BitVec 1 := Scalar.cmpi .ne v16 c0_i32_6
  v17

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c1_i32 : BitVec 32 := 1#32
  let v4 : BitVec 32 := Scalar.divsi arg1 c1_i32
  let c0_i32 : BitVec 32 := 0#32
  let v5 : BitVec 1 := Scalar.cmpi .sgt arg1 c0_i32
  let v6 : BitVec 32 := Scalar.extui v5
  let c0_i32_0 : BitVec 32 := 0#32
  let v7 : BitVec 1 := Scalar.cmpi .slt arg1 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi arg1 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let v21 : BitVec 32 := Scalar.addi c0_i32_5 v20
  let c0_i32_6 : BitVec 32 := 0#32
  ![v3.toNat, v21.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c1_i32 : BitVec 32 := 1#32
  let v4 : BitVec 32 := Scalar.divsi arg1 c1_i32
  let c0_i32 : BitVec 32 := 0#32
  let v5 : BitVec 1 := Scalar.cmpi .sgt arg1 c0_i32
  let v6 : BitVec 32 := Scalar.extui v5
  let c0_i32_0 : BitVec 32 := 0#32
  let v7 : BitVec 1 := Scalar.cmpi .slt arg1 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi arg1 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let v21 : BitVec 32 := Scalar.addi c0_i32_5 v20
  let c0_i32_6 : BitVec 32 := 0#32
  ![v3.toNat, v21.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale" => some (((Real.sqrt 192)⁻¹ : ℝ) : EReal)
  | _ => none
-- ==== ReferenceIdeal.lean ====
abbrev S8192x4096 : Shape := ⟨2, ![8192, 4096]⟩
abbrev S8192x2048 : Shape := ⟨2, ![8192, 2048]⟩
abbrev S2x4096x16x256 : Shape := ⟨4, ![2, 4096, 16, 256]⟩
abbrev S2x4096x16x128 : Shape := ⟨4, ![2, 4096, 16, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x4096, .f32⟩
  | .hbm, ⟨4, _⟩ => ⟨S2x4096x16x256, .f32⟩
  | .hbm, ⟨5, _⟩ => ⟨S8192x4096, .f32⟩
  | .hbm, ⟨6, _⟩ => ⟨S2x4096x16x256, .f32⟩
  | .hbm, ⟨7, _⟩ => ⟨S8192x2048, .f32⟩
  | .hbm, ⟨8, _⟩ => ⟨S2x4096x16x128, .f32⟩
  | .hbm, ⟨9, _⟩ => ⟨S2x16x4096x4096, .f32⟩
  | .hbm, ⟨10, _⟩ => ⟨S_, .f32⟩
  | .hbm, ⟨11, _⟩ => ⟨S_, .f32⟩
  | .hbm, ⟨12, _⟩ => ⟨S2x16x4096x4096, .f32⟩
  | .hbm, ⟨13, _⟩ => ⟨S2x16x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S2x16x4096x4096, .i1⟩
  | .hbm, ⟨23, _⟩ => ⟨S2x16x4096x4096, .f32⟩
  | .hbm, ⟨24, _⟩ => ⟨S2x16x4096x4096, .f32⟩
  | .hbm, ⟨25, _⟩ => ⟨S_, .f32⟩
  | .hbm, ⟨26, _⟩ => ⟨S2x16x4096, .f32⟩
  | .hbm, ⟨27, _⟩ => ⟨S_, .f32⟩
  | .hbm, ⟨28, _⟩ => ⟨S2x16x4096, .f32⟩
  | .hbm, ⟨29, _⟩ => ⟨S2x16x4096, .f32⟩
  | .hbm, ⟨30, _⟩ => ⟨S2x16x4096x1, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S_, .f32⟩
  | .hbm, ⟨35, _⟩ => ⟨S2x16x4096, .f32⟩
  | .hbm, ⟨36, _⟩ => ⟨S2x16x4096x1, .f32⟩
  | .hbm, ⟨37, _⟩ => ⟨S2x16x4096x4096, .f32⟩
  | .hbm, ⟨38, _⟩ => ⟨S2x16x4096x4096, .f32⟩
  | .hbm, ⟨39, _⟩ => ⟨S2x16x128x4096, .f32⟩
  | .hbm, ⟨40, _⟩ => ⟨S2x4096x16x128, .f32⟩
  | .hbm, ⟨41, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== KernelA.lean ====
abbrev S2x4096x2048 : Shape := ⟨3, ![2, 4096, 2048]⟩
abbrev S2048x3136 : Shape := ⟨2, ![2048, 3136]⟩
abbrev S8192x2048 : Shape := ⟨2, ![8192, 2048]⟩
abbrev S2048x512 : Shape := ⟨2, ![2048, 512]⟩
abbrev S2048x64 : Shape := ⟨2, ![2048, 64]⟩
abbrev S2048x2048 : Shape := ⟨2, ![2048, 2048]⟩
abbrev S_ : Shape := ⟨0, ![]⟩
abbrev S2048x32 : Shape := ⟨2, ![2048, 32]⟩
abbrev S2048x3328 : Shape := ⟨2, ![2048, 3328]⟩
abbrev S8192x3328 : Shape := ⟨2, ![8192, 3328]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 17
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x3136, .f32⟩
  | .hbm, ⟨2, _⟩ => ⟨S8192x2048, .f32⟩
  | .hbm, ⟨3, _⟩ => ⟨S8192x2048, .bf16⟩
  | .hbm, ⟨4, _⟩ => ⟨S2048x512, .f32⟩
  | .hbm, ⟨5, _⟩ => ⟨S2048x512, .f32⟩
  | .hbm, ⟨6, _⟩ => ⟨S2048x64, .f32⟩
  | .hbm, ⟨7, _⟩ => ⟨S2048x2048, .f32⟩
  | .hbm, ⟨8, _⟩ => ⟨S_, .f32⟩
  | .hbm, ⟨9, _⟩ => ⟨S2048x64, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S2048x64, .f32⟩
  | .hbm, ⟨14, _⟩ => ⟨S2048x3328, .f32⟩
  | .hbm, ⟨15, _⟩ => ⟨S2048x3328, .bf16⟩
  | .hbm, ⟨16, _⟩ => ⟨S8192x3328, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAIdeal.lean ====
abbrev S2x4096x2048 : Shape := ⟨3, ![2, 4096, 2048]⟩
abbrev S2048x3136 : Shape := ⟨2, ![2048, 3136]⟩
abbrev S2x4096x3136 : Shape := ⟨3, ![2, 4096, 3136]⟩
abbrev S2x4096x512 : Shape := ⟨3, ![2, 4096, 512]⟩
abbrev S2x4096x64 : Shape := ⟨3, ![2, 4096, 64]⟩
abbrev S2x4096x32 : Shape := ⟨3, ![2, 4096, 32]⟩
abbrev S_ : Shape := ⟨0, ![]⟩
abbrev S2x4096x3328 : Shape := ⟨3, ![2, 4096, 3328]⟩
abbrev S8192x3328 : Shape := ⟨2, ![8192, 3328]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x3136, .f32⟩
  | .hbm, ⟨2, _⟩ => ⟨S2x4096x3136, .f32⟩
  | .hbm, ⟨3, _⟩ => ⟨S2x4096x512, .f32⟩
  | .hbm, ⟨4, _⟩ => ⟨S2x4096x512, .f32⟩
  | .hbm, ⟨5, _⟩ => ⟨S2x4096x64, .f32⟩
  | .hbm, ⟨6, _⟩ => ⟨S2x4096x2048, .f32⟩
  | .hbm, ⟨7, _⟩ => ⟨S2x4096x32, .f32⟩
  | .hbm, ⟨8, _⟩ => ⟨S2x4096x32, .f32⟩
  | .hbm, ⟨9, _⟩ => ⟨S_, .f32⟩
  | .hbm, ⟨10, _⟩ => ⟨S2x4096x64, .f32⟩
  | .hbm, ⟨11, _⟩ => ⟨S2x4096x32, .f32⟩
  | .hbm, ⟨12, _⟩ => ⟨S2x4096x3328, .f32⟩
  | .hbm, ⟨13, _⟩ => ⟨S8192x3328, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelB.lean ====
abbrev S2x4096x2048 : Shape := ⟨3, ![2, 4096, 2048]⟩
abbrev S2048x5120 : Shape := ⟨2, ![2048, 5120]⟩
abbrev S8192x2048 : Shape := ⟨2, ![8192, 2048]⟩
abbrev S2048x2048 : Shape := ⟨2, ![2048, 2048]⟩
abbrev S2048x3072 : Shape := ⟨2, ![2048, 3072]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x5120, .f32⟩
  | .hbm, ⟨2, _⟩ => ⟨S8192x2048, .f32⟩
  | .hbm, ⟨3, _⟩ => ⟨S8192x2048, .bf16⟩
  | .hbm, ⟨4, _⟩ => ⟨S2048x2048, .f32⟩
  | .hbm, ⟨5, _⟩ => ⟨S2048x3072, .f32⟩
  | .hbm, ⟨6, _⟩ => ⟨S2048x5120, .f32⟩
  | .hbm, ⟨7, _⟩ => ⟨S2048x5120, .bf16⟩
  | .hbm, ⟨8, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceBIdeal.lean ====
abbrev S2x4096x2048 : Shape := ⟨3, ![2, 4096, 2048]⟩
abbrev S2048x5120 : Shape := ⟨2, ![2048, 5120]⟩
abbrev S2x4096x5120 : Shape := ⟨3, ![2, 4096, 5120]⟩
abbrev S2x4096x512 : Shape := ⟨3, ![2, 4096, 512]⟩
abbrev S8192x5120 : Shape := ⟨2, ![8192, 5120]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5120, .f32⟩
  | .hbm, ⟨2, _⟩ => ⟨S2x4096x5120, .f32⟩
  | .hbm, ⟨3, _⟩ => ⟨S2x4096x2048, .f32⟩
  | .hbm, ⟨4, _⟩ => ⟨S2x4096x512, .f32⟩
  | .hbm, ⟨5, _⟩ => ⟨S2x4096x512, .f32⟩
  | .hbm, ⟨6, _⟩ => ⟨S2x4096x2048, .f32⟩
  | .hbm, ⟨7, _⟩ => ⟨S2x4096x5120, .f32⟩
  | .hbm, ⟨8, _⟩ => ⟨S8192x5120, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelC.lean ====
abbrev S2x4096x2048 : Shape := ⟨3, ![2, 4096, 2048]⟩
abbrev S2048x5136 : Shape := ⟨2, ![2048, 5136]⟩
abbrev S8192x2048 : Shape := ⟨2, ![8192, 2048]⟩
abbrev S2048x16 : Shape := ⟨2, ![2048, 16]⟩
abbrev S2048x2048 : Shape := ⟨2, ![2048, 2048]⟩
abbrev S2048x3072 : Shape := ⟨2, ![2048, 3072]⟩
abbrev S_ : Shape := ⟨0, ![]⟩
abbrev S2048x240 : Shape := ⟨2, ![2048, 240]⟩
abbrev S2048x5376 : Shape := ⟨2, ![2048, 5376]⟩
abbrev S8192x5376 : Shape := ⟨2, ![8192, 5376]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x5136, .f32⟩
  | .hbm, ⟨2, _⟩ => ⟨S8192x2048, .f32⟩
  | .hbm, ⟨3, _⟩ => ⟨S8192x2048, .bf16⟩
  | .hbm, ⟨4, _⟩ => ⟨S2048x16, .f32⟩
  | .hbm, ⟨5, _⟩ => ⟨S2048x2048, .f32⟩
  | .hbm, ⟨6, _⟩ => ⟨S2048x3072, .f32⟩
  | .hbm, ⟨7, _⟩ => ⟨S_, .f32⟩
  | .hbm, ⟨8, _⟩ => ⟨S2048x240, .f32⟩
  | .hbm, ⟨9, _⟩ => ⟨S2048x5376, .f32⟩
  | .hbm, ⟨10, _⟩ => ⟨S2048x5376, .bf16⟩
  | .hbm, ⟨11, _⟩ => ⟨S8192x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceCIdeal.lean ====
abbrev S2x4096x2048 : Shape := ⟨3, ![2, 4096, 2048]⟩
abbrev S2048x5136 : Shape := ⟨2, ![2048, 5136]⟩
abbrev S2x4096x5136 : Shape := ⟨3, ![2, 4096, 5136]⟩
abbrev S2x4096x512 : Shape := ⟨3, ![2, 4096, 512]⟩
abbrev S2x4096x16 : Shape := ⟨3, ![2, 4096, 16]⟩
abbrev S_ : Shape := ⟨0, ![]⟩
abbrev S2x4096x240 : Shape := ⟨3, ![2, 4096, 240]⟩
abbrev S2x4096x5376 : Shape := ⟨3, ![2, 4096, 5376]⟩
abbrev S8192x5376 : Shape := ⟨2, ![8192, 5376]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5136, .f32⟩
  | .hbm, ⟨2, _⟩ => ⟨S2x4096x5136, .f32⟩
  | .hbm, ⟨3, _⟩ => ⟨S2x4096x2048, .f32⟩
  | .hbm, ⟨4, _⟩ => ⟨S2x4096x512, .f32⟩
  | .hbm, ⟨5, _⟩ => ⟨S2x4096x512, .f32⟩
  | .hbm, ⟨6, _⟩ => ⟨S2x4096x16, .f32⟩
  | .hbm, ⟨7, _⟩ => ⟨S2x4096x2048, .f32⟩
  | .hbm, ⟨8, _⟩ => ⟨S_, .f32⟩
  | .hbm, ⟨9, _⟩ => ⟨S2x4096x240, .f32⟩
  | .hbm, ⟨10, _⟩ => ⟨S2x4096x5376, .f32⟩
  | .hbm, ⟨11, _⟩ => ⟨S8192x5376, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelD.lean ====
abbrev S2x4096x2048 : Shape := ⟨3, ![2, 4096, 2048]⟩
abbrev S2048x8200 : Shape := ⟨2, ![2048, 8200]⟩
abbrev S8192x2048 : Shape := ⟨2, ![8192, 2048]⟩
abbrev S2048x1024 : Shape := ⟨2, ![2048, 1024]⟩
abbrev S2048x2048 : Shape := ⟨2, ![2048, 2048]⟩
abbrev S2048x8 : Shape := ⟨2, ![2048, 8]⟩
abbrev S_ : Shape := ⟨0, ![]⟩
abbrev S2048x248 : Shape := ⟨2, ![2048, 248]⟩
abbrev S2048x8448 : Shape := ⟨2, ![2048, 8448]⟩
abbrev S8192x8448 : Shape := ⟨2, ![8192, 8448]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 15
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x8200, .f32⟩
  | .hbm, ⟨2, _⟩ => ⟨S8192x2048, .f32⟩
  | .hbm, ⟨3, _⟩ => ⟨S8192x2048, .bf16⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S2048x8, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x248, .f32⟩
  | .hbm, ⟨12, _⟩ => ⟨S2048x8448, .f32⟩
  | .hbm, ⟨13, _⟩ => ⟨S2048x8448, .bf16⟩
  | .hbm, ⟨14, _⟩ => ⟨S8192x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDIdeal.lean ====
abbrev S2x4096x2048 : Shape := ⟨3, ![2, 4096, 2048]⟩
abbrev S2048x8200 : Shape := ⟨2, ![2048, 8200]⟩
abbrev S2x4096x8200 : Shape := ⟨3, ![2, 4096, 8200]⟩
abbrev S2x4096x1024 : Shape := ⟨3, ![2, 4096, 1024]⟩
abbrev S2x4096x4 : Shape := ⟨3, ![2, 4096, 4]⟩
abbrev S_ : Shape := ⟨0, ![]⟩
abbrev S2x4096x248 : Shape := ⟨3, ![2, 4096, 248]⟩
abbrev S2x4096x8448 : Shape := ⟨3, ![2, 4096, 8448]⟩
abbrev S8192x8448 : Shape := ⟨2, ![8192, 8448]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x8200, .f32⟩
  | .hbm, ⟨2, _⟩ => ⟨S2x4096x8200, .f32⟩
  | .hbm, ⟨3, _⟩ => ⟨S2x4096x1024, .f32⟩
  | .hbm, ⟨4, _⟩ => ⟨S2x4096x1024, .f32⟩
  | .hbm, ⟨5, _⟩ => ⟨S2x4096x2048, .f32⟩
  | .hbm, ⟨6, _⟩ => ⟨S2x4096x4, .f32⟩
  | .hbm, ⟨7, _⟩ => ⟨S2x4096x4, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x248, .f32⟩
  | .hbm, ⟨12, _⟩ => ⟨S2x4096x8448, .f32⟩
  | .hbm, ⟨13, _⟩ => ⟨S8192x8448, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelF.lean ====
abbrev S8192x5376 : Shape := ⟨2, ![8192, 5376]⟩
abbrev S8192x128 : Shape := ⟨2, ![8192, 128]⟩
abbrev S10 : Shape := ⟨1, ![10]⟩
abbrev S8192x16 : Shape := ⟨2, ![8192, 16]⟩
abbrev S2x4096x16 : Shape := ⟨3, ![2, 4096, 16]⟩
abbrev S2x16x4096 : Shape := ⟨3, ![2, 16, 4096]⟩
abbrev S2x16x1x4096 : Shape := ⟨4, ![2, 16, 1, 4096]⟩
abbrev S2x16x4096x1 : Shape := ⟨4, ![2, 16, 4096, 1]⟩
abbrev S8192x2048 : Shape := ⟨2, ![8192, 2048]⟩
abbrev S1024x128 : Shape := ⟨2, ![1024, 128]⟩
abbrev S1 : Shape := ⟨1, ![1]⟩
abbrev S1x1x1024x1 : Shape := ⟨4, ![1, 1, 1024, 1]⟩
abbrev S1x1x1x1024 : Shape := ⟨4, ![1, 1, 1, 1024]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 8
  | .vmem => 15
  | .smem => 2
  | _ => 0

abbrev bufTy : (tb : Table) → Fin (tcTables nBuf tb) → BufTy
  | .hbm, ⟨0, _⟩ => ⟨S8192x5376, .f32⟩
  | .hbm, ⟨1, _⟩ => ⟨S8192x128, .f32⟩
  | .hbm, ⟨2, _⟩ => ⟨S8192x16, .f32⟩
  | .hbm, ⟨3, _⟩ => ⟨S2x4096x16, .f32⟩
  | .hbm, ⟨4, _⟩ => ⟨S2x16x4096, .f32⟩
  | .hbm, ⟨5, _⟩ => ⟨S2x16x1x4096, .f32⟩
  | .hbm, ⟨6, _⟩ => ⟨S2x16x4096x1, .f32⟩
  | .hbm, ⟨7, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1024x1, .f32⟩
  | .local _ .vmem, ⟨7, _⟩ => ⟨S1x1x1024x1, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .smem, ⟨0, _⟩ => ⟨S10, .i32⟩
  | .local _ .smem, ⟨1, _⟩ => ⟨S10, .i32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v25 : BitVec 1 := Scalar.cmpi .eq v3 v1
  let v26 : BitVec 32 := Scalar.extui v25
  let c0_i32_14 : BitVec 32 := 0#32
  let v27 : BitVec 1 := Scalar.cmpi .ne v26 c0_i32_14
  v27

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c16_i32 : BitVec 32 := 16#32
  let v4 : BitVec 32 := Scalar.addi c16_i32 arg1
  let c0_i32 : BitVec 32 := 0#32
  ![v3.toNat, v4.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c4_i32_0 : BitVec 32 := 4#32
  let v4 : BitVec 32 := Scalar.divsi arg1 c4_i32_0
  let c0_i32 : BitVec 32 := 0#32
  let v5 : BitVec 1 := Scalar.cmpi .sgt arg1 c0_i32
  let v6 : BitVec 32 := Scalar.extui v5
  let c0_i32_1 : BitVec 32 := 0#32
  let v7 : BitVec 1 := Scalar.cmpi .slt arg1 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi arg1 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c32_i32 : BitVec 32 := 32#32
  let v21 : BitVec 32 := Scalar.addi c32_i32 v20
  let c0_i32_5 : BitVec 32 := 0#32
  ![v3.toNat, v21.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c4_i32_0 : BitVec 32 := 4#32
  let v4 : BitVec 32 := Scalar.divsi arg1 c4_i32_0
  let c0_i32 : BitVec 32 := 0#32
  let v5 : BitVec 1 := Scalar.cmpi .sgt arg1 c0_i32
  let v6 : BitVec 32 := Scalar.extui v5
  let c0_i32_1 : BitVec 32 := 0#32
  let v7 : BitVec 1 := Scalar.cmpi .slt arg1 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi arg1 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c36_i32 : BitVec 32 := 36#32
  let v21 : BitVec 32 := Scalar.addi c36_i32 v20
  let c0_i32_5 : BitVec 32 := 0#32
  ![v3.toNat, v21.toNat]

def cc0_transform_3 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c0_i32 : BitVec 32 := 0#32
  let c0_i32_0 : BitVec 32 := 0#32
  ![arg0.toNat, arg1.toNat, v1.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S10) ![v0.toNat] S1.size (k0_off1_inb i)) numel1_S1
  let c0_i32 : BitVec 32 := 0#32
  let c0_i32_0 : BitVec 32 := 0#32
  ![arg0.toNat, arg1.toNat, c0_i32.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelFIdeal.lean ====
variable {F : FTy → Type} [FloatOps F] [Named F]
def κ : String → Option EReal := fun
  | "scale" => some (((Real.sqrt 128)⁻¹ : ℝ) : EReal)
  | _ => none
-- ==== ReferenceFIdeal.lean ====
abbrev S8192x5376 : Shape := ⟨2, ![8192, 5376]⟩
abbrev S8192x128 : Shape := ⟨2, ![8192, 128]⟩
abbrev S8192x2048 : Shape := ⟨2, ![8192, 2048]⟩
abbrev S2x4096x4x4x128 : Shape := ⟨5, ![2, 4096, 4, 4, 128]⟩
abbrev S8192x512 : Shape := ⟨2, ![8192, 512]⟩
abbrev S2x4096x4x128 : Shape := ⟨4, ![2, 4096, 4, 128]⟩
abbrev S8192x16 : Shape := ⟨2, ![8192, 16]⟩
abbrev S2x4096x4x4 : Shape := ⟨4, ![2, 4096, 4, 4]⟩
abbrev S2x4x4x4096 : Shape := ⟨4, ![2, 4, 4, 4096]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S2x4x4x4096x1 : Shape := ⟨5, ![2, 4, 4, 4096, 1]⟩
abbrev S2x4x4x1x4096 : Shape := ⟨5, ![2, 4, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x128x4x4096 : Shape := ⟨5, ![2, 4, 128, 4, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S8192x128, .f32⟩
  | .hbm, ⟨2, _⟩ => ⟨S8192x2048, .f32⟩
  | .hbm, ⟨3, _⟩ => ⟨S2x4096x4x4x128, .f32⟩
  | .hbm, ⟨4, _⟩ => ⟨S8192x512, .f32⟩
  | .hbm, ⟨5, _⟩ => ⟨S2x4096x4x128, .f32⟩
  | .hbm, ⟨6, _⟩ => ⟨S8192x512, .f32⟩
  | .hbm, ⟨7, _⟩ => ⟨S2x4096x4x128, .f32⟩
  | .hbm, ⟨8, _⟩ => ⟨S8192x16, .f32⟩
  | .hbm, ⟨9, _⟩ => ⟨S2x4096x4x4, .f32⟩
  | .hbm, ⟨10, _⟩ => ⟨S2x4x4x4096, .f32⟩
  | .hbm, ⟨11, _⟩ => ⟨S2x4x4096x4096x4, .f32⟩
  | .hbm, ⟨12, _⟩ => ⟨S2x4x4x4096x4096, .f32⟩
  | .hbm, ⟨13, _⟩ => ⟨S_, .f32⟩
  | .hbm, ⟨14, _⟩ => ⟨S_, .f32⟩
  | .hbm, ⟨15, _⟩ => ⟨S2x4x4x4096x4096, .f32⟩
  | .hbm, ⟨16, _⟩ => ⟨S2x4x4x4096x4096, .f32⟩
  | .hbm, ⟨17, _⟩ => ⟨S2x4x4x4096x1, .f32⟩
  | .hbm, ⟨18, _⟩ => ⟨S2x4x4x1x4096, .f32⟩
  | .hbm, ⟨19, _⟩ => ⟨S2x4x4x4096x4096, .f32⟩
  | .hbm, ⟨20, _⟩ => ⟨S2x4x4x4096x4096, .f32⟩
  | .hbm, ⟨21, _⟩ => ⟨S2x4x4x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S2x4x4x4096x4096, .f32⟩
  | .hbm, ⟨29, _⟩ => ⟨S_, .f32⟩
  | .hbm, ⟨30, _⟩ => ⟨S_, .f32⟩
  | .hbm, ⟨31, _⟩ => ⟨S2x4x4x4096x4096, .i1⟩
  | .hbm, ⟨32, _⟩ => ⟨S2x4x4x4096x4096, .f32⟩
  | .hbm, ⟨33, _⟩ => ⟨S2x4x4x4096x4096, .f32⟩
  | .hbm, ⟨34, _⟩ => ⟨S_, .f32⟩
  | .hbm, ⟨35, _⟩ => ⟨S2x4x4x4096, .f32⟩
  | .hbm, ⟨36, _⟩ => ⟨S_, .f32⟩
  | .hbm, ⟨37, _⟩ => ⟨S2x4x4x4096, .f32⟩
  | .hbm, ⟨38, _⟩ => ⟨S2x4x4x4096, .f32⟩
  | .hbm, ⟨39, _⟩ => ⟨S2x4x4x4096x1, .f32⟩
  | .hbm, ⟨40, _⟩ => ⟨S2x4x4x4096x4096, .f32⟩
  | .hbm, ⟨41, _⟩ => ⟨S2x4x4x4096x4096, .f32⟩
  | .hbm, ⟨42, _⟩ => ⟨S2x4x4x4096x4096, .f32⟩
  | .hbm, ⟨43, _⟩ => ⟨S_, .f32⟩
  | .hbm, ⟨44, _⟩ => ⟨S2x4x4x4096, .f32⟩
  | .hbm, ⟨45, _⟩ => ⟨S2x4x4x4096x1, .f32⟩
  | .hbm, ⟨46, _⟩ => ⟨S2x4x4x4096x4096, .f32⟩
  | .hbm, ⟨47, _⟩ => ⟨S2x4x4x4096x4096, .f32⟩
  | .hbm, ⟨48, _⟩ => ⟨S2x4x128x4x4096, .f32⟩
  | .hbm, ⟨49, _⟩ => ⟨S2x4096x4x4x128, .f32⟩
  | .hbm, ⟨50, _⟩ => ⟨S8192x2048, .f32⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== KernelS.lean ====
abbrev S8192x5120 : Shape := ⟨2, ![8192, 5120]⟩
abbrev S136 : Shape := ⟨1, ![136]⟩
abbrev S256x256 : Shape := ⟨2, ![256, 256]⟩
abbrev S_ : Shape := ⟨0, ![]⟩
abbrev S8192x2048 : Shape := ⟨2, ![8192, 2048]⟩
abbrev S256x512 : Shape := ⟨2, ![256, 512]⟩
abbrev S1 : Shape := ⟨1, ![1]⟩
abbrev S256x128 : Shape := ⟨2, ![256, 128]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 11
  | .vmem => 12
  | .smem => 2
  | _ => 0

abbrev bufTy : (tb : Table) → Fin (tcTables nBuf tb) → BufTy
  | .hbm, ⟨0, _⟩ => ⟨S8192x5120, .f32⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S_, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S8192x2048, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x256, .bf16⟩
  | .local _ .vmem, ⟨7, _⟩ => ⟨S256x512, .f32⟩
  | .local _ .vmem, ⟨8, _⟩ => ⟨S256x512, .f32⟩
  | .local _ .vmem, ⟨9, _⟩ => ⟨S1024x128, .bf16⟩
  | .local _ .vmem, ⟨10, _⟩ => ⟨S1024x128, .f32⟩
  | .local _ .vmem, ⟨11, _⟩ => ⟨S1024x1, .f32⟩
  | .local _ .smem, ⟨0, _⟩ => ⟨S136, .i32⟩
  | .local _ .smem, ⟨1, _⟩ => ⟨S136, .i32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v3 : BitVec 32) : BitVec 1 :=
  let c0_i32_1 : BitVec 32 := 0#32
  let v10 : BitVec 1 := Scalar.cmpi .eq v3 c0_i32_1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c4_i32 : BitVec 32 := 4#32
  let v4 : BitVec 32 := Scalar.addi c4_i32 arg1
  let c0_i32 : BitVec 32 := 0#32
  ![v3.toNat, v4.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c32_i32 : BitVec 32 := 32#32
  let v4 : BitVec 32 := Scalar.addi c32_i32 arg1
  let c0_i32 : BitVec 32 := 0#32
  ![v3.toNat, v4.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c36_i32 : BitVec 32 := 36#32
  let v4 : BitVec 32 := Scalar.addi c36_i32 arg1
  let c0_i32 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelSIdeal.lean ====
variable {F : FTy → Type} [FloatOps F] [Named F]
def κ : String → Option EReal := fun
  | "scale" => some (((Real.sqrt 128)⁻¹ : ℝ) : EReal)
  | _ => none
-- ==== ReferenceSIdeal.lean ====
abbrev S8192x5120 : Shape := ⟨2, ![8192, 5120]⟩
abbrev S8192x2048 : Shape := ⟨2, ![8192, 2048]⟩
abbrev S2x4096x4x4x128 : Shape := ⟨5, ![2, 4096, 4, 4, 128]⟩
abbrev S8192x512 : Shape := ⟨2, ![8192, 512]⟩
abbrev S2x4096x4x128 : Shape := ⟨4, ![2, 4096, 4, 128]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x128x4x4096 : Shape := ⟨5, ![2, 4, 128, 4, 4096]⟩

abbrev nBuf : Space → Nat
  | .hbm => 71
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S2x4096x4x4x128, .f32⟩
  | .hbm, ⟨3, _⟩ => ⟨S8192x512, .f32⟩
  | .hbm, ⟨4, _⟩ => ⟨S2x4096x4x128, .f32⟩
  | .hbm, ⟨5, _⟩ => ⟨S8192x512, .f32⟩
  | .hbm, ⟨6, _⟩ => ⟨S2x4096x4x128, .f32⟩
  | .hbm, ⟨7, _⟩ => ⟨S2x4x4096x4096x4, .f32⟩
  | .hbm, ⟨8, _⟩ => ⟨S2x4x4x4096x4096, .f32⟩
  | .hbm, ⟨9, _⟩ => ⟨S_, .f32⟩
  | .hbm, ⟨10, _⟩ => ⟨S_, .f32⟩
  | .hbm, ⟨11, _⟩ => ⟨S2x4x4x4096x4096, .f32⟩
  | .hbm, ⟨12, _⟩ => ⟨S2x4x4x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S2x4x4x4096x4096, .f32⟩
  | .hbm, ⟨20, _⟩ => ⟨S2x4x4x4096x4096, .f32⟩
  | .hbm, ⟨21, _⟩ => ⟨S_, .f32⟩
  | .hbm, ⟨22, _⟩ => ⟨S2x4x4x4096x4096, .f32⟩
  | .hbm, ⟨23, _⟩ => ⟨S2x4x4x4096x4096, .f32⟩
  | .hbm, ⟨24, _⟩ => ⟨S2x4x4x4096x4096, .f32⟩
  | .hbm, ⟨25, _⟩ => ⟨S2x4x4x4096x4096, .f32⟩
  | .hbm, ⟨26, _⟩ => ⟨S2x4x4x4096x4096, .i1⟩
  | .hbm, ⟨27, _⟩ => ⟨S2x4x4x4096x4096, .f32⟩
  | .hbm, ⟨28, _⟩ => ⟨S2x4x4x4096x4096, .f32⟩
  | .hbm, ⟨29, _⟩ => ⟨S2x4x4x4096x4096, .f32⟩
  | .hbm, ⟨30, _⟩ => ⟨S2x4x4x4096x4096, .f32⟩
  | .hbm, ⟨31, _⟩ => ⟨S2x4x4x4096x4096, .f32⟩
  | .hbm, ⟨32, _⟩ => ⟨S2x4x4x4096x4096, .f32⟩
  | .hbm, ⟨33, _⟩ => ⟨S2x4x4x4096x4096, .f32⟩
  | .hbm, ⟨34, _⟩ => ⟨S2x4x4x4096x4096, .f32⟩
  | .hbm, ⟨35, _⟩ => ⟨S2x4x4x4096x4096, .f32⟩
  | .hbm, ⟨36, _⟩ => ⟨S_, .f32⟩
  | .hbm, ⟨37, _⟩ => ⟨S_, .f32⟩
  | .hbm, ⟨38, _⟩ => ⟨S2x4x4x4096x4096, .i1⟩
  | .hbm, ⟨39, _⟩ => ⟨S2x4x4x4096x4096, .f32⟩
  | .hbm, ⟨40, _⟩ => ⟨S2x4x4x4096x4096, .f32⟩
  | .hbm, ⟨41, _⟩ => ⟨S2x4x4x4096x4096, .f32⟩
  | .hbm, ⟨42, _⟩ => ⟨S_, .f32⟩
  | .hbm, ⟨43, _⟩ => ⟨S2x4x4x4096x4096, .f32⟩
  | .hbm, ⟨44, _⟩ => ⟨S2x4x4x4096x4096, .f32⟩
  | .hbm, ⟨45, _⟩ => ⟨S2x4x4x4096x4096, .f32⟩
  | .hbm, ⟨46, _⟩ => ⟨S2x4x4x4096x4096, .f32⟩
  | .hbm, ⟨47, _⟩ => ⟨S2x4x4x4096x4096, .i1⟩
  | .hbm, ⟨48, _⟩ => ⟨S2x4x4x4096x4096, .f32⟩
  | .hbm, ⟨49, _⟩ => ⟨S2x4x4x4096x4096, .f32⟩
  | .hbm, ⟨50, _⟩ => ⟨S2x4x4x4096x4096, .f32⟩
  | .hbm, ⟨51, _⟩ => ⟨S2x4x4x4096x4096, .f32⟩
  | .hbm, ⟨52, _⟩ => ⟨S2x4x4x4096x4096, .f32⟩
  | .hbm, ⟨53, _⟩ => ⟨S2x4x4x4096x4096, .f32⟩
  | .hbm, ⟨54, _⟩ => ⟨S2x4x4x4096x4096, .f32⟩
  | .hbm, ⟨55, _⟩ => ⟨S2x4x4x4096x4096, .f32⟩
  | .hbm, ⟨56, _⟩ => ⟨S2x4x4x4096x4096, .f32⟩
  | .hbm, ⟨57, _⟩ => ⟨S_, .f32⟩
  | .hbm, ⟨58, _⟩ => ⟨S_, .f32⟩
  | .hbm, ⟨59, _⟩ => ⟨S2x4x4x4096x4096, .f32⟩
  | .hbm, ⟨60, _⟩ => ⟨S2x4x4x4096x4096, .f32⟩
  | .hbm, ⟨61, _⟩ => ⟨S2x4x4x4096x4096, .f32⟩
  | .hbm, ⟨62, _⟩ => ⟨S2x4x4x4096x4096, .f32⟩
  | .hbm, ⟨63, _⟩ => ⟨S_, .f32⟩
  | .hbm, ⟨64, _⟩ => ⟨S_, .f32⟩
  | .hbm, ⟨65, _⟩ => ⟨S2x4x4x4096x4096, .i1⟩
  | .hbm, ⟨66, _⟩ => ⟨S2x4x4x4096x4096, .f32⟩
  | .hbm, ⟨67, _⟩ => ⟨S2x4x4x4096x4096, .f32⟩
  | .hbm, ⟨68, _⟩ => ⟨S2x4x128x4x4096, .f32⟩
  | .hbm, ⟨69, _⟩ => ⟨S2x4096x4x4x128, .f32⟩
  | .hbm, ⟨70, _⟩ => ⟨S8192x2048, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_v0 : Ref sig .tc := ⟨.hbm, 41, rfl⟩
abbrev main_call2_call0_cst : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_call0_v2 : Ref sig .tc := ⟨.hbm, 45, rfl⟩
abbrev main_call2_call0_v3 : Ref sig .tc := ⟨.hbm, 46, rfl⟩
abbrev main_call2_call0_v4 : Ref sig .tc := ⟨.hbm, 47, rfl⟩
abbrev main_call2_call0_v5 : Ref sig .tc := ⟨.hbm, 48, rfl⟩
abbrev main_call2_call0_v6 : Ref sig .tc := ⟨.hbm, 49, rfl⟩
abbrev main_call2_call0_v7 : Ref sig .tc := ⟨.hbm, 50, rfl⟩
abbrev main_call2_call0_v8 : Ref sig .tc := ⟨.hbm, 51, rfl⟩
abbrev main_call2_call0_v9 : Ref sig .tc := ⟨.hbm, 52, rfl⟩
abbrev main_call2_call0_v10 : Ref sig .tc := ⟨.hbm, 53, rfl⟩
abbrev main_call2_call0_v11 : Ref sig .tc := ⟨.hbm, 54, rfl⟩
abbrev main_call2_v1 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== KernelO.lean ====
abbrev S8192x2048 : Shape := ⟨2, ![8192, 2048]⟩
abbrev S8192x8448 : Shape := ⟨2, ![8192, 8448]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x8448, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOIdeal.lean ====
variable {F : FTy → Type} [FloatOps F] [Named F]
def κ : String → Option EReal := fun
  | "alpha" => some ((Real.sqrt (Real.sqrt 8) : ℝ) : EReal)
  | "eps" => some ((100000⁻¹ : ℝ) : EReal)
  | _ => none
-- ==== ReferenceOIdeal.lean ====
abbrev S8192x2048 : Shape := ⟨2, ![8192, 2048]⟩
abbrev S8192x8448 : Shape := ⟨2, ![8192, 8448]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8448, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.OutLn.lean ====
/-
  The gate, output projection, residual and layer norm that close a layer: what the call leaves in its two results, and
  the reference's, as one formula of a row.
-/
module

public import Idealize.ShloMosaic.Lib.Pointwise
public import Idealize.ShloMosaic.Lib.Pipeline.ValueKit
public import Idealize.ShloMosaic.Lib.Pipeline.ValueKit.Geometry
public import proofs.«01_k».proof.Defs
public import proofs.«01_k».proof.Proof.Gen.KernelOIdeal.Value
public import proofs.«01_k».proof.Proof.Gen.ReferenceOIdeal.Run

@[expose] public section

noncomputable section

namespace Cert.Proof.OutLn

open Idealize.ShloMosaic Idealize.ShloMosaic.TcCoe Idealize.ShloMosaic.Pipeline Idealize.SL.Sem

/-- The residual: the layer's input scaled, and the gated heads through the output weights. -/
def residual (h p x : Fin 2048 → EReal) (w : Fin 2048 → Fin 2048 → EReal) (j : Fin 2048) : EReal :=
  ((Real.sqrt (Real.sqrt 8) : ℝ) : EReal) * x j + ∑ k : Fin 2048, h k * (p k * Ideal.div 1 (1 + Ideal.exp (-p k))) * w k j

/-- A row less its mean. -/
def centred (y : Fin 2048 → EReal) (j : Fin 2048) : EReal := y j - Ideal.div (∑ k : Fin 2048, y k) (Ideal.ofBits .f32 0x45000000#32)

/-- The layer norm of a row. -/
def normed (y g b : Fin 2048 → EReal) (j : Fin 2048) : EReal :=
  centred y j * Ideal.rsqrt (Ideal.div (∑ k : Fin 2048, centred y k * centred y k) (Ideal.ofBits .f32 0x45000000#32) + ((100000⁻¹ : ℝ) : EReal)) * g j + b j

/-- The layer norm of the residual. -/
def row (h p x : Fin 2048 → EReal) (w : Fin 2048 → Fin 2048 → EReal) (g b : Fin 2048 → EReal) (j : Fin 2048) : EReal :=
  normed (residual h p x w) g b j

theorem alpha : Ideal.sqrt (Ideal.sqrt (Ideal.ofBits .f32 0x41000000#32)) = ((Real.sqrt (Real.sqrt 8) : ℝ) : EReal) := by
  have h : Ideal.ofBits .f32 0x41000000#32 = ((8 : ℝ) : EReal) := by
    simp [Ideal.ofBits, Ideal.ieee]
    rw [← EReal.coe_mul]
    norm_num
  rw [h, Ideal.sqrt_coe, if_neg (by norm_num), Ideal.sqrt_coe, if_neg (not_lt.2 (Real.sqrt_nonneg _))]

theorem eps : Ideal.div 1 (Ideal.ofBits .f32 0x47C35000#32) = ((100000⁻¹ : ℝ) : EReal) := by
  have h : Ideal.ofBits .f32 0x47C35000#32 = ((100000 : ℝ) : EReal) := by
    simp [Ideal.ofBits, Ideal.ieee]
    rw [← EReal.coe_mul]
    norm_num
  rw [h, Ideal.div_coe (by norm_num), one_div, one_mul]

section Kernel

open Cert.KernelOIdeal Cert.KernelOIdeal.Gen

theorem named_alpha : (Named.named κ "alpha" 0x3FD744FD#32 : Ideal .f32) = ((Real.sqrt (Real.sqrt 8) : ℝ) : EReal) := rfl
theorem named_eps : (Named.named κ "eps" 0x3727C5AC#32 : Ideal .f32) = ((100000⁻¹ : ℝ) : EReal) := rfl

theorem pay_apply (p h x : Vec Ideal S256x2048 .f32) (w : Vec Ideal S2048x2048 .bf16) (g b : Vec Ideal S1x2048 .f32) (i : Fin 256) (j : Fin 2048) :
    k0_pay1 (k0_pay3 (F := Ideal) p h x w g) b (ix2 i j)
      = row (fun k => h (ix2 i k)) (fun k => p (ix2 i k)) (fun k => x (ix2 i k)) (fun k l => w (ix2 k l)) (fun k => g (ix2 0 k)) (fun k => b (ix2 0 k)) j := by
  pointwise [k0_pay1, k0_pay3]
  simp only [zero_sub, named_alpha, named_eps]
  rfl

variable (m : (ℓ : Loc nD τ sig) → Buf (Elt Ideal) ℓ) (c : Dev nD)

theorem out6 (t : Fin cfg0.N) : (outsAt0 m c t).1
    = k0_pay1 (k0_pay3 (X0_1 m c t) (iblk m c 0 t) (iblk m c 2 t) (iblk m c 3 t) (iblk m c 4 t)) (iblk m c 5 t) := by
  rw [outsAt0]
  frame_out

theorem out7 (t : Fin cfg0.N) : (outsAt0 m c t).2
    = k0_pay2 (k0_pay3 (X0_1 m c t) (iblk m c 0 t) (iblk m c 2 t) (iblk m c 3 t) (iblk m c 4 t)) (iblk m c 5 t) := by
  rw [outsAt0]
  frame_out

/-- What the call leaves at one place of either result, of the six arguments. -/
def val (a0 : FVec Ideal S8192x2048 .f32) (a1 : FVec Ideal S8192x8448 .f32) (a2 : FVec Ideal S8192x2048 .f32) (a3 : FVec Ideal S2048x2048 .f32)
    (a4 a5 : FVec Ideal S2048 .f32) (r : Fin 8192) (j : Fin 2048) : EReal :=
  row (fun k => a0 (ix2 r k)) (fun k => a1 (ix2 r ⟨k.val, by omega⟩)) (fun k => a2 (ix2 r k)) (fun k l => a3 (ix2 k l))
    (fun k => a4 (ix1 k)) (fun k => a5 (ix1 k)) j

/-- The weights as the call takes them. -/
def weights (w : FVec Ideal S2048x2048 .f32) : FVec Ideal S2048x2048 .bf16 := truncf .bf16 w bitsLt_bf16_f32
/-- A vector as one row, as the call takes it. -/
def asRow (g : FVec Ideal S2048 .f32) : FVec Ideal S1x2048 .f32 := shapeCast S1x2048 g shapeCasts_S2048_S1x2048

theorem weights_apply (w : FVec Ideal S2048x2048 .f32) (k l : Fin 2048) : weights w (ix2 k l) = w (ix2 k l) := by
  pointwise [weights]
theorem asRow_apply (g : FVec Ideal S2048 .f32) (k : Fin 2048) : asRow g (ix2 0 k) = g (ix1 k) := by
  pointwise [asRow]

theorem V_weights : V m c main_v0 = weights (m ((c.tc : Thread nD τ).loc main_arg3)) := by
  show StableHlo.after hostOps0 (fun b => m (c, b)) (Proc.devRef .tc main_v0) = _
  after_results <;> rfl
theorem V_gain : V m c main_v1 = asRow (m ((c.tc : Thread nD τ).loc main_arg4)) := by
  show StableHlo.after hostOps0 (fun b => m (c, b)) (Proc.devRef .tc main_v1) = _
  after_results <;> rfl
theorem V_bias : V m c main_v2 = asRow (m ((c.tc : Thread nD τ).loc main_arg5)) := by
  show StableHlo.after hostOps0 (fun b => m (c, b)) (Proc.devRef .tc main_v2) = _
  after_results <;> rfl

theorem blocks_at : ∀ t : Fin grid0.N,
    win0_0.index t 0 = t.val ∧ win0_0.index t 1 = 0 ∧ win0_1.index t 0 = t.val ∧ win0_1.index t 1 = 0
      ∧ win0_2.index t 0 = t.val ∧ win0_2.index t 1 = 0 ∧ win0_3.index t 0 = 0 ∧ win0_3.index t 1 = 0
      ∧ win0_4.index t 0 = 0 ∧ win0_4.index t 1 = 0 ∧ win0_5.index t 0 = 0 ∧ win0_5.index t 1 = 0
      ∧ win0_6.index t 0 = t.val ∧ win0_6.index t 1 = 0 ∧ win0_7.index t 0 = t.val ∧ win0_7.index t 1 = 0 := by decide +kernel

theorem block0 (t : Fin grid0.N) (i : Fin 256) (k : Fin 2048) (h : t.val * 256 + i.val < 8192) :
    iblk m c 0 t (ix2 i k) = (m ((c.tc : Thread nD τ).loc main_arg0) : FVec Ideal S8192x2048 .f32) (ix2 ⟨t.val * 256 + i.val, h⟩ k) := by
  obtain ⟨h0, h1, -⟩ := blocks_at t
  rw [← V_main_arg0 m c]
  show V m c main_arg0 (((cfg0.win 0).blk t).view.emb (ix2 i k)) = _
  refine congrArg (V m c main_arg0) (funext fun a => Fin.ext ?_)
  match a with
  | 0 => show win0_0.index t 0 * 256 + 1 * i.val = t.val * 256 + i.val; rw [h0, Nat.one_mul]
  | 1 => show win0_0.index t 1 * 2048 + 1 * k.val = k.val; rw [h1]; omega

theorem block2 (t : Fin grid0.N) (i : Fin 256) (k : Fin 2048) (h : t.val * 256 + i.val < 8192) :
    iblk m c 2 t (ix2 i k) = (m ((c.tc : Thread nD τ).loc main_arg2) : FVec Ideal S8192x2048 .f32) (ix2 ⟨t.val * 256 + i.val, h⟩ k) := by
  obtain ⟨-, -, -, -, h0, h1, -⟩ := blocks_at t
  rw [← V_main_arg2 m c]
  show V m c main_arg2 (((cfg0.win 2).blk t).view.emb (ix2 i k)) = _
  refine congrArg (V m c main_arg2) (funext fun a => Fin.ext ?_)
  match a with
  | 0 => show win0_2.index t 0 * 256 + 1 * i.val = t.val * 256 + i.val; rw [h0, Nat.one_mul]
  | 1 => show win0_2.index t 1 * 2048 + 1 * k.val = k.val; rw [h1]; omega

theorem block3 (t : Fin grid0.N) (k l : Fin 2048) :
    iblk m c 3 t (ix2 k l) = weights (m ((c.tc : Thread nD τ).loc main_arg3)) (ix2 k l) := by
  obtain ⟨-, -, -, -, -, -, h0, h1, -⟩ := blocks_at t
  rw [← V_weights]
  show V m c main_v0 (((cfg0.win 3).blk t).view.emb (ix2 k l)) = _
  refine congrArg (V m c main_v0) (funext fun a => Fin.ext ?_)
  match a with
  | 0 => show win0_3.index t 0 * 2048 + 1 * k.val = k.val; rw [h0]; omega
  | 1 => show win0_3.index t 1 * 2048 + 1 * l.val = l.val; rw [h1]; omega

theorem block4 (t : Fin grid0.N) (k : Fin 2048) :
    iblk m c 4 t (ix2 0 k) = asRow (m ((c.tc : Thread nD τ).loc main_arg4)) (ix2 0 k) := by
  obtain ⟨-, -, -, -, -, -, -, -, h0, h1, -⟩ := blocks_at t
  rw [← V_gain]
  show V m c main_v1 (((cfg0.win 4).blk t).view.emb (ix2 0 k)) = _
  refine congrArg (V m c main_v1) (funext fun a => Fin.ext ?_)
  match a with
  | 0 => show win0_4.index t 0 * 1 + 1 * 0 = 0; rw [h0]
  | 1 => show win0_4.index t 1 * 2048 + 1 * k.val = k.val; rw [h1]; omega

theorem block5 (t : Fin grid0.N) (k : Fin 2048) :
    iblk m c 5 t (ix2 0 k) = asRow (m ((c.tc : Thread nD τ).loc main_arg5)) (ix2 0 k) := by
  obtain ⟨-, -, -, -, -, -, -, -, -, -, h0, h1, -⟩ := blocks_at t
  rw [← V_bias]
  show V m c main_v2 (((cfg0.win 5).blk t).view.emb (ix2 0 k)) = _
  refine congrArg (V m c main_v2) (funext fun a => Fin.ext ?_)
  match a with
  | 0 => show win0_5.index t 0 * 1 + 1 * 0 = 0; rw [h0]
  | 1 => show win0_5.index t 1 * 2048 + 1 * k.val = k.val; rw [h1]; omega

/-- The gate's block: the projection's first columns. -/
theorem block1 (t : Fin grid0.N) (i : Fin 256) (k : Fin 2048) (h : t.val * 256 + i.val < 8192) :
    X0_1 m c t (ix2 i k) = (m ((c.tc : Thread nD τ).loc main_arg1) : FVec Ideal S8192x8448 .f32) (ix2 ⟨t.val * 256 + i.val, h⟩ ⟨k.val, by omega⟩) := by
  obtain ⟨-, -, h0, h1, -⟩ := blocks_at t
  rw [← V_main_arg1 m c]
  unfold X0_1 Pipeline.Window.fill
  refine (dif_pos (moved0_1 t (ix2 i k))).trans ?_
  refine congrArg (V m c main_arg1) (funext fun a => Fin.ext ?_)
  match a with
  | 0 => show win0_1.index t 0 * 256 + 1 * i.val = t.val * 256 + i.val; rw [h0, Nat.one_mul]
  | 1 => show win0_1.index t 1 * 2048 + 1 * k.val = k.val; rw [h1]; omega

theorem point_apply (t : Fin grid0.N) (i : Fin 256) (j : Fin 2048) (h : t.val * 256 + i.val < 8192) :
    k0_pay1 (k0_pay3 (F := Ideal) (X0_1 m c t) (iblk m c 0 t) (iblk m c 2 t) (iblk m c 3 t) (iblk m c 4 t)) (iblk m c 5 t) (ix2 i j)
      = val (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨t.val * 256 + i.val, h⟩ j := by
  refine (pay_apply _ _ _ _ _ _ i j).trans ?_
  have e0 := funext fun k => block0 m c t i k h
  have e1 := funext fun k => block1 m c t i k h
  have e2 := funext fun k => block2 m c t i k h
  have e3 := funext fun k => funext fun l => (block3 m c t k l).trans (weights_apply _ k l)
  have e4 := funext fun k => (block4 m c t k).trans (asRow_apply _ k)
  have e5 := funext fun k => (block5 m c t k).trans (asRow_apply _ k)
  exact (congrFun (congr (congr (congr (congr (congr (congrArg row e0) e1) e2) e3) e4) e5) j)

/-- The two results. -/
def G6 : FVec Ideal S8192x2048 .f32 := fun i =>
  val (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (i 0) (i 1)
def G7 : FVec Ideal S8192x2048 .bf16 := fun i => G6 m c i

theorem emb6 (t : Fin grid0.N) (i : Fin 256) (j : Fin 2048) :
    (((cfg0.win 6).blk t).view.emb (ix2 i j) 0).val = t.val * 256 + i.val
    ∧ (((cfg0.win 6).blk t).view.emb (ix2 i j) 1).val = j.val := by
  obtain ⟨-, -, -, -, -, -, -, -, -, -, -, -, h0, h1, -⟩ := blocks_at t
  constructor
  · show win0_6.index t 0 * 256 + 1 * i.val = _
    rw [h0, Nat.one_mul]
  · show win0_6.index t 1 * 2048 + 1 * j.val = _
    rw [h1]; omega

theorem emb7 (t : Fin grid0.N) (i : Fin 256) (j : Fin 2048) :
    (((cfg0.win 7).blk t).view.emb (ix2 i j) 0).val = t.val * 256 + i.val
    ∧ (((cfg0.win 7).blk t).view.emb (ix2 i j) 1).val = j.val := by
  obtain ⟨-, -, -, -, -, -, -, -, -, -, -, -, -, -, h0, h1⟩ := blocks_at t
  constructor
  · show win0_7.index t 0 * 256 + 1 * i.val = _
    rw [h0, Nat.one_mul]
  · show win0_7.index t 1 * 2048 + 1 * j.val = _
    rw [h1]; omega

theorem result6 : (dats m 0 c).arrAt 6 cfg0.N = G6 m c := by
  refine (dats m 0 c).arrAt_eq_of_emb 6 _ (fun t hf y => ?_) fun x => ?_
  · obtain ⟨i, j, rfl⟩ : ∃ (i : Fin 256) (j : Fin 2048), y = (ix2 i j : S256x2048.Idx) := ⟨y 0, y 1, eq_ix2 _⟩
    have ht : t.val < 32 := t.isLt
    obtain ⟨h0, h1⟩ := emb6 t i j
    refine (congrFun ((after0_6 m c t).trans (out6 m c t)) (ix2 i j)).trans ?_
    refine (point_apply m c t i j (by omega)).trans ?_
    unfold G6
    exact congrArg₂ (val _ _ _ _ _ _) (Fin.ext h0.symm) (Fin.ext h1.symm)
  · have hx0 : (x 0).val < 8192 := (x 0).isLt
    have hx1 : (x 1).val < 2048 := (x 1).isLt
    have ht : (x 0).val / 256 < 32 := by omega
    refine ⟨⟨(x 0).val / 256, ht⟩, flush0_6 _, ?_⟩
    have hx : x = ((cfg0.win 6).blk ⟨(x 0).val / 256, ht⟩).view.emb
        (ix2 (⟨(x 0).val % 256, by omega⟩ : Fin 256) (⟨(x 1).val, hx1⟩ : Fin 2048)) := by
      obtain ⟨h0, h1⟩ := emb6 ⟨(x 0).val / 256, ht⟩ ⟨(x 0).val % 256, by omega⟩ ⟨(x 1).val, hx1⟩
      funext a
      refine Fin.ext ?_
      match a with
      | 0 => refine Eq.trans ?_ h0.symm; show (x 0).val = (x 0).val / 256 * 256 + (x 0).val % 256; omega
      | 1 => exact h1.symm
    exact Eq.mpr (congrArg (fun y => y ∈ ((cfg0.win 6).blk ⟨(x 0).val / 256, ht⟩).view.set) hx) (View.emb_mem_set _ _)

theorem result7 : (dats m 0 c).arrAt 7 cfg0.N = G7 m c := by
  refine (dats m 0 c).arrAt_eq_of_emb 7 _ (fun t hf y => ?_) fun x => ?_
  · obtain ⟨i, j, rfl⟩ : ∃ (i : Fin 256) (j : Fin 2048), y = (ix2 i j : S256x2048.Idx) := ⟨y 0, y 1, eq_ix2 _⟩
    have ht : t.val < 32 := t.isLt
    obtain ⟨h0, h1⟩ := emb7 t i j
    refine (congrFun ((after0_7 m c t).trans (out7 m c t)) (ix2 i j)).trans ?_
    refine (point_apply m c t i j (by omega)).trans ?_
    unfold G7 G6
    exact congrArg₂ (val _ _ _ _ _ _) (Fin.ext h0.symm) (Fin.ext h1.symm)
  · have hx0 : (x 0).val < 8192 := (x 0).isLt
    have hx1 : (x 1).val < 2048 := (x 1).isLt
    have ht : (x 0).val / 256 < 32 := by omega
    refine ⟨⟨(x 0).val / 256, ht⟩, flush0_7 _, ?_⟩
    have hx : x = ((cfg0.win 7).blk ⟨(x 0).val / 256, ht⟩).view.emb
        (ix2 (⟨(x 0).val % 256, by omega⟩ : Fin 256) (⟨(x 1).val, hx1⟩ : Fin 2048)) := by
      obtain ⟨h0, h1⟩ := emb7 ⟨(x 0).val / 256, ht⟩ ⟨(x 0).val % 256, by omega⟩ ⟨(x 1).val, hx1⟩
      funext a
      refine Fin.ext ?_
      match a with
      | 0 => refine Eq.trans ?_ h0.symm; show (x 0).val = (x 0).val / 256 * 256 + (x 0).val % 256; omega
      | 1 => exact h1.symm
    exact Eq.mpr (congrArg (fun y => y ∈ ((cfg0.win 7).blk ⟨(x 0).val / 256, ht⟩).view.set) hx) (View.emb_mem_set _ _)

end Kernel

section Reference
open Cert.ReferenceOIdeal Cert.ReferenceOIdeal.Gen
variable (m : (ℓ : Loc nD τ sig) → Buf (Elt Ideal) ℓ) (c : Dev nD)

theorem ref0_apply (i : Fin 8192) (j : Fin 2048) :
    (Value.res_out0 m c : FVec Ideal S8192x2048 .f32) (ix2 i j)
      = val (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) i j := by
  pointwise [Value.res_out0, Value.res_main_v33]
  simp only [alpha, eps]
  rfl

theorem ref1_apply (i : Fin 8192) (j : Fin 2048) :
    (Value.res_out1 m c : FVec Ideal S8192x2048 .bf16) (ix2 i j) = (Value.res_out0 m c : FVec Ideal S8192x2048 .f32) (ix2 i j) := rfl

end Reference

theorem frame_r : Cert.quiescent_ReferenceOIdeal (hReferenceOIdeal := Cert.ReferenceOIdeal.Gen.facts) := fun m g _ =>
  (θ_run Cert.ReferenceOIdeal.defs _ _).mono (fun r h => ⟨fun c => (h c).2.2, Idealize.ShloMosaic.sem_eq_zero_of_no_sems (by decide) r.2⟩)
    (Cert.ReferenceOIdeal.Value.run (F := Ideal) m g)

theorem algebraic : Cert.algebraic_KernelOIdeal_ReferenceOIdeal (hKernelOIdeal := Cert.KernelOIdeal.Gen.facts)
    (hReferenceOIdeal := Cert.ReferenceOIdeal.Gen.facts) := by
  intro m g m' g' _ hagree
  have ref (c : Dev Cert.KernelOIdeal.nD) (i : Fin 8192) (j : Fin 2048) :
      (Cert.ReferenceOIdeal.Value.res_out0 m' c : FVec Ideal Cert.ReferenceOIdeal.S8192x2048 .f32) (ix2 i j) = G6 m c (ix2 i j) := by
    refine (ref0_apply m' c i j).trans ?_
    rw [(hagree c).1, (hagree c).2.1, (hagree c).2.2.1, (hagree c).2.2.2.1, (hagree c).2.2.2.2.1, (hagree c).2.2.2.2.2]
    rfl
  refine ⟨G6 m, G7 m, ?_, ?_⟩
  · exact (θ_run Cert.KernelOIdeal.defs _ _).mono (fun _ h c => ⟨(h c).1.trans (result6 m c), (h c).2.1.trans (result7 m c), (h c).2.2⟩)
      (Cert.KernelOIdeal.Value.run_blocks (F := Ideal) m g)
  · refine (θ_run Cert.ReferenceOIdeal.defs _ _).mono (fun _ h c => ⟨(h c).1.trans ?_, (h c).2.1.trans ?_, (h c).2.2⟩)
      (Cert.ReferenceOIdeal.Value.run (F := Ideal) m' g')
    · funext i
      obtain ⟨r, j, rfl⟩ : ∃ (r : Fin 8192) (j : Fin 2048), i = (ix2 r j : Cert.ReferenceOIdeal.S8192x2048.Idx) := ⟨i 0, i 1, eq_ix2 _⟩
      exact ref c r j
    · funext i
      obtain ⟨r, j, rfl⟩ : ∃ (r : Fin 8192) (j : Fin 2048), i = (ix2 r j : Cert.ReferenceOIdeal.S8192x2048.Idx) := ⟨i 0, i 1, eq_ix2 _⟩
      exact (ref1_apply m' c r j).trans (ref c r j)

theorem preserves : Cert.preserves_KernelO_KernelOIdeal :=
  ⟨IdealRules.named_const.statement Cert.KernelOIdeal.κ "alpha" .f32 0x3FD744FD#32 ((Real.sqrt (Real.sqrt 8) : ℝ) : EReal) rfl,
    IdealRules.named_const.statement Cert.KernelOIdeal.κ "eps" .f32 0x3727C5AC#32 ((100000⁻¹ : ℝ) : EReal) rfl⟩

end Cert.Proof.OutLn

end
-- ==== Proof.Online.lean ====
/-
  The running softmax as a statement about extended reals.

  For scores `S j` and weights `V j` (`j` a key number), the kernel keeps, after the first `n` keys, the largest score,
  the sum of `exp (S j - largest)` and the sum of `exp (S j - largest) * V j`. Taking a further block of `K` keys scales
  the two sums by `exp (old largest - new largest)` and adds the block's own terms. Here: that this step is exact on
  extended reals, and that dividing the last sum by the second is the softmax-weighted sum.
-/
module

public import Idealize.ShloMosaic.PureOps.Ideal
public import Idealize.ShloMosaic.Lib.Pointwise
public import Idealize.ShloMosaic.Lib.WordCmp

@[expose] public section

noncomputable section

namespace Cert.Proof.Online

open Idealize.ShloMosaic Finset

/-- The exponential is never negative. -/
theorem exp_nonneg (x : EReal) : 0 ≤ Ideal.exp x := by
  induction x with
  | bot => simp [Ideal.exp_bot]
  | top => simp [Ideal.exp_top]
  | coe r => rw [Ideal.exp_coe]; exact_mod_cast (Real.exp_pos r).le

/-- The exponential of a difference `x - y` with `x ≤ y` is at most one. -/
theorem exp_sub_le_one {x y : EReal} (h : x ≤ y) : Ideal.exp (x - y) ≤ 1 := by
  induction y with
  | top => rw [EReal.sub_top]; simp [Ideal.exp_bot]
  | bot => rw [le_bot_iff.mp h, EReal.bot_sub]; simp [Ideal.exp_bot]
  | coe b =>
    induction x with
    | top => exact absurd h (by simp)
    | bot => rw [EReal.bot_sub]; simp [Ideal.exp_bot]
    | coe a =>
      rw [← EReal.coe_sub, Ideal.exp_coe]
      have : a ≤ b := by exact_mod_cast h
      exact_mod_cast Real.exp_le_one_iff.mpr (by linarith)

theorem exp_sub_ne_top {x y : EReal} (h : x ≤ y) : Ideal.exp (x - y) ≠ ⊤ := by
  intro hh
  have := exp_sub_le_one h
  rw [hh] at this
  exact absurd this (by simpa using EReal.coe_ne_top 1)

/-- Scaling by `exp (m - m')` moves a term from the maximum `m` to the larger maximum `m'`. -/
theorem exp_shift {s m m' : EReal} (h : s ≤ m) (h' : m ≤ m') :
    Ideal.exp (m - m') * Ideal.exp (s - m) = Ideal.exp (s - m') := by
  induction m' with
  | top => rw [EReal.sub_top, EReal.sub_top]; simp [Ideal.exp_bot]
  | bot =>
    rw [le_bot_iff.mp h', le_bot_iff.mp (h.trans h')]
    simp [Ideal.exp_bot]
  | coe b =>
    induction m with
    | top => exact absurd h' (by simp)
    | bot => rw [le_bot_iff.mp h]; simp [Ideal.exp_bot]
    | coe a =>
      induction s with
      | top => exact absurd h (by simp)
      | bot => simp [Ideal.exp_bot]
      | coe c =>
        rw [← EReal.coe_sub, ← EReal.coe_sub, ← EReal.coe_sub, Ideal.exp_coe, Ideal.exp_coe, Ideal.exp_coe,
          ← EReal.coe_mul, ← Real.exp_add]
        congr 2
        ring

/-- A factor that is neither negative nor infinite goes into a finite sum of extended reals. -/
theorem mul_sum {ι : Type*} (s : Finset ι) (f : ι → EReal) {c : EReal} (h0 : 0 ≤ c) (h1 : c ≠ ⊤) :
    c * ∑ j ∈ s, f j = ∑ j ∈ s, c * f j := by
  classical
  induction s using Finset.induction_on with
  | empty => simp
  | insert a s ha ih =>
    rw [sum_insert ha, sum_insert ha, EReal.left_distrib_of_nonneg_of_ne_top h0 h1, ih]

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [sum_insert ha, sum_insert ha, EReal.coe_add, ih]

variable (S V : ℕ → EReal)

/-- The largest of the first `n` scores. -/
def top (n : ℕ) : EReal := (range n).sup S

/-- The sum of the first `n` exponentials, taken from their largest score. -/
def den (n : ℕ) : EReal := ∑ j ∈ range n, Ideal.exp (S j - top S n)

/-- The first `n` weights summed, each times its exponential. -/
def num (n : ℕ) : EReal := ∑ j ∈ range n, Ideal.exp (S j - top S n) * V j

theorem top_zero : top S 0 = ⊥ := by simp [top]
theorem den_zero : den S 0 = 0 := by simp [den]
theorem num_zero : num S V 0 = 0 := by simp [num]

theorem le_top {n j : ℕ} (h : j < n) : S j ≤ top S n := le_sup (f := S) (mem_range.mpr h)

theorem top_mono {a b : ℕ} (h : a ≤ b) : top S a ≤ top S b := sup_mono (range_subset_range.mpr h)

/-- The largest score of a block of `K` keys from key `n`. -/
def blockTop (n K : ℕ) : EReal := univ.fold max ⊥ fun k : Fin K => S (n + k.val)

theorem blockTop_eq (n K : ℕ) : blockTop S n K = univ.sup fun k : Fin K => S (n + k.val) := rfl

theorem top_add (n K : ℕ) : max (top S n) (blockTop S n K) = top S (n + K) := by
  rw [blockTop_eq]
  apply le_antisymm
  · refine max_le (top_mono S (by omega)) (Finset.sup_le fun k _ => le_top S (by omega))
  · refine Finset.sup_le fun j hj => ?_
    have hj := mem_range.mp hj
    rcases lt_or_ge j n with h | h
    · exact le_max_of_le_left (le_top S h)
    · refine le_max_of_le_right ?_
      have := le_sup (s := univ) (f := fun k : Fin K => S (n + k.val)) (mem_univ (⟨j - n, by omega⟩ : Fin K))
      simpa [Nat.add_sub_cancel' h] using this

theorem num_add (n K : ℕ) :
    Ideal.exp (top S n - top S (n + K)) * num S V n
      + ∑ k : Fin K, Ideal.exp (S (n + k.val) - top S (n + K)) * V (n + k.val) = num S V (n + K) := by
  have h := top_mono S (Nat.le_add_right n K)
  rw [num, mul_sum _ _ (exp_nonneg _) (exp_sub_ne_top h), num, sum_range_add]
  congr 1
  · refine sum_congr rfl fun j hj => ?_
    rw [← mul_assoc, exp_shift (le_top S (mem_range.mp hj)) h]
  · rw [sum_range]

theorem den_add (n K : ℕ) :
    Ideal.exp (top S n - top S (n + K)) * den S n
      + ∑ k : Fin K, Ideal.exp (S (n + k.val) - top S (n + K)) = den S (n + K) := by
  have h := num_add S (fun _ => 1) n K
  simpa [num, den] using h

/-! ### From the running sums to the softmax -/

/-- Scores beyond `n` that are all `-∞` change none of the three. -/
theorem top_pad {n N : ℕ} (h : n ≤ N) (hS : ∀ j, n ≤ j → S j = ⊥) : top S N = top S n := by
  refine le_antisymm (Finset.sup_le fun j _ => ?_) (top_mono S h)
  rcases lt_or_ge j n with h | h
  · exact le_top S h
  · rw [hS j h]; exact bot_le

theorem num_pad {n N : ℕ} (h : n ≤ N) (hS : ∀ j, n ≤ j → S j = ⊥) : num S V N = num S V n := by
  rw [num, num, top_pad S h hS]
  refine (sum_subset (range_subset_range.mpr h) fun j _ hj => ?_).symm
  rw [hS j (by simpa using hj)]
  simp [Ideal.exp_bot]

theorem den_pad {n N : ℕ} (h : n ≤ N) (hS : ∀ j, n ≤ j → S j = ⊥) : den S N = den S n := by
  have := num_pad S (fun _ => 1) h hS
  simpa [num, den] using this

/-- With one real score among scores below `+∞`, the sum of exponentials is a positive real. -/
theorem den_real {n j₀ : ℕ} (hj : j₀ < n) (h0 : S j₀ ≠ ⊥) (hS : ∀ j, S j ≠ ⊤) :
    ∃ r : ℝ, r ≠ 0 ∧ den S n = (r : EReal) := by
  have hT : top S n ≠ ⊤ := by
    have : top S n < ⊤ := (Finset.sup_lt_iff (by simp)).mpr fun j _ => lt_top_iff_ne_top.mpr (hS j)
    exact this.ne
  have hB : top S n ≠ ⊥ := fun h => h0 (le_bot_iff.mp (h ▸ le_top S hj))
  obtain ⟨m, hm⟩ : ∃ m : ℝ, top S n = (m : EReal) := ⟨_, (EReal.coe_toReal hT hB).symm⟩
  have hterm : ∀ j, ∃ r : ℝ, 0 ≤ r ∧ Ideal.exp (S j - top S n) = (r : EReal) ∧ (S j ≠ ⊥ → 0 < r) := by
    intro j
    rw [hm]
    rcases eq_or_ne (S j) ⊥ with h | h
    · exact ⟨0, le_rfl, by rw [h]; simp [Ideal.exp_bot], fun hh => absurd h hh⟩
    · obtain ⟨a, ha⟩ : ∃ a : ℝ, S j = (a : EReal) := ⟨_, (EReal.coe_toReal (hS j) h).symm⟩
      refine ⟨Real.exp (a - m), (Real.exp_pos _).le, ?_, fun _ => Real.exp_pos _⟩
      rw [ha, ← EReal.coe_sub, Ideal.exp_coe]
  choose r hr0 hr hrp using hterm
  refine ⟨∑ j ∈ range n, r j, ?_, ?_⟩
  · refine (sum_pos' (fun j _ => hr0 j) ⟨j₀, mem_range.mpr hj, hrp j₀ h0⟩).ne'
  · rw [den, coe_sum]
    exact sum_congr rfl fun j _ => hr j

/-- The quotient of the two running sums is the sum of the weights times the softmax of the scores. -/
theorem quotient {n j₀ : ℕ} (hj : j₀ < n) (h0 : S j₀ ≠ ⊥) (hS : ∀ j, S j ≠ ⊤) :
    Ideal.div (num S V n) (den S n)
      = ∑ j : Fin n, V j.val * Ideal.div (Ideal.exp (S j.val - top S n)) (den S n) := by
  obtain ⟨r, hr, hd⟩ := den_real S hj h0 hS
  have hpos : (0 : EReal) ≤ den S n := sum_nonneg fun j _ => exp_nonneg _
  have hinv : (0 : EReal) ≤ ((1 / r : ℝ) : EReal) := by
    rw [hd] at hpos
    have : (0 : ℝ) ≤ r := by exact_mod_cast hpos
    exact_mod_cast one_div_nonneg.mpr this
  rw [hd, Ideal.div_coe hr, mul_comm, num, mul_sum _ _ hinv (EReal.coe_ne_top _), sum_range]
  refine sum_congr rfl fun j _ => ?_
  rw [Ideal.div_coe hr, ← mul_assoc, mul_comm, mul_comm ((1 / r : ℝ) : EReal)]

/-! ### Attention over arrays -/

/-- The number the scores are multiplied by: the reciprocal of the square root of 192. -/
def scale : EReal := (((Real.sqrt 192)⁻¹ : ℝ) : EReal)

/-- Entry (`r`, `c`) of a matrix by its two numbers; zero outside the matrix. -/
def rd {R C : ℕ} (X : (⟨2, ![R, C]⟩ : Shape).Idx → EReal) (r c : ℕ) : EReal :=
  if h : r < R ∧ c < C then X (ix2 ⟨r, h.1⟩ ⟨c, h.2⟩) else 0

theorem rd_of {R C : ℕ} (X : (⟨2, ![R, C]⟩ : Shape).Idx → EReal) {r c : ℕ} (hr : r < R) (hc : c < C) :
    rd X r c = X (ix2 ⟨r, hr⟩ ⟨c, hc⟩) := dif_pos ⟨hr, hc⟩

abbrev Mat (R C : ℕ) := (⟨2, ![R, C]⟩ : Shape).Idx → EReal

/-- The score of query `t` and key `j` of head `h` of sequence `b`, `-∞` for a key after the query. -/
def sc (Q K : Mat 8192 4096) (b h t j : ℕ) : EReal :=
  if j ≤ t then (∑ d : Fin 256, rd Q (b * 4096 + t) (h * 256 + d.val) * rd K (b * 4096 + j) (h * 256 + d.val)) * scale else ⊥

/-- Column `e` of the value of key `j` of head `h` of sequence `b`. -/
def vl (V : Mat 8192 2048) (b h e j : ℕ) : EReal := rd V (b * 4096 + j) (h * 128 + e)

/-- The attention's output: the two running sums over a sequence's 4096 keys, divided. -/
def att (Q K : Mat 8192 4096) (V : Mat 8192 2048) (r l : ℕ) : EReal :=
  Ideal.div (num (sc Q K (r / 4096) (l / 128) (r % 4096)) (vl V (r / 4096) (l / 128) (l % 128)) 4096)
    (den (sc Q K (r / 4096) (l / 128) (r % 4096)) 4096)

/-! ### Words -/

theorem minus_inf : Ideal.ofBits .f32 0xFF800000#32 = ⊥ := by simp [Ideal.ofBits, Ideal.ieee]
theorem plus_inf : Ideal.ofBits .f32 0x7F800000#32 = ⊤ := by simp [Ideal.ofBits, Ideal.ieee]

/-- A choice by the signed comparison of two small numbers' words. -/
theorem select_sle {α : Type} {a b : ℕ} (ha : a < 4096) (hb : b < 4096) (x y : α) :
    Scalar.select (IntOp.cmpi .sle (BitVec.ofNat 32 a) (BitVec.ofNat 32 b)) x y = if a ≤ b then x else y := by
  rw [Idealize.ShloMosaic.WordCmp.cmpi_sle_ofNat (by omega) (by omega)]
  by_cases h : a ≤ b <;> simp [Scalar.select, h]

end Cert.Proof.Online

end
-- ==== Proof.Finite.lean ====
/-
  What the precondition says: every query and key entry is a real number, so every score is one.
-/
module

public import proofs.«01_k».proof.Defs
public import proofs.«01_k».proof.Proof.Gen.Pre_finite_scores
public import proofs.«01_k».proof.Proof.Online
public import Idealize.ShloMosaic.Lib.ReduceAll
public import Idealize.ShloMosaic.Lib.Pointwise

@[expose] public section

noncomputable section

namespace Cert.Proof.Flash

open Idealize.ShloMosaic Cert.Proof.Online

/-- Every entry is a real number. -/
def Real' {R C : ℕ} (X : Mat R C) : Prop := ∀ r c, ∃ x : ℝ, rd X r c = (x : EReal)

theorem real_of {R C : ℕ} (X : Mat R C) (h : ∀ i, X i ≠ ⊥ ∧ X i ≠ ⊤) : Real' X := by
  intro r c
  unfold rd
  split
  · exact ⟨_, (EReal.coe_toReal (h _).2 (h _).1).symm⟩
  · exact ⟨0, rfl⟩

theorem score_real {Q K : Mat 8192 4096} (hQ : Real' Q) (hK : Real' K) (b h t j : ℕ) :
    ∃ x : ℝ, (∑ d : Fin 256, rd Q (b * 4096 + t) (h * 256 + d.val) * rd K (b * 4096 + j) (h * 256 + d.val)) * scale = (x : EReal) := by
  choose q hq using fun d : Fin 256 => hQ (b * 4096 + t) (h * 256 + d.val)
  choose k hk using fun d : Fin 256 => hK (b * 4096 + j) (h * 256 + d.val)
  refine ⟨(∑ d, q d * k d) * (Real.sqrt 192)⁻¹, ?_⟩
  rw [EReal.coe_mul, coe_sum, scale]
  simp only [hq, hk, EReal.coe_mul]

theorem sc_ne_top {Q K : Mat 8192 4096} (hQ : Real' Q) (hK : Real' K) (b h t j : ℕ) : sc Q K b h t j ≠ ⊤ := by
  unfold sc
  split
  · obtain ⟨x, hx⟩ := score_real hQ hK b h t j
    rw [hx]; exact EReal.coe_ne_top x
  · exact bot_ne_top

theorem sc_zero_ne_bot {Q K : Mat 8192 4096} (hQ : Real' Q) (hK : Real' K) (b h t : ℕ) : sc Q K b h t 0 ≠ ⊥ := by
  rw [sc, if_pos (Nat.zero_le _)]
  obtain ⟨x, hx⟩ := score_real hQ hK b h t 0
  rw [hx]; exact EReal.coe_ne_bot x

section

open Cert.Pre_finite_scores Cert.Pre_finite_scores.Gen

instance : Subsingleton S_.Idx := ⟨fun a b => funext fun i => i.elim0⟩

theorem and_one {a b : BitVec 1} (h : a &&& b = 1#1) : a = 1#1 ∧ b = 1#1 := by
  revert a b; decide

/-- An entry that passes the two comparisons is a real number. -/
theorem passes (x : EReal) (h1 : Ideal.cmp .ogt x (Ideal.ofBits .f32 0xFF800000#32) = 1#1)
    (h2 : Ideal.cmp .olt x (Ideal.ofBits .f32 0x7F800000#32) = 1#1) : x ≠ ⊥ ∧ x ≠ ⊤ := by
  rw [minus_inf] at h1
  rw [plus_inf] at h2
  constructor
  · rintro rfl
    simp [Ideal.cmp] at h1
  · rintro rfl
    simp [Ideal.cmp] at h2

theorem finite_of (x0 x1 : FVec Ideal S8192x4096 .bf16) (x2 : FVec Ideal S8192x2048 .bf16)
    (h : fn (F := Ideal) x0 x1 x2 = fun _ => 1#1) : Real' (R := 8192) (C := 4096) x0 ∧ Real' (R := 8192) (C := 4096) x1 := by
  have h0 := congrFun h ix0
  obtain ⟨ha, hb⟩ := and_one h0
  refine ⟨real_of _ fun i => ?_, real_of _ fun i => ?_⟩
  · obtain ⟨h1, h2⟩ := and_one (Host.reduce_andi_all _ _ _ _ _ ha i)
    exact passes _ h1 h2
  · obtain ⟨h1, h2⟩ := and_one (Host.reduce_andi_all _ _ _ _ _ hb i)
    exact passes _ h1 h2

end

end Cert.Proof.Flash

end
-- ==== Proof.ProjA.lean ====
/-
  Mixer A's projection of the prompt: what the call leaves in its result, and the reference's product, as one sum.
-/
module

public import Idealize.ShloMosaic.Lib.Pointwise
public import Idealize.ShloMosaic.Lib.Pipeline.ValueKit.Geometry
public import proofs.«01_k».proof.Defs
public import proofs.«01_k».proof.Proof.Gen.KernelAIdeal.Value
public import proofs.«01_k».proof.Proof.Gen.ReferenceAIdeal.Run
public import proofs.«01_k».proof.Proof.Finite
public import proofs.«01_k».proof.Proof.Gen.Pre_finite_proj

@[expose] public section

noncomputable section

namespace Cert.Proof.ProjA

open Idealize.ShloMosaic Idealize.ShloMosaic.TcCoe Idealize.ShloMosaic.Pipeline Idealize.SL.Sem

section Kernel

open Cert.KernelAIdeal Cert.KernelAIdeal.Gen

theorem pay_apply (x : Vec Ideal S1024x2048 .bf16) (w : Vec Ideal S2048x256 .bf16) (i : Fin 1024) (j : Fin 256) :
    k0_pay1 (F := Ideal) x w (ix2 i j) = ∑ k : Fin 2048, x (ix2 i k) * w (ix2 k j) := by
  pointwise [k0_pay1]

theorem out_apply (x : Vec Ideal S1024x2048 .bf16) (w : Vec Ideal S2048x256 .bf16) (i : Fin 1024) (j : Fin 256) :
    out0_2 (F := Ideal) x w (ix2 i j) = ∑ k : Fin 2048, x (ix2 i k) * w (ix2 k j) := by
  have e : (ix2 i j : S1024x256.Idx) = r0_2.emb (ix2 i j) := by
    funext a
    match a with
    | 0 => exact Fin.ext (by show i.val = 0 + 1 * i.val; omega)
    | 1 => exact Fin.ext (by show j.val = 0 + 1 * j.val; omega)
  rw [out0_2]
  refine (congrArg _ e).trans ((View.canon_cons_emb _ _ _ _).trans ?_)
  rw [View.ld_unit_lit _ _ (by decide), View.ld_unit_lit _ _ (by decide)]
  exact pay_apply x w i j

/-- The activations as the call takes them: a row for each position of the two batches. -/
def acts (x : FVec Ideal S2x4096x2048 .f32) : FVec Ideal S8192x2048 .bf16 :=
  truncf .bf16 (shapeCast S8192x2048 x shapeCasts_S2x4096x2048_S8192x2048) bitsLt_bf16_f32

/-- The weights as the call takes them: in the call's order, zeros for the last columns. -/
def weights (w : FVec Ideal S2048x3136 .f32) : FVec Ideal S2048x3328 .bf16 :=
  truncf .bf16 (concatenate S2048x3328 1 [⟨S2048x2048, extractStridedSlice S2048x2048 ![0, 1088] w slices_S2048x3136_S2048x2048_0_1088⟩,
    ⟨S2048x512, extractStridedSlice S2048x512 ![0, 0] w slices_S2048x3136_S2048x512_0_0⟩,
    ⟨S2048x512, extractStridedSlice S2048x512 ![0, 512] w slices_S2048x3136_S2048x512_0_512⟩,
    ⟨S2048x64, extractStridedSlice S2048x64 ![0, 1024] w slices_S2048x3136_S2048x64_0_1024⟩,
    ⟨S2048x64, broadcastInDim S2048x64 ![] bcast_S_S2048x64 (constant S_ .f32 0x00000000#32)⟩,
    ⟨S2048x64, concatenate S2048x64 1 [⟨S2048x32, Host.negf (extractStridedSlice S2048x32 ![0, 32] (extractStridedSlice S2048x64 ![0, 1024] w slices_S2048x3136_S2048x64_0_1024) slices_S2048x64_S2048x32_0_32)⟩,
      ⟨S2048x32, extractStridedSlice S2048x32 ![0, 0] (extractStridedSlice S2048x64 ![0, 1024] w slices_S2048x3136_S2048x64_0_1024) slices_S2048x64_S2048x32_0_0⟩] concatenates_S2048x32_S2048x32_S2048x64_d1⟩,
    ⟨S2048x64, broadcastInDim S2048x64 ![] bcast_S_S2048x64 (constant S_ .f32 0x00000000#32)⟩]
    concatenates_S2048x2048_S2048x512_S2048x512_S2048x64_S2048x64_S2048x64_S2048x64_S2048x3328_d1) bitsLt_bf16_f32

variable (m : (ℓ : Loc nD τ sig) → Buf (Elt Ideal) ℓ) (c : Dev nD)

theorem acts_apply (r : Fin 8192) (k : Fin 2048) :
    acts (m ((c.tc : Thread nD τ).loc main_arg0)) (ix2 r k)
      = (m ((c.tc : Thread nD τ).loc main_arg0) : FVec Ideal S2x4096x2048 .f32) (ix3 ⟨r.val / 4096, by omega⟩ ⟨r.val % 4096, by omega⟩ k) := by
  pointwise [acts]

/-- A column of the layer's weights. -/
def lay (w : FVec Ideal S2048x3136 .f32) (k : Fin 2048) (q : ℕ) : EReal := if h : q < 3136 then w (ix2 k ⟨q, h⟩) else 0

theorem lay_of (w : FVec Ideal S2048x3136 .f32) (k : Fin 2048) (q : Fin 3136) (n : ℕ) (h : q.val = n) : w (ix2 k q) = lay w k n := by
  subst h
  rw [lay, dif_pos q.isLt]

/-- The call's weights over the layer's: the gate's, the latents', the rotated key's, and those of the key's partner,
    the first half of them negated; zeros between. -/
def wcol (w : FVec Ideal S2048x3136 .f32) (k : Fin 2048) (j : Fin 3328) : EReal :=
  if j.val < 2048 then lay w k (j.val + 1088) else if j.val < 3136 then lay w k (j.val - 2048) else if j.val < 3200 then 0
  else if j.val < 3232 then -lay w k (j.val - 2144) else if j.val < 3264 then lay w k (j.val - 2208) else 0

theorem wcol_gate (w : FVec Ideal S2048x3136 .f32) (k : Fin 2048) (j : Fin 3328) (q : Fin 3136) (h : j.val < 2048) (hq : q.val = j.val + 1088) :
    w (ix2 k q) = wcol w k j := by
  rw [wcol, if_pos h]
  exact lay_of w k q _ hq
theorem wcol_lat (w : FVec Ideal S2048x3136 .f32) (k : Fin 2048) (j : Fin 3328) (q : Fin 3136) (h : ¬ j.val < 2048) (h' : j.val < 3136) (hq : q.val = j.val - 2048) :
    w (ix2 k q) = wcol w k j := by
  rw [wcol, if_neg h, if_pos h']
  exact lay_of w k q _ hq
theorem wcol_neg (w : FVec Ideal S2048x3136 .f32) (k : Fin 2048) (j : Fin 3328) (q : Fin 3136) (h : ¬ j.val < 3200) (h' : j.val < 3232) (hq : q.val = j.val - 2144) :
    -w (ix2 k q) = wcol w k j := by
  rw [wcol, if_neg (by omega), if_neg (by omega), if_neg h, if_pos h']
  exact congrArg (fun a : EReal => -a) (lay_of w k q _ hq)
theorem wcol_par (w : FVec Ideal S2048x3136 .f32) (k : Fin 2048) (j : Fin 3328) (q : Fin 3136) (h : ¬ j.val < 3232) (h' : j.val < 3264) (hq : q.val = j.val - 2208) :
    w (ix2 k q) = wcol w k j := by
  rw [wcol, if_neg (by omega), if_neg (by omega), if_neg (by omega), if_neg h, if_pos h']
  exact lay_of w k q _ hq
theorem wcol_pad (w : FVec Ideal S2048x3136 .f32) (k : Fin 2048) (j : Fin 3328) (h : ¬ j.val < 3136) (h' : j.val < 3200 ∨ ¬ j.val < 3264) : wcol w k j = 0 := by
  rw [wcol, if_neg (by omega), if_neg h]
  split
  · rfl
  · rw [if_neg (by omega), if_neg (by omega)]

theorem weights_apply (w : FVec Ideal S2048x3136 .f32) (k : Fin 2048) (j : Fin 3328) :
    weights w (ix2 k j) = wcol w k j := by
  pointwise [weights]
  repeat' split
  all_goals first
    | exact (wcol_pad w k j (by omega) (by omega)).symm
    | exact wcol_gate w k j _ (by omega) (by first | omega | (dsimp only; omega) | dsimp only)
    | exact wcol_lat w k j _ (by omega) (by omega) (by first | omega | (dsimp only; omega) | dsimp only)
    | exact wcol_neg w k j _ (by omega) (by omega) (by first | omega | (dsimp only; omega) | dsimp only)
    | exact wcol_par w k j _ (by omega) (by omega) (by first | omega | (dsimp only; omega) | dsimp only)

theorem V_acts : V m c main_v1 = acts (m ((c.tc : Thread nD τ).loc main_arg0)) := by
  show StableHlo.after hostOps0 (fun b => m (c, b)) (Proc.devRef .tc main_v1) = _
  after_results <;> rfl

theorem V_weights : V m c main_v12 = weights (m ((c.tc : Thread nD τ).loc main_arg1)) := by
  show StableHlo.after hostOps0 (fun b => m (c, b)) (Proc.devRef .tc main_v12) = _
  after_results <;> rfl

/-- The product of the activations and the weights, as contents of the result's array. -/
def G (x : FVec Ideal S2x4096x2048 .f32) (w : FVec Ideal S2048x3136 .f32) : FVec Ideal S8192x3328 .f32 :=
  fun i => ∑ k : Fin 2048, acts x (ix2 (i 0) k) * weights w (ix2 k (i 1))

theorem blocks_at : ∀ t : Fin grid0.N,
    win0_0.index t 0 = t.val / 13 ∧ win0_0.index t 1 = 0 ∧ win0_1.index t 0 = 0 ∧ win0_1.index t 1 = t.val % 13
      ∧ win0_2.index t 0 = t.val / 13 ∧ win0_2.index t 1 = t.val % 13 := by decide +kernel

theorem out_emb (t : Fin grid0.N) (i : Fin 1024) (j : Fin 256) :
    (((cfg0.win 2).blk t).view.emb (ix2 i j) 0).val = t.val / 13 * 1024 + i.val
    ∧ (((cfg0.win 2).blk t).view.emb (ix2 i j) 1).val = t.val % 13 * 256 + j.val := by
  obtain ⟨-, -, -, -, h0, h1⟩ := blocks_at t
  constructor
  · show win0_2.index t 0 * 1024 + 1 * i.val = _
    rw [h0, Nat.one_mul]
  · show win0_2.index t 1 * 256 + 1 * j.val = _
    rw [h1, Nat.one_mul]

theorem acts_block (t : Fin grid0.N) (i : Fin 1024) (k : Fin 2048) (h : t.val / 13 * 1024 + i.val < 8192) :
    iblk m c 0 t (ix2 i k) = acts (m ((c.tc : Thread nD τ).loc main_arg0)) (ix2 ⟨t.val / 13 * 1024 + i.val, h⟩ k) := by
  obtain ⟨h0, h1, -⟩ := blocks_at t
  rw [← V_acts]
  show V m c main_v1 (((cfg0.win 0).blk t).view.emb (ix2 i k)) = _
  refine congrArg (V m c main_v1) (funext fun a => Fin.ext ?_)
  match a with
  | 0 => show win0_0.index t 0 * 1024 + 1 * i.val = t.val / 13 * 1024 + i.val; rw [h0, Nat.one_mul]
  | 1 => show win0_0.index t 1 * 2048 + 1 * k.val = k.val; rw [h1]; omega

theorem weights_block (t : Fin grid0.N) (k : Fin 2048) (j : Fin 256) (h : t.val % 13 * 256 + j.val < 3328) :
    iblk m c 1 t (ix2 k j) = weights (m ((c.tc : Thread nD τ).loc main_arg1)) (ix2 k ⟨t.val % 13 * 256 + j.val, h⟩) := by
  obtain ⟨-, -, h0, h1, -⟩ := blocks_at t
  rw [← V_weights]
  show V m c main_v12 (((cfg0.win 1).blk t).view.emb (ix2 k j)) = _
  refine congrArg (V m c main_v12) (funext fun a => Fin.ext ?_)
  match a with
  | 0 => show win0_1.index t 0 * 2048 + 1 * k.val = k.val; rw [h0]; omega
  | 1 => show win0_1.index t 1 * 256 + 1 * j.val = t.val % 13 * 256 + j.val; rw [h1, Nat.one_mul]

/-- After the call its result is the product. -/
theorem result_arr : (dats m 0 c).arrAt 2 cfg0.N
    = G (m ((c.tc : Thread nD τ).loc main_arg0)) (m ((c.tc : Thread nD τ).loc main_arg1)) := by
  refine (dats m 0 c).arrAt_eq_of_emb 2 _ (fun t hf y => ?_) fun x => ?_
  · obtain ⟨i, j, rfl⟩ : ∃ (i : Fin 1024) (j : Fin 256), y = (ix2 i j : S1024x256.Idx) := ⟨y 0, y 1, eq_ix2 _⟩
    have ht : t.val < 104 := t.isLt
    obtain ⟨h0, h1⟩ := out_emb t i j
    refine (congrFun (after0_2 m c t) (ix2 i j)).trans ?_
    refine (out_apply (iblk m c 0 t) (iblk m c 1 t) i j).trans (Finset.sum_congr rfl fun k _ => ?_)
    refine congrArg₂ (fun a b : EReal => a * b) ((acts_block m c t i k (by omega)).trans ?_) ((weights_block m c t k j (by omega)).trans ?_)
    · exact congrArg (fun q => acts _ (ix2 q k)) (Fin.ext h0.symm)
    · exact congrArg (fun q => weights _ (ix2 k q)) (Fin.ext h1.symm)
  · have hx0 : (x 0).val < 8192 := (x 0).isLt
    have hx1 : (x 1).val < 3328 := (x 1).isLt
    have ht : (x 0).val / 1024 * 13 + (x 1).val / 256 < 104 := by omega
    refine ⟨⟨(x 0).val / 1024 * 13 + (x 1).val / 256, ht⟩, flush0_2 _, ?_⟩
    have hx : x = ((cfg0.win 2).blk ⟨(x 0).val / 1024 * 13 + (x 1).val / 256, ht⟩).view.emb
        (ix2 (⟨(x 0).val % 1024, by omega⟩ : Fin 1024) (⟨(x 1).val % 256, by omega⟩ : Fin 256)) := by
      obtain ⟨h0, h1⟩ := out_emb ⟨(x 0).val / 1024 * 13 + (x 1).val / 256, ht⟩ ⟨(x 0).val % 1024, by omega⟩ ⟨(x 1).val % 256, by omega⟩
      funext a
      refine Fin.ext ?_
      match a with
      | 0 => refine Eq.trans ?_ h0.symm; show (x 0).val = ((x 0).val / 1024 * 13 + (x 1).val / 256) / 13 * 1024 + (x 0).val % 1024; omega
      | 1 => refine Eq.trans ?_ h1.symm; show (x 1).val = ((x 0).val / 1024 * 13 + (x 1).val / 256) % 13 * 256 + (x 1).val % 256; omega
    exact Eq.mpr (congrArg (fun y => y ∈ ((cfg0.win 2).blk ⟨(x 0).val / 1024 * 13 + (x 1).val / 256, ht⟩).view.set) hx) (View.emb_mem_set _ _)

end Kernel

section Reference
open Cert.ReferenceAIdeal Cert.ReferenceAIdeal.Gen

/-- Over real numbers a sum's negation is the sum with the second factors negated. -/
theorem neg_sum (x w : Fin 2048 → EReal) (hx : ∀ k, x k ≠ ⊥ ∧ x k ≠ ⊤) (hw : ∀ k, w k ≠ ⊥ ∧ w k ≠ ⊤) :
    -(∑ k, x k * w k) = ∑ k, x k * -w k := by
  have e : ∀ k, x k * w k = ((((x k).toReal * (w k).toReal : ℝ)) : EReal) := fun k => by
    rw [EReal.coe_mul, EReal.coe_toReal (hx k).2 (hx k).1, EReal.coe_toReal (hw k).2 (hw k).1]
  simp only [mul_neg, e, ← EReal.coe_neg, ← Online.coe_sum, Finset.sum_neg_distrib]

theorem ref_apply (x : FVec Ideal S2x4096x2048 .f32) (w : FVec Ideal S2048x3136 .f32) (r : Fin 8192) (j : Fin 3328)
    (hx : ∀ i, x i ≠ ⊥ ∧ x i ≠ ⊤) (hw : ∀ (k : Fin 2048) (q : Fin 3136), 1056 ≤ q.val → q.val < 1088 → w (ix2 k q) ≠ ⊥ ∧ w (ix2 k q) ≠ ⊤) :
    shapeCast S8192x3328 (concatenate S2x4096x3328 2 [⟨S2x4096x2048, (extractStridedSlice S2x4096x2048 ![0, 0, 1088] (Host.dotGeneral dot_S2x4096x2048_S2048x3136_S2x4096x3136_2_0_01_1_n_n none x w) slices_S2x4096x3136_S2x4096x2048_0_0_1088)⟩,
      ⟨S2x4096x512, (extractStridedSlice S2x4096x512 ![0, 0, 0] (Host.dotGeneral dot_S2x4096x2048_S2048x3136_S2x4096x3136_2_0_01_1_n_n none x w) slices_S2x4096x3136_S2x4096x512_0_0_0)⟩,
      ⟨S2x4096x512, (extractStridedSlice S2x4096x512 ![0, 0, 512] (Host.dotGeneral dot_S2x4096x2048_S2048x3136_S2x4096x3136_2_0_01_1_n_n none x w) slices_S2x4096x3136_S2x4096x512_0_0_512)⟩,
      ⟨S2x4096x64, (extractStridedSlice S2x4096x64 ![0, 0, 1024] (Host.dotGeneral dot_S2x4096x2048_S2048x3136_S2x4096x3136_2_0_01_1_n_n none x w) slices_S2x4096x3136_S2x4096x64_0_0_1024)⟩,
      ⟨S2x4096x64, (broadcastInDim S2x4096x64 ![] bcast_S_S2x4096x64 (constant S_ .f32 0x00000000#32))⟩,
      ⟨S2x4096x32, Host.negf (extractStridedSlice S2x4096x32 ![0, 0, 32] (extractStridedSlice S2x4096x64 ![0, 0, 1024] (Host.dotGeneral dot_S2x4096x2048_S2048x3136_S2x4096x3136_2_0_01_1_n_n none x w) slices_S2x4096x3136_S2x4096x64_0_0_1024) slices_S2x4096x64_S2x4096x32_0_0_32)⟩,
      ⟨S2x4096x32, extractStridedSlice S2x4096x32 ![0, 0, 0] (extractStridedSlice S2x4096x64 ![0, 0, 1024] (Host.dotGeneral dot_S2x4096x2048_S2048x3136_S2x4096x3136_2_0_01_1_n_n none x w) slices_S2x4096x3136_S2x4096x64_0_0_1024) slices_S2x4096x64_S2x4096x32_0_0_0⟩,
      ⟨S2x4096x64, (broadcastInDim S2x4096x64 ![] bcast_S_S2x4096x64 (constant S_ .f32 0x00000000#32))⟩]
      concatenates_S2x4096x2048_S2x4096x512_S2x4096x512_S2x4096x64_S2x4096x64_S2x4096x32_S2x4096x32_S2x4096x64_S2x4096x3328_d2) shapeCasts_S2x4096x3328_S8192x3328 (ix2 r j)
    = ∑ k : Fin 2048, x (ix3 ⟨r.val / 4096, by omega⟩ ⟨r.val % 4096, by omega⟩ k) * wcol w k j := by
  pointwise []
  repeat' split
  all_goals first
    | exact (Finset.sum_eq_zero fun k _ => by rw [wcol_pad w k j (by omega) (by omega), mul_zero]).symm
    | exact Finset.sum_congr rfl fun k _ => congrArg (fun a : EReal => x (ix3 ⟨r.val / 4096, _⟩ ⟨r.val % 4096, _⟩ k) * a) (wcol_gate w k j _ (by omega) (by first | omega | (dsimp only; omega) | dsimp only))
    | exact Finset.sum_congr rfl fun k _ => congrArg (fun a : EReal => x (ix3 ⟨r.val / 4096, _⟩ ⟨r.val % 4096, _⟩ k) * a) (wcol_lat w k j _ (by omega) (by omega) (by first | omega | (dsimp only; omega) | dsimp only))
    | exact Finset.sum_congr rfl fun k _ => congrArg (fun a : EReal => x (ix3 ⟨r.val / 4096, _⟩ ⟨r.val % 4096, _⟩ k) * a) (wcol_par w k j _ (by omega) (by omega) (by first | omega | (dsimp only; omega) | dsimp only))
    | refine (neg_sum _ _ (fun k => hx _) (fun k => hw _ _ (by first | omega | (dsimp only; omega) | dsimp only) (by first | omega | (dsimp only; omega) | dsimp only))).trans ?_
      exact Finset.sum_congr rfl fun k _ => congrArg (fun a : EReal => x (ix3 ⟨r.val / 4096, _⟩ ⟨r.val % 4096, _⟩ k) * a) (wcol_neg w k j _ (by omega) (by omega) (by first | omega | (dsimp only; omega) | dsimp only))

end Reference

section Precondition

open Cert.Pre_finite_proj Cert.Pre_finite_proj.Gen

theorem slice_apply (w : FVec Ideal S2048x3136 .f32) (k : Fin 2048) (q : Fin 32) :
    extractStridedSlice S2048x32 ![0, 1056] w slices_S2048x3136_S2048x32_0_1056 (ix2 k q) = w (ix2 k ⟨1056 + q.val, by omega⟩) := by
  pointwise []

/-- What the precondition says of the activations and of the weights whose negations the call takes. -/
theorem finite_of (x : FVec Ideal S2x4096x2048 .f32) (w : FVec Ideal S2048x3136 .f32) (h : fn (F := Ideal) x w = fun _ => 1#1) :
    (∀ i, x i ≠ ⊥ ∧ x i ≠ ⊤) ∧ ∀ (k : Fin 2048) (q : Fin 3136), 1056 ≤ q.val → q.val < 1088 → w (ix2 k q) ≠ ⊥ ∧ w (ix2 k q) ≠ ⊤ := by
  have h0 := congrFun h ix0
  obtain ⟨ha, hb⟩ := Flash.and_one h0
  refine ⟨fun i => ?_, fun k q h1 h2 => ?_⟩
  · obtain ⟨h1, h2⟩ := Flash.and_one (Host.reduce_andi_all _ _ _ _ _ ha i)
    exact Flash.passes _ h1 h2
  · obtain ⟨g1, g2⟩ := Flash.and_one (Host.reduce_andi_all _ _ _ _ _ hb (ix2 k ⟨q.val - 1056, by omega⟩))
    have e : w (ix2 k q) = extractStridedSlice S2048x32 ![0, 1056] w slices_S2048x3136_S2048x32_0_1056 (ix2 k ⟨q.val - 1056, by omega⟩) := by
      rw [slice_apply]
      exact congrArg w (congrArg (ix2 k) (Fin.ext (by first | omega | (dsimp only; omega) | dsimp only)))
    rw [e]
    exact Flash.passes _ g1 g2

end Precondition

theorem frame_r (m : (ℓ : Loc Cert.ReferenceAIdeal.nD Cert.ReferenceAIdeal.τ Cert.ReferenceAIdeal.sig) → Buf (Elt Ideal) ℓ)
    (g : Dev Cert.ReferenceAIdeal.nD → PrngReg) :
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0) :=
  (θ_run Cert.ReferenceAIdeal.defs _ _).mono (fun r h => ⟨fun c => (h c).2, Idealize.ShloMosaic.sem_eq_zero_of_no_sems (by decide) r.2⟩)
    (Cert.ReferenceAIdeal.Value.run (F := Ideal) m g)

theorem algebraic : Cert.algebraic_KernelAIdeal_ReferenceAIdeal_pre_finite_proj (hKernelAIdeal := Cert.KernelAIdeal.Gen.facts)
    (hReferenceAIdeal := Cert.ReferenceAIdeal.Gen.facts) (hPre_finite_proj := Cert.Pre_finite_proj.Gen.facts) := by
  intro m g m' g' hpre hagree
  refine ⟨fun c => G (m ((c.tc : Thread Cert.KernelAIdeal.nD Cert.KernelAIdeal.τ).loc Cert.KernelAIdeal.main_arg0))
    (m ((c.tc : Thread Cert.KernelAIdeal.nD Cert.KernelAIdeal.τ).loc Cert.KernelAIdeal.main_arg1)), ?_, ?_⟩
  · exact (θ_run Cert.KernelAIdeal.defs _ _).mono (fun _ h c => ⟨(h c).1.trans (result_arr m c), (h c).2⟩)
      (Cert.KernelAIdeal.Value.run_blocks (F := Ideal) m g)
  · refine (θ_run Cert.ReferenceAIdeal.defs _ _).mono (fun _ h c => ⟨(h c).1.trans ?_, (h c).2⟩)
      (Cert.ReferenceAIdeal.Value.run (F := Ideal) m' g')
    rw [(hagree c).1, (hagree c).2]
    obtain ⟨hx, hw⟩ := finite_of _ _ (hpre c)
    funext i
    obtain ⟨r, j, rfl⟩ : ∃ (r : Fin 8192) (j : Fin 3328), i = (ix2 r j : Cert.ReferenceAIdeal.S8192x3328.Idx) := ⟨i 0, i 1, eq_ix2 _⟩
    refine (ref_apply _ _ r j hx hw).trans (Finset.sum_congr rfl fun k _ => ?_)
    exact congrArg₂ (fun a b : EReal => a * b) (acts_apply m c r k).symm (weights_apply _ k j).symm

end Cert.Proof.ProjA

end
-- ==== Proof.ProjB.lean ====
/-
  Mixer B's projection of the prompt: what the call leaves in its result, and the reference's product, as one sum.
-/
module

public import Idealize.ShloMosaic.Lib.Pointwise
public import Idealize.ShloMosaic.Lib.Pipeline.ValueKit.Geometry
public import proofs.«01_k».proof.Defs
public import proofs.«01_k».proof.Proof.Gen.KernelBIdeal.Value
public import proofs.«01_k».proof.Proof.Gen.ReferenceBIdeal.Run

@[expose] public section

noncomputable section

namespace Cert.Proof.ProjB

open Idealize.ShloMosaic Idealize.ShloMosaic.TcCoe Idealize.ShloMosaic.Pipeline Idealize.SL.Sem

section Kernel

open Cert.KernelBIdeal Cert.KernelBIdeal.Gen

theorem pay_apply (x : Vec Ideal S1024x2048 .bf16) (w : Vec Ideal S2048x1024 .bf16) (i j : Fin 1024) :
    k0_pay1 (F := Ideal) x w (ix2 i j) = ∑ k : Fin 2048, x (ix2 i k) * w (ix2 k j) := by
  pointwise [k0_pay1]

theorem out_apply (x : Vec Ideal S1024x2048 .bf16) (w : Vec Ideal S2048x1024 .bf16) (i j : Fin 1024) :
    out0_2 (F := Ideal) x w (ix2 i j) = ∑ k : Fin 2048, x (ix2 i k) * w (ix2 k j) := by
  have e : (ix2 i j : S1024x1024.Idx) = r0_2.emb (ix2 i j) := by
    funext a
    match a with
    | 0 => exact Fin.ext (by show i.val = 0 + 1 * i.val; omega)
    | 1 => exact Fin.ext (by show j.val = 0 + 1 * j.val; omega)
  rw [out0_2]
  refine (congrArg _ e).trans ((View.canon_cons_emb _ _ _ _).trans ?_)
  rw [View.ld_unit_lit _ _ (by decide), View.ld_unit_lit _ _ (by decide)]
  exact pay_apply x w i j

/-- The activations as the call takes them: a row for each position of the two batches. -/
def acts (x : FVec Ideal S2x4096x2048 .f32) : FVec Ideal S8192x2048 .bf16 :=
  truncf .bf16 (shapeCast S8192x2048 x shapeCasts_S2x4096x2048_S8192x2048) bitsLt_bf16_f32

/-- The weights as the call takes them: the gate's columns first. -/
def weights (w : FVec Ideal S2048x5120 .f32) : FVec Ideal S2048x5120 .bf16 :=
  truncf .bf16 (concatenate S2048x5120 1 [⟨S2048x2048, extractStridedSlice S2048x2048 ![0, 3072] w slices_S2048x5120_S2048x2048_0_3072⟩,
    ⟨S2048x3072, extractStridedSlice S2048x3072 ![0, 0] w slices_S2048x5120_S2048x3072_0_0⟩] concatenates_S2048x2048_S2048x3072_S2048x5120_d1) bitsLt_bf16_f32

variable (m : (ℓ : Loc nD τ sig) → Buf (Elt Ideal) ℓ) (c : Dev nD)

theorem acts_apply (r : Fin 8192) (k : Fin 2048) :
    acts (m ((c.tc : Thread nD τ).loc main_arg0)) (ix2 r k)
      = (m ((c.tc : Thread nD τ).loc main_arg0) : FVec Ideal S2x4096x2048 .f32) (ix3 ⟨r.val / 4096, by omega⟩ ⟨r.val % 4096, by omega⟩ k) := by
  pointwise [acts]

/-- The column of the layer's weights that is column `j` of the call's. -/
def col (j : ℕ) : ℕ := if j < 2048 then j + 3072 else j - 2048

theorem col_lt (j : Fin 5120) : col j.val < 5120 := by unfold col; split <;> omega

theorem weights_apply (w : FVec Ideal S2048x5120 .f32) (k : Fin 2048) (j : Fin 5120) :
    weights w (ix2 k j) = w (ix2 k ⟨col j.val, col_lt j⟩) := by
  pointwise [weights]
  split <;> exact congrArg (fun q => w (ix2 k q)) (Fin.ext (by simp only [col]; split <;> omega))

theorem V_acts : V m c main_v1 = acts (m ((c.tc : Thread nD τ).loc main_arg0)) := by
  show StableHlo.after hostOps0 (fun b => m (c, b)) (Proc.devRef .tc main_v1) = _
  after_results <;> rfl

theorem V_weights : V m c main_v5 = weights (m ((c.tc : Thread nD τ).loc main_arg1)) := by
  show StableHlo.after hostOps0 (fun b => m (c, b)) (Proc.devRef .tc main_v5) = _
  after_results <;> rfl

/-- The product of the activations and the weights, as contents of the result's array. -/
def G (x : FVec Ideal S2x4096x2048 .f32) (w : FVec Ideal S2048x5120 .f32) : FVec Ideal S8192x5120 .f32 :=
  fun i => ∑ k : Fin 2048, acts x (ix2 (i 0) k) * weights w (ix2 k (i 1))

theorem blocks_at : ∀ t : Fin grid0.N,
    win0_0.index t 0 = t.val / 5 ∧ win0_0.index t 1 = 0 ∧ win0_1.index t 0 = 0 ∧ win0_1.index t 1 = t.val % 5
      ∧ win0_2.index t 0 = t.val / 5 ∧ win0_2.index t 1 = t.val % 5 := by decide +kernel

theorem out_emb (t : Fin grid0.N) (i j : Fin 1024) :
    (((cfg0.win 2).blk t).view.emb (ix2 i j) 0).val = t.val / 5 * 1024 + i.val
    ∧ (((cfg0.win 2).blk t).view.emb (ix2 i j) 1).val = t.val % 5 * 1024 + j.val := by
  obtain ⟨-, -, -, -, h0, h1⟩ := blocks_at t
  constructor
  · show win0_2.index t 0 * 1024 + 1 * i.val = _
    rw [h0, Nat.one_mul]
  · show win0_2.index t 1 * 1024 + 1 * j.val = _
    rw [h1, Nat.one_mul]

theorem acts_block (t : Fin grid0.N) (i : Fin 1024) (k : Fin 2048) (h : t.val / 5 * 1024 + i.val < 8192) :
    iblk m c 0 t (ix2 i k) = acts (m ((c.tc : Thread nD τ).loc main_arg0)) (ix2 ⟨t.val / 5 * 1024 + i.val, h⟩ k) := by
  obtain ⟨h0, h1, -⟩ := blocks_at t
  rw [← V_acts]
  show V m c main_v1 (((cfg0.win 0).blk t).view.emb (ix2 i k)) = _
  refine congrArg (V m c main_v1) (funext fun a => Fin.ext ?_)
  match a with
  | 0 => show win0_0.index t 0 * 1024 + 1 * i.val = t.val / 5 * 1024 + i.val; rw [h0, Nat.one_mul]
  | 1 => show win0_0.index t 1 * 2048 + 1 * k.val = k.val; rw [h1]; omega

theorem weights_block (t : Fin grid0.N) (k : Fin 2048) (j : Fin 1024) (h : t.val % 5 * 1024 + j.val < 5120) :
    iblk m c 1 t (ix2 k j) = weights (m ((c.tc : Thread nD τ).loc main_arg1)) (ix2 k ⟨t.val % 5 * 1024 + j.val, h⟩) := by
  obtain ⟨-, -, h0, h1, -⟩ := blocks_at t
  rw [← V_weights]
  show V m c main_v5 (((cfg0.win 1).blk t).view.emb (ix2 k j)) = _
  refine congrArg (V m c main_v5) (funext fun a => Fin.ext ?_)
  match a with
  | 0 => show win0_1.index t 0 * 2048 + 1 * k.val = k.val; rw [h0]; omega
  | 1 => show win0_1.index t 1 * 1024 + 1 * j.val = t.val % 5 * 1024 + j.val; rw [h1, Nat.one_mul]

/-- After the call its result is the product. -/
theorem result_arr : (dats m 0 c).arrAt 2 cfg0.N
    = G (m ((c.tc : Thread nD τ).loc main_arg0)) (m ((c.tc : Thread nD τ).loc main_arg1)) := by
  refine (dats m 0 c).arrAt_eq_of_emb 2 _ (fun t hf y => ?_) fun x => ?_
  · obtain ⟨i, j, rfl⟩ : ∃ (i j : Fin 1024), y = (ix2 i j : S1024x1024.Idx) := ⟨y 0, y 1, eq_ix2 _⟩
    have ht : t.val < 40 := t.isLt
    obtain ⟨h0, h1⟩ := out_emb t i j
    refine (congrFun (after0_2 m c t) (ix2 i j)).trans ?_
    refine (out_apply (iblk m c 0 t) (iblk m c 1 t) i j).trans (Finset.sum_congr rfl fun k _ => ?_)
    refine congrArg₂ (fun a b : EReal => a * b) ((acts_block m c t i k (by omega)).trans ?_) ((weights_block m c t k j (by omega)).trans ?_)
    · exact congrArg (fun q => acts _ (ix2 q k)) (Fin.ext h0.symm)
    · exact congrArg (fun q => weights _ (ix2 k q)) (Fin.ext h1.symm)
  · have hx0 : (x 0).val < 8192 := (x 0).isLt
    have hx1 : (x 1).val < 5120 := (x 1).isLt
    have ht : (x 0).val / 1024 * 5 + (x 1).val / 1024 < 40 := by omega
    refine ⟨⟨(x 0).val / 1024 * 5 + (x 1).val / 1024, ht⟩, flush0_2 _, ?_⟩
    have hx : x = ((cfg0.win 2).blk ⟨(x 0).val / 1024 * 5 + (x 1).val / 1024, ht⟩).view.emb
        (ix2 (⟨(x 0).val % 1024, by omega⟩ : Fin 1024) (⟨(x 1).val % 1024, by omega⟩ : Fin 1024)) := by
      obtain ⟨h0, h1⟩ := out_emb ⟨(x 0).val / 1024 * 5 + (x 1).val / 1024, ht⟩ ⟨(x 0).val % 1024, by omega⟩ ⟨(x 1).val % 1024, by omega⟩
      funext a
      refine Fin.ext ?_
      match a with
      | 0 => refine Eq.trans ?_ h0.symm; show (x 0).val = ((x 0).val / 1024 * 5 + (x 1).val / 1024) / 5 * 1024 + (x 0).val % 1024; omega
      | 1 => refine Eq.trans ?_ h1.symm; show (x 1).val = ((x 0).val / 1024 * 5 + (x 1).val / 1024) % 5 * 1024 + (x 1).val % 1024; omega
    exact Eq.mpr (congrArg (fun y => y ∈ ((cfg0.win 2).blk ⟨(x 0).val / 1024 * 5 + (x 1).val / 1024, ht⟩).view.set) hx) (View.emb_mem_set _ _)

end Kernel

section Reference
open Cert.ReferenceBIdeal Cert.ReferenceBIdeal.Gen

theorem ref_apply (x : FVec Ideal S2x4096x2048 .f32) (w : FVec Ideal S2048x5120 .f32) (r : Fin 8192) (j : Fin 5120) :
    shapeCast S8192x5120 (concatenate S2x4096x5120 2 [⟨S2x4096x2048, (extractStridedSlice S2x4096x2048 ![0, 0, 3072] (Host.dotGeneral dot_S2x4096x2048_S2048x5120_S2x4096x5120_2_0_01_1_n_n none x w) slices_S2x4096x5120_S2x4096x2048_0_0_3072)⟩,
      ⟨S2x4096x2048, (extractStridedSlice S2x4096x2048 ![0, 0, 0] (Host.dotGeneral dot_S2x4096x2048_S2048x5120_S2x4096x5120_2_0_01_1_n_n none x w) slices_S2x4096x5120_S2x4096x2048_0_0_0)⟩,
      ⟨S2x4096x512, (extractStridedSlice S2x4096x512 ![0, 0, 2048] (Host.dotGeneral dot_S2x4096x2048_S2048x5120_S2x4096x5120_2_0_01_1_n_n none x w) slices_S2x4096x5120_S2x4096x512_0_0_2048)⟩,
      ⟨S2x4096x512, (extractStridedSlice S2x4096x512 ![0, 0, 2560] (Host.dotGeneral dot_S2x4096x2048_S2048x5120_S2x4096x5120_2_0_01_1_n_n none x w) slices_S2x4096x5120_S2x4096x512_0_0_2560)⟩]
      concatenates_S2x4096x2048_S2x4096x2048_S2x4096x512_S2x4096x512_S2x4096x5120_d2) shapeCasts_S2x4096x5120_S8192x5120 (ix2 r j)
    = ∑ k : Fin 2048, x (ix3 ⟨r.val / 4096, by omega⟩ ⟨r.val % 4096, by omega⟩ k) * w (ix2 k ⟨col j.val, col_lt j⟩) := by
  pointwise []
  repeat' split
  all_goals
    refine Finset.sum_congr rfl fun k _ => congrArg (fun a : EReal => x (ix3 ⟨r.val / 4096, _⟩ ⟨r.val % 4096, _⟩ k) * a) ?_
    exact congrArg (fun q => w (ix2 k q)) (Fin.ext (by simp only [col]; split <;> omega))

end Reference

theorem frame_r : Cert.quiescent_ReferenceBIdeal (hReferenceBIdeal := Cert.ReferenceBIdeal.Gen.facts) := fun m g _ =>
  (θ_run Cert.ReferenceBIdeal.defs _ _).mono (fun r h => ⟨fun c => (h c).2, Idealize.ShloMosaic.sem_eq_zero_of_no_sems (by decide) r.2⟩)
    (Cert.ReferenceBIdeal.Value.run (F := Ideal) m g)

theorem algebraic : Cert.algebraic_KernelBIdeal_ReferenceBIdeal (hKernelBIdeal := Cert.KernelBIdeal.Gen.facts)
    (hReferenceBIdeal := Cert.ReferenceBIdeal.Gen.facts) := by
  intro m g m' g' _ hagree
  refine ⟨fun c => G (m ((c.tc : Thread Cert.KernelBIdeal.nD Cert.KernelBIdeal.τ).loc Cert.KernelBIdeal.main_arg0))
    (m ((c.tc : Thread Cert.KernelBIdeal.nD Cert.KernelBIdeal.τ).loc Cert.KernelBIdeal.main_arg1)), ?_, ?_⟩
  · exact (θ_run Cert.KernelBIdeal.defs _ _).mono (fun _ h c => ⟨(h c).1.trans (result_arr m c), (h c).2⟩)
      (Cert.KernelBIdeal.Value.run_blocks (F := Ideal) m g)
  · refine (θ_run Cert.ReferenceBIdeal.defs _ _).mono (fun _ h c => ⟨(h c).1.trans ?_, (h c).2⟩)
      (Cert.ReferenceBIdeal.Value.run (F := Ideal) m' g')
    rw [(hagree c).1, (hagree c).2]
    funext i
    obtain ⟨r, j, rfl⟩ : ∃ (r : Fin 8192) (j : Fin 5120), i = (ix2 r j : Cert.ReferenceBIdeal.S8192x5120.Idx) := ⟨i 0, i 1, eq_ix2 _⟩
    refine (ref_apply _ _ r j).trans (Finset.sum_congr rfl fun k _ => ?_)
    exact congrArg₂ (fun a b : EReal => a * b) (acts_apply m c r k).symm (weights_apply _ k j).symm

end Cert.Proof.ProjB

end
-- ==== Proof.ProjC.lean ====
/-
  Mixer C's projection of the prompt: what the call leaves in its result, and the reference's product, as one sum.
-/
module

public import Idealize.ShloMosaic.Lib.Pointwise
public import Idealize.ShloMosaic.Lib.Pipeline.ValueKit.Geometry
public import proofs.«01_k».proof.Defs
public import proofs.«01_k».proof.Proof.Gen.KernelCIdeal.Value
public import proofs.«01_k».proof.Proof.Gen.ReferenceCIdeal.Run

@[expose] public section

noncomputable section

namespace Cert.Proof.ProjC

open Idealize.ShloMosaic Idealize.ShloMosaic.TcCoe Idealize.ShloMosaic.Pipeline Idealize.SL.Sem

section Kernel

open Cert.KernelCIdeal Cert.KernelCIdeal.Gen

theorem pay_apply (x : Vec Ideal S1024x2048 .bf16) (w : Vec Ideal S2048x768 .bf16) (i : Fin 1024) (j : Fin 768) :
    k0_pay1 (F := Ideal) x w (ix2 i j) = ∑ k : Fin 2048, x (ix2 i k) * w (ix2 k j) := by
  pointwise [k0_pay1]

theorem out_apply (x : Vec Ideal S1024x2048 .bf16) (w : Vec Ideal S2048x768 .bf16) (i : Fin 1024) (j : Fin 768) :
    out0_2 (F := Ideal) x w (ix2 i j) = ∑ k : Fin 2048, x (ix2 i k) * w (ix2 k j) := by
  have e : (ix2 i j : S1024x768.Idx) = r0_2.emb (ix2 i j) := by
    funext a
    match a with
    | 0 => exact Fin.ext (by show i.val = 0 + 1 * i.val; omega)
    | 1 => exact Fin.ext (by show j.val = 0 + 1 * j.val; omega)
  rw [out0_2]
  refine (congrArg _ e).trans ((View.canon_cons_emb _ _ _ _).trans ?_)
  rw [View.ld_unit_lit _ _ (by decide), View.ld_unit_lit _ _ (by decide)]
  exact pay_apply x w i j

/-- The activations as the call takes them: a row for each position of the two batches. -/
def acts (x : FVec Ideal S2x4096x2048 .f32) : FVec Ideal S8192x2048 .bf16 :=
  truncf .bf16 (shapeCast S8192x2048 x shapeCasts_S2x4096x2048_S8192x2048) bitsLt_bf16_f32

/-- The weights as the call takes them: in the call's order, zeros for the last columns. -/
def weights (w : FVec Ideal S2048x5136 .f32) : FVec Ideal S2048x5376 .bf16 :=
  truncf .bf16 (concatenate S2048x5376 1 [⟨S2048x2048, extractStridedSlice S2048x2048 ![0, 3088] w slices_S2048x5136_S2048x2048_0_3088⟩,
    ⟨S2048x3072, extractStridedSlice S2048x3072 ![0, 0] w slices_S2048x5136_S2048x3072_0_0⟩,
    ⟨S2048x16, extractStridedSlice S2048x16 ![0, 3072] w slices_S2048x5136_S2048x16_0_3072⟩,
    ⟨S2048x240, broadcastInDim S2048x240 ![] bcast_S_S2048x240 (constant S_ .f32 0x00000000#32)⟩]
    concatenates_S2048x2048_S2048x3072_S2048x16_S2048x240_S2048x5376_d1) bitsLt_bf16_f32

variable (m : (ℓ : Loc nD τ sig) → Buf (Elt Ideal) ℓ) (c : Dev nD)

theorem acts_apply (r : Fin 8192) (k : Fin 2048) :
    acts (m ((c.tc : Thread nD τ).loc main_arg0)) (ix2 r k)
      = (m ((c.tc : Thread nD τ).loc main_arg0) : FVec Ideal S2x4096x2048 .f32) (ix3 ⟨r.val / 4096, by omega⟩ ⟨r.val % 4096, by omega⟩ k) := by
  pointwise [acts]

/-- The column of the layer's weights that is column `j` of the call's. -/
def col (j : ℕ) : ℕ := if j < 2048 then j + 3088 else j - 2048

theorem col_lt (j : ℕ) (h : j < 5136) : col j < 5136 := by unfold col; (repeat' split) <;> omega

/-- The call's weights over the layer's: the columns that fill the last block up are zero. -/
def wcol (w : FVec Ideal S2048x5136 .f32) (k : Fin 2048) (j : Fin 5376) : EReal :=
  if h : j.val < 5136 then w (ix2 k ⟨col j.val, col_lt _ h⟩) else 0

theorem wcol_of (w : FVec Ideal S2048x5136 .f32) (k : Fin 2048) (j : Fin 5376) (h : j.val < 5136) (q : Fin 5136) (hq : q.val = col j.val) :
    w (ix2 k q) = wcol w k j := by
  rw [wcol, dif_pos h]
  exact congrArg (fun q => w (ix2 k q)) (Fin.ext hq)

theorem wcol_pad (w : FVec Ideal S2048x5136 .f32) (k : Fin 2048) (j : Fin 5376) (h : ¬ j.val < 5136) : wcol w k j = 0 := by
  rw [wcol, dif_neg h]

theorem weights_apply (w : FVec Ideal S2048x5136 .f32) (k : Fin 2048) (j : Fin 5376) :
    weights w (ix2 k j) = wcol w k j := by
  pointwise [weights]
  repeat' split
  all_goals first
    | exact (wcol_pad w k j (by omega)).symm
    | exact wcol_of w k j (by omega) _ (by simp only [col]; (repeat' split) <;> omega)

theorem V_acts : V m c main_v1 = acts (m ((c.tc : Thread nD τ).loc main_arg0)) := by
  show StableHlo.after hostOps0 (fun b => m (c, b)) (Proc.devRef .tc main_v1) = _
  after_results <;> rfl

theorem V_weights : V m c main_v7 = weights (m ((c.tc : Thread nD τ).loc main_arg1)) := by
  show StableHlo.after hostOps0 (fun b => m (c, b)) (Proc.devRef .tc main_v7) = _
  after_results <;> rfl

/-- The product of the activations and the weights, as contents of the result's array. -/
def G (x : FVec Ideal S2x4096x2048 .f32) (w : FVec Ideal S2048x5136 .f32) : FVec Ideal S8192x5376 .f32 :=
  fun i => ∑ k : Fin 2048, acts x (ix2 (i 0) k) * weights w (ix2 k (i 1))

theorem blocks_at : ∀ t : Fin grid0.N,
    win0_0.index t 0 = t.val / 7 ∧ win0_0.index t 1 = 0 ∧ win0_1.index t 0 = 0 ∧ win0_1.index t 1 = t.val % 7
      ∧ win0_2.index t 0 = t.val / 7 ∧ win0_2.index t 1 = t.val % 7 := by decide +kernel

theorem out_emb (t : Fin grid0.N) (i : Fin 1024) (j : Fin 768) :
    (((cfg0.win 2).blk t).view.emb (ix2 i j) 0).val = t.val / 7 * 1024 + i.val
    ∧ (((cfg0.win 2).blk t).view.emb (ix2 i j) 1).val = t.val % 7 * 768 + j.val := by
  obtain ⟨-, -, -, -, h0, h1⟩ := blocks_at t
  constructor
  · show win0_2.index t 0 * 1024 + 1 * i.val = _
    rw [h0, Nat.one_mul]
  · show win0_2.index t 1 * 768 + 1 * j.val = _
    rw [h1, Nat.one_mul]

theorem acts_block (t : Fin grid0.N) (i : Fin 1024) (k : Fin 2048) (h : t.val / 7 * 1024 + i.val < 8192) :
    iblk m c 0 t (ix2 i k) = acts (m ((c.tc : Thread nD τ).loc main_arg0)) (ix2 ⟨t.val / 7 * 1024 + i.val, h⟩ k) := by
  obtain ⟨h0, h1, -⟩ := blocks_at t
  rw [← V_acts]
  show V m c main_v1 (((cfg0.win 0).blk t).view.emb (ix2 i k)) = _
  refine congrArg (V m c main_v1) (funext fun a => Fin.ext ?_)
  match a with
  | 0 => show win0_0.index t 0 * 1024 + 1 * i.val = t.val / 7 * 1024 + i.val; rw [h0, Nat.one_mul]
  | 1 => show win0_0.index t 1 * 2048 + 1 * k.val = k.val; rw [h1]; omega

theorem weights_block (t : Fin grid0.N) (k : Fin 2048) (j : Fin 768) (h : t.val % 7 * 768 + j.val < 5376) :
    iblk m c 1 t (ix2 k j) = weights (m ((c.tc : Thread nD τ).loc main_arg1)) (ix2 k ⟨t.val % 7 * 768 + j.val, h⟩) := by
  obtain ⟨-, -, h0, h1, -⟩ := blocks_at t
  rw [← V_weights]
  show V m c main_v7 (((cfg0.win 1).blk t).view.emb (ix2 k j)) = _
  refine congrArg (V m c main_v7) (funext fun a => Fin.ext ?_)
  match a with
  | 0 => show win0_1.index t 0 * 2048 + 1 * k.val = k.val; rw [h0]; omega
  | 1 => show win0_1.index t 1 * 768 + 1 * j.val = t.val % 7 * 768 + j.val; rw [h1, Nat.one_mul]

/-- After the call its result is the product. -/
theorem result_arr : (dats m 0 c).arrAt 2 cfg0.N
    = G (m ((c.tc : Thread nD τ).loc main_arg0)) (m ((c.tc : Thread nD τ).loc main_arg1)) := by
  refine (dats m 0 c).arrAt_eq_of_emb 2 _ (fun t hf y => ?_) fun x => ?_
  · obtain ⟨i, j, rfl⟩ : ∃ (i : Fin 1024) (j : Fin 768), y = (ix2 i j : S1024x768.Idx) := ⟨y 0, y 1, eq_ix2 _⟩
    have ht : t.val < 56 := t.isLt
    obtain ⟨h0, h1⟩ := out_emb t i j
    refine (congrFun (after0_2 m c t) (ix2 i j)).trans ?_
    refine (out_apply (iblk m c 0 t) (iblk m c 1 t) i j).trans (Finset.sum_congr rfl fun k _ => ?_)
    refine congrArg₂ (fun a b : EReal => a * b) ((acts_block m c t i k (by omega)).trans ?_) ((weights_block m c t k j (by omega)).trans ?_)
    · exact congrArg (fun q => acts _ (ix2 q k)) (Fin.ext h0.symm)
    · exact congrArg (fun q => weights _ (ix2 k q)) (Fin.ext h1.symm)
  · have hx0 : (x 0).val < 8192 := (x 0).isLt
    have hx1 : (x 1).val < 5376 := (x 1).isLt
    have ht : (x 0).val / 1024 * 7 + (x 1).val / 768 < 56 := by omega
    refine ⟨⟨(x 0).val / 1024 * 7 + (x 1).val / 768, ht⟩, flush0_2 _, ?_⟩
    have hx : x = ((cfg0.win 2).blk ⟨(x 0).val / 1024 * 7 + (x 1).val / 768, ht⟩).view.emb
        (ix2 (⟨(x 0).val % 1024, by omega⟩ : Fin 1024) (⟨(x 1).val % 768, by omega⟩ : Fin 768)) := by
      obtain ⟨h0, h1⟩ := out_emb ⟨(x 0).val / 1024 * 7 + (x 1).val / 768, ht⟩ ⟨(x 0).val % 1024, by omega⟩ ⟨(x 1).val % 768, by omega⟩
      funext a
      refine Fin.ext ?_
      match a with
      | 0 => refine Eq.trans ?_ h0.symm; show (x 0).val = ((x 0).val / 1024 * 7 + (x 1).val / 768) / 7 * 1024 + (x 0).val % 1024; omega
      | 1 => refine Eq.trans ?_ h1.symm; show (x 1).val = ((x 0).val / 1024 * 7 + (x 1).val / 768) % 7 * 768 + (x 1).val % 768; omega
    exact Eq.mpr (congrArg (fun y => y ∈ ((cfg0.win 2).blk ⟨(x 0).val / 1024 * 7 + (x 1).val / 768, ht⟩).view.set) hx) (View.emb_mem_set _ _)

end Kernel

section Reference
open Cert.ReferenceCIdeal Cert.ReferenceCIdeal.Gen

theorem ref_apply (x : FVec Ideal S2x4096x2048 .f32) (w : FVec Ideal S2048x5136 .f32) (r : Fin 8192) (j : Fin 5376) :
    shapeCast S8192x5376 (concatenate S2x4096x5376 2 [⟨S2x4096x2048, (extractStridedSlice S2x4096x2048 ![0, 0, 3088] (Host.dotGeneral dot_S2x4096x2048_S2048x5136_S2x4096x5136_2_0_01_1_n_n none x w) slices_S2x4096x5136_S2x4096x2048_0_0_3088)⟩,
      ⟨S2x4096x2048, (extractStridedSlice S2x4096x2048 ![0, 0, 0] (Host.dotGeneral dot_S2x4096x2048_S2048x5136_S2x4096x5136_2_0_01_1_n_n none x w) slices_S2x4096x5136_S2x4096x2048_0_0_0)⟩,
      ⟨S2x4096x512, (extractStridedSlice S2x4096x512 ![0, 0, 2048] (Host.dotGeneral dot_S2x4096x2048_S2048x5136_S2x4096x5136_2_0_01_1_n_n none x w) slices_S2x4096x5136_S2x4096x512_0_0_2048)⟩,
      ⟨S2x4096x512, (extractStridedSlice S2x4096x512 ![0, 0, 2560] (Host.dotGeneral dot_S2x4096x2048_S2048x5136_S2x4096x5136_2_0_01_1_n_n none x w) slices_S2x4096x5136_S2x4096x512_0_0_2560)⟩,
      ⟨S2x4096x16, (extractStridedSlice S2x4096x16 ![0, 0, 3072] (Host.dotGeneral dot_S2x4096x2048_S2048x5136_S2x4096x5136_2_0_01_1_n_n none x w) slices_S2x4096x5136_S2x4096x16_0_0_3072)⟩,
      ⟨S2x4096x240, (broadcastInDim S2x4096x240 ![] bcast_S_S2x4096x240 (constant S_ .f32 0x00000000#32))⟩]
      concatenates_S2x4096x2048_S2x4096x2048_S2x4096x512_S2x4096x512_S2x4096x16_S2x4096x240_S2x4096x5376_d2) shapeCasts_S2x4096x5376_S8192x5376 (ix2 r j)
    = ∑ k : Fin 2048, x (ix3 ⟨r.val / 4096, by omega⟩ ⟨r.val % 4096, by omega⟩ k) * wcol w k j := by
  pointwise []
  repeat' split
  all_goals first
    | exact (Finset.sum_eq_zero fun k _ => by rw [wcol_pad w k j (by omega), mul_zero]).symm
    | refine Finset.sum_congr rfl fun k _ => congrArg (fun a : EReal => x (ix3 ⟨r.val / 4096, _⟩ ⟨r.val % 4096, _⟩ k) * a) ?_
      exact wcol_of w k j (by omega) _ (by simp only [col]; (repeat' split) <;> omega)

end Reference

theorem frame_r : Cert.quiescent_ReferenceCIdeal (hReferenceCIdeal := Cert.ReferenceCIdeal.Gen.facts) := fun m g _ =>
  (θ_run Cert.ReferenceCIdeal.defs _ _).mono (fun r h => ⟨fun c => (h c).2, Idealize.ShloMosaic.sem_eq_zero_of_no_sems (by decide) r.2⟩)
    (Cert.ReferenceCIdeal.Value.run (F := Ideal) m g)

theorem algebraic : Cert.algebraic_KernelCIdeal_ReferenceCIdeal (hKernelCIdeal := Cert.KernelCIdeal.Gen.facts)
    (hReferenceCIdeal := Cert.ReferenceCIdeal.Gen.facts) := by
  intro m g m' g' _ hagree
  refine ⟨fun c => G (m ((c.tc : Thread Cert.KernelCIdeal.nD Cert.KernelCIdeal.τ).loc Cert.KernelCIdeal.main_arg0))
    (m ((c.tc : Thread Cert.KernelCIdeal.nD Cert.KernelCIdeal.τ).loc Cert.KernelCIdeal.main_arg1)), ?_, ?_⟩
  · exact (θ_run Cert.KernelCIdeal.defs _ _).mono (fun _ h c => ⟨(h c).1.trans (result_arr m c), (h c).2⟩)
      (Cert.KernelCIdeal.Value.run_blocks (F := Ideal) m g)
  · refine (θ_run Cert.ReferenceCIdeal.defs _ _).mono (fun _ h c => ⟨(h c).1.trans ?_, (h c).2⟩)
      (Cert.ReferenceCIdeal.Value.run (F := Ideal) m' g')
    rw [(hagree c).1, (hagree c).2]
    funext i
    obtain ⟨r, j, rfl⟩ : ∃ (r : Fin 8192) (j : Fin 5376), i = (ix2 r j : Cert.ReferenceCIdeal.S8192x5376.Idx) := ⟨i 0, i 1, eq_ix2 _⟩
    refine (ref_apply _ _ r j).trans (Finset.sum_congr rfl fun k _ => ?_)
    exact congrArg₂ (fun a b : EReal => a * b) (acts_apply m c r k).symm (weights_apply _ k j).symm

end Cert.Proof.ProjC

end
-- ==== Proof.ProjD.lean ====
/-
  Mixer D's projection of the prompt: what the call leaves in its result, and the reference's product, as one sum.
-/
module

public import Idealize.ShloMosaic.Lib.Pointwise
public import Idealize.ShloMosaic.Lib.Pipeline.ValueKit.Geometry
public import proofs.«01_k».proof.Defs
public import proofs.«01_k».proof.Proof.Gen.KernelDIdeal.Value
public import proofs.«01_k».proof.Proof.Gen.ReferenceDIdeal.Run

@[expose] public section

noncomputable section

namespace Cert.Proof.ProjD

open Idealize.ShloMosaic Idealize.ShloMosaic.TcCoe Idealize.ShloMosaic.Pipeline Idealize.SL.Sem

section Kernel

open Cert.KernelDIdeal Cert.KernelDIdeal.Gen

theorem pay_apply (x : Vec Ideal S1024x2048 .bf16) (w : Vec Ideal S2048x768 .bf16) (i : Fin 1024) (j : Fin 768) :
    k0_pay1 (F := Ideal) x w (ix2 i j) = ∑ k : Fin 2048, x (ix2 i k) * w (ix2 k j) := by
  pointwise [k0_pay1]

theorem out_apply (x : Vec Ideal S1024x2048 .bf16) (w : Vec Ideal S2048x768 .bf16) (i : Fin 1024) (j : Fin 768) :
    out0_2 (F := Ideal) x w (ix2 i j) = ∑ k : Fin 2048, x (ix2 i k) * w (ix2 k j) := by
  have e : (ix2 i j : S1024x768.Idx) = r0_2.emb (ix2 i j) := by
    funext a
    match a with
    | 0 => exact Fin.ext (by show i.val = 0 + 1 * i.val; omega)
    | 1 => exact Fin.ext (by show j.val = 0 + 1 * j.val; omega)
  rw [out0_2]
  refine (congrArg _ e).trans ((View.canon_cons_emb _ _ _ _).trans ?_)
  rw [View.ld_unit_lit _ _ (by decide), View.ld_unit_lit _ _ (by decide)]
  exact pay_apply x w i j

/-- The activations as the call takes them: a row for each position of the two batches. -/
def acts (x : FVec Ideal S2x4096x2048 .f32) : FVec Ideal S8192x2048 .bf16 :=
  truncf .bf16 (shapeCast S8192x2048 x shapeCasts_S2x4096x2048_S8192x2048) bitsLt_bf16_f32

/-- The weights as the call takes them: in the call's order, zeros for the last columns. -/
def weights (w : FVec Ideal S2048x8200 .f32) : FVec Ideal S2048x8448 .bf16 :=
  truncf .bf16 (concatenate S2048x8448 1 [⟨S2048x2048, extractStridedSlice S2048x2048 ![0, 6152] w slices_S2048x8200_S2048x2048_0_6152⟩,
    ⟨S2048x2048, extractStridedSlice S2048x2048 ![0, 4104] w slices_S2048x8200_S2048x2048_0_4104⟩,
    ⟨S2048x2048, extractStridedSlice S2048x2048 ![0, 2048] w slices_S2048x8200_S2048x2048_0_2048⟩,
    ⟨S2048x1024, extractStridedSlice S2048x1024 ![0, 0] w slices_S2048x8200_S2048x1024_0_0⟩,
    ⟨S2048x1024, extractStridedSlice S2048x1024 ![0, 1024] w slices_S2048x8200_S2048x1024_0_1024⟩,
    ⟨S2048x8, extractStridedSlice S2048x8 ![0, 4096] w slices_S2048x8200_S2048x8_0_4096⟩,
    ⟨S2048x248, broadcastInDim S2048x248 ![] bcast_S_S2048x248 (constant S_ .f32 0x00000000#32)⟩]
    concatenates_S2048x2048_S2048x2048_S2048x2048_S2048x1024_S2048x1024_S2048x8_S2048x248_S2048x8448_d1) bitsLt_bf16_f32

variable (m : (ℓ : Loc nD τ sig) → Buf (Elt Ideal) ℓ) (c : Dev nD)

theorem acts_apply (r : Fin 8192) (k : Fin 2048) :
    acts (m ((c.tc : Thread nD τ).loc main_arg0)) (ix2 r k)
      = (m ((c.tc : Thread nD τ).loc main_arg0) : FVec Ideal S2x4096x2048 .f32) (ix3 ⟨r.val / 4096, by omega⟩ ⟨r.val % 4096, by omega⟩ k) := by
  pointwise [acts]

/-- The column of the layer's weights that is column `j` of the call's. -/
def col (j : ℕ) : ℕ :=
  if j < 2048 then j + 6152 else if j < 4096 then j + 2056 else if j < 6144 then j - 2048 else if j < 8192 then j - 6144 else j - 4096

theorem col_lt (j : ℕ) (h : j < 8200) : col j < 8200 := by unfold col; (repeat' split) <;> omega

/-- The call's weights over the layer's: the columns that fill the last block up are zero. -/
def wcol (w : FVec Ideal S2048x8200 .f32) (k : Fin 2048) (j : Fin 8448) : EReal :=
  if h : j.val < 8200 then w (ix2 k ⟨col j.val, col_lt _ h⟩) else 0

theorem wcol_of (w : FVec Ideal S2048x8200 .f32) (k : Fin 2048) (j : Fin 8448) (h : j.val < 8200) (q : Fin 8200) (hq : q.val = col j.val) :
    w (ix2 k q) = wcol w k j := by
  rw [wcol, dif_pos h]
  exact congrArg (fun q => w (ix2 k q)) (Fin.ext hq)

theorem wcol_pad (w : FVec Ideal S2048x8200 .f32) (k : Fin 2048) (j : Fin 8448) (h : ¬ j.val < 8200) : wcol w k j = 0 := by
  rw [wcol, dif_neg h]

theorem weights_apply (w : FVec Ideal S2048x8200 .f32) (k : Fin 2048) (j : Fin 8448) :
    weights w (ix2 k j) = wcol w k j := by
  pointwise [weights]
  repeat' split
  all_goals first
    | exact (wcol_pad w k j (by omega)).symm
    | exact wcol_of w k j (by omega) _ (by simp only [col]; (repeat' split) <;> omega)

theorem V_acts : V m c main_v1 = acts (m ((c.tc : Thread nD τ).loc main_arg0)) := by
  show StableHlo.after hostOps0 (fun b => m (c, b)) (Proc.devRef .tc main_v1) = _
  after_results <;> rfl

theorem V_weights : V m c main_v10 = weights (m ((c.tc : Thread nD τ).loc main_arg1)) := by
  show StableHlo.after hostOps0 (fun b => m (c, b)) (Proc.devRef .tc main_v10) = _
  after_results <;> rfl

/-- The product of the activations and the weights, as contents of the result's array. -/
def G (x : FVec Ideal S2x4096x2048 .f32) (w : FVec Ideal S2048x8200 .f32) : FVec Ideal S8192x8448 .f32 :=
  fun i => ∑ k : Fin 2048, acts x (ix2 (i 0) k) * weights w (ix2 k (i 1))

theorem blocks_at : ∀ t : Fin grid0.N,
    win0_0.index t 0 = t.val / 11 ∧ win0_0.index t 1 = 0 ∧ win0_1.index t 0 = 0 ∧ win0_1.index t 1 = t.val % 11
      ∧ win0_2.index t 0 = t.val / 11 ∧ win0_2.index t 1 = t.val % 11 := by decide +kernel

theorem out_emb (t : Fin grid0.N) (i : Fin 1024) (j : Fin 768) :
    (((cfg0.win 2).blk t).view.emb (ix2 i j) 0).val = t.val / 11 * 1024 + i.val
    ∧ (((cfg0.win 2).blk t).view.emb (ix2 i j) 1).val = t.val % 11 * 768 + j.val := by
  obtain ⟨-, -, -, -, h0, h1⟩ := blocks_at t
  constructor
  · show win0_2.index t 0 * 1024 + 1 * i.val = _
    rw [h0, Nat.one_mul]
  · show win0_2.index t 1 * 768 + 1 * j.val = _
    rw [h1, Nat.one_mul]

theorem acts_block (t : Fin grid0.N) (i : Fin 1024) (k : Fin 2048) (h : t.val / 11 * 1024 + i.val < 8192) :
    iblk m c 0 t (ix2 i k) = acts (m ((c.tc : Thread nD τ).loc main_arg0)) (ix2 ⟨t.val / 11 * 1024 + i.val, h⟩ k) := by
  obtain ⟨h0, h1, -⟩ := blocks_at t
  rw [← V_acts]
  show V m c main_v1 (((cfg0.win 0).blk t).view.emb (ix2 i k)) = _
  refine congrArg (V m c main_v1) (funext fun a => Fin.ext ?_)
  match a with
  | 0 => show win0_0.index t 0 * 1024 + 1 * i.val = t.val / 11 * 1024 + i.val; rw [h0, Nat.one_mul]
  | 1 => show win0_0.index t 1 * 2048 + 1 * k.val = k.val; rw [h1]; omega

theorem weights_block (t : Fin grid0.N) (k : Fin 2048) (j : Fin 768) (h : t.val % 11 * 768 + j.val < 8448) :
    iblk m c 1 t (ix2 k j) = weights (m ((c.tc : Thread nD τ).loc main_arg1)) (ix2 k ⟨t.val % 11 * 768 + j.val, h⟩) := by
  obtain ⟨-, -, h0, h1, -⟩ := blocks_at t
  rw [← V_weights]
  show V m c main_v10 (((cfg0.win 1).blk t).view.emb (ix2 k j)) = _
  refine congrArg (V m c main_v10) (funext fun a => Fin.ext ?_)
  match a with
  | 0 => show win0_1.index t 0 * 2048 + 1 * k.val = k.val; rw [h0]; omega
  | 1 => show win0_1.index t 1 * 768 + 1 * j.val = t.val % 11 * 768 + j.val; rw [h1, Nat.one_mul]

/-- After the call its result is the product. -/
theorem result_arr : (dats m 0 c).arrAt 2 cfg0.N
    = G (m ((c.tc : Thread nD τ).loc main_arg0)) (m ((c.tc : Thread nD τ).loc main_arg1)) := by
  refine (dats m 0 c).arrAt_eq_of_emb 2 _ (fun t hf y => ?_) fun x => ?_
  · obtain ⟨i, j, rfl⟩ : ∃ (i : Fin 1024) (j : Fin 768), y = (ix2 i j : S1024x768.Idx) := ⟨y 0, y 1, eq_ix2 _⟩
    have ht : t.val < 88 := t.isLt
    obtain ⟨h0, h1⟩ := out_emb t i j
    refine (congrFun (after0_2 m c t) (ix2 i j)).trans ?_
    refine (out_apply (iblk m c 0 t) (iblk m c 1 t) i j).trans (Finset.sum_congr rfl fun k _ => ?_)
    refine congrArg₂ (fun a b : EReal => a * b) ((acts_block m c t i k (by omega)).trans ?_) ((weights_block m c t k j (by omega)).trans ?_)
    · exact congrArg (fun q => acts _ (ix2 q k)) (Fin.ext h0.symm)
    · exact congrArg (fun q => weights _ (ix2 k q)) (Fin.ext h1.symm)
  · have hx0 : (x 0).val < 8192 := (x 0).isLt
    have hx1 : (x 1).val < 8448 := (x 1).isLt
    have ht : (x 0).val / 1024 * 11 + (x 1).val / 768 < 88 := by omega
    refine ⟨⟨(x 0).val / 1024 * 11 + (x 1).val / 768, ht⟩, flush0_2 _, ?_⟩
    have hx : x = ((cfg0.win 2).blk ⟨(x 0).val / 1024 * 11 + (x 1).val / 768, ht⟩).view.emb
        (ix2 (⟨(x 0).val % 1024, by omega⟩ : Fin 1024) (⟨(x 1).val % 768, by omega⟩ : Fin 768)) := by
      obtain ⟨h0, h1⟩ := out_emb ⟨(x 0).val / 1024 * 11 + (x 1).val / 768, ht⟩ ⟨(x 0).val % 1024, by omega⟩ ⟨(x 1).val % 768, by omega⟩
      funext a
      refine Fin.ext ?_
      match a with
      | 0 => refine Eq.trans ?_ h0.symm; show (x 0).val = ((x 0).val / 1024 * 11 + (x 1).val / 768) / 11 * 1024 + (x 0).val % 1024; omega
      | 1 => refine Eq.trans ?_ h1.symm; show (x 1).val = ((x 0).val / 1024 * 11 + (x 1).val / 768) % 11 * 768 + (x 1).val % 768; omega
    exact Eq.mpr (congrArg (fun y => y ∈ ((cfg0.win 2).blk ⟨(x 0).val / 1024 * 11 + (x 1).val / 768, ht⟩).view.set) hx) (View.emb_mem_set _ _)

end Kernel

section Reference
open Cert.ReferenceDIdeal Cert.ReferenceDIdeal.Gen

theorem ref_apply (x : FVec Ideal S2x4096x2048 .f32) (w : FVec Ideal S2048x8200 .f32) (r : Fin 8192) (j : Fin 8448) :
    shapeCast S8192x8448 (concatenate S2x4096x8448 2 [⟨S2x4096x2048, (extractStridedSlice S2x4096x2048 ![0, 0, 6152] (Host.dotGeneral dot_S2x4096x2048_S2048x8200_S2x4096x8200_2_0_01_1_n_n none x w) slices_S2x4096x8200_S2x4096x2048_0_0_6152)⟩,
      ⟨S2x4096x2048, (extractStridedSlice S2x4096x2048 ![0, 0, 4104] (Host.dotGeneral dot_S2x4096x2048_S2048x8200_S2x4096x8200_2_0_01_1_n_n none x w) slices_S2x4096x8200_S2x4096x2048_0_0_4104)⟩,
      ⟨S2x4096x2048, (extractStridedSlice S2x4096x2048 ![0, 0, 2048] (Host.dotGeneral dot_S2x4096x2048_S2048x8200_S2x4096x8200_2_0_01_1_n_n none x w) slices_S2x4096x8200_S2x4096x2048_0_0_2048)⟩,
      ⟨S2x4096x1024, (extractStridedSlice S2x4096x1024 ![0, 0, 0] (Host.dotGeneral dot_S2x4096x2048_S2048x8200_S2x4096x8200_2_0_01_1_n_n none x w) slices_S2x4096x8200_S2x4096x1024_0_0_0)⟩,
      ⟨S2x4096x1024, (extractStridedSlice S2x4096x1024 ![0, 0, 1024] (Host.dotGeneral dot_S2x4096x2048_S2048x8200_S2x4096x8200_2_0_01_1_n_n none x w) slices_S2x4096x8200_S2x4096x1024_0_0_1024)⟩,
      ⟨S2x4096x4, (extractStridedSlice S2x4096x4 ![0, 0, 4096] (Host.dotGeneral dot_S2x4096x2048_S2048x8200_S2x4096x8200_2_0_01_1_n_n none x w) slices_S2x4096x8200_S2x4096x4_0_0_4096)⟩,
      ⟨S2x4096x4, (extractStridedSlice S2x4096x4 ![0, 0, 4100] (Host.dotGeneral dot_S2x4096x2048_S2048x8200_S2x4096x8200_2_0_01_1_n_n none x w) slices_S2x4096x8200_S2x4096x4_0_0_4100)⟩,
      ⟨S2x4096x248, (broadcastInDim S2x4096x248 ![] bcast_S_S2x4096x248 (constant S_ .f32 0x00000000#32))⟩]
      concatenates_S2x4096x2048_S2x4096x2048_S2x4096x2048_S2x4096x1024_S2x4096x1024_S2x4096x4_S2x4096x4_S2x4096x248_S2x4096x8448_d2) shapeCasts_S2x4096x8448_S8192x8448 (ix2 r j)
    = ∑ k : Fin 2048, x (ix3 ⟨r.val / 4096, by omega⟩ ⟨r.val % 4096, by omega⟩ k) * wcol w k j := by
  pointwise []
  repeat' split
  all_goals first
    | exact (Finset.sum_eq_zero fun k _ => by rw [wcol_pad w k j (by omega), mul_zero]).symm
    | refine Finset.sum_congr rfl fun k _ => congrArg (fun a : EReal => x (ix3 ⟨r.val / 4096, _⟩ ⟨r.val % 4096, _⟩ k) * a) ?_
      exact wcol_of w k j (by omega) _ (by simp only [col]; (repeat' split) <;> omega)

end Reference

theorem frame_r : Cert.quiescent_ReferenceDIdeal (hReferenceDIdeal := Cert.ReferenceDIdeal.Gen.facts) := fun m g _ =>
  (θ_run Cert.ReferenceDIdeal.defs _ _).mono (fun r h => ⟨fun c => (h c).2, Idealize.ShloMosaic.sem_eq_zero_of_no_sems (by decide) r.2⟩)
    (Cert.ReferenceDIdeal.Value.run (F := Ideal) m g)

theorem algebraic : Cert.algebraic_KernelDIdeal_ReferenceDIdeal (hKernelDIdeal := Cert.KernelDIdeal.Gen.facts)
    (hReferenceDIdeal := Cert.ReferenceDIdeal.Gen.facts) := by
  intro m g m' g' _ hagree
  refine ⟨fun c => G (m ((c.tc : Thread Cert.KernelDIdeal.nD Cert.KernelDIdeal.τ).loc Cert.KernelDIdeal.main_arg0))
    (m ((c.tc : Thread Cert.KernelDIdeal.nD Cert.KernelDIdeal.τ).loc Cert.KernelDIdeal.main_arg1)), ?_, ?_⟩
  · exact (θ_run Cert.KernelDIdeal.defs _ _).mono (fun _ h c => ⟨(h c).1.trans (result_arr m c), (h c).2⟩)
      (Cert.KernelDIdeal.Value.run_blocks (F := Ideal) m g)
  · refine (θ_run Cert.ReferenceDIdeal.defs _ _).mono (fun _ h c => ⟨(h c).1.trans ?_, (h c).2⟩)
      (Cert.ReferenceDIdeal.Value.run (F := Ideal) m' g')
    rw [(hagree c).1, (hagree c).2]
    funext i
    obtain ⟨r, j, rfl⟩ : ∃ (r : Fin 8192) (j : Fin 8448), i = (ix2 r j : Cert.ReferenceDIdeal.S8192x8448.Idx) := ⟨i 0, i 1, eq_ix2 _⟩
    refine (ref_apply _ _ r j).trans (Finset.sum_congr rfl fun k _ => ?_)
    exact congrArg₂ (fun a b : EReal => a * b) (acts_apply m c r k).symm (weights_apply _ k j).symm

end Cert.Proof.ProjD

end
-- ==== Proof.RefAt.lean ====
/-
  The reference's result read at an index over the extended reals: the softmax-weighted sum of the values.
-/
module

public import Idealize.ShloMosaic.Lib.Pointwise
public import proofs.«01_k».proof.Proof.Gen.ReferenceIdeal.Run
public import proofs.«01_k».proof.Proof.Online

@[expose] public section

noncomputable section

namespace Cert.Proof.Flash.Ref

open Idealize.ShloMosaic Cert.Proof.Online Cert.ReferenceIdeal Cert.ReferenceIdeal.Gen Cert.ReferenceIdeal.Value

variable (x0 x1 : FVec Ideal S8192x4096 .bf16) (x2 : FVec Ideal S8192x2048 .bf16)

/-- The reference's scores before the mask. -/
def raw : FVec Ideal S2x16x4096x4096 .f32 :=
  Host.divf (Host.dotGeneral dot_S2x4096x16x256_S2x4096x16x256_S2x16x4096x4096_3_3_1_1_02_02 none (shapeCast _ (extf .f32 x0 bitsLt_bf16_f32) shapeCasts_S8192x4096_S2x4096x16x256) (shapeCast _ (extf .f32 x1 bitsLt_bf16_f32) shapeCasts_S8192x4096_S2x4096x16x256)) (broadcastInDim S2x16x4096x4096 ![] bcast_S_S2x16x4096x4096 (Host.sqrt (constant S_ .f32 0x43400000#32)))

/-- The reference's scores under the causal mask. -/
def scores : FVec Ideal S2x16x4096x4096 .f32 :=
  select (broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (raw x0 x1) (broadcastInDim S2x16x4096x4096 ![] bcast_S_S2x16x4096x4096 (id (constant S_ .f32 0xFF800000#32)))

/-- Each row's largest score. -/
def tops (s : FVec Ideal S2x16x4096x4096 .f32) : FVec Ideal S2x16x4096 .f32 :=
  maximumf (broadcastInDim S2x16x4096 ![] bcast_S_S2x16x4096 (constant S_ .f32 0xFF800000#32)) (Host.reduce FloatOps.maximumf s (constant S_ .f32 0xFF800000#32) reducesTo_S2x16x4096x4096_S2x16x4096_d3 h_S_)

/-- The exponentials. -/
def exps (s : FVec Ideal S2x16x4096x4096 .f32) : FVec Ideal S2x16x4096x4096 .f32 :=
  Host.exp (subf s (broadcastInDim S2x16x4096x4096 ![0, 1, 2, 3] bcast_S2x16x4096x1_S2x16x4096x4096_0_1_2_3 (broadcastInDim S2x16x4096x1 ![0, 1, 2] bcast_S2x16x4096_S2x16x4096x1_0_1_2 (tops s))))

/-- The softmax of the scores. -/
def soft (e : FVec Ideal S2x16x4096x4096 .f32) : FVec Ideal S2x16x4096x4096 .f32 :=
  Host.divf e (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd e (constant S_ .f32 0x00000000#32) reducesTo_S2x16x4096x4096_S2x16x4096_d3 h_S_)))

/-- The weighted sum of the values. -/
def out (p : FVec Ideal S2x16x4096x4096 .f32) : FVec Ideal S8192x2048 .f32 :=
  shapeCast _ (transpose S2x4096x16x128 [0, 3, 1, 2] (Host.dotGeneral dot_S2x4096x16x128_S2x16x4096x4096_S2x16x128x4096_1_3_3_2_02_01 none (shapeCast _ (extf .f32 x2 bitsLt_bf16_f32) shapeCasts_S8192x2048_S2x4096x16x128) p) transposes_S2x16x128x4096_S2x4096x16x128_0_3_1_2) shapeCasts_S2x4096x16x128_S8192x2048

theorem res_eq (m : (ℓ : Loc nD τ sig) → Buf (Elt Ideal) ℓ) (c : Dev nD) :
    res_out0 m c = out (m ((c.tc : Thread nD τ).loc main_arg2))
      (soft (exps (scores (m ((c.tc : Thread nD τ).loc main_arg0)) (m ((c.tc : Thread nD τ).loc main_arg1))))) := rfl

/-- The host's maximum along the last of four axes, from `-∞`, at an index. -/
theorem max_last {a b c n : ℕ} {u : Shape} (h' : (⟨4, ![a, b, c, n]⟩ : Shape).ReducesTo [3] ⟨3, ![a, b, c]⟩) (hu : 0 < u.numel)
    (hb : (⟨0, ![]⟩ : Shape).BroadcastsInDim ⟨3, ![a, b, c]⟩ ![])
    (x : FVec Ideal ⟨4, ![a, b, c, n]⟩ .f32) (p : Fin a) (q : Fin b) (r : Fin c) :
    maximumf (broadcastInDim ⟨3, ![a, b, c]⟩ ![] hb (constant ⟨0, ![]⟩ .f32 0xFF800000#32))
        (Host.reduce FloatOps.maximumf x (constant u .f32 0xFF800000#32) h' hu) (ix3 p q r)
      = Finset.univ.fold max ⊥ fun k : Fin n => x (ix4 p q r k) := by
  pointwise []
  rw [minus_inf]
  exact bot_sup_eq _

theorem sqrt_192 : Ideal.sqrt (Ideal.ofBits .f32 0x43400000#32) = ((Real.sqrt 192 : ℝ) : EReal) := by
  have h : Ideal.ofBits .f32 0x43400000#32 = ((192 : ℝ) : EReal) := by
    simp [Ideal.ofBits, Ideal.ieee]
    rw [← EReal.coe_mul]
    norm_num
  rw [h, Ideal.sqrt_coe, if_neg (by norm_num)]

theorem div_sqrt (x : EReal) : Ideal.div x (Ideal.sqrt (Ideal.ofBits .f32 0x43400000#32)) = x * scale := by
  rw [sqrt_192, Ideal.div_coe (by positivity), one_div, scale]

theorem scores_apply (b : Fin 2) (h : Fin 16) (t j : Fin 4096) :
    scores x0 x1 (ix4 b h t j) = sc x0 x1 b.val h.val t.val j.val := by
  have hr : raw x0 x1 (ix4 b h t j)
      = (∑ d : Fin 256, rd x0 (b.val * 4096 + t.val) (h.val * 256 + d.val) * rd x1 (b.val * 4096 + j.val) (h.val * 256 + d.val)) * scale := by
    pointwise [raw]
    rw [div_sqrt]
    congr 1
    refine Finset.sum_congr rfl fun d _ => ?_
    rw [rd_of x0 (by omega) (by omega), rd_of x1 (by omega) (by omega)]
  pointwise [scores]
  rw [select_sle j.isLt t.isLt, hr, sc]
  congr 1

theorem tops_apply (s : FVec Ideal S2x16x4096x4096 .f32) (b : Fin 2) (h : Fin 16) (t : Fin 4096) :
    tops s (ix3 b h t) = Finset.univ.fold max ⊥ fun k : Fin 4096 => s (ix4 b h t k) := by
  unfold tops
  exact max_last _ _ _ s b h t

theorem exps_apply (s : FVec Ideal S2x16x4096x4096 .f32) (b : Fin 2) (h : Fin 16) (t j : Fin 4096) :
    exps s (ix4 b h t j) = Ideal.exp (s (ix4 b h t j) - tops s (ix3 b h t)) := by
  pointwise [exps]

theorem soft_apply (s : FVec Ideal S2x16x4096x4096 .f32) (b : Fin 2) (h : Fin 16) (t j : Fin 4096) :
    soft s (ix4 b h t j) = Ideal.div (s (ix4 b h t j)) (∑ x : Fin 4096, s (ix4 b h t x)) := by
  pointwise [soft]

theorem out_apply (s : FVec Ideal S2x16x4096x4096 .f32) (r : Fin 8192) (l : Fin 2048) :
    out x2 s (ix2 r l) = ∑ x : Fin 4096, vl x2 (r.val / 4096) (l.val / 128) (l.val % 128) x.val
      * s (ix4 ⟨r.val / 4096, by omega⟩ ⟨l.val / 128, by omega⟩ ⟨r.val % 4096, by omega⟩ x) := by
  pointwise [out]
  refine Finset.sum_congr rfl fun x _ => ?_
  rw [vl, rd_of x2 (by omega) (by omega)]
  congr 3
  refine Fin.ext ?_
  show l.val = l.val / 128 * 128 + l.val % 128
  omega

end Cert.Proof.Flash.Ref

end
-- ==== Proof.RefEq.lean ====
/-
  The reference's result is the attention of Proof/Online.lean when the scores are real numbers.
-/
module

public import proofs.«01_k».proof.Proof.RefAt

@[expose] public section

noncomputable section

namespace Cert.Proof.Flash.Ref

open Idealize.ShloMosaic Cert.Proof.Online Cert.ReferenceIdeal Cert.ReferenceIdeal.Gen Cert.ReferenceIdeal.Value

variable (x0 x1 : FVec Ideal S8192x4096 .bf16) (x2 : FVec Ideal S8192x2048 .bf16)

/-- The reference's result at an index, when every score is a real number: the attention. -/
theorem result_apply (r : Fin 8192) (l : Fin 2048)
    (h0 : ∀ b h t, sc x0 x1 b h t 0 ≠ ⊥) (hS : ∀ b h t j, sc x0 x1 b h t j ≠ ⊤) :
    out x2 (soft (exps (scores x0 x1))) (ix2 r l) = att x0 x1 x2 r.val l.val := by
  rw [out_apply, att, quotient _ _ (j₀ := 0) (by omega) (h0 _ _ _) (hS _ _ _)]
  refine Finset.sum_congr rfl fun x _ => ?_
  have ht : tops (scores x0 x1) (ix3 ⟨r.val / 4096, by omega⟩ ⟨l.val / 128, by omega⟩ ⟨r.val % 4096, by omega⟩)
      = top (sc x0 x1 (r.val / 4096) (l.val / 128) (r.val % 4096)) 4096 := by
    rw [tops_apply]
    simp only [scores_apply]
    have := top_add (sc x0 x1 (r.val / 4096) (l.val / 128) (r.val % 4096)) 0 4096
    rw [top_zero, blockTop] at this
    simpa using this
  refine congrArg (fun y : EReal => vl x2 (r.val / 4096) (l.val / 128) (l.val % 128) x.val * y) ?_
  refine (soft_apply _ _ _ _ _).trans ?_
  simp only [exps_apply, ht, scores_apply]
  rw [den, Finset.sum_range]

end Cert.Proof.Flash.Ref

end
-- ==== Proof.Body.lean ====
/- The flash step's body, run once at symbolic operands. -/
module

public import proofs.«01_k».proof.Proof.Gen.KernelIdeal
public import proofs.«01_k».proof.Proof.Gen.KernelIdeal.Skeleton
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Pipeline.ReadBack

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's running state for one block of queries: each row's maximum, its denominator, its numerators. -/
structure St (F : FTy → Type) where
  m : FVec F S1024x1 .f32
  l : FVec F S1024x1 .f32
  acc : FVec F S1024x128 .f32

/-- The state that a block of queries starts from. -/
def St.zero : St F := ⟨k0_pay1, k0_pay2, k0_pay3⟩

/-- One block of keys below the diagonal taken in. -/
def St.full (q k : Vec F S1024x256 .bf16) (v : Vec F S1024x128 .bf16) (s : St F) : St F :=
  ⟨k0_pay10 q k s.m, k0_pay8 q k s.m s.l, k0_pay9 q k s.m s.acc v⟩

/-- The block of keys on the diagonal taken in, behind the causal mask. -/
def St.diag (q k : Vec F S1024x256 .bf16) (v : Vec F S1024x128 .bf16) (s : St F) : St F :=
  ⟨k0_pay18 (k0_pay4 q k) s.m, k0_pay16 (k0_pay4 q k) s.m s.l, k0_pay17 (k0_pay4 q k) s.m s.acc v⟩

/-- The kernel's three conditions, of the query block's number `a` and the key block's number `b`. -/
def isFirst (b : BitVec 32) : Prop := Scalar.cmpi .ne (Scalar.extui (Scalar.cmpi .eq b 0#32) : BitVec 32) 0#32 = 1#1
def isBelow (a b : BitVec 32) : Prop := Scalar.cmpi .ne (Scalar.extui (Scalar.cmpi .slt b a) : BitVec 32) 0#32 = 1#1
def isDiag (a b : BitVec 32) : Prop := k0_cond3 a b = 1#1

instance (b : BitVec 32) : Decidable (isFirst b) := by unfold isFirst; infer_instance
instance (a b : BitVec 32) : Decidable (isBelow a b) := by unfold isBelow; infer_instance
instance (a b : BitVec 32) : Decidable (isDiag a b) := by unfold isDiag; infer_instance

/-- What one grid step does to the state. -/
def St.step (a b : BitVec 32) (q k : Vec F S1024x256 .bf16) (v : Vec F S1024x128 .bf16) (s : St F) : St F :=
  let s₁ := if isFirst b then St.zero else s
  let s₂ := if isBelow a b then s₁.full q k v else s₁
  if isDiag a b then s₂.diag q k v else s₂

/-- What one grid step leaves in the result's staging buffer. -/
def outAt (a b : BitVec 32) (s : St F) (o : FVec F S1024x128 .f32) : FVec F S1024x128 .f32 :=
  if isDiag a b then k0_pay11 s.acc s.l else o

/-- The word a scalar load of a table reads at grid point `i`. -/
abbrev word (c : Dev nD) (i : grid0.Coords) (T : Memref sig .tc .smem S10 .i32) (t : Bf (F := F) c T) : BitVec 32 :=
  View.readAt (Elt F) T.view (Rect.unit (s := S10) (k0_off1 i) S1.size (k0_off1_inb i)).toLoadRect t (Shape.Idx.first (by show 0 < S1.numel; decide))

theorem hz : (![0, 0] : Fin 2 → Nat) = fun _ => 0 := by decide

variable {d : Fin 2 → Nat} {sp : Space} {e : EltTy}

theorem mem_whole2 (inb : ∀ a, (![0, 0] : Fin 2 → Nat) a + d a ≤ d a) (y : (⟨2, d⟩ : Shape).Idx) :
    y ∈ (Rect.unit (s := ⟨2, d⟩) ![0, 0] d inb).set := by
  have h : Rect.unit (s := ⟨2, d⟩) ![0, 0] d inb = Rect.whole ⟨2, d⟩ := by
    unfold Rect.whole; congr 1; exact hz
  rw [h, Rect.set_whole]; exact Finset.mem_univ y

/-- A store over the whole of a rank-two buffer, read back. -/
theorem read_st [∀ e, Nonempty (Elt F e)] (M : Memref sig .tc sp ⟨2, d⟩ e) (f : M.view.ty.Contents (Elt F))
    (inb : ∀ a, (![0, 0] : Fin 2 → Nat) a + d a ≤ d a) (w : (⟨2, d⟩ : Shape).Idx → Elt F e) (L : List (View.Piece (Elt F) ⟨2, d⟩ e)) :
    M.view.read (Elt F) (M.view.writes (Elt F) f (⟨Rect.unit (s := ⟨2, d⟩) ![0, 0] d inb, w⟩ :: L)) = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  exact (View.read_writes_eq_canon M.view f _ hc).trans (View.canon_cons_unit_zero (S := ⟨2, d⟩) hz inb w L)

/-- A load of the whole of it. -/
theorem read_ld (M : Memref sig .tc sp ⟨2, d⟩ e) (f : M.view.ty.Contents (Elt F))
    (inb : ∀ a, (![0, 0] : Fin 2 → Nat) a + d a ≤ d a) :
    View.readAt (Elt F) M.view (Rect.unit (s := ⟨2, d⟩) ![0, 0] d inb).toLoadRect f = M.view.read (Elt F) f :=
  View.ld_unit_zero (S := ⟨2, d⟩) hz inb _

/-- A load of the whole of it after a store. -/
theorem read_cov [∀ e, Nonempty (Elt F e)] (M : Memref sig .tc sp ⟨2, d⟩ e)
    (inb : ∀ a, (![0, 0] : Fin 2 → Nat) a + d a ≤ d a) (w : (⟨2, d⟩ : Shape).Idx → Elt F e) (L : List (View.Piece (Elt F) ⟨2, d⟩ e)) :
    M.view.readCov ((⟨Rect.unit (s := ⟨2, d⟩) ![0, 0] d inb, w⟩ : View.Piece (Elt F) ⟨2, d⟩ e) :: L) (Rect.unit (s := ⟨2, d⟩) ![0, 0] d inb).toLoadRect = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  refine (View.readCov_eq_canon_ld M.view _ _ hc).trans ?_
  exact (congrArg (fun X => View.ld X _) (View.canon_cons_unit_zero (S := ⟨2, d⟩) hz inb w L)).trans (View.ld_unit_zero (S := ⟨2, d⟩) hz inb w)

set_option maxHeartbeats 2000000 in
theorem kernelRun (c : Dev nD) (i : grid0.Coords)
    (T3 T4 : Memref sig .tc .smem S10 .i32) (ht3 : T3.IsWhole) (ht4 : T4.IsWhole)
    (M5 M6 : Memref sig .tc .vmem S1024x256 .bf16) (h5 : M5.IsWhole) (h6 : M6.IsWhole)
    (M7 : Memref sig .tc .vmem S1024x128 .bf16) (h7 : M7.IsWhole)
    (M8 : Memref sig .tc .vmem S1024x128 .f32) (h8 : M8.IsWhole)
    (M9 M10 : Memref sig .tc .vmem S1024x1 .f32) (h9 : M9.IsWhole) (h10 : M10.IsWhole)
    (M11 : Memref sig .tc .vmem S1024x128 .f32) (h11 : M11.IsWhole)
    (t3 : Bf (F := F) c T3) (t4 : Bf (F := F) c T4) (f5 : Bf (F := F) c M5) (f6 : Bf (F := F) c M6) (f7 : Bf (F := F) c M7)
    (f8 : Bf (F := F) c M8) (f9 : Bf (F := F) c M9) (f10 : Bf (F := F) c M10) (f11 : Bf (F := F) c M11)
    (a b : BitVec 32) (ha : word c i T3 t3 = a) (hb : word c i T4 t4 = b) (s : St F)
    (hm : M9.view.read (Elt F) f9 = s.m) (hl : M10.view.read (Elt F) f10 = s.l) (hacc : M11.view.read (Elt F) f11 = s.acc)
    (Q : PUnit → sProp 𝕄) :
    iprop(pt c T3 t3 ∗ pt c T4 t4 ∗ pt c M5 f5 ∗ pt c M6 f6 ∗ pt c M7 f7 ∗ pt c M8 f8 ∗ pt c M9 f9 ∗ pt c M10 f10 ∗ pt c M11 f11
      ∗ (iprop(pt c T3 t3 ∗ pt c T4 t4 ∗ pt c M5 f5 ∗ pt c M6 f6 ∗ pt c M7 f7
            ∗ (∃ f, ⌜M8.view.read (Elt F) f = outAt a b (s.step a b (M5.view.read (Elt F) f5) (M6.view.read (Elt F) f6) (M7.view.read (Elt F) f7)) (M8.view.read (Elt F) f8)⌝ ∗ pt c M8 f)
            ∗ (∃ f, ⌜M9.view.read (Elt F) f = (s.step a b (M5.view.read (Elt F) f5) (M6.view.read (Elt F) f6) (M7.view.read (Elt F) f7)).m⌝ ∗ pt c M9 f)
            ∗ (∃ f, ⌜M10.view.read (Elt F) f = (s.step a b (M5.view.read (Elt F) f5) (M6.view.read (Elt F) f6) (M7.view.read (Elt F) f7)).l⌝ ∗ pt c M10 f)
            ∗ (∃ f, ⌜M11.view.read (Elt F) f = (s.step a b (M5.view.read (Elt F) f5) (M6.view.read (Elt F) f6) (M7.view.read (Elt F) f7)).acc⌝ ∗ pt c M11 f)) -∗ Q ⟨⟩))
    ⊢ wp frame (wpE (defs₀ (F := F)) Variants.none c none) Set.univ
        (cc0_flash_prompt i T3 ht3 T4 ht4 M5 h5 M6 h6 M7 h7 M8 h8 M9 h9 M10 h10 M11 h11) Q := by
  rw [cc0_flash_prompt_eq_skeleton]; unfold cc0_flash_prompt_skel
  subst ha hb
  obtain ⟨sm, sl, sa⟩ := s
  dsimp only at hm hl hacc
  subst hm hl hacc
  by_cases h1 : isFirst (word c i T4 t4) <;> by_cases h2 : isBelow (word c i T3 t3) (word c i T4 t4) <;>
      by_cases h3 : isDiag (word c i T3 t3) (word c i T4 t4) <;>
  ( have g1 := h1; have g2 := h2; have g3 := h3
    unfold isFirst at g1; unfold isBelow at g2; unfold isDiag at g3
    iintro ⟨H3, H4, H5, H6, H7, H8, H9, H10, H11, Hk⟩
    sl_exec! (disch := first | sl_exact g1 | sl_exact g2 | sl_exact g3)
    sl_step
    iapply Hk
    isplitl [H3]; · iexact H3
    isplitl [H4]; · iexact H4
    isplitl [H5]; · iexact H5
    isplitl [H6]; · iexact H6
    isplitl [H7]; · iexact H7
    isplitl [H8]; rotate_left
    isplitl [H9]; rotate_left
    isplitl [H10]; rotate_left
    all_goals iexists _; isplitr; rotate_left; first | iexact H8 | iexact H9 | iexact H10 | iexact H11
    all_goals ipureintro
    all_goals sl_unfold_words
    all_goals simp only [outAt, St.step, h1, h2, h3, if_true, if_false, St.full, St.diag, St.zero]
    all_goals simp only [read_st, read_ld, read_cov, shapeCast_self]
    all_goals try unfold k0_pay11
    all_goals try unfold k0_pay18
    all_goals try unfold k0_pay16
    all_goals try unfold k0_pay17
    all_goals try unfold k0_pay15
    all_goals try unfold k0_pay14
    all_goals try unfold k0_pay13
    all_goals try unfold k0_pay12
    all_goals try simp only [shapeCast_self]
    all_goals rfl)

end Cert.Proof.Flash

end
-- ==== Proof.Pay.lean ====
/-
  The kernel body's arrays read at an index over the extended reals.
-/
module

public import Idealize.ShloMosaic.Lib.Pointwise
public import proofs.«01_k».proof.Proof.Body
public import proofs.«01_k».proof.Proof.Online

@[expose] public section

noncomputable section

namespace Cert.Proof.Flash

open Idealize.ShloMosaic Cert.Proof.Online Cert.KernelIdeal Cert.KernelIdeal.Gen

/-- The score of row `i` of a query block and row `j` of a key block. -/
theorem score_apply (q k : Vec Ideal S1024x256 .bf16) (i j : Fin 1024) :
    k0_pay4 (F := Ideal) q k (ix2 i j) = (∑ d : Fin 256, q (ix2 i d) * k (ix2 j d)) * scale := by
  pointwise [k0_pay4]
  rfl

theorem masked_apply (s : FVec Ideal S1024x1024 .f32) (i j : Fin 1024) :
    k0_pay12 (F := Ideal) s (ix2 i j) = if j.val ≤ i.val then s (ix2 i j) else ⊥ := by
  pointwise [k0_pay12]
  rw [select_sle (by omega) (by omega), minus_inf]

theorem start_m (i : Fin 1024) : (k0_pay1 (F := Ideal)) (ix2 i 0) = ⊥ := by
  pointwise [k0_pay1]
  exact minus_inf

theorem start_l (i : Fin 1024) : (k0_pay2 (F := Ideal)) (ix2 i 0) = 0 := by
  pointwise [k0_pay2]

theorem start_acc (i : Fin 1024) (d : Fin 128) : (k0_pay3 (F := Ideal)) (ix2 i d) = 0 := by
  pointwise [k0_pay3]

theorem out_apply (a : Vec Ideal S1024x128 .f32) (l : Vec Ideal S1024x1 .f32)
    (i : Fin 1024) (d : Fin 128) :
    k0_pay11 (F := Ideal) a l (ix2 i d) = Ideal.div (a (ix2 i d)) (l (ix2 i 0)) := by
  pointwise [k0_pay11]

/-! ### A block below the diagonal -/

section Full

variable (q k : Vec Ideal S1024x256 .bf16) (m l : Vec Ideal S1024x1 .f32) (i : Fin 1024)

theorem full_top : k0_pay5 (F := Ideal) q k m (ix2 i 0)
      = max (m (ix2 i 0)) (Finset.univ.fold max ⊥ fun j : Fin 1024 => k0_pay4 (F := Ideal) q k (ix2 i j)) := by
  pointwise [k0_pay5]
  rw [minus_inf]

theorem full_m : k0_pay10 (F := Ideal) q k m (ix2 i 0) = k0_pay5 (F := Ideal) q k m (ix2 i 0) := by
  pointwise [k0_pay10]

theorem full_l : k0_pay8 (F := Ideal) q k m l (ix2 i 0)
      = Ideal.exp (m (ix2 i 0) - k0_pay5 (F := Ideal) q k m (ix2 i 0)) * l (ix2 i 0) + ∑ j : Fin 1024,
        Ideal.exp (k0_pay4 (F := Ideal) q k (ix2 i j) - k0_pay5 (F := Ideal) q k m (ix2 i 0)) := by
  pointwise [k0_pay8, k0_pay6, k0_pay7]

theorem full_acc (a : Vec Ideal S1024x128 .f32) (v : Vec Ideal S1024x128 .bf16) (d : Fin 128) :
    k0_pay9 (F := Ideal) q k m a v (ix2 i d)
      = Ideal.exp (m (ix2 i 0) - k0_pay5 (F := Ideal) q k m (ix2 i 0)) * a (ix2 i d) + ∑ j : Fin 1024,
        Ideal.exp (k0_pay4 (F := Ideal) q k (ix2 i j) - k0_pay5 (F := Ideal) q k m (ix2 i 0)) * v (ix2 j d) := by
  pointwise [k0_pay9, k0_pay6, k0_pay7]

end Full

/-! ### A block on the diagonal -/

section Diag

variable (s : FVec Ideal S1024x1024 .f32) (m l : Vec Ideal S1024x1 .f32) (i : Fin 1024)

theorem diag_top : k0_pay13 (F := Ideal) s m (ix2 i 0)
      = max (m (ix2 i 0)) (Finset.univ.fold max ⊥ fun j : Fin 1024 => k0_pay12 (F := Ideal) s (ix2 i j)) := by
  pointwise [k0_pay13]
  rw [minus_inf]

theorem diag_m : k0_pay18 (F := Ideal) s m (ix2 i 0) = k0_pay13 (F := Ideal) s m (ix2 i 0) := by
  pointwise [k0_pay18]

theorem diag_l : k0_pay16 (F := Ideal) s m l (ix2 i 0)
      = Ideal.exp (m (ix2 i 0) - k0_pay13 (F := Ideal) s m (ix2 i 0)) * l (ix2 i 0) + ∑ j : Fin 1024,
        Ideal.exp (k0_pay12 (F := Ideal) s (ix2 i j) - k0_pay13 (F := Ideal) s m (ix2 i 0)) := by
  pointwise [k0_pay16, k0_pay14, k0_pay15]

theorem diag_acc (a : Vec Ideal S1024x128 .f32) (v : Vec Ideal S1024x128 .bf16) (d : Fin 128) :
    k0_pay17 (F := Ideal) s m a v (ix2 i d)
      = Ideal.exp (m (ix2 i 0) - k0_pay13 (F := Ideal) s m (ix2 i 0)) * a (ix2 i d) + ∑ j : Fin 1024,
        Ideal.exp (k0_pay12 (F := Ideal) s (ix2 i j) - k0_pay13 (F := Ideal) s m (ix2 i 0)) * v (ix2 j d) := by
  pointwise [k0_pay17, k0_pay14, k0_pay15]

end Diag

/-! ### One grid point on one row -/

/-- Row `i` of the kept state holds the running softmax of the scores `S` and the weights `V d` after `n` keys. -/
structure Row (st : St Ideal) (i : Fin 1024) (S : ℕ → EReal) (V : ℕ → ℕ → EReal) (n : ℕ) : Prop where
  m : st.m (ix2 i 0) = top S n
  l : st.l (ix2 i 0) = den S n
  acc : ∀ d : Fin 128, st.acc (ix2 i d) = num S (V d.val) n

variable {st : St Ideal} {i : Fin 1024} {S : ℕ → EReal} {V : ℕ → ℕ → EReal} {n : ℕ}

theorem row_zero (i : Fin 1024) (S : ℕ → EReal) (V : ℕ → ℕ → EReal) : Row St.zero i S V 0 :=
  ⟨(start_m i).trans (top_zero S).symm, (start_l i).trans (den_zero S).symm,
    fun d => (start_acc i d).trans (num_zero S _).symm⟩

theorem row_full (q k : Vec Ideal S1024x256 .bf16) (v : Vec Ideal S1024x128 .bf16) (h : Row st i S V n)
    (hs : ∀ j : Fin 1024, k0_pay4 (F := Ideal) q k (ix2 i j) = S (n + j.val))
    (hv : ∀ (j : Fin 1024) (d : Fin 128), v (ix2 j d) = V d.val (n + j.val)) :
    Row (st.full q k v) i S V (n + 1024) := by
  have hm : k0_pay5 (F := Ideal) q k st.m (ix2 i 0) = top S (n + 1024) := by
    rw [full_top, h.m, ← top_add, blockTop]
    simp only [hs]
  refine ⟨(full_m q k st.m i).trans hm, ?_, fun d => ?_⟩
  · refine (full_l q k st.m st.l i).trans ?_
    rw [hm, h.m, h.l, ← den_add]
    simp only [hs]
  · refine (full_acc q k st.m i st.acc v d).trans ?_
    rw [hm, h.m, h.acc, ← num_add]
    simp only [hs, hv]

theorem row_diag (q k : Vec Ideal S1024x256 .bf16) (v : Vec Ideal S1024x128 .bf16) (h : Row st i S V n)
    (hs : ∀ j : Fin 1024, k0_pay12 (F := Ideal) (k0_pay4 (F := Ideal) q k) (ix2 i j) = S (n + j.val))
    (hv : ∀ (j : Fin 1024) (d : Fin 128), v (ix2 j d) = V d.val (n + j.val)) :
    Row (st.diag q k v) i S V (n + 1024) := by
  have hm : k0_pay13 (F := Ideal) (k0_pay4 (F := Ideal) q k) st.m (ix2 i 0) = top S (n + 1024) := by
    rw [diag_top, h.m, ← top_add, blockTop]
    simp only [hs]
  refine ⟨(diag_m _ st.m i).trans hm, ?_, fun d => ?_⟩
  · refine (diag_l _ st.m st.l i).trans ?_
    rw [hm, h.m, h.l, ← den_add]
    simp only [hs]
  · refine (diag_acc _ st.m i st.acc v d).trans ?_
    rw [hm, h.m, h.acc, ← num_add]
    simp only [hs, hv]

end Cert.Proof.Flash

end
-- ==== Proof.Grid.lean ====
module

public import proofs.«01_k».proof.Proof.Body

/-!
# The grid of the flash call and its prefetched tables

The grid is (batch, head, j); the two tables list, for each j, the query block and the key block of the j-th
block pair of the causal triangle. At the tables as the program computes them every window's block index is a
number read off the grid point.
-/

@[expose] public section

noncomputable section

namespace Cert.Proof.Flash

open Cert.KernelIdeal Cert.KernelIdeal.Gen
open Idealize.ShloMosaic

variable {F : FTy → Type} [FloatOps F] [Named F]

/-- The tables' contents as the program writes them. -/
def tabs : pre0.Contents (Elt F) := fun
  | 0 => fun i => lit0 (S10.rowMajor i)
  | 1 => fun i => lit1 (S10.rowMajor i)
  | ⟨_ + 2, h⟩ => absurd h (Nat.not_lt.2 (Nat.le_add_left _ _))

/-- The query block of the `j`-th pair. -/
def qN : Fin 10 → ℕ := ![0, 1, 1, 2, 2, 2, 3, 3, 3, 3]
/-- The key block of the `j`-th pair. -/
def kN : Fin 10 → ℕ := ![0, 0, 1, 0, 1, 2, 0, 1, 2, 3]

/-- A grid point's batch, head and pair. -/
def cb (i : grid0.Coords) : Fin 2 := i 0
def ch (i : grid0.Coords) : Fin 16 := i 1
def cj (i : grid0.Coords) : Fin 10 := i 2

/-- The offset of the word a grid point reads off a table. -/
theorem off_val (i : grid0.Coords) : k0_off1 i 0 = (cj i).val := by
  show (BitVec.ofNat 32 (i 2).val).toNat = (i 2).val
  have h : (i 2).val < 10 := (i 2).isLt
  simp only [BitVec.toNat_ofNat]; exact Nat.mod_eq_of_lt (lt_trans h (by decide))

/-- The index of a table's `x`-th word. -/
def one (x : Fin 10) : S10.Idx := fun | 0 => x | ⟨_ + 1, h⟩ => absurd h (Nat.not_lt.2 (Nat.le_add_left _ _))

theorem rowMajor_val : ∀ x : Fin 10, (S10.rowMajor (one x)).val = x.val := by decide
theorem rowMajor_one (x : Fin 10) : S10.rowMajor (one x) = (x : Fin S10.numel) := Fin.ext (rowMajor_val x)

/-- The word of a table that a grid point reads is at its last coordinate. -/
theorem emb_eq (i : grid0.Coords) (z : (Rect.unit (s := S10) (k0_off1 i) S1.size (Facts₀.k0_off1_inb i)).shape.Idx) :
    (Rect.unit (s := S10) (k0_off1 i) S1.size (Facts₀.k0_off1_inb i)).emb z = one (cj i) := by
  funext a; apply Fin.ext
  match a with
  | 0 =>
    show k0_off1 i 0 + 1 * (z 0).val = (cj i).val
    have : (z 0).val < 1 := (z 0).isLt
    rw [off_val]; omega

theorem word_q : ∀ (x : Fin 2) (j : Fin 10), (Scalar.addi (Scalar.muli (BitVec.ofNat 32 x.val) 4#32) (lit0 j)).toNat = x.val * 4 + qN j := by
  decide +kernel
theorem word_k : ∀ (x : Fin 2) (j : Fin 10), (Scalar.addi (Scalar.muli (BitVec.ofNat 32 x.val) 4#32) (lit1 j)).toNat = x.val * 4 + kN j := by
  decide +kernel

theorem at_q (i : grid0.Coords) : (tabs (F := F)).at 0 (Rect.unit (s := S10) (k0_off1 i) S1.size (Facts₀.k0_off1_inb i)) Facts₀.numel1_S1 = lit0 (cj i) :=
  congrArg lit0 ((congrArg S10.rowMajor (emb_eq i _)).trans (rowMajor_one (cj i)))
theorem at_k (i : grid0.Coords) : (tabs (F := F)).at 1 (Rect.unit (s := S10) (k0_off1 i) S1.size (Facts₀.k0_off1_inb i)) Facts₀.numel1_S1 = lit1 (cj i) :=
  congrArg lit1 ((congrArg S10.rowMajor (emb_eq i _)).trans (rowMajor_one (cj i)))

/-- The point with head `y` and nothing else. -/
def headPt (y : Fin 16) : grid0.Coords := fun | 0 => (0 : Fin 2) | 1 => y | 2 => (0 : Fin 10) | ⟨_ + 3, h⟩ => absurd h (Nat.not_lt.2 (Nat.le_add_left _ _))

theorem head_q : ∀ y : Fin 16, cc0_transform_0 (F := Ideal) Facts₀.k0_off1_inb Facts₀.numel1_S1 tabs (headPt y) 1 = y.val := by decide +kernel
theorem head_k : ∀ y : Fin 16, cc0_transform_1 (F := Ideal) Facts₀.k0_off1_inb Facts₀.numel1_S1 tabs (headPt y) 1 = y.val := by decide +kernel
theorem head_v : ∀ y : Fin 16, cc0_transform_2 (F := Ideal) Facts₀.k0_off1_inb Facts₀.numel1_S1 tabs (headPt y) 1 = y.val := by decide +kernel
theorem head_o : ∀ y : Fin 16, cc0_transform_3 (F := Ideal) Facts₀.k0_off1_inb Facts₀.numel1_S1 tabs (headPt y) 1 = y.val := by decide +kernel

theorem ix_q0 (i : grid0.Coords) : cc0_transform_0 Facts₀.k0_off1_inb Facts₀.numel1_S1 (tabs (F := F)) i 0 = (cb i).val * 4 + qN (cj i) :=
  (congrArg (fun w => (Scalar.addi (Scalar.muli (BitVec.ofNat 32 (cb i).val) 4#32) w).toNat) (at_q (F := F) i)).trans (word_q _ _)
theorem ix_k0 (i : grid0.Coords) : cc0_transform_1 Facts₀.k0_off1_inb Facts₀.numel1_S1 (tabs (F := F)) i 0 = (cb i).val * 4 + kN (cj i) :=
  (congrArg (fun w => (Scalar.addi (Scalar.muli (BitVec.ofNat 32 (cb i).val) 4#32) w).toNat) (at_k (F := F) i)).trans (word_k _ _)
theorem ix_v0 (i : grid0.Coords) : cc0_transform_2 Facts₀.k0_off1_inb Facts₀.numel1_S1 (tabs (F := F)) i 0 = (cb i).val * 4 + kN (cj i) :=
  (congrArg (fun w => (Scalar.addi (Scalar.muli (BitVec.ofNat 32 (cb i).val) 4#32) w).toNat) (at_k (F := F) i)).trans (word_k _ _)
theorem ix_o0 (i : grid0.Coords) : cc0_transform_3 Facts₀.k0_off1_inb Facts₀.numel1_S1 (tabs (F := F)) i 0 = (cb i).val * 4 + qN (cj i) :=
  (congrArg (fun w => (Scalar.addi (Scalar.muli (BitVec.ofNat 32 (cb i).val) 4#32) w).toNat) (at_q (F := F) i)).trans (word_q _ _)
theorem ix_q1 (i : grid0.Coords) : cc0_transform_0 Facts₀.k0_off1_inb Facts₀.numel1_S1 (tabs (F := F)) i 1 = (ch i).val := head_q (ch i)
theorem ix_k1 (i : grid0.Coords) : cc0_transform_1 Facts₀.k0_off1_inb Facts₀.numel1_S1 (tabs (F := F)) i 1 = (ch i).val := head_k (ch i)
theorem ix_v1 (i : grid0.Coords) : cc0_transform_2 Facts₀.k0_off1_inb Facts₀.numel1_S1 (tabs (F := F)) i 1 = (ch i).val := head_v (ch i)
theorem ix_o1 (i : grid0.Coords) : cc0_transform_3 Facts₀.k0_off1_inb Facts₀.numel1_S1 (tabs (F := F)) i 1 = (ch i).val := head_o (ch i)

theorem qN_lt : ∀ j, qN j < 4 := by decide
theorem kN_lt : ∀ j, kN j < 4 := by decide

/-- A block with such an index lies inside its array of two batches of 4096 rows and 16 heads. -/
theorem inb_of {x : Fin 2} {y : Fin 16} {n w : ℕ} (hn : n < 4)
    (f : Fin 2 → ℕ) (h0 : f 0 = x.val * 4 + n) (h1 : f 1 = y.val) : ∀ a : Fin 2, (f a + 1) * (![1024, w] : Fin 2 → ℕ) a ≤ (![8192, 16 * w] : Fin 2 → ℕ) a := by
  have := x.isLt; have := y.isLt
  intro a; match a with
  | 0 => show (f 0 + 1) * 1024 ≤ 8192; omega
  | 1 => show (f 1 + 1) * w ≤ 16 * w; exact Nat.mul_le_mul_right _ (by omega)

/-- A block of 1024 rows starts and ends at whole words. -/
theorem whole_of (w W : ℕ) (f : Fin 2 → ℕ) (h : ∀ a : Fin 2, (f a + 1) * (![1024, w] : Fin 2 → ℕ) a ≤ (![8192, W] : Fin 2 → ℕ) a) :
    (Rect.block (s := ⟨2, ![8192, W]⟩) ![1024, w] f h).WholeWords (EltTy.packing .bf16) := by
  refine .inl (.inr ⟨Nat.le_refl 2, rfl, .inl ⟨?_, ?_⟩⟩)
  · show 2 ∣ f 0 * 1024; omega
  · show 2 ∣ 1024; omega

/-- The tables as the program writes them keep every block inside its array. -/
theorem tabs_ok : ok0 (tabs (F := F)) := by
  refine ⟨fun i => ⟨?_, .inr ?_⟩, fun i => ⟨?_, .inr ?_⟩, fun i => ⟨?_, .inr ?_⟩, fun i => ⟨?_, .inl rfl⟩⟩
  · exact inb_of (w := 256) (qN_lt _) _ (ix_q0 i) (ix_q1 i)
  · exact whole_of 256 4096 _ _
  · exact inb_of (w := 256) (kN_lt _) _ (ix_k0 i) (ix_k1 i)
  · exact whole_of 256 4096 _ _
  · exact inb_of (w := 128) (kN_lt _) _ (ix_v0 i) (ix_v1 i)
  · exact whole_of 128 2048 _ _
  · exact inb_of (w := 128) (qN_lt _) _ (ix_o0 i) (ix_o1 i)

end Cert.Proof.Flash
-- ==== Proof.Run.lean ====
module

public import proofs.«01_k».proof.Proof.Grid
public import proofs.«01_k».proof.Proof.Gen.KernelIdeal.Launch
public import Idealize.ShloMosaic.Lib.Pipeline.Regions
public import Idealize.ShloMosaic.Lib.Pipeline.RegionArraysTS
public import Idealize.ShloMosaic.Lib.Pipeline.Frame
public import Idealize.ShloMosaic.Lib.Pipeline.TableIdle

/-!
# The run of the flash call

The pipeline's proof data (the state after each grid point, by recursion over the points), the body's obligation
and the launch of the program as one host stretch and one region.
-/

@[expose] public section

noncomputable section

namespace Cert.Proof.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F]

local notation "𝕄" => MT nD τ sig Unit (Elt F) ℕ (UU nD τ) ℕ

/-- The tables' contents, admissible. -/
abbrev adm0 : (pcfg0 (F := F)).Adm := ⟨tabs, tabs_ok⟩
abbrev adm : (p : Fin 1) → (pcfgs (F := F) p).Adm := fun _ => adm0
abbrev cfg : Cfg sig Λ₀ := cfg0 (F := F) adm0

variable (W : Dev nD → Valuation τ sig (Elt F))

/-- A window's array when the region is entered. -/
abbrev arr (c : Dev nD) (w : Fin 4) : Buf (Elt F) ((((cfg (F := F)).win w).arr.view.loc (c : Thread nD τ))) :=
  W c (Proc.devRef .tc (Pipeline.arrRef spec0 w))

/-- The blocks staged at a point: queries, keys, values. -/
def qB (c : Dev nD) (t : Fin grid0.N) : Vec F S1024x256 .bf16 := (((cfg (F := F)).win 0).blk t).view.read (Elt F) (arr W c 0)
def kB (c : Dev nD) (t : Fin grid0.N) : Vec F S1024x256 .bf16 := (((cfg (F := F)).win 1).blk t).view.read (Elt F) (arr W c 1)
def vB (c : Dev nD) (t : Fin grid0.N) : Vec F S1024x128 .bf16 := (((cfg (F := F)).win 2).blk t).view.read (Elt F) (arr W c 2)

/-- The block pair of a point. -/
abbrev pj (t : Fin grid0.N) : Fin 10 := cj (grid0.coords t)

/-- The state before the `n`-th point. -/
def stAt (c : Dev nD) : ℕ → St F
  | 0 => St.zero
  | n + 1 => if h : n < grid0.N then (stAt c n).step (lit0 (pj ⟨n, h⟩)) (lit1 (pj ⟨n, h⟩)) (qB W c ⟨n, h⟩) (kB W c ⟨n, h⟩) (vB W c ⟨n, h⟩) else stAt c n

theorem stAt_succ (c : Dev nD) (t : Fin grid0.N) :
    stAt W c (t.val + 1) = (stAt W c t.val).step (lit0 (pj t)) (lit1 (pj t)) (qB W c t) (kB W c t) (vB W c t) := by
  rw [stAt, dif_pos t.isLt]

/-- A step that starts a block of queries ignores the state before it. -/
theorem step_first {a b : BitVec 32} (h : isFirst b) (q k : Vec F S1024x256 .bf16) (v : Vec F S1024x128 .bf16) (s s' : St F) :
    s.step a b q k v = s'.step a b q k v := by
  unfold St.step; simp only [if_pos h]

/-- The three scratch buffers at a state. -/
def held (c : Dev nD) (s : St F) : sProp 𝕄 :=
  iprop((∃ f, ⌜(Memref.whole cc0_scratch0).view.read (Elt F) f = s.m⌝ ∗ pt c (Memref.whole cc0_scratch0) f)
    ∗ (∃ f, ⌜(Memref.whole cc0_scratch1).view.read (Elt F) f = s.l⌝ ∗ pt c (Memref.whole cc0_scratch1) f)
    ∗ (∃ f, ⌜(Memref.whole cc0_scratch2).view.read (Elt F) f = s.acc⌝ ∗ pt c (Memref.whole cc0_scratch2) f))

/-- The tables, whole, as the program writes them. -/
abbrev tbl (c : Dev nD) : sProp 𝕄 := Pipeline.prefHeld pre0 c (fun _ => fullShare) (tabs (F := F))

theorem tbl_eq (c : Dev nD) : (tbl c : sProp 𝕄) = iprop(pt c (Memref.whole main_c) (tabs (F := F) 0) ∗ pt c (Memref.whole main_c_0) (tabs (F := F) 1)) := by
  unfold tbl Pipeline.prefHeld
  exact bigSep_univ_eq_bigSepL [(0 : Fin 2), (1 : Fin 2)] (by decide) (by decide) _

/-- The invariant before a point. -/
def Φc (c : Dev nD) (n : ℕ) : sProp 𝕄 := iprop((∃ s, ⌜n = 0 ∨ s = stAt W c n⌝ ∗ held c s) ∗ tbl c)

/-- The proof data on core `c`. -/
def dats (_ : Fin 1) (c : Dev nD) : Dat τ (Elt F) Unit ℕ (UU nD τ) ℕ (cfg (F := F)) c where
  A w := arr W c w
  after w t := match w with
    | ⟨0, _⟩ => qB W c t
    | ⟨1, _⟩ => kB W c t
    | ⟨2, _⟩ => vB W c t
    | ⟨3, _⟩ => k0_pay11 (stAt W c (t.val + 1)).acc (stAt W c (t.val + 1)).l
  Φ t := Φc W c t.val
  q _ := fullShare
  owed _ := 0

theorem A_eq (c : Dev nD) (w : Fin 4) : (dats W 0 c).A w = arr W c w := by dsimp only [dats]

theorem before0 (c : Dev nD) (t : Fin (cfg (F := F)).N) (d) : (dats W 0 c).before (0 : Fin 4) t d = qB W c t :=
  (dats W 0 c).before_in_eq_fetched 0 rfl (fun _ => rfl) (fun _ _ _ => rfl) (fun _ => rfl) t d
theorem before1 (c : Dev nD) (t : Fin (cfg (F := F)).N) (d) : (dats W 0 c).before (1 : Fin 4) t d = kB W c t :=
  (dats W 0 c).before_in_eq_fetched 1 rfl (fun _ => rfl) (fun _ _ _ => rfl) (fun _ => rfl) t d
theorem before2 (c : Dev nD) (t : Fin (cfg (F := F)).N) (d) : (dats W 0 c).before (2 : Fin 4) t d = vB W c t :=
  (dats W 0 c).before_in_eq_fetched 2 rfl (fun _ => rfl) (fun _ _ _ => rfl) (fun _ => rfl) t d

theorem word_eq0 (c : Dev nD) (i : grid0.Coords) : word c i (Memref.whole main_c) (tabs (F := F) 0) = lit0 (cj i) := at_q (F := F) i
theorem word_eq1 (c : Dev nD) (i : grid0.Coords) : word c i (Memref.whole main_c_0) (tabs (F := F) 1) = lit1 (cj i) := at_k (F := F) i

theorem atD_q (i : grid0.Coords) : (tabs (F := F)).atD 0 (k0_off1 i) = lit0 (cj i) := by
  have h : ∀ a : Fin 1, k0_off1 i a + 1 ≤ S10.size a := fun | ⟨0, _⟩ => (congrArg (· + 1) (off_val i)).trans_le (cj i).isLt | ⟨_ + 1, h⟩ => absurd h (Nat.not_lt.2 (Nat.le_add_left _ _))
  refine (dif_pos h).trans ?_
  refine congrArg lit0 ((congrArg S10.rowMajor ?_).trans (rowMajor_one (cj i)))
  funext a; match a with
  | ⟨0, _⟩ => exact Fin.ext (off_val i)
theorem atD_k (i : grid0.Coords) : (tabs (F := F)).atD 1 (k0_off1 i) = lit1 (cj i) := by
  have h : ∀ a : Fin 1, k0_off1 i a + 1 ≤ S10.size a := fun | ⟨0, _⟩ => (congrArg (· + 1) (off_val i)).trans_le (cj i).isLt | ⟨_ + 1, h⟩ => absurd h (Nat.not_lt.2 (Nat.le_add_left _ _))
  refine (dif_pos h).trans ?_
  refine congrArg lit1 ((congrArg S10.rowMajor ?_).trans (rowMajor_one (cj i)))
  funext a; match a with
  | ⟨0, _⟩ => exact Fin.ext (off_val i)

/-- Where the result's window is idle: off the diagonal. -/
theorem idle3 (i : grid0.Coords) : (cfg (F := F)).idle 3 i = !(k0_cond3 (lit0 (cj i)) (lit1 (cj i)) == 1#1) := by
  show (!(k0_cond3 ((tabs (F := F)).atD 0 (k0_off1 i)) ((tabs (F := F)).atD 1 (k0_off1 i)) == 1#1)) = _
  rw [atD_q, atD_k]

theorem coords_facts : ∀ t : Fin 320, (cb (grid0.coords t)).val = t.val / 160 ∧ (ch (grid0.coords t)).val = t.val / 10 % 16 ∧ (cj (grid0.coords t)).val = t.val % 10 := by
  decide +kernel

theorem diag_iff : ∀ j : Fin 10, isDiag (lit0 j) (lit1 j) ↔ qN j = kN j := by decide
theorem first_iff : ∀ j : Fin 10, isFirst (lit1 j) ↔ kN j = 0 := by decide
theorem below_iff : ∀ j : Fin 10, isBelow (lit0 j) (lit1 j) ↔ kN j < qN j := by decide

/-- The result's block index at a point. -/
theorem oix (t : Fin grid0.N) : ((cfg (F := F)).win 3).index t = cc0_transform_3 Facts₀.k0_off1_inb Facts₀.numel1_S1 (tabs (F := F)) (grid0.coords t) := rfl

/-- A point off the diagonal has the next point's result block. -/
theorem next_same : ∀ t : Fin 320, qN (pj t) ≠ kN (pj t) → ∃ h : t.val + 1 < 320,
    cb (grid0.coords ⟨t.val + 1, h⟩) = cb (grid0.coords t) ∧ ch (grid0.coords ⟨t.val + 1, h⟩) = ch (grid0.coords t)
      ∧ qN (pj ⟨t.val + 1, h⟩) = qN (pj t) := by
  decide +kernel

/-- Off the diagonal the result is not written back; -/
theorem flush_off (t : Fin grid0.N) (h : qN (pj t) ≠ kN (pj t)) : ((cfg (F := F)).win 3).flush t = false := by
  obtain ⟨h1, hb, hh, hq⟩ := next_same t h
  unfold Window.flush
  have e : ((cfg (F := F)).win 3).index ⟨t.val + 1, h1⟩ = ((cfg (F := F)).win 3).index t := by
    rw [oix, oix]; funext a; match a with
    | 0 => exact (ix_o0 _).trans ((congrArg₂ (fun (x : Fin 2) y => x.val * 4 + y) hb hq).trans (ix_o0 _).symm)
    | 1 => exact (ix_o1 _).trans ((congrArg Fin.val hh).trans (ix_o1 _).symm)
  have h2 : ¬ (t.val + 1 = (cfg (F := F)).grid.N) := fun e => Nat.ne_of_lt h1 e
  rw [decide_eq_false h2, decide_eq_false (fun ⟨_, hne⟩ => hne e)]
  rfl

/-- and on it, it is. -/
theorem next_diff : ∀ t : Fin 320, qN (pj t) = kN (pj t) → t.val + 1 = 320 ∨ ∃ h : t.val + 1 < 320,
    (cb (grid0.coords ⟨t.val + 1, h⟩)).val * 4 + qN (pj ⟨t.val + 1, h⟩) ≠ (cb (grid0.coords t)).val * 4 + qN (pj t) ∨ ch (grid0.coords ⟨t.val + 1, h⟩) ≠ ch (grid0.coords t) := by
  decide +kernel

theorem flush_on (t : Fin grid0.N) (h : qN (pj t) = kN (pj t)) : ((cfg (F := F)).win 3).flush t = true := by
  unfold Window.flush
  rcases next_diff t h with h1 | ⟨h1, h2⟩
  · have h3 : t.val + 1 = (cfg (F := F)).grid.N := h1
    rw [decide_eq_true h3]; rfl
  · have e : ((cfg (F := F)).win 3).index ⟨t.val + 1, h1⟩ ≠ ((cfg (F := F)).win 3).index t := fun e => by
      rw [oix, oix] at e
      rcases h2 with h2 | h2
      · exact h2 ((ix_o0 _).symm.trans ((congrFun e 0).trans (ix_o0 _)))
      · exact h2 (Fin.ext ((ix_o1 _).symm.trans ((congrFun e 1).trans (ix_o1 _))))
    have h3 : (∃ h : t.val + 1 < (cfg (F := F)).grid.N, ((cfg (F := F)).win 3).index ⟨t.val + 1, h⟩ ≠ ((cfg (F := F)).win 3).index t) := ⟨h1, e⟩
    rw [decide_eq_true h3, Bool.or_true]; rfl

theorem Φ_cast (c : Dev nD) (t : Fin (cfg (F := F)).N) : (dats W 0 c).Φ t.castSucc = Φc W c t.val := by dsimp only [dats, Fin.val_castSucc]
theorem Φ_succ (c : Dev nD) (t : Fin (cfg (F := F)).N) : (dats W 0 c).Φ t.succ = Φc W c (t.val + 1) := by dsimp only [dats, Fin.val_succ]
theorem owed_eq (c : Dev nD) (t) : (dats W 0 c).owed t = 0 := by dsimp only [dats]

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem open0 (c : Dev nD) (t : Fin (cfg (F := F)).N) (X : S1024x256.Idx → Elt F .bf16) :
    (owns (c : Thread nD τ) (((cfg (F := F)).win (0 : Fin 4)).stage ((cfg (F := F)).slots t (0 : Fin 4))) fullShare X : sProp 𝕄)
      = iprop(∃ f, ⌜(spec0_0.stage ((cfg (F := F)).slots t 0)).view.read (Elt F) f = X⌝ ∗ pt c (spec0_0.stage ((cfg (F := F)).slots t 0)) f) :=
  owns_pt c (spec0_0.stage ((cfg (F := F)).slots t 0)) (hstage0_0 (((cfg (F := F)).slots t 0).cast nbuf0_0)) X
theorem open1 (c : Dev nD) (t : Fin (cfg (F := F)).N) (X : S1024x256.Idx → Elt F .bf16) :
    (owns (c : Thread nD τ) (((cfg (F := F)).win (1 : Fin 4)).stage ((cfg (F := F)).slots t (1 : Fin 4))) fullShare X : sProp 𝕄)
      = iprop(∃ f, ⌜(spec0_1.stage ((cfg (F := F)).slots t 1)).view.read (Elt F) f = X⌝ ∗ pt c (spec0_1.stage ((cfg (F := F)).slots t 1)) f) :=
  owns_pt c (spec0_1.stage ((cfg (F := F)).slots t 1)) (hstage0_1 (((cfg (F := F)).slots t 1).cast nbuf0_1)) X
theorem open2 (c : Dev nD) (t : Fin (cfg (F := F)).N) (X : S1024x128.Idx → Elt F .bf16) :
    (owns (c : Thread nD τ) (((cfg (F := F)).win (2 : Fin 4)).stage ((cfg (F := F)).slots t (2 : Fin 4))) fullShare X : sProp 𝕄)
      = iprop(∃ f, ⌜(spec0_2.stage ((cfg (F := F)).slots t 2)).view.read (Elt F) f = X⌝ ∗ pt c (spec0_2.stage ((cfg (F := F)).slots t 2)) f) :=
  owns_pt c (spec0_2.stage ((cfg (F := F)).slots t 2)) (hstage0_2 (((cfg (F := F)).slots t 2).cast nbuf0_2)) X
theorem open3 (c : Dev nD) (t : Fin (cfg (F := F)).N) (X : S1024x128.Idx → Elt F .f32) :
    (owns (c : Thread nD τ) (((cfg (F := F)).win (3 : Fin 4)).stage ((cfg (F := F)).slots t (3 : Fin 4))) fullShare X : sProp 𝕄)
      = iprop(∃ f, ⌜(spec0_3.stage ((cfg (F := F)).slots t 3)).view.read (Elt F) f = X⌝ ∗ pt c (spec0_3.stage ((cfg (F := F)).slots t 3)) f) :=
  owns_pt c (spec0_3.stage ((cfg (F := F)).slots t 3)) (hstage0_3 (((cfg (F := F)).slots t 3).cast nbuf0_3)) X

set_option backward.isDefEq.respectTransparency.types false in
/-- The kernel's arguments are what the pipeline hands it; one step of the recursion on the state. -/
theorem body_obligation (c : Dev nD) : BodyObligation (dats W 0 c) (defs₀ (F := F)) Variants.none () Set.univ := fun t => by
  rw [bigSep_W0, bigSep_W0]
  rw [Φ_cast, Φ_succ]
  unfold Φc Dat.owesAt Pipeline.owesWithin held; rw [tbl_eq]
  rw [owed_eq, owed_eq]
  iintro ⟨⟨⟨%s, %hs, ⟨%f9, %h9, H9⟩, ⟨%f10, %h10, H10⟩, ⟨%f11, %h11, H11⟩⟩, T3, T4⟩, ⟨%Wd, %hW, HO⟩, ⟨%d0, H5⟩, ⟨%d1, H6⟩, ⟨%d2, H7⟩, ⟨%d3, H8⟩⟩
  ihave H5' := (Entails.of_eq (open0 c t ((dats W 0 c).before (0 : Fin 4) t d0))) $$ H5
  icases H5' with ⟨%f5, %h5, H5⟩
  ihave H6' := (Entails.of_eq (open1 c t ((dats W 0 c).before (1 : Fin 4) t d1))) $$ H6
  icases H6' with ⟨%f6, %h6, H6⟩
  ihave H7' := (Entails.of_eq (open2 c t ((dats W 0 c).before (2 : Fin 4) t d2))) $$ H7
  icases H7' with ⟨%f7, %h7, H7⟩
  ihave H8' := (Entails.of_eq (open3 c t ((dats W 0 c).before (3 : Fin 4) t d3))) $$ H8
  icases H8' with ⟨%f8, %h8, H8⟩
  rw [before0] at h5; rw [before1] at h6; rw [before2] at h7
  have hst : s.step (lit0 (pj t)) (lit1 (pj t)) (qB W c t) (kB W c t) (vB W c t) = stAt W c (t.val + 1) := by
    rw [stAt_succ]
    rcases hs with h0 | rfl
    · exact step_first ((first_iff _).2 (by have := (coords_facts t).2.2; rw [h0] at this; rw [show pj t = 0 from Fin.ext this]; rfl)) _ _ _ _ _
    · rfl
  iapply (kernelRun c (grid0.coords t) (Memref.whole main_c) (Memref.whole main_c_0) (Memref.isWhole_whole _) (Memref.isWhole_whole _)
    (spec0_0.stage ((cfg (F := F)).slots t 0)) (spec0_1.stage ((cfg (F := F)).slots t 1)) (hstage0_0 (((cfg (F := F)).slots t 0).cast nbuf0_0)) (hstage0_1 (((cfg (F := F)).slots t 1).cast nbuf0_1))
    (spec0_2.stage ((cfg (F := F)).slots t 2)) (hstage0_2 (((cfg (F := F)).slots t 2).cast nbuf0_2)) (spec0_3.stage ((cfg (F := F)).slots t 3)) (hstage0_3 (((cfg (F := F)).slots t 3).cast nbuf0_3))
    (Memref.whole cc0_scratch0) (Memref.whole cc0_scratch1) (Memref.isWhole_whole _) (Memref.isWhole_whole _) (Memref.whole cc0_scratch2) (Memref.isWhole_whole _)
    (tabs (F := F) 0) (tabs (F := F) 1) f5 f6 f7 f8 f9 f10 f11 (lit0 (pj t)) (lit1 (pj t)) (word_eq0 c _) (word_eq1 c _) s h9 h10 h11)
  isplitl [T3]; · iexact T3
  isplitl [T4]; · iexact T4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [h5, h6, h7, hst]
  iintro ⟨T3, T4, H5, H6, H7, ⟨%g8, %e8, H8⟩, ⟨%g9, %e9, H9⟩, ⟨%g10, %e10, H10⟩, ⟨%g11, %e11, H11⟩⟩
  isplitl [T3 T4 H9 H10 H11]
  · isplitr [T3 T4]
    · iexists stAt W c (t.val + 1)
      isplitr; · ipureintro; exact Or.inr rfl
      isplitl [H9]; · iexists g9; isplitr; · ipureintro; exact e9
                      iexact H9
      isplitl [H10]; · iexists g10; isplitr; · ipureintro; exact e10
                       iexact H10
      iexists g11; isplitr; · ipureintro; exact e11
      iexact H11
    · isplitl [T3] <;> iassumption
  isplitl [HO]
  · iexists Wd; isplitr; · ipureintro; exact fun _ _ => Or.inl trivial
    iexact HO
  isplitl [H5]
  · iapply (Entails.of_eq (open0 c t (qB W c t)).symm)
    iexists f5; isplitr; · ipureintro; exact h5
    iexact H5
  isplitl [H6]
  · iapply (Entails.of_eq (open1 c t (kB W c t)).symm)
    iexists f6; isplitr; · ipureintro; exact h6
    iexact H6
  isplitl [H7]
  · iapply (Entails.of_eq (open2 c t (vB W c t)).symm)
    iexists f7; isplitr; · ipureintro; exact h7
    iexact H7
  by_cases hd : qN (pj t) = kN (pj t)
  · have hi : (cfg (F := F)).idle (3 : Fin 4) (grid0.coords t) = false := by
      rw [idle3, show k0_cond3 (lit0 (pj t)) (lit1 (pj t)) = 1#1 from (diag_iff _).2 hd]; rfl
    rw [hi]
    iapply (Entails.of_eq (open3 c t (k0_pay11 (stAt W c (t.val + 1)).acc (stAt W c (t.val + 1)).l)).symm)
    iexists g8; isplitr; · ipureintro; rw [e8, outAt, if_pos ((diag_iff _).2 hd)]
    iexact H8
  · have hi : (cfg (F := F)).idle (3 : Fin 4) (grid0.coords t) = true := by
      rw [idle3]
      have h1 : ¬ k0_cond3 (lit0 (pj t)) (lit1 (pj t)) = 1#1 := fun h => hd ((diag_iff _).1 h)
      rw [beq_eq_false_iff_ne.2 h1]; rfl
    have hf : ((cfg (F := F)).win (3 : Fin 4)).flush t = false := flush_off t hd
    rw [hi, hf]
    iexists d3
    iapply (Entails.of_eq (open3 c t ((dats W 0 c).before (3 : Fin 4) t d3)).symm)
    iexists g8; isplitr; · ipureintro; rw [e8, outAt, if_neg (fun h => hd ((diag_iff _).1 h))]; exact h8
    iexact H8

end Cert.Proof.Flash
-- ==== Proof.State.lean ====
/-
  The kept state after each grid point, on one row: the running softmax of the row's scores.
-/
module

public import Idealize.ShloMosaic.Lib.Pipeline.ValueKit
public import proofs.«01_k».proof.Proof.Pay
public import proofs.«01_k».proof.Proof.Run

@[expose] public section

noncomputable section

namespace Cert.Proof.Flash

open Idealize.ShloMosaic Idealize.ShloMosaic.Pipeline Cert.Proof.Online Cert.KernelIdeal Cert.KernelIdeal.Gen

variable (W : Dev nD → Valuation τ sig (Elt Ideal)) (c : Dev nD)

/-! ### The blocks a point reads, as entries of the three arrays -/

abbrev Q : Mat 8192 4096 := arr W c 0
abbrev K : Mat 8192 4096 := arr W c 1
abbrev Vv : Mat 8192 2048 := arr W c 2

theorem qB_apply (t : Fin grid0.N) (i : Fin 1024) (d : Fin 256) :
    qB W c t (ix2 i d) = rd (Q W c) ((cb (grid0.coords t)).val * 4096 + (qN (pj t) * 1024 + i.val))
      ((ch (grid0.coords t)).val * 256 + d.val) := by
  have h := qN_lt (pj t)
  rw [rd_of _ (by omega) (by omega), qB, View.read_apply]
  refine congrArg (arr W c 0) (funext fun a => Fin.ext ?_)
  match a with
  | 0 =>
    show cc0_transform_0 Facts₀.k0_off1_inb Facts₀.numel1_S1 (tabs (F := Ideal)) (grid0.coords t) 0 * 1024 + 1 * i.val = _
    rw [ix_q0]
    show ((cb (grid0.coords t)).val * 4 + qN (pj t)) * 1024 + 1 * i.val = (cb (grid0.coords t)).val * 4096 + (qN (pj t) * 1024 + i.val)
    omega
  | 1 =>
    show cc0_transform_0 Facts₀.k0_off1_inb Facts₀.numel1_S1 (tabs (F := Ideal)) (grid0.coords t) 1 * 256 + 1 * d.val = _
    rw [ix_q1, Nat.one_mul]
    rfl

theorem kB_apply (t : Fin grid0.N) (i : Fin 1024) (d : Fin 256) :
    kB W c t (ix2 i d) = rd (K W c) ((cb (grid0.coords t)).val * 4096 + (kN (pj t) * 1024 + i.val))
      ((ch (grid0.coords t)).val * 256 + d.val) := by
  have h := kN_lt (pj t)
  rw [rd_of _ (by omega) (by omega), kB, View.read_apply]
  refine congrArg (arr W c 1) (funext fun a => Fin.ext ?_)
  match a with
  | 0 =>
    show cc0_transform_1 Facts₀.k0_off1_inb Facts₀.numel1_S1 (tabs (F := Ideal)) (grid0.coords t) 0 * 1024 + 1 * i.val = _
    rw [ix_k0]
    show ((cb (grid0.coords t)).val * 4 + kN (pj t)) * 1024 + 1 * i.val = (cb (grid0.coords t)).val * 4096 + (kN (pj t) * 1024 + i.val)
    omega
  | 1 =>
    show cc0_transform_1 Facts₀.k0_off1_inb Facts₀.numel1_S1 (tabs (F := Ideal)) (grid0.coords t) 1 * 256 + 1 * d.val = _
    rw [ix_k1, Nat.one_mul]
    rfl

theorem vB_apply (t : Fin grid0.N) (i : Fin 1024) (d : Fin 128) :
    vB W c t (ix2 i d) = vl (Vv W c) (cb (grid0.coords t)).val (ch (grid0.coords t)).val d.val (kN (pj t) * 1024 + i.val) := by
  have h := kN_lt (pj t)
  rw [vl, rd_of _ (by omega) (by omega), vB, View.read_apply]
  refine congrArg (arr W c 2) (funext fun a => Fin.ext ?_)
  match a with
  | 0 =>
    show cc0_transform_2 Facts₀.k0_off1_inb Facts₀.numel1_S1 (tabs (F := Ideal)) (grid0.coords t) 0 * 1024 + 1 * i.val = _
    rw [ix_v0]
    show ((cb (grid0.coords t)).val * 4 + kN (pj t)) * 1024 + 1 * i.val = (cb (grid0.coords t)).val * 4096 + (kN (pj t) * 1024 + i.val)
    omega
  | 1 =>
    show cc0_transform_2 Facts₀.k0_off1_inb Facts₀.numel1_S1 (tabs (F := Ideal)) (grid0.coords t) 1 * 128 + 1 * d.val = _
    rw [ix_v1, Nat.one_mul]
    rfl

/-! ### The state on one row -/

/-- The scores of row `i` of the query block of point `t`. -/
abbrev rowS (t : Fin grid0.N) (i : Fin 1024) : ℕ → EReal :=
  sc (Q W c) (K W c) (cb (grid0.coords t)).val (ch (grid0.coords t)).val (qN (pj t) * 1024 + i.val)

/-- The values of point `t`'s head. -/
abbrev rowV (t : Fin grid0.N) : ℕ → ℕ → EReal :=
  fun e => vl (Vv W c) (cb (grid0.coords t)).val (ch (grid0.coords t)).val e

theorem k_le_q : ∀ j : Fin 10, kN j ≤ qN j := by decide

/-- A point that does not start a query block continues the point before it. -/
theorem prev_point : ∀ t : Fin 320, kN (pj t) ≠ 0 → ∃ t' : Fin 320, t'.val + 1 = t.val
    ∧ cb (grid0.coords t') = cb (grid0.coords t) ∧ ch (grid0.coords t') = ch (grid0.coords t)
    ∧ qN (pj t') = qN (pj t) ∧ kN (pj t') + 1 = kN (pj t) := by
  intro t h
  have hs : ∀ t : Fin 320, kN (pj t) ≠ 0 → 0 < t.val ∧ ∀ h : t.val - 1 < 320,
      cb (grid0.coords ⟨t.val - 1, h⟩) = cb (grid0.coords t) ∧ ch (grid0.coords ⟨t.val - 1, h⟩) = ch (grid0.coords t)
      ∧ qN (pj ⟨t.val - 1, h⟩) = qN (pj t) ∧ kN (pj ⟨t.val - 1, h⟩) + 1 = kN (pj t) := by
    decide +kernel
  obtain ⟨h0, h1⟩ := hs t h
  exact ⟨⟨t.val - 1, by omega⟩, by show t.val - 1 + 1 = t.val; omega, h1 (by omega)⟩

/-- The product of two blocks is the scores of the pair, when no key of the block comes after the query. -/
theorem score_full (t : Fin grid0.N) (i j : Fin 1024) (h : kN (pj t) * 1024 + j.val ≤ qN (pj t) * 1024 + i.val) :
    k0_pay4 (F := Ideal) (qB W c t) (kB W c t) (ix2 i j) = rowS W c t i (kN (pj t) * 1024 + j.val) := by
  rw [score_apply, rowS, sc, if_pos h]
  simp only [qB_apply, kB_apply]

theorem score_diag (t : Fin grid0.N) (i j : Fin 1024) (h : qN (pj t) = kN (pj t)) :
    k0_pay12 (F := Ideal) (k0_pay4 (F := Ideal) (qB W c t) (kB W c t)) (ix2 i j) = rowS W c t i (kN (pj t) * 1024 + j.val) := by
  rw [masked_apply]
  by_cases hj : j.val ≤ i.val
  · rw [if_pos hj, score_full W c t i j (by omega)]
  · rw [if_neg hj, rowS, sc, if_neg (by omega)]

/-- One point takes its block of keys. -/
theorem row_step (t : Fin grid0.N) (i : Fin 1024) (st : St Ideal)
    (h : kN (pj t) = 0 ∨ Row st i (rowS W c t i) (rowV W c t) (kN (pj t) * 1024)) :
    Row (st.step (lit0 (pj t)) (lit1 (pj t)) (qB W c t) (kB W c t) (vB W c t)) i (rowS W c t i) (rowV W c t)
      (kN (pj t) * 1024 + 1024) := by
  have h' : Row (if isFirst (lit1 (pj t)) then St.zero else st) i (rowS W c t i) (rowV W c t) (kN (pj t) * 1024) := by
    split
    · rename_i hf
      rw [(first_iff _).mp hf]
      exact row_zero i _ _
    · rename_i hf
      exact h.resolve_left fun h0 => hf ((first_iff _).mpr h0)
  unfold St.step
  rcases Nat.lt_or_eq_of_le (k_le_q (pj t)) with hk | hk
  · have h1 : isBelow (lit0 (pj t)) (lit1 (pj t)) := (below_iff _).mpr hk
    have h2 : ¬ isDiag (lit0 (pj t)) (lit1 (pj t)) := fun hd => by have := (diag_iff _).mp hd; omega
    simp only [if_pos h1, if_neg h2]
    refine row_full _ _ _ h' (fun j => score_full W c t i j ?_) fun j d => vB_apply W c t j d
    omega
  · have h1 : ¬ isBelow (lit0 (pj t)) (lit1 (pj t)) := fun hd => by have := (below_iff _).mp hd; omega
    have h2 : isDiag (lit0 (pj t)) (lit1 (pj t)) := (diag_iff _).mpr hk.symm
    simp only [if_neg h1, if_pos h2]
    exact row_diag _ _ _ h' (fun j => score_diag W c t i j hk.symm) fun j d => vB_apply W c t j d

/-- After point `t` each row holds the running softmax of its keys up to the end of the point's key block. -/
theorem row_at : ∀ (n : ℕ) (t : Fin grid0.N), t.val = n → ∀ i : Fin 1024,
    Row (stAt W c (t.val + 1)) i (rowS W c t i) (rowV W c t) (kN (pj t) * 1024 + 1024) := by
  intro n
  induction n with
  | zero =>
    intro t ht i
    rw [stAt_succ]
    refine row_step W c t i _ (.inl ?_)
    by_contra h0
    obtain ⟨t', h, -⟩ := prev_point t h0
    omega
  | succ n ih =>
    intro t ht i
    rw [stAt_succ]
    refine row_step W c t i _ ?_
    by_cases h0 : kN (pj t) = 0
    · exact .inl h0
    · obtain ⟨t', hv, hb, hh, hq, hk⟩ := prev_point t h0
      have := ih t' (by omega) i
      rw [hv] at this
      refine .inr ?_
      have e : kN (pj t) * 1024 = kN (pj t') * 1024 + 1024 := by omega
      have eS : rowS W c t i = rowS W c t' i := by unfold rowS; rw [hb, hh, hq]
      have eV : rowV W c t = rowV W c t' := by unfold rowV; rw [hb, hh]
      rw [e, eS, eV]
      exact this

/-- What a point on the diagonal writes back: the attention of its block. -/
theorem written (t : Fin grid0.N) (h : qN (pj t) = kN (pj t)) (i : Fin 1024) (d : Fin 128) :
    k0_pay11 (F := Ideal) (stAt W c (t.val + 1)).acc (stAt W c (t.val + 1)).l (ix2 i d)
      = att (Q W c) (K W c) (Vv W c) ((cb (grid0.coords t)).val * 4096 + (qN (pj t) * 1024 + i.val))
          ((ch (grid0.coords t)).val * 128 + d.val) := by
  have hr := row_at W c t.val t rfl i
  have hq := qN_lt (pj t)
  have hS : ∀ j, kN (pj t) * 1024 + 1024 ≤ j → rowS W c t i j = ⊥ := fun j hj => by
    rw [rowS, sc, if_neg (by omega)]
  rw [out_apply, hr.l, hr.acc, att]
  have e1 : ((cb (grid0.coords t)).val * 4096 + (qN (pj t) * 1024 + i.val)) / 4096 = (cb (grid0.coords t)).val := by omega
  have e2 : ((cb (grid0.coords t)).val * 4096 + (qN (pj t) * 1024 + i.val)) % 4096 = qN (pj t) * 1024 + i.val := by omega
  have e3 : ((ch (grid0.coords t)).val * 128 + d.val) / 128 = (ch (grid0.coords t)).val := by omega
  have e4 : ((ch (grid0.coords t)).val * 128 + d.val) % 128 = d.val := by omega
  rw [e1, e2, e3, e4, num_pad _ _ (n := kN (pj t) * 1024 + 1024) (N := 4096) (by omega) hS, den_pad _ (n := kN (pj t) * 1024 + 1024) (N := 4096) (by omega) hS]

end Cert.Proof.Flash

end
-- ==== Proof.Launched.lean ====
module

public import proofs.«01_k».proof.Proof.Run

/-!
# The launch of the flash call

The program is one host stretch (the two tables) and one region. Every run of it ends with every unscoped buffer at
what the region leaves and every semaphore counter at zero.
-/

@[expose] public section

noncomputable section

namespace Cert.Proof.Flash

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F]

local notation "𝕄" => MT nD τ sig Unit (Elt F) ℕ (UU nD τ) ℕ

/-- The pipeline library's algebra is the left component of ours. -/
abbrev EP : Emb (UR sig nD τ) (MT nD τ sig Unit (Elt F) ℕ (UU nD τ) ℕ) := embL

variable (m : (ℓ : Loc nD τ sig) → Buf (Elt F) ℓ) (ρ : Dev nD → PrngReg)

/-- Core `c`'s buffers at launch, and when the region is entered. -/
abbrev V₀ (c : Dev nD) : Valuation τ sig (Elt F) := fun b => (s₀ m ρ).mem ((c : Dev nD), b)
def V (c : Dev nD) : Valuation τ sig (Elt F) := StableHlo.after hostOps0 (V₀ m ρ c)

/-- The two tables are all the host operations write. -/
theorem V_arg (c : Dev nD) (b : Ref sig .tc) (h0 : b ≠ main_c) (h1 : b ≠ main_c_0) : V m ρ c (Proc.devRef .tc b) = m ((c : Thread nD τ).loc b) := by
  refine StableHlo.after_of_forall_not_mem (b := Proc.devRef .tc b) hostOps0 (V₀ m ρ c) fun op hop => ?_
  simp only [List.mem_cons, List.mem_nil_iff, or_false] at hop
  rcases hop with rfl | rfl <;> simp only [StableHlo.nullary_writes, Finset.mem_singleton] <;> exact StableHlo.devRef_ne_of_ne ‹_›

theorem V_tab0 (c : Dev nD) : V m ρ c (Proc.devRef .tc main_c) = fun i => lit0 (S10.rowMajor i) := by
  show HloOp.result (StableHlo.nullary main_c_0 (fun i => lit1 (S10.rowMajor i))) (HloOp.result (StableHlo.nullary main_c (fun i => lit0 (S10.rowMajor i))) (V₀ m ρ c)) (Proc.devRef .tc main_c) = _
  rw [HloOp.result_of_not_mem, StableHlo.nullary_result]
  · rfl
  rw [StableHlo.nullary_writes, Finset.mem_singleton]; exact StableHlo.devRef_ne_of_ne (by decide)
theorem V_tab1 (c : Dev nD) : V m ρ c (Proc.devRef .tc main_c_0) = fun i => lit1 (S10.rowMajor i) := by
  show HloOp.result (StableHlo.nullary main_c_0 (fun i => lit1 (S10.rowMajor i))) (HloOp.result (StableHlo.nullary main_c (fun i => lit0 (S10.rowMajor i))) (V₀ m ρ c)) (Proc.devRef .tc main_c_0) = _
  rw [StableHlo.nullary_result]; rfl

theorem V_tab (c : Dev nD) : ∀ k, (tabs (F := F)) k = V m ρ c (Proc.devRef .tc (pre0.ref k)) := fun
  | ⟨0, _⟩ => (V_tab0 m ρ c).symm
  | ⟨1, _⟩ => (V_tab1 m ρ c).symm

/-- Levels: one at every cell of the TensorCores. -/
abbrev L : GSem nD τ sig → Finset Unit := fun g => if g.1.2 = .tc then {()} else ∅
abbrev lv : GSem nD τ sig → Unit → ℕ := fun _ _ => 0

/-- What rides beside the buffers: what the core owes, nothing. -/
abbrev R (c : Dev nD) : sProp 𝕄 := iprop(∃ W, owes (c : Thread nD τ) (0 : CellTallies nD τ sig Unit) W)

/-- The host stretch. -/
def seg0 : Pipeline.HostSeg (Name := ℕ) (U := UU nD τ) (pcfgs (F := F)) defs₀ Variants.none L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m ρ) R

theorem hin (W : Dev nD → Valuation τ sig (Elt F)) (c : Dev nD) :
    (iprop(iprop(Pipeline.scopedRest spec0 c ∗ emp) ∗ tbl c) : sProp 𝕄) ⊢ Φc W c 0 := by
  unfold Φc held; rw [scopedRest0_eq]
  iintro ⟨⟨⟨⟨%f9, H9⟩, ⟨%f10, H10⟩, ⟨%f11, H11⟩⟩, -⟩, HT⟩
  isplitr [HT]
  · iexists ⟨(Memref.whole cc0_scratch0).view.read (Elt F) f9, (Memref.whole cc0_scratch1).view.read (Elt F) f10, (Memref.whole cc0_scratch2).view.read (Elt F) f11⟩
    isplitr; · ipureintro; exact Or.inl rfl
    isplitl [H9]; · iexists f9; isplitr; · ipureintro; rfl
                    iexact H9
    isplitl [H10]; · iexists f10; isplitr; · ipureintro; rfl
                     iexact H10
    iexists f11; isplitr; · ipureintro; rfl
    iexact H11
  · iexact HT

theorem hout (W : Dev nD → Valuation τ sig (Elt F)) (c : Dev nD) (n : ℕ) :
    Φc W c n ⊢ (iprop(iprop(Pipeline.scopedRest spec0 c ∗ emp) ∗ tbl c) : sProp 𝕄) := by
  unfold Φc held; rw [scopedRest0_eq]
  iintro ⟨⟨%s, -, ⟨%f9, -, H9⟩, ⟨%f10, -, H10⟩, ⟨%f11, -, H11⟩⟩, HT⟩
  isplitr [HT]
  · isplitl
    · isplitl [H9]; · iexists f9; iexact H9
      isplitl [H10]; · iexists f10; iexact H10
      iexists f11; iexact H11
    · iempintro
  · iexact HT

theorem hcut : Pipeline.LevelCut (pcfgs (F := F)) adm () L lv 0 (fun _ => 0) (fun _ => 0) where
  hι c w s := by show () ∈ L ((c : Thread nD τ), _); exact Finset.mem_singleton_self _
  hιb _ _ _ := le_refl _
  hD _ _ _ h := absurd h (Nat.lt_irrefl 0)

set_option backward.isDefEq.respectTransparency.types false in
/-- The region. -/
def reg0 : Pipeline.RegionSeg (pcfgs (F := F)) adm (dats (V m ρ)) () defs₀ Variants.none L lv 0 :=
  Pipeline.RegionSeg.ofHeldInT (pcfgs (F := F)) adm (dats (V m ρ)) () defs₀ Variants.none L lv 0 (fun _ => 0) (ucRefs τ sig)
    (fun _ => iprop(emp)) (fun _ => iprop(emp)) launch0 (fun c => (body_obligation (V m ρ) c).loose)
    (fun _ _ => rfl) (fun _ => rfl) (fun c w => (dats (V m ρ) 0 c).share_full (fun _ => rfl) w) (fun c => hin (V m ρ) c) (fun c => hout (V m ρ) c _)
    (fun _ => 0) hcut (fun _ => iprop(emp)) (V m ρ) (fun c w => rfl) (fun c k => V_tab m ρ c k)

/-- The unscoped buffers after the region. -/
def final (c : Dev nD) : Valuation τ sig (Elt F) := Pipeline.afterRegion (dats (V m ρ) 0 c) (V m ρ c)

theorem hS : Pipeline.arrRefs (τ := τ) ((pcfgs (F := F)) 0).spec ⊆ ucRefs τ sig := Pipeline.arrRefs_sub_ucRefs spec0 (by decide)
theorem hS' : Pipeline.tblRefs (τ := τ) ((pcfgs (F := F)) 0).pre ⊆ ucRefs τ sig := Pipeline.tblRefs_sub_ucRefs pre0 (by decide)

set_option backward.isDefEq.respectTransparency.types false in
/-- The host stretch's end is the region's entry; -/
theorem pre_entry (c : Dev nD) : iprop(StableHlo.held (c : Thread nD τ) (ucRefs τ sig) (V m ρ c) ∗ R c) ⊢ (reg0 m ρ).pre c := by
  refine BIBase.Entails.trans ?_ (Pipeline.RegionSeg.ofHeldInT_pre (pcs := pcfgs (F := F)) (a := adm) (pdats := dats (V m ρ)) (ι := ()) (p := 0) (D := fun _ => 0) (L := L) (lv := lv) (S := ucRefs τ sig) (X := fun _ => iprop(emp)) (Y := fun _ => iprop(emp)) (R := fun _ => iprop(emp)) (W := V m ρ) hS hS' c)
  iintro ⟨H, HO⟩
  isplitl [H]; · iexact H
  isplitl [HO]; · iexact HO
  isplitr <;> iempintro

set_option backward.isDefEq.respectTransparency.types false in
/-- and the region's end is what `final` says. -/
theorem post_exit (c : Dev nD) : (reg0 m ρ).post c ⊢ iprop(StableHlo.held (c : Thread nD τ) (ucRefs τ sig) (final m ρ c) ∗ R c) := by
  refine (Pipeline.RegionSeg.ofHeldInT_post (pcs := pcfgs (F := F)) (a := adm) (pdats := dats (V m ρ)) (ι := ()) (p := 0) (D := fun _ => 0) (L := L) (lv := lv) (S := ucRefs τ sig) (X := fun _ => iprop(emp)) (Y := fun _ => iprop(emp)) (R := fun _ => iprop(emp)) (W := V m ρ) hS hS' c).trans ?_
  iintro ⟨H, HO, -, -⟩
  isplitl [H]; · iexact H
  iexact HO

abbrev segs : List (Pipeline.Seg (pcfgs (F := F)) adm (dats (V m ρ)) () defs₀ Variants.none L lv) := [.host (seg0 m ρ), .region (reg0 m ρ)]

/-- The launch element. -/
def u₀ : UU nD τ := (initOf (Pipeline.cells (Pipeline.pin (pcfgs (F := F)) adm) (cellOf_inj adm)) (Pipeline.launchToks (Pipeline.pin (pcfgs (F := F)) adm) (cellOf_inj adm)), 1)

set_option maxHeartbeats 1000000 in
set_option backward.isDefEq.respectTransparency.types false in
/-- Every run ends with the unscoped buffers at what the region leaves and every counter at zero. -/
theorem run_main : θ_run defs (onTc (τ := τ) (main (F := F))) (s₀ m ρ)
    (fun r => (∀ c : Dev nD, ∀ b ∈ ucRefs τ sig, r.2.mem ((c : Thread nD τ).1, b) = final m ρ c b) ∧ r.2.sem = fun _ => 0) :=
  Pipeline.θ_run_regions_kit_sems (pcfgs (F := F)) adm (dats (V m ρ)) () (cellOf_inj adm) EP defs₀ Variants.none L lv m ρ main (segs m ρ)
    (fun c Q => by rw [main_segs adm (dats (V m ρ)) () Variants.none L lv (seg0 m ρ) (reg0 m ρ) rfl c])
    (by simp only [Pipeline.Seg.pipes_host, Pipeline.Seg.pipes_region, Pipeline.Seg.pipes_nil]; decide) (O₀ := 0) (hL := fun g h => if_neg h) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (final m ρ c))
    (hch := ⟨fun _ => .rfl, fun c => pre_entry m ρ c, fun c => post_exit m ρ c⟩)
    (hinit := by
      refine Pipeline.initEach L lv fun c => ?_
      rw [show unscopedBufs c (fun b => m ((c : Thread nD τ).loc b)) = StableHlo.held (c : Thread nD τ) (ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = final m ρ c b)
    (hfin := fun c s' => by
      unfold StableHlo.held
      iintro ⟨Hh, HSI⟩
      ihave Hr := (pointsTo_read_all (ucRefs τ sig) (fun b => ((c : Thread nD τ).1, b)) (final m ρ c) s') $$ [Hh HSI]
      · isplitl [Hh] <;> iassumption
      imodintro; iexact Hr)
    (hQ := fun _ h hz => ⟨h, funext fun g => hz g (.inr (by revert g; decide))⟩)

end Cert.Proof.Flash
-- ==== Proof.Result.lean ====
/-
  The kernel's result array: the attention of the three argument arrays; the arguments end unchanged.
-/
module

public import proofs.«01_k».proof.Proof.State
public import proofs.«01_k».proof.Proof.Launched

@[expose] public section

noncomputable section

namespace Cert.Proof.Flash

open Idealize.ShloMosaic Idealize.ShloMosaic.TcCoe Idealize.ShloMosaic.Pipeline Cert.Proof.Online Cert.KernelIdeal Cert.KernelIdeal.Gen
open Idealize.SL.Sem

section Args

variable {F : FTy → Type} [FloatOps F] [Named F] (m : (ℓ : Loc nD τ sig) → Buf (Elt F) ℓ) (ρ : Dev nD → PrngReg) (c : Dev nD)

theorem final_keeps (r : Ref sig .tc) (h : ∀ w : Fin 4, arrRef spec0 w = r → ((cfg (F := F)).win w).isOut = false)
    (h0 : r ≠ main_c) (h1 : r ≠ main_c_0) : final m ρ c (Proc.devRef .tc r) = m ((c : Thread nD τ).loc r) :=
  (afterRegion_keeps (dats (V m ρ) 0 c) (V m ρ c) (launch0 (F := F)).win.arr_inj (fun _ => rfl) r h).trans (V_arg m ρ c r h0 h1)

theorem final_arg0 : final m ρ c (Proc.devRef .tc main_arg0) = m ((c : Thread nD τ).loc main_arg0) :=
  final_keeps m ρ c main_arg0 (fun w h => by match w with | 0 => rfl | 1 => rfl | 2 => rfl | 3 => exact absurd h (by decide)) (by decide) (by decide)
theorem final_arg1 : final m ρ c (Proc.devRef .tc main_arg1) = m ((c : Thread nD τ).loc main_arg1) :=
  final_keeps m ρ c main_arg1 (fun w h => by match w with | 0 => rfl | 1 => rfl | 2 => rfl | 3 => exact absurd h (by decide)) (by decide) (by decide)
theorem final_arg2 : final m ρ c (Proc.devRef .tc main_arg2) = m ((c : Thread nD τ).loc main_arg2) :=
  final_keeps m ρ c main_arg2 (fun w h => by match w with | 0 => rfl | 1 => rfl | 2 => rfl | 3 => exact absurd h (by decide)) (by decide) (by decide)

/-- The frame, over any floats: the call terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (devRef_mem_ucRefs (b := main_arg0) rfl)).trans (final_arg0 m ρ c),
      (h.1 c _ (devRef_mem_ucRefs (b := main_arg1) rfl)).trans (final_arg1 m ρ c),
      (h.1 c _ (devRef_mem_ucRefs (b := main_arg2) rfl)).trans (final_arg2 m ρ c)⟩, h.2⟩) (run_main m ρ)

end Args

/-! ### The result over the extended reals -/

variable (W : Dev nD → Valuation τ sig (Elt Ideal)) (c : Dev nD)

/-- The attention as contents of the result's array. -/
def G : Mat 8192 2048 := fun x => att (Q W c) (K W c) (Vv W c) (x 0).val (x 1).val

theorem out_emb (t : Fin grid0.N) (i : Fin 1024) (d : Fin 128) :
    ((((cfg (F := Ideal)).win 3).blk t).view.emb (ix2 i d) 0).val = (cb (grid0.coords t)).val * 4096 + (qN (pj t) * 1024 + i.val)
    ∧ ((((cfg (F := Ideal)).win 3).blk t).view.emb (ix2 i d) 1).val = (ch (grid0.coords t)).val * 128 + d.val := by
  constructor
  · show cc0_transform_3 Facts₀.k0_off1_inb Facts₀.numel1_S1 (tabs (F := Ideal)) (grid0.coords t) 0 * 1024 + 1 * i.val = _
    rw [ix_o0]
    show ((cb (grid0.coords t)).val * 4 + qN (pj t)) * 1024 + 1 * i.val = _
    omega
  · show cc0_transform_3 Facts₀.k0_off1_inb Facts₀.numel1_S1 (tabs (F := Ideal)) (grid0.coords t) 1 * 128 + 1 * d.val = _
    rw [ix_o1, Nat.one_mul]

/-- Where each query block meets the diagonal among the ten pairs. -/
def dj : Fin 4 → ℕ := ![0, 2, 5, 9]

theorem dj_facts : ∀ q : Fin 4, ∀ j : Fin 10, j.val = dj q → qN j = q.val ∧ kN j = q.val := by decide
theorem dj_lt : ∀ q : Fin 4, dj q < 10 := by decide

theorem diag_point (b : Fin 2) (h : Fin 16) (q : Fin 4) : ∃ t : Fin 320,
    (cb (grid0.coords t)).val = b.val ∧ (ch (grid0.coords t)).val = h.val ∧ qN (pj t) = q.val ∧ kN (pj t) = q.val := by
  have hd := dj_lt q
  obtain ⟨hb, hh, hj⟩ := coords_facts ⟨b.val * 160 + h.val * 10 + dj q, by omega⟩
  refine ⟨⟨b.val * 160 + h.val * 10 + dj q, by omega⟩, hb.trans ?_, hh.trans ?_, ?_⟩
  · show (b.val * 160 + h.val * 10 + dj q) / 160 = b.val
    omega
  · show (b.val * 160 + h.val * 10 + dj q) / 10 % 16 = h.val
    omega
  · refine dj_facts q _ (hj.trans ?_)
    show (b.val * 160 + h.val * 10 + dj q) % 10 = dj q
    omega

set_option backward.isDefEq.respectTransparency.types false in
theorem result_arr : (dats W 0 c).arrAt (3 : Fin 4) (cfg (F := Ideal)).N = G W c := by
  refine (dats W 0 c).arrAt_eq_of_emb (3 : Fin 4) (G W c) (fun t hf y => ?_) fun x => ?_
  · have hd : qN (pj t) = kN (pj t) := by
      by_contra hne
      have := flush_off (F := Ideal) t hne
      rw [this] at hf
      exact absurd hf (by decide)
    obtain ⟨i, d, rfl⟩ : ∃ (i : Fin 1024) (d : Fin 128), y = (ix2 i d : S1024x128.Idx) := ⟨y 0, y 1, eq_ix2 _⟩
    obtain ⟨h0, h1⟩ := out_emb t i d
    exact (written W c t hd i d).trans (congrArg₂ (att (Q W c) (K W c) (Vv W c)) h0.symm h1.symm)
  · obtain ⟨t, hb, hh, hq, hk⟩ := diag_point ⟨(x 0).val / 4096, by have : (x 0).val < 8192 := (x 0).isLt; omega⟩
      ⟨(x 1).val / 128, by have : (x 1).val < 2048 := (x 1).isLt; omega⟩ ⟨(x 0).val % 4096 / 1024, by omega⟩
    refine ⟨t, flush_on (F := Ideal) t (hq.trans hk.symm), ?_⟩
    have hx : x = (((cfg (F := Ideal)).win 3).blk t).view.emb (ix2 (⟨(x 0).val % 1024, by omega⟩ : Fin 1024) (⟨(x 1).val % 128, by omega⟩ : Fin 128)) := by
      obtain ⟨h0, h1⟩ := out_emb t ⟨(x 0).val % 1024, by omega⟩ ⟨(x 1).val % 128, by omega⟩
      funext a
      refine Fin.ext ?_
      match a with
      | 0 => refine Eq.trans ?_ h0.symm; rw [hb, hq]; show (x 0).val = (x 0).val / 4096 * 4096 + ((x 0).val % 4096 / 1024 * 1024 + (x 0).val % 1024); omega
      | 1 => refine Eq.trans ?_ h1.symm; rw [hh]; show (x 1).val = (x 1).val / 128 * 128 + (x 1).val % 128; omega
    rw [hx]
    exact View.emb_mem_set _ _

end Cert.Proof.Flash

end
-- ==== Proof.FoxBody.lean ====
/- The forgetting attention step's body, run once at symbolic operands. -/
module

public import proofs.«01_k».proof.Proof.Gen.KernelFIdeal
public import proofs.«01_k».proof.Proof.Gen.KernelFIdeal.Skeleton
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Pipeline.ReadBack

@[expose] public section

noncomputable section

namespace Cert.Proof.Fox

open Cert.KernelFIdeal Cert.KernelFIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's running state for one block of queries: each row's maximum, its denominator, its numerators. -/
structure St (F : FTy → Type) where
  m : FVec F S1024x1 .f32
  l : FVec F S1024x1 .f32
  acc : FVec F S1024x128 .f32

/-- The state that a block of queries starts from. -/
def St.zero : St F := ⟨k0_pay1, k0_pay2, k0_pay3⟩

/-- One block of keys below the diagonal taken in. -/
def St.full (q k : Vec F S1024x128 .f32) (g : Vec F S1x1x1024x1 .f32) (f : Vec F S1x1x1x1024 .f32) (v : Vec F S1024x128 .f32) (s : St F) : St F :=
  ⟨k0_pay10 q k g f s.m, k0_pay8 q k g f s.m s.l, k0_pay9 q k g f s.m s.acc v⟩

/-- The block of keys on the diagonal taken in, behind the causal mask. -/
def St.diag (q k : Vec F S1024x128 .f32) (g : Vec F S1x1x1024x1 .f32) (f : Vec F S1x1x1x1024 .f32) (v : Vec F S1024x128 .f32) (s : St F) : St F :=
  ⟨k0_pay18 (k0_pay4 q k g f) s.m, k0_pay16 (k0_pay4 q k g f) s.m s.l, k0_pay17 (k0_pay4 q k g f) s.m s.acc v⟩

/-- The kernel's three conditions, of the query block's number `a` and the key block's number `b`. -/
def isFirst (b : BitVec 32) : Prop := Scalar.cmpi .ne (Scalar.extui (Scalar.cmpi .eq b 0#32) : BitVec 32) 0#32 = 1#1
def isBelow (a b : BitVec 32) : Prop := Scalar.cmpi .ne (Scalar.extui (Scalar.cmpi .slt b a) : BitVec 32) 0#32 = 1#1
def isDiag (a b : BitVec 32) : Prop := k0_cond3 a b = 1#1

instance (b : BitVec 32) : Decidable (isFirst b) := by unfold isFirst; infer_instance
instance (a b : BitVec 32) : Decidable (isBelow a b) := by unfold isBelow; infer_instance
instance (a b : BitVec 32) : Decidable (isDiag a b) := by unfold isDiag; infer_instance

/-- What one grid step does to the state. -/
def St.step (a b : BitVec 32) (q k : Vec F S1024x128 .f32) (g : Vec F S1x1x1024x1 .f32) (f : Vec F S1x1x1x1024 .f32) (v : Vec F S1024x128 .f32) (s : St F) : St F :=
  let s₁ := if isFirst b then St.zero else s
  let s₂ := if isBelow a b then s₁.full q k g f v else s₁
  if isDiag a b then s₂.diag q k g f v else s₂

/-- What one grid step leaves in the result's staging buffer. -/
def outAt (a b : BitVec 32) (s : St F) (o : FVec F S1024x128 .f32) : FVec F S1024x128 .f32 :=
  if isDiag a b then k0_pay11 s.acc s.l else o

/-- The word a scalar load of a table reads at grid point `i`. -/
abbrev word (c : Dev nD) (i : grid0.Coords) (T : Memref sig .tc .smem S10 .i32) (t : Bf (F := F) c T) : BitVec 32 :=
  View.readAt (Elt F) T.view (Rect.unit (s := S10) (k0_off1 i) S1.size (k0_off1_inb i)).toLoadRect t (Shape.Idx.first (by show 0 < S1.numel; decide))

theorem hz : (![0, 0] : Fin 2 → Nat) = fun _ => 0 := by decide

variable {d : Fin 2 → Nat} {sp : Space} {e : EltTy}

theorem mem_whole2 (inb : ∀ a, (![0, 0] : Fin 2 → Nat) a + d a ≤ d a) (y : (⟨2, d⟩ : Shape).Idx) :
    y ∈ (Rect.unit (s := ⟨2, d⟩) ![0, 0] d inb).set := by
  have h : Rect.unit (s := ⟨2, d⟩) ![0, 0] d inb = Rect.whole ⟨2, d⟩ := by
    unfold Rect.whole; congr 1; exact hz
  rw [h, Rect.set_whole]; exact Finset.mem_univ y

/-- A store over the whole of a rank-two buffer, read back. -/
theorem read_st [∀ e, Nonempty (Elt F e)] (M : Memref sig .tc sp ⟨2, d⟩ e) (f : M.view.ty.Contents (Elt F))
    (inb : ∀ a, (![0, 0] : Fin 2 → Nat) a + d a ≤ d a) (w : (⟨2, d⟩ : Shape).Idx → Elt F e) (L : List (View.Piece (Elt F) ⟨2, d⟩ e)) :
    M.view.read (Elt F) (M.view.writes (Elt F) f (⟨Rect.unit (s := ⟨2, d⟩) ![0, 0] d inb, w⟩ :: L)) = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  exact (View.read_writes_eq_canon M.view f _ hc).trans (View.canon_cons_unit_zero (S := ⟨2, d⟩) hz inb w L)

/-- A load of the whole of it. -/
theorem read_ld (M : Memref sig .tc sp ⟨2, d⟩ e) (f : M.view.ty.Contents (Elt F))
    (inb : ∀ a, (![0, 0] : Fin 2 → Nat) a + d a ≤ d a) :
    View.readAt (Elt F) M.view (Rect.unit (s := ⟨2, d⟩) ![0, 0] d inb).toLoadRect f = M.view.read (Elt F) f :=
  View.ld_unit_zero (S := ⟨2, d⟩) hz inb _

theorem hz4 : (![0, 0, 0, 0] : Fin 4 → Nat) = fun _ => 0 := by decide

/-- A load of the whole of a rank-four buffer. -/
theorem read_ld4 {d : Fin 4 → Nat} (M : Memref sig .tc sp ⟨4, d⟩ e) (f : M.view.ty.Contents (Elt F))
    (inb : ∀ a, (![0, 0, 0, 0] : Fin 4 → Nat) a + d a ≤ d a) :
    View.readAt (Elt F) M.view (Rect.unit (s := ⟨4, d⟩) ![0, 0, 0, 0] d inb).toLoadRect f = M.view.read (Elt F) f :=
  View.ld_unit_zero (S := ⟨4, d⟩) hz4 inb _

/-- A load of the whole of it after a store. -/
theorem read_cov [∀ e, Nonempty (Elt F e)] (M : Memref sig .tc sp ⟨2, d⟩ e)
    (inb : ∀ a, (![0, 0] : Fin 2 → Nat) a + d a ≤ d a) (w : (⟨2, d⟩ : Shape).Idx → Elt F e) (L : List (View.Piece (Elt F) ⟨2, d⟩ e)) :
    M.view.readCov ((⟨Rect.unit (s := ⟨2, d⟩) ![0, 0] d inb, w⟩ : View.Piece (Elt F) ⟨2, d⟩ e) :: L) (Rect.unit (s := ⟨2, d⟩) ![0, 0] d inb).toLoadRect = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  refine (View.readCov_eq_canon_ld M.view _ _ hc).trans ?_
  exact (congrArg (fun X => View.ld X _) (View.canon_cons_unit_zero (S := ⟨2, d⟩) hz inb w L)).trans (View.ld_unit_zero (S := ⟨2, d⟩) hz inb w)

set_option maxHeartbeats 2000000 in
theorem kernelRun (c : Dev nD) (i : grid0.Coords)
    (T3 T4 : Memref sig .tc .smem S10 .i32) (ht3 : T3.IsWhole) (ht4 : T4.IsWhole)
    (M5 M6 M7 : Memref sig .tc .vmem S1024x128 .f32) (h5 : M5.IsWhole) (h6 : M6.IsWhole) (h7 : M7.IsWhole)
    (M8 : Memref sig .tc .vmem S1x1x1024x1 .f32) (h8 : M8.IsWhole)
    (M9 : Memref sig .tc .vmem S1x1x1x1024 .f32) (h9 : M9.IsWhole)
    (M10 : Memref sig .tc .vmem S1024x128 .f32) (h10 : M10.IsWhole)
    (M11 M12 : Memref sig .tc .vmem S1024x1 .f32) (h11 : M11.IsWhole) (h12 : M12.IsWhole)
    (M13 : Memref sig .tc .vmem S1024x128 .f32) (h13 : M13.IsWhole)
    (t3 : Bf (F := F) c T3) (t4 : Bf (F := F) c T4) (f5 : Bf (F := F) c M5) (f6 : Bf (F := F) c M6) (f7 : Bf (F := F) c M7)
    (f8 : Bf (F := F) c M8) (f9 : Bf (F := F) c M9) (f10 : Bf (F := F) c M10) (f11 : Bf (F := F) c M11) (f12 : Bf (F := F) c M12) (f13 : Bf (F := F) c M13)
    (a b : BitVec 32) (ha : word c i T3 t3 = a) (hb : word c i T4 t4 = b) (s : St F)
    (hm : M11.view.read (Elt F) f11 = s.m) (hl : M12.view.read (Elt F) f12 = s.l) (hacc : M13.view.read (Elt F) f13 = s.acc)
    (Q : PUnit → sProp 𝕄) :
    iprop(pt c T3 t3 ∗ pt c T4 t4 ∗ pt c M5 f5 ∗ pt c M6 f6 ∗ pt c M7 f7 ∗ pt c M8 f8 ∗ pt c M9 f9 ∗ pt c M10 f10 ∗ pt c M11 f11 ∗ pt c M12 f12 ∗ pt c M13 f13
      ∗ (iprop(pt c T3 t3 ∗ pt c T4 t4 ∗ pt c M5 f5 ∗ pt c M6 f6 ∗ pt c M7 f7 ∗ pt c M8 f8 ∗ pt c M9 f9
            ∗ (∃ f, ⌜M10.view.read (Elt F) f = outAt a b (s.step a b (M5.view.read (Elt F) f5) (M6.view.read (Elt F) f6) (M8.view.read (Elt F) f8) (M9.view.read (Elt F) f9) (M7.view.read (Elt F) f7)) (M10.view.read (Elt F) f10)⌝ ∗ pt c M10 f)
            ∗ (∃ f, ⌜M11.view.read (Elt F) f = (s.step a b (M5.view.read (Elt F) f5) (M6.view.read (Elt F) f6) (M8.view.read (Elt F) f8) (M9.view.read (Elt F) f9) (M7.view.read (Elt F) f7)).m⌝ ∗ pt c M11 f)
            ∗ (∃ f, ⌜M12.view.read (Elt F) f = (s.step a b (M5.view.read (Elt F) f5) (M6.view.read (Elt F) f6) (M8.view.read (Elt F) f8) (M9.view.read (Elt F) f9) (M7.view.read (Elt F) f7)).l⌝ ∗ pt c M12 f)
            ∗ (∃ f, ⌜M13.view.read (Elt F) f = (s.step a b (M5.view.read (Elt F) f5) (M6.view.read (Elt F) f6) (M8.view.read (Elt F) f8) (M9.view.read (Elt F) f9) (M7.view.read (Elt F) f7)).acc⌝ ∗ pt c M13 f)) -∗ Q ⟨⟩))
    ⊢ wp frame (wpE (defs₀ (F := F)) Variants.none c none) Set.univ
        (cc0_flash_prompt i T3 ht3 T4 ht4 M5 h5 M6 h6 M7 h7 M8 h8 M9 h9 M10 h10 M11 h11 M12 h12 M13 h13) Q := by
  rw [cc0_flash_prompt_eq_skeleton]; unfold cc0_flash_prompt_skel
  subst ha hb
  obtain ⟨sm, sl, sa⟩ := s
  dsimp only at hm hl hacc
  subst hm hl hacc
  by_cases h1 : isFirst (word c i T4 t4) <;> by_cases h2 : isBelow (word c i T3 t3) (word c i T4 t4) <;>
      by_cases h3 : isDiag (word c i T3 t3) (word c i T4 t4) <;>
  ( have g1 := h1; have g2 := h2; have g3 := h3
    unfold isFirst at g1; unfold isBelow at g2; unfold isDiag at g3
    iintro ⟨H3, H4, H5, H6, H7, H8, H9, H10, H11, H12, H13, Hk⟩
    sl_exec! (disch := first | sl_exact g1 | sl_exact g2 | sl_exact g3)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; rotate_left
    isplitl [H11]; rotate_left
    isplitl [H12]; rotate_left
    all_goals iexists _; isplitr; rotate_left; first | iexact H10 | iexact H11 | iexact H12 | iexact H13
    all_goals ipureintro
    all_goals sl_unfold_words
    all_goals simp only [outAt, St.step, h1, h2, h3, if_true, if_false, St.full, St.diag, St.zero]
    all_goals simp only [read_st, read_ld, read_ld4, read_cov, shapeCast_self]
    all_goals try unfold k0_pay11
    all_goals try unfold k0_pay18
    all_goals try unfold k0_pay16
    all_goals try unfold k0_pay17
    all_goals try unfold k0_pay15
    all_goals try unfold k0_pay14
    all_goals try unfold k0_pay13
    all_goals try unfold k0_pay12
    all_goals try simp only [shapeCast_self]
    all_goals rfl)

end Cert.Proof.Fox

end
-- ==== Proof.FoxSpec.lean ====
/-
  The forgetting attention over arrays: scores with the gates' differences, and the weighted sum they give.
-/
module

public import proofs.«01_k».proof.Proof.Online

@[expose] public section

noncomputable section

namespace Cert.Proof.Fox

open Idealize.ShloMosaic Cert.Proof.Online

/-- The number the products are multiplied by: the reciprocal of the square root of 128. -/
def scale : EReal := (((Real.sqrt 128)⁻¹ : ℝ) : EReal)

/-- The score of query `t` and key `j` of head `h` of sequence `b` before the mask. Queries, keys and values lie
    side by side in `X`; four heads share a key head; `f` holds the running sums of the gates' logarithms. -/
def raw (X : Mat 8192 5376) (f : Mat 8192 128) (b h t j : ℕ) : EReal :=
  (∑ d : Fin 128, rd X (b * 4096 + t) ((16 + h) * 128 + d.val) * rd X (b * 4096 + j) ((32 + h / 4) * 128 + d.val)) * scale
    + (rd f (b * 4096 + t) h - rd f (b * 4096 + j) h)

/-- The same, `-∞` for a key after the query. -/
def sc (X : Mat 8192 5376) (f : Mat 8192 128) (b h t j : ℕ) : EReal := if j ≤ t then raw X f b h t j else ⊥

/-- Column `e` of the value of key `j` of head `h` of sequence `b`. -/
def vl (X : Mat 8192 5376) (b h e j : ℕ) : EReal := rd X (b * 4096 + j) ((36 + h / 4) * 128 + e)

/-- The attention's output: the two running sums over a sequence's 4096 keys, divided. -/
def att (X : Mat 8192 5376) (f : Mat 8192 128) (r l : ℕ) : EReal :=
  Ideal.div (num (sc X f (r / 4096) (l / 128) (r % 4096)) (vl X (r / 4096) (l / 128) (l % 128)) 4096)
    (den (sc X f (r / 4096) (l / 128) (r % 4096)) 4096)

end Cert.Proof.Fox

end
-- ==== Proof.FoxPay.lean ====
/-
  The kernel body's arrays read at an index over the extended reals.
-/
module

public import Idealize.ShloMosaic.Lib.Pointwise
public import proofs.«01_k».proof.Proof.FoxBody
public import proofs.«01_k».proof.Proof.FoxSpec

@[expose] public section

noncomputable section

namespace Cert.Proof.Fox

open Idealize.ShloMosaic Cert.Proof.Online Cert.KernelFIdeal Cert.KernelFIdeal.Gen

/-- The score of row `i` of a query block and row `j` of a key block, with their gates. -/
theorem score_apply (q k : Vec Ideal S1024x128 .f32) (g : Vec Ideal S1x1x1024x1 .f32) (f : Vec Ideal S1x1x1x1024 .f32) (i j : Fin 1024) :
    k0_pay4 (F := Ideal) q k g f (ix2 i j) = (∑ d : Fin 128, q (ix2 i d) * k (ix2 j d)) * scale + (g (ix4 0 0 i 0) - f (ix4 0 0 0 j)) := by
  pointwise [k0_pay4]
  rfl

theorem masked_apply (s : FVec Ideal S1024x1024 .f32) (i j : Fin 1024) :
    k0_pay12 (F := Ideal) s (ix2 i j) = if j.val ≤ i.val then s (ix2 i j) else ⊥ := by
  pointwise [k0_pay12]
  rw [select_sle (by omega) (by omega), minus_inf]

theorem start_m (i : Fin 1024) : (k0_pay1 (F := Ideal)) (ix2 i 0) = ⊥ := by
  pointwise [k0_pay1]
  exact minus_inf

theorem start_l (i : Fin 1024) : (k0_pay2 (F := Ideal)) (ix2 i 0) = 0 := by
  pointwise [k0_pay2]

theorem start_acc (i : Fin 1024) (d : Fin 128) : (k0_pay3 (F := Ideal)) (ix2 i d) = 0 := by
  pointwise [k0_pay3]

theorem out_apply (a : Vec Ideal S1024x128 .f32) (l : Vec Ideal S1024x1 .f32)
    (i : Fin 1024) (d : Fin 128) :
    k0_pay11 (F := Ideal) a l (ix2 i d) = Ideal.div (a (ix2 i d)) (l (ix2 i 0)) := by
  pointwise [k0_pay11]

/-! ### A block below the diagonal -/

section Full

variable (q k : Vec Ideal S1024x128 .f32) (g : Vec Ideal S1x1x1024x1 .f32) (f : Vec Ideal S1x1x1x1024 .f32) (m l : Vec Ideal S1024x1 .f32) (i : Fin 1024)

theorem full_top : k0_pay5 (F := Ideal) q k g f m (ix2 i 0)
      = max (m (ix2 i 0)) (Finset.univ.fold max ⊥ fun j : Fin 1024 => k0_pay4 (F := Ideal) q k g f (ix2 i j)) := by
  pointwise [k0_pay5]
  rw [minus_inf]

theorem full_m : k0_pay10 (F := Ideal) q k g f m (ix2 i 0) = k0_pay5 (F := Ideal) q k g f m (ix2 i 0) := by
  pointwise [k0_pay10]

theorem full_l : k0_pay8 (F := Ideal) q k g f m l (ix2 i 0)
      = Ideal.exp (m (ix2 i 0) - k0_pay5 (F := Ideal) q k g f m (ix2 i 0)) * l (ix2 i 0) + ∑ j : Fin 1024,
        Ideal.exp (k0_pay4 (F := Ideal) q k g f (ix2 i j) - k0_pay5 (F := Ideal) q k g f m (ix2 i 0)) := by
  pointwise [k0_pay8, k0_pay6, k0_pay7]

theorem full_acc (a : Vec Ideal S1024x128 .f32) (v : Vec Ideal S1024x128 .f32) (d : Fin 128) :
    k0_pay9 (F := Ideal) q k g f m a v (ix2 i d)
      = Ideal.exp (m (ix2 i 0) - k0_pay5 (F := Ideal) q k g f m (ix2 i 0)) * a (ix2 i d) + ∑ j : Fin 1024,
        Ideal.exp (k0_pay4 (F := Ideal) q k g f (ix2 i j) - k0_pay5 (F := Ideal) q k g f m (ix2 i 0)) * v (ix2 j d) := by
  pointwise [k0_pay9, k0_pay6, k0_pay7]

end Full

/-! ### A block on the diagonal -/

section Diag

variable (s : FVec Ideal S1024x1024 .f32) (m l : Vec Ideal S1024x1 .f32) (i : Fin 1024)

theorem diag_top : k0_pay13 (F := Ideal) s m (ix2 i 0)
      = max (m (ix2 i 0)) (Finset.univ.fold max ⊥ fun j : Fin 1024 => k0_pay12 (F := Ideal) s (ix2 i j)) := by
  pointwise [k0_pay13]
  rw [minus_inf]

theorem diag_m : k0_pay18 (F := Ideal) s m (ix2 i 0) = k0_pay13 (F := Ideal) s m (ix2 i 0) := by
  pointwise [k0_pay18]

theorem diag_l : k0_pay16 (F := Ideal) s m l (ix2 i 0)
      = Ideal.exp (m (ix2 i 0) - k0_pay13 (F := Ideal) s m (ix2 i 0)) * l (ix2 i 0) + ∑ j : Fin 1024,
        Ideal.exp (k0_pay12 (F := Ideal) s (ix2 i j) - k0_pay13 (F := Ideal) s m (ix2 i 0)) := by
  pointwise [k0_pay16, k0_pay14, k0_pay15]

theorem diag_acc (a : Vec Ideal S1024x128 .f32) (v : Vec Ideal S1024x128 .f32) (d : Fin 128) :
    k0_pay17 (F := Ideal) s m a v (ix2 i d)
      = Ideal.exp (m (ix2 i 0) - k0_pay13 (F := Ideal) s m (ix2 i 0)) * a (ix2 i d) + ∑ j : Fin 1024,
        Ideal.exp (k0_pay12 (F := Ideal) s (ix2 i j) - k0_pay13 (F := Ideal) s m (ix2 i 0)) * v (ix2 j d) := by
  pointwise [k0_pay17, k0_pay14, k0_pay15]

end Diag

/-! ### One grid point on one row -/

/-- Row `i` of the kept state holds the running softmax of the scores `S` and the weights `V d` after `n` keys. -/
structure Row (st : St Ideal) (i : Fin 1024) (S : ℕ → EReal) (V : ℕ → ℕ → EReal) (n : ℕ) : Prop where
  m : st.m (ix2 i 0) = top S n
  l : st.l (ix2 i 0) = den S n
  acc : ∀ d : Fin 128, st.acc (ix2 i d) = num S (V d.val) n

variable {st : St Ideal} {i : Fin 1024} {S : ℕ → EReal} {V : ℕ → ℕ → EReal} {n : ℕ}

theorem row_zero (i : Fin 1024) (S : ℕ → EReal) (V : ℕ → ℕ → EReal) : Row St.zero i S V 0 :=
  ⟨(start_m i).trans (top_zero S).symm, (start_l i).trans (den_zero S).symm,
    fun d => (start_acc i d).trans (num_zero S _).symm⟩

theorem row_full (q k : Vec Ideal S1024x128 .f32) (g : Vec Ideal S1x1x1024x1 .f32) (f : Vec Ideal S1x1x1x1024 .f32) (v : Vec Ideal S1024x128 .f32) (h : Row st i S V n)
    (hs : ∀ j : Fin 1024, k0_pay4 (F := Ideal) q k g f (ix2 i j) = S (n + j.val))
    (hv : ∀ (j : Fin 1024) (d : Fin 128), v (ix2 j d) = V d.val (n + j.val)) :
    Row (st.full q k g f v) i S V (n + 1024) := by
  have hm : k0_pay5 (F := Ideal) q k g f st.m (ix2 i 0) = top S (n + 1024) := by
    rw [full_top, h.m, ← top_add, blockTop]
    simp only [hs]
  refine ⟨(full_m q k g f st.m i).trans hm, ?_, fun d => ?_⟩
  · refine (full_l q k g f st.m st.l i).trans ?_
    rw [hm, h.m, h.l, ← den_add]
    simp only [hs]
  · refine (full_acc q k g f st.m i st.acc v d).trans ?_
    rw [hm, h.m, h.acc, ← num_add]
    simp only [hs, hv]

theorem row_diag (q k : Vec Ideal S1024x128 .f32) (g : Vec Ideal S1x1x1024x1 .f32) (f : Vec Ideal S1x1x1x1024 .f32) (v : Vec Ideal S1024x128 .f32) (h : Row st i S V n)
    (hs : ∀ j : Fin 1024, k0_pay12 (F := Ideal) (k0_pay4 (F := Ideal) q k g f) (ix2 i j) = S (n + j.val))
    (hv : ∀ (j : Fin 1024) (d : Fin 128), v (ix2 j d) = V d.val (n + j.val)) :
    Row (st.diag q k g f v) i S V (n + 1024) := by
  have hm : k0_pay13 (F := Ideal) (k0_pay4 (F := Ideal) q k g f) st.m (ix2 i 0) = top S (n + 1024) := by
    rw [diag_top, h.m, ← top_add, blockTop]
    simp only [hs]
  refine ⟨(diag_m _ st.m i).trans hm, ?_, fun d => ?_⟩
  · refine (diag_l _ st.m st.l i).trans ?_
    rw [hm, h.m, h.l, ← den_add]
    simp only [hs]
  · refine (diag_acc _ st.m i st.acc v d).trans ?_
    rw [hm, h.m, h.acc, ← num_add]
    simp only [hs, hv]

end Cert.Proof.Fox

end
-- ==== Proof.FoxGrid.lean ====
module

public import proofs.«01_k».proof.Proof.FoxBody

/-!
# The grid of the forgetting attention call and its prefetched tables

The grid is (batch, head, j); the two tables list, for each j, the query block and the key block of the j-th
block pair of the causal triangle. At the tables as the program computes them every window's block index is a
number read off the grid point.
-/

@[expose] public section

noncomputable section

namespace Cert.Proof.Fox

open Cert.KernelFIdeal Cert.KernelFIdeal.Gen
open Idealize.ShloMosaic

variable {F : FTy → Type} [FloatOps F] [Named F]

/-- The tables' contents as the program writes them. -/
def tabs : pre0.Contents (Elt F) := fun
  | 0 => fun i => lit0 (S10.rowMajor i)
  | 1 => fun i => lit1 (S10.rowMajor i)
  | ⟨_ + 2, h⟩ => absurd h (Nat.not_lt.2 (Nat.le_add_left _ _))

/-- The query block of the `j`-th pair. -/
def qN : Fin 10 → ℕ := ![0, 1, 1, 2, 2, 2, 3, 3, 3, 3]
/-- The key block of the `j`-th pair. -/
def kN : Fin 10 → ℕ := ![0, 0, 1, 0, 1, 2, 0, 1, 2, 3]

/-- A grid point's batch, head and pair. -/
def cb (i : grid0.Coords) : Fin 2 := i 0
def ch (i : grid0.Coords) : Fin 16 := i 1
def cj (i : grid0.Coords) : Fin 10 := i 2

/-- The offset of the word a grid point reads off a table. -/
theorem off_val (i : grid0.Coords) : k0_off1 i 0 = (cj i).val := by
  show (BitVec.ofNat 32 (i 2).val).toNat = (i 2).val
  have h : (i 2).val < 10 := (i 2).isLt
  simp only [BitVec.toNat_ofNat]; exact Nat.mod_eq_of_lt (lt_trans h (by decide))

/-- The index of a table's `x`-th word. -/
def one (x : Fin 10) : S10.Idx := fun | 0 => x | ⟨_ + 1, h⟩ => absurd h (Nat.not_lt.2 (Nat.le_add_left _ _))

theorem rowMajor_val : ∀ x : Fin 10, (S10.rowMajor (one x)).val = x.val := by decide
theorem rowMajor_one (x : Fin 10) : S10.rowMajor (one x) = (x : Fin S10.numel) := Fin.ext (rowMajor_val x)

/-- The word of a table that a grid point reads is at its last coordinate. -/
theorem emb_eq (i : grid0.Coords) (z : (Rect.unit (s := S10) (k0_off1 i) S1.size (Facts₀.k0_off1_inb i)).shape.Idx) :
    (Rect.unit (s := S10) (k0_off1 i) S1.size (Facts₀.k0_off1_inb i)).emb z = one (cj i) := by
  funext a; apply Fin.ext
  match a with
  | 0 =>
    show k0_off1 i 0 + 1 * (z 0).val = (cj i).val
    have : (z 0).val < 1 := (z 0).isLt
    rw [off_val]; omega

theorem word_q : ∀ (x : Fin 2) (j : Fin 10), (Scalar.addi (Scalar.muli (BitVec.ofNat 32 x.val) 4#32) (lit0 j)).toNat = x.val * 4 + qN j := by
  decide +kernel
theorem word_k : ∀ (x : Fin 2) (j : Fin 10), (Scalar.addi (Scalar.muli (BitVec.ofNat 32 x.val) 4#32) (lit1 j)).toNat = x.val * 4 + kN j := by
  decide +kernel

theorem at_q (i : grid0.Coords) : (tabs (F := F)).at 0 (Rect.unit (s := S10) (k0_off1 i) S1.size (Facts₀.k0_off1_inb i)) Facts₀.numel1_S1 = lit0 (cj i) :=
  congrArg lit0 ((congrArg S10.rowMajor (emb_eq i _)).trans (rowMajor_one (cj i)))
theorem at_k (i : grid0.Coords) : (tabs (F := F)).at 1 (Rect.unit (s := S10) (k0_off1 i) S1.size (Facts₀.k0_off1_inb i)) Facts₀.numel1_S1 = lit1 (cj i) :=
  congrArg lit1 ((congrArg S10.rowMajor (emb_eq i _)).trans (rowMajor_one (cj i)))

/-- The point with head `y` and nothing else. -/
def headPt (y : Fin 16) : grid0.Coords := fun | 0 => (0 : Fin 2) | 1 => y | 2 => (0 : Fin 10) | ⟨_ + 3, h⟩ => absurd h (Nat.not_lt.2 (Nat.le_add_left _ _))

theorem head_q : ∀ y : Fin 16, cc0_transform_0 (F := Ideal) Facts₀.k0_off1_inb Facts₀.numel1_S1 tabs (headPt y) 1 = 16 + y.val := by decide +kernel
theorem head_k : ∀ y : Fin 16, cc0_transform_1 (F := Ideal) Facts₀.k0_off1_inb Facts₀.numel1_S1 tabs (headPt y) 1 = 32 + y.val / 4 := by decide +kernel
theorem head_v : ∀ y : Fin 16, cc0_transform_2 (F := Ideal) Facts₀.k0_off1_inb Facts₀.numel1_S1 tabs (headPt y) 1 = 36 + y.val / 4 := by decide +kernel
theorem head_f : ∀ y : Fin 16, cc0_transform_3 (F := Ideal) Facts₀.k0_off1_inb Facts₀.numel1_S1 tabs (headPt y) 1 = y.val := by decide +kernel
theorem head_g : ∀ y : Fin 16, cc0_transform_4 (F := Ideal) Facts₀.k0_off1_inb Facts₀.numel1_S1 tabs (headPt y) 1 = y.val := by decide +kernel
theorem head_o : ∀ y : Fin 16, cc0_transform_5 (F := Ideal) Facts₀.k0_off1_inb Facts₀.numel1_S1 tabs (headPt y) 1 = y.val := by decide +kernel

theorem word_b : ∀ x : Fin 2, (BitVec.ofNat 32 x.val).toNat = x.val := by decide
theorem lit_q : ∀ j : Fin 10, (lit0 j).toNat = qN j := by decide +kernel
theorem lit_k : ∀ j : Fin 10, (lit1 j).toNat = kN j := by decide +kernel

theorem ix_q0 (i : grid0.Coords) : cc0_transform_0 Facts₀.k0_off1_inb Facts₀.numel1_S1 (tabs (F := F)) i 0 = (cb i).val * 4 + qN (cj i) :=
  (congrArg (fun w => (Scalar.addi (Scalar.muli (BitVec.ofNat 32 (cb i).val) 4#32) w).toNat) (at_q (F := F) i)).trans (word_q _ _)
theorem ix_k0 (i : grid0.Coords) : cc0_transform_1 Facts₀.k0_off1_inb Facts₀.numel1_S1 (tabs (F := F)) i 0 = (cb i).val * 4 + kN (cj i) :=
  (congrArg (fun w => (Scalar.addi (Scalar.muli (BitVec.ofNat 32 (cb i).val) 4#32) w).toNat) (at_k (F := F) i)).trans (word_k _ _)
theorem ix_v0 (i : grid0.Coords) : cc0_transform_2 Facts₀.k0_off1_inb Facts₀.numel1_S1 (tabs (F := F)) i 0 = (cb i).val * 4 + kN (cj i) :=
  (congrArg (fun w => (Scalar.addi (Scalar.muli (BitVec.ofNat 32 (cb i).val) 4#32) w).toNat) (at_k (F := F) i)).trans (word_k _ _)
theorem ix_o0 (i : grid0.Coords) : cc0_transform_5 Facts₀.k0_off1_inb Facts₀.numel1_S1 (tabs (F := F)) i 0 = (cb i).val * 4 + qN (cj i) :=
  (congrArg (fun w => (Scalar.addi (Scalar.muli (BitVec.ofNat 32 (cb i).val) 4#32) w).toNat) (at_q (F := F) i)).trans (word_q _ _)
theorem ix_q1 (i : grid0.Coords) : cc0_transform_0 Facts₀.k0_off1_inb Facts₀.numel1_S1 (tabs (F := F)) i 1 = 16 + (ch i).val := head_q (ch i)
theorem ix_k1 (i : grid0.Coords) : cc0_transform_1 Facts₀.k0_off1_inb Facts₀.numel1_S1 (tabs (F := F)) i 1 = 32 + (ch i).val / 4 := head_k (ch i)
theorem ix_v1 (i : grid0.Coords) : cc0_transform_2 Facts₀.k0_off1_inb Facts₀.numel1_S1 (tabs (F := F)) i 1 = 36 + (ch i).val / 4 := head_v (ch i)
theorem ix_o1 (i : grid0.Coords) : cc0_transform_5 Facts₀.k0_off1_inb Facts₀.numel1_S1 (tabs (F := F)) i 1 = (ch i).val := head_o (ch i)

/-- The forget gates' blocks: a batch and a head of rows, and of columns. -/
theorem ix_f0 (i : grid0.Coords) : cc0_transform_3 Facts₀.k0_off1_inb Facts₀.numel1_S1 (tabs (F := F)) i 0 = (cb i).val := word_b (cb i)
theorem ix_f1 (i : grid0.Coords) : cc0_transform_3 Facts₀.k0_off1_inb Facts₀.numel1_S1 (tabs (F := F)) i 1 = (ch i).val := head_f (ch i)
theorem ix_f2 (i : grid0.Coords) : cc0_transform_3 Facts₀.k0_off1_inb Facts₀.numel1_S1 (tabs (F := F)) i 2 = qN (cj i) :=
  (congrArg BitVec.toNat (at_q (F := F) i)).trans (lit_q _)
theorem ix_f3 (i : grid0.Coords) : cc0_transform_3 Facts₀.k0_off1_inb Facts₀.numel1_S1 (tabs (F := F)) i 3 = 0 := rfl
theorem ix_g0 (i : grid0.Coords) : cc0_transform_4 Facts₀.k0_off1_inb Facts₀.numel1_S1 (tabs (F := F)) i 0 = (cb i).val := word_b (cb i)
theorem ix_g1 (i : grid0.Coords) : cc0_transform_4 Facts₀.k0_off1_inb Facts₀.numel1_S1 (tabs (F := F)) i 1 = (ch i).val := head_g (ch i)
theorem ix_g2 (i : grid0.Coords) : cc0_transform_4 Facts₀.k0_off1_inb Facts₀.numel1_S1 (tabs (F := F)) i 2 = 0 := rfl
theorem ix_g3 (i : grid0.Coords) : cc0_transform_4 Facts₀.k0_off1_inb Facts₀.numel1_S1 (tabs (F := F)) i 3 = kN (cj i) :=
  (congrArg BitVec.toNat (at_k (F := F) i)).trans (lit_k _)

theorem qN_lt : ∀ j, qN j < 4 := by decide
theorem kN_lt : ∀ j, kN j < 4 := by decide

/-- A block with such an index lies inside its array of two batches of 4096 rows. -/
theorem inb_of {x : Fin 2} {n y W : ℕ} (hn : n < 4) (hy : (y + 1) * 128 ≤ W)
    (f : Fin 2 → ℕ) (h0 : f 0 = x.val * 4 + n) (h1 : f 1 = y) : ∀ a : Fin 2, (f a + 1) * (![1024, 128] : Fin 2 → ℕ) a ≤ (![8192, W] : Fin 2 → ℕ) a := by
  have := x.isLt
  intro a; match a with
  | 0 => show (f 0 + 1) * 1024 ≤ 8192; omega
  | 1 => show (f 1 + 1) * 128 ≤ W; omega

/-- The forget gates' blocks lie inside their arrays. -/
theorem inb_f {x : Fin 2} {y : Fin 16} {n : ℕ} (hn : n < 4) (f : Fin 4 → ℕ) (h0 : f 0 = x.val) (h1 : f 1 = y.val) (h2 : f 2 = n) (h3 : f 3 = 0) :
    ∀ a : Fin 4, (f a + 1) * (![1, 1, 1024, 1] : Fin 4 → ℕ) a ≤ (![2, 16, 4096, 1] : Fin 4 → ℕ) a := by
  have := x.isLt; have := y.isLt
  intro a; match a with
  | 0 => show (f 0 + 1) * 1 ≤ 2; omega
  | 1 => show (f 1 + 1) * 1 ≤ 16; omega
  | 2 => show (f 2 + 1) * 1024 ≤ 4096; omega
  | 3 => show (f 3 + 1) * 1 ≤ 1; omega
theorem inb_g {x : Fin 2} {y : Fin 16} {n : ℕ} (hn : n < 4) (f : Fin 4 → ℕ) (h0 : f 0 = x.val) (h1 : f 1 = y.val) (h2 : f 2 = 0) (h3 : f 3 = n) :
    ∀ a : Fin 4, (f a + 1) * (![1, 1, 1, 1024] : Fin 4 → ℕ) a ≤ (![2, 16, 1, 4096] : Fin 4 → ℕ) a := by
  have := x.isLt; have := y.isLt
  intro a; match a with
  | 0 => show (f 0 + 1) * 1 ≤ 2; omega
  | 1 => show (f 1 + 1) * 1 ≤ 16; omega
  | 2 => show (f 2 + 1) * 1 ≤ 1; omega
  | 3 => show (f 3 + 1) * 1024 ≤ 4096; omega

/-- The tables as the program writes them keep every block inside its array. -/
theorem tabs_ok : ok0 (tabs (F := F)) := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · exact inb_of (W := 5376) (qN_lt _) (by have := (ch i).isLt; omega) _ (ix_q0 i) (ix_q1 i)
  · exact inb_of (W := 5376) (kN_lt _) (by have := (ch i).isLt; omega) _ (ix_k0 i) (ix_k1 i)
  · exact inb_of (W := 5376) (kN_lt _) (by have := (ch i).isLt; omega) _ (ix_v0 i) (ix_v1 i)
  · exact inb_f (qN_lt _) _ (ix_f0 i) (ix_f1 i) (ix_f2 i) (ix_f3 i)
  · exact inb_g (kN_lt _) _ (ix_g0 i) (ix_g1 i) (ix_g2 i) (ix_g3 i)
  · exact inb_of (W := 2048) (qN_lt _) (by have := (ch i).isLt; omega) _ (ix_o0 i) (ix_o1 i)

end Cert.Proof.Fox
-- ==== Proof.FoxRun.lean ====
module

public import proofs.«01_k».proof.Proof.FoxGrid
public import proofs.«01_k».proof.Proof.Gen.KernelFIdeal.Launch
public import Idealize.ShloMosaic.Lib.Pipeline.Regions
public import Idealize.ShloMosaic.Lib.Pipeline.RegionArraysTS
public import Idealize.ShloMosaic.Lib.Pipeline.Frame
public import Idealize.ShloMosaic.Lib.Pipeline.TableIdle

/-!
# The run of the forgetting attention call

The pipeline's proof data (the state after each grid point, by recursion over the points), the body's obligation
and the launch of the program as one host stretch and one region.
-/

@[expose] public section

noncomputable section

namespace Cert.Proof.Fox

open Cert.KernelFIdeal Cert.KernelFIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F]

local notation "𝕄" => MT nD τ sig Unit (Elt F) ℕ (UU nD τ) ℕ

/-- The tables' contents, admissible. -/
abbrev adm0 : (pcfg0 (F := F)).Adm := ⟨tabs, tabs_ok⟩
abbrev adm : (p : Fin 1) → (pcfgs (F := F) p).Adm := fun _ => adm0
abbrev cfg : Cfg sig Λ₀ := cfg0 (F := F) adm0

variable (W : Dev nD → Valuation τ sig (Elt F))

/-- A window's array when the region is entered. -/
abbrev arr (c : Dev nD) (w : Fin 6) : Buf (Elt F) ((((cfg (F := F)).win w).arr.view.loc (c : Thread nD τ))) :=
  W c (Proc.devRef .tc (Pipeline.arrRef spec0 w))

/-- The blocks staged at a point: queries, keys, values, and the gates of the queries and of the keys. -/
def qB (c : Dev nD) (t : Fin grid0.N) : Vec F S1024x128 .f32 := (((cfg (F := F)).win 0).blk t).view.read (Elt F) (arr W c 0)
def kB (c : Dev nD) (t : Fin grid0.N) : Vec F S1024x128 .f32 := (((cfg (F := F)).win 1).blk t).view.read (Elt F) (arr W c 1)
def vB (c : Dev nD) (t : Fin grid0.N) : Vec F S1024x128 .f32 := (((cfg (F := F)).win 2).blk t).view.read (Elt F) (arr W c 2)
def gB (c : Dev nD) (t : Fin grid0.N) : Vec F S1x1x1024x1 .f32 := (((cfg (F := F)).win 3).blk t).view.read (Elt F) (arr W c 3)
def fB (c : Dev nD) (t : Fin grid0.N) : Vec F S1x1x1x1024 .f32 := (((cfg (F := F)).win 4).blk t).view.read (Elt F) (arr W c 4)

/-- The block pair of a point. -/
abbrev pj (t : Fin grid0.N) : Fin 10 := cj (grid0.coords t)

/-- The state before the `n`-th point. -/
def stAt (c : Dev nD) : ℕ → St F
  | 0 => St.zero
  | n + 1 => if h : n < grid0.N then (stAt c n).step (lit0 (pj ⟨n, h⟩)) (lit1 (pj ⟨n, h⟩)) (qB W c ⟨n, h⟩) (kB W c ⟨n, h⟩) (gB W c ⟨n, h⟩) (fB W c ⟨n, h⟩) (vB W c ⟨n, h⟩) else stAt c n

theorem stAt_succ (c : Dev nD) (t : Fin grid0.N) :
    stAt W c (t.val + 1) = (stAt W c t.val).step (lit0 (pj t)) (lit1 (pj t)) (qB W c t) (kB W c t) (gB W c t) (fB W c t) (vB W c t) := by
  rw [stAt, dif_pos t.isLt]

/-- A step that starts a block of queries ignores the state before it. -/
theorem step_first {a b : BitVec 32} (h : isFirst b) (q k : Vec F S1024x128 .f32) (g : Vec F S1x1x1024x1 .f32) (f : Vec F S1x1x1x1024 .f32) (v : Vec F S1024x128 .f32) (s s' : St F) :
    s.step a b q k g f v = s'.step a b q k g f v := by
  unfold St.step; simp only [if_pos h]

/-- The three scratch buffers at a state. -/
def held (c : Dev nD) (s : St F) : sProp 𝕄 :=
  iprop((∃ f, ⌜(Memref.whole cc0_scratch0).view.read (Elt F) f = s.m⌝ ∗ pt c (Memref.whole cc0_scratch0) f)
    ∗ (∃ f, ⌜(Memref.whole cc0_scratch1).view.read (Elt F) f = s.l⌝ ∗ pt c (Memref.whole cc0_scratch1) f)
    ∗ (∃ f, ⌜(Memref.whole cc0_scratch2).view.read (Elt F) f = s.acc⌝ ∗ pt c (Memref.whole cc0_scratch2) f))

/-- The tables, whole, as the program writes them. -/
abbrev tbl (c : Dev nD) : sProp 𝕄 := Pipeline.prefHeld pre0 c (fun _ => fullShare) (tabs (F := F))

theorem tbl_eq (c : Dev nD) : (tbl c : sProp 𝕄) = iprop(pt c (Memref.whole main_c) (tabs (F := F) 0) ∗ pt c (Memref.whole main_c_0) (tabs (F := F) 1)) := by
  unfold tbl Pipeline.prefHeld
  exact bigSep_univ_eq_bigSepL [(0 : Fin 2), (1 : Fin 2)] (by decide) (by decide) _

/-- The invariant before a point. -/
def Φc (c : Dev nD) (n : ℕ) : sProp 𝕄 := iprop((∃ s, ⌜n = 0 ∨ s = stAt W c n⌝ ∗ held c s) ∗ tbl c)

/-- The proof data on core `c`. -/
def dats (_ : Fin 1) (c : Dev nD) : Dat τ (Elt F) Unit ℕ (UU nD τ) ℕ (cfg (F := F)) c where
  A w := arr W c w
  after w t := match w with
    | ⟨0, _⟩ => qB W c t
    | ⟨1, _⟩ => kB W c t
    | ⟨2, _⟩ => vB W c t
    | ⟨3, _⟩ => gB W c t
    | ⟨4, _⟩ => fB W c t
    | ⟨5, _⟩ => k0_pay11 (stAt W c (t.val + 1)).acc (stAt W c (t.val + 1)).l
  Φ t := Φc W c t.val
  q w := Pipeline.shareOf spec0 w
  owed _ := 0

theorem A_eq (c : Dev nD) (w : Fin 6) : (dats W 0 c).A w = arr W c w := by dsimp only [dats]

theorem before0 (c : Dev nD) (t : Fin (cfg (F := F)).N) (d) : (dats W 0 c).before (0 : Fin 6) t d = qB W c t :=
  (dats W 0 c).before_in_eq_fetched 0 rfl (fun _ => rfl) (fun _ _ _ => rfl) (fun _ => rfl) t d
theorem before1 (c : Dev nD) (t : Fin (cfg (F := F)).N) (d) : (dats W 0 c).before (1 : Fin 6) t d = kB W c t :=
  (dats W 0 c).before_in_eq_fetched 1 rfl (fun _ => rfl) (fun _ _ _ => rfl) (fun _ => rfl) t d
theorem before2 (c : Dev nD) (t : Fin (cfg (F := F)).N) (d) : (dats W 0 c).before (2 : Fin 6) t d = vB W c t :=
  (dats W 0 c).before_in_eq_fetched 2 rfl (fun _ => rfl) (fun _ _ _ => rfl) (fun _ => rfl) t d
theorem before3 (c : Dev nD) (t : Fin (cfg (F := F)).N) (d) : (dats W 0 c).before (3 : Fin 6) t d = gB W c t :=
  (dats W 0 c).before_in_eq_fetched 3 rfl (fun _ => rfl) (fun _ _ _ => rfl) (fun _ => rfl) t d
theorem before4 (c : Dev nD) (t : Fin (cfg (F := F)).N) (d) : (dats W 0 c).before (4 : Fin 6) t d = fB W c t :=
  (dats W 0 c).before_in_eq_fetched 4 rfl (fun _ => rfl) (fun _ _ _ => rfl) (fun _ => rfl) t d

theorem word_eq0 (c : Dev nD) (i : grid0.Coords) : word c i (Memref.whole main_c) (tabs (F := F) 0) = lit0 (cj i) := at_q (F := F) i
theorem word_eq1 (c : Dev nD) (i : grid0.Coords) : word c i (Memref.whole main_c_0) (tabs (F := F) 1) = lit1 (cj i) := at_k (F := F) i

theorem atD_q (i : grid0.Coords) : (tabs (F := F)).atD 0 (k0_off1 i) = lit0 (cj i) := by
  have h : ∀ a : Fin 1, k0_off1 i a + 1 ≤ S10.size a := fun | ⟨0, _⟩ => (congrArg (· + 1) (off_val i)).trans_le (cj i).isLt | ⟨_ + 1, h⟩ => absurd h (Nat.not_lt.2 (Nat.le_add_left _ _))
  refine (dif_pos h).trans ?_
  refine congrArg lit0 ((congrArg S10.rowMajor ?_).trans (rowMajor_one (cj i)))
  funext a; match a with
  | ⟨0, _⟩ => exact Fin.ext (off_val i)
theorem atD_k (i : grid0.Coords) : (tabs (F := F)).atD 1 (k0_off1 i) = lit1 (cj i) := by
  have h : ∀ a : Fin 1, k0_off1 i a + 1 ≤ S10.size a := fun | ⟨0, _⟩ => (congrArg (· + 1) (off_val i)).trans_le (cj i).isLt | ⟨_ + 1, h⟩ => absurd h (Nat.not_lt.2 (Nat.le_add_left _ _))
  refine (dif_pos h).trans ?_
  refine congrArg lit1 ((congrArg S10.rowMajor ?_).trans (rowMajor_one (cj i)))
  funext a; match a with
  | ⟨0, _⟩ => exact Fin.ext (off_val i)

/-- Where the result's window is idle: off the diagonal. -/
theorem idle5 (i : grid0.Coords) : (cfg (F := F)).idle 5 i = !(k0_cond3 (lit0 (cj i)) (lit1 (cj i)) == 1#1) := by
  show (!(k0_cond3 ((tabs (F := F)).atD 0 (k0_off1 i)) ((tabs (F := F)).atD 1 (k0_off1 i)) == 1#1)) = _
  rw [atD_q, atD_k]

theorem coords_facts : ∀ t : Fin 320, (cb (grid0.coords t)).val = t.val / 160 ∧ (ch (grid0.coords t)).val = t.val / 10 % 16 ∧ (cj (grid0.coords t)).val = t.val % 10 := by
  decide +kernel

theorem diag_iff : ∀ j : Fin 10, isDiag (lit0 j) (lit1 j) ↔ qN j = kN j := by decide
theorem first_iff : ∀ j : Fin 10, isFirst (lit1 j) ↔ kN j = 0 := by decide
theorem below_iff : ∀ j : Fin 10, isBelow (lit0 j) (lit1 j) ↔ kN j < qN j := by decide

/-- The result's block index at a point. -/
theorem oix (t : Fin grid0.N) : ((cfg (F := F)).win 5).index t = cc0_transform_5 Facts₀.k0_off1_inb Facts₀.numel1_S1 (tabs (F := F)) (grid0.coords t) := rfl

/-- A point off the diagonal has the next point's result block. -/
theorem next_same : ∀ t : Fin 320, qN (pj t) ≠ kN (pj t) → ∃ h : t.val + 1 < 320,
    cb (grid0.coords ⟨t.val + 1, h⟩) = cb (grid0.coords t) ∧ ch (grid0.coords ⟨t.val + 1, h⟩) = ch (grid0.coords t)
      ∧ qN (pj ⟨t.val + 1, h⟩) = qN (pj t) := by
  decide +kernel

/-- Off the diagonal the result is not written back; -/
theorem flush_off (t : Fin grid0.N) (h : qN (pj t) ≠ kN (pj t)) : ((cfg (F := F)).win 5).flush t = false := by
  obtain ⟨h1, hb, hh, hq⟩ := next_same t h
  unfold Window.flush
  have e : ((cfg (F := F)).win 5).index ⟨t.val + 1, h1⟩ = ((cfg (F := F)).win 5).index t := by
    rw [oix, oix]; funext a; match a with
    | 0 => exact (ix_o0 _).trans ((congrArg₂ (fun (x : Fin 2) y => x.val * 4 + y) hb hq).trans (ix_o0 _).symm)
    | 1 => exact (ix_o1 _).trans ((congrArg Fin.val hh).trans (ix_o1 _).symm)
  have h2 : ¬ (t.val + 1 = (cfg (F := F)).grid.N) := fun e => Nat.ne_of_lt h1 e
  rw [decide_eq_false h2, decide_eq_false (fun ⟨_, hne⟩ => hne e)]
  rfl

/-- and on it, it is. -/
theorem next_diff : ∀ t : Fin 320, qN (pj t) = kN (pj t) → t.val + 1 = 320 ∨ ∃ h : t.val + 1 < 320,
    (cb (grid0.coords ⟨t.val + 1, h⟩)).val * 4 + qN (pj ⟨t.val + 1, h⟩) ≠ (cb (grid0.coords t)).val * 4 + qN (pj t) ∨ ch (grid0.coords ⟨t.val + 1, h⟩) ≠ ch (grid0.coords t) := by
  decide +kernel

theorem flush_on (t : Fin grid0.N) (h : qN (pj t) = kN (pj t)) : ((cfg (F := F)).win 5).flush t = true := by
  unfold Window.flush
  rcases next_diff t h with h1 | ⟨h1, h2⟩
  · have h3 : t.val + 1 = (cfg (F := F)).grid.N := h1
    rw [decide_eq_true h3]; rfl
  · have e : ((cfg (F := F)).win 5).index ⟨t.val + 1, h1⟩ ≠ ((cfg (F := F)).win 5).index t := fun e => by
      rw [oix, oix] at e
      rcases h2 with h2 | h2
      · exact h2 ((ix_o0 _).symm.trans ((congrFun e 0).trans (ix_o0 _)))
      · exact h2 (Fin.ext ((ix_o1 _).symm.trans ((congrFun e 1).trans (ix_o1 _))))
    have h3 : (∃ h : t.val + 1 < (cfg (F := F)).grid.N, ((cfg (F := F)).win 5).index ⟨t.val + 1, h⟩ ≠ ((cfg (F := F)).win 5).index t) := ⟨h1, e⟩
    rw [decide_eq_true h3, Bool.or_true]; rfl

theorem Φ_cast (c : Dev nD) (t : Fin (cfg (F := F)).N) : (dats W 0 c).Φ t.castSucc = Φc W c t.val := by dsimp only [dats, Fin.val_castSucc]
theorem Φ_succ (c : Dev nD) (t : Fin (cfg (F := F)).N) : (dats W 0 c).Φ t.succ = Φc W c (t.val + 1) := by dsimp only [dats, Fin.val_succ]
theorem owed_eq (c : Dev nD) (t) : (dats W 0 c).owed t = 0 := by dsimp only [dats]

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem open0 (c : Dev nD) (t : Fin (cfg (F := F)).N) (X : S1024x128.Idx → Elt F .f32) :
    (owns (c : Thread nD τ) (((cfg (F := F)).win (0 : Fin 6)).stage ((cfg (F := F)).slots t (0 : Fin 6))) fullShare X : sProp 𝕄)
      = iprop(∃ f, ⌜(spec0_0.stage ((cfg (F := F)).slots t 0)).view.read (Elt F) f = X⌝ ∗ pt c (spec0_0.stage ((cfg (F := F)).slots t 0)) f) :=
  owns_pt c (spec0_0.stage ((cfg (F := F)).slots t 0)) (hstage0_0 (((cfg (F := F)).slots t 0).cast nbuf0_0)) X
theorem open1 (c : Dev nD) (t : Fin (cfg (F := F)).N) (X : S1024x128.Idx → Elt F .f32) :
    (owns (c : Thread nD τ) (((cfg (F := F)).win (1 : Fin 6)).stage ((cfg (F := F)).slots t (1 : Fin 6))) fullShare X : sProp 𝕄)
      = iprop(∃ f, ⌜(spec0_1.stage ((cfg (F := F)).slots t 1)).view.read (Elt F) f = X⌝ ∗ pt c (spec0_1.stage ((cfg (F := F)).slots t 1)) f) :=
  owns_pt c (spec0_1.stage ((cfg (F := F)).slots t 1)) (hstage0_1 (((cfg (F := F)).slots t 1).cast nbuf0_1)) X
theorem open2 (c : Dev nD) (t : Fin (cfg (F := F)).N) (X : S1024x128.Idx → Elt F .f32) :
    (owns (c : Thread nD τ) (((cfg (F := F)).win (2 : Fin 6)).stage ((cfg (F := F)).slots t (2 : Fin 6))) fullShare X : sProp 𝕄)
      = iprop(∃ f, ⌜(spec0_2.stage ((cfg (F := F)).slots t 2)).view.read (Elt F) f = X⌝ ∗ pt c (spec0_2.stage ((cfg (F := F)).slots t 2)) f) :=
  owns_pt c (spec0_2.stage ((cfg (F := F)).slots t 2)) (hstage0_2 (((cfg (F := F)).slots t 2).cast nbuf0_2)) X
theorem open3 (c : Dev nD) (t : Fin (cfg (F := F)).N) (X : S1x1x1024x1.Idx → Elt F .f32) :
    (owns (c : Thread nD τ) (((cfg (F := F)).win (3 : Fin 6)).stage ((cfg (F := F)).slots t (3 : Fin 6))) fullShare X : sProp 𝕄)
      = iprop(∃ f, ⌜(spec0_3.stage ((cfg (F := F)).slots t 3)).view.read (Elt F) f = X⌝ ∗ pt c (spec0_3.stage ((cfg (F := F)).slots t 3)) f) :=
  owns_pt c (spec0_3.stage ((cfg (F := F)).slots t 3)) (hstage0_3 (((cfg (F := F)).slots t 3).cast nbuf0_3)) X
theorem open4 (c : Dev nD) (t : Fin (cfg (F := F)).N) (X : S1x1x1x1024.Idx → Elt F .f32) :
    (owns (c : Thread nD τ) (((cfg (F := F)).win (4 : Fin 6)).stage ((cfg (F := F)).slots t (4 : Fin 6))) fullShare X : sProp 𝕄)
      = iprop(∃ f, ⌜(spec0_4.stage ((cfg (F := F)).slots t 4)).view.read (Elt F) f = X⌝ ∗ pt c (spec0_4.stage ((cfg (F := F)).slots t 4)) f) :=
  owns_pt c (spec0_4.stage ((cfg (F := F)).slots t 4)) (hstage0_4 (((cfg (F := F)).slots t 4).cast nbuf0_4)) X
theorem open5 (c : Dev nD) (t : Fin (cfg (F := F)).N) (X : S1024x128.Idx → Elt F .f32) :
    (owns (c : Thread nD τ) (((cfg (F := F)).win (5 : Fin 6)).stage ((cfg (F := F)).slots t (5 : Fin 6))) fullShare X : sProp 𝕄)
      = iprop(∃ f, ⌜(spec0_5.stage ((cfg (F := F)).slots t 5)).view.read (Elt F) f = X⌝ ∗ pt c (spec0_5.stage ((cfg (F := F)).slots t 5)) f) :=
  owns_pt c (spec0_5.stage ((cfg (F := F)).slots t 5)) (hstage0_5 (((cfg (F := F)).slots t 5).cast nbuf0_5)) X

set_option maxHeartbeats 2000000 in
set_option backward.isDefEq.respectTransparency.types false in
/-- The kernel's arguments are what the pipeline hands it; one step of the recursion on the state. -/
theorem body_obligation (c : Dev nD) : BodyObligation (dats W 0 c) (defs₀ (F := F)) Variants.none () Set.univ := fun t => by
  rw [bigSep_W0, bigSep_W0]
  rw [Φ_cast, Φ_succ]
  unfold Φc Dat.owesAt Pipeline.owesWithin held; rw [tbl_eq]
  rw [owed_eq, owed_eq]
  iintro ⟨⟨⟨%s, %hs, ⟨%f11, %h11, H11⟩, ⟨%f12, %h12, H12⟩, ⟨%f13, %h13, H13⟩⟩, T3, T4⟩, ⟨%Wd, %hW, HO⟩, ⟨%d0, H5⟩, ⟨%d1, H6⟩, ⟨%d2, H7⟩, ⟨%d3, H8⟩, ⟨%d4, H9⟩, ⟨%d5, H10⟩⟩
  ihave H5' := (Entails.of_eq (open0 c t ((dats W 0 c).before (0 : Fin 6) t d0))) $$ H5
  icases H5' with ⟨%f5, %h5, H5⟩
  ihave H6' := (Entails.of_eq (open1 c t ((dats W 0 c).before (1 : Fin 6) t d1))) $$ H6
  icases H6' with ⟨%f6, %h6, H6⟩
  ihave H7' := (Entails.of_eq (open2 c t ((dats W 0 c).before (2 : Fin 6) t d2))) $$ H7
  icases H7' with ⟨%f7, %h7, H7⟩
  ihave H8' := (Entails.of_eq (open3 c t ((dats W 0 c).before (3 : Fin 6) t d3))) $$ H8
  icases H8' with ⟨%f8, %h8, H8⟩
  ihave H9' := (Entails.of_eq (open4 c t ((dats W 0 c).before (4 : Fin 6) t d4))) $$ H9
  icases H9' with ⟨%f9, %h9, H9⟩
  ihave H10' := (Entails.of_eq (open5 c t ((dats W 0 c).before (5 : Fin 6) t d5))) $$ H10
  icases H10' with ⟨%f10, %h10, H10⟩
  rw [before0] at h5; rw [before1] at h6; rw [before2] at h7; rw [before3] at h8; rw [before4] at h9
  have hst : s.step (lit0 (pj t)) (lit1 (pj t)) (qB W c t) (kB W c t) (gB W c t) (fB W c t) (vB W c t) = stAt W c (t.val + 1) := by
    rw [stAt_succ]
    rcases hs with h0 | rfl
    · exact step_first ((first_iff _).2 (by have := (coords_facts t).2.2; rw [h0] at this; rw [show pj t = 0 from Fin.ext this]; rfl)) _ _ _ _ _ _ _
    · rfl
  iapply (kernelRun c (grid0.coords t) (Memref.whole main_c) (Memref.whole main_c_0) (Memref.isWhole_whole _) (Memref.isWhole_whole _)
    (spec0_0.stage ((cfg (F := F)).slots t 0)) (spec0_1.stage ((cfg (F := F)).slots t 1)) (spec0_2.stage ((cfg (F := F)).slots t 2)) (hstage0_0 (((cfg (F := F)).slots t 0).cast nbuf0_0)) (hstage0_1 (((cfg (F := F)).slots t 1).cast nbuf0_1)) (hstage0_2 (((cfg (F := F)).slots t 2).cast nbuf0_2))
    (spec0_3.stage ((cfg (F := F)).slots t 3)) (hstage0_3 (((cfg (F := F)).slots t 3).cast nbuf0_3)) (spec0_4.stage ((cfg (F := F)).slots t 4)) (hstage0_4 (((cfg (F := F)).slots t 4).cast nbuf0_4)) (spec0_5.stage ((cfg (F := F)).slots t 5)) (hstage0_5 (((cfg (F := F)).slots t 5).cast nbuf0_5))
    (Memref.whole cc0_scratch0) (Memref.whole cc0_scratch1) (Memref.isWhole_whole _) (Memref.isWhole_whole _) (Memref.whole cc0_scratch2) (Memref.isWhole_whole _)
    (tabs (F := F) 0) (tabs (F := F) 1) f5 f6 f7 f8 f9 f10 f11 f12 f13 (lit0 (pj t)) (lit1 (pj t)) (word_eq0 c _) (word_eq1 c _) s h11 h12 h13)
  isplitl [T3]; · iexact T3
  isplitl [T4]; · iexact T4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  rw [h5, h6, h7, h8, h9, hst]
  iintro ⟨T3, T4, H5, H6, H7, H8, H9, ⟨%g10, %e10, H10⟩, ⟨%g11, %e11, H11⟩, ⟨%g12, %e12, H12⟩, ⟨%g13, %e13, H13⟩⟩
  isplitl [T3 T4 H11 H12 H13]
  · isplitr [T3 T4]
    · iexists stAt W c (t.val + 1)
      isplitr; · ipureintro; exact Or.inr rfl
      isplitl [H11]; · iexists g11; isplitr; · ipureintro; exact e11
                       iexact H11
      isplitl [H12]; · iexists g12; isplitr; · ipureintro; exact e12
                       iexact H12
      iexists g13; isplitr; · ipureintro; exact e13
      iexact H13
    · isplitl [T3] <;> iassumption
  isplitl [HO]
  · iexists Wd; isplitr; · ipureintro; exact fun _ _ => Or.inl trivial
    iexact HO
  isplitl [H5]
  · iapply (Entails.of_eq (open0 c t (qB W c t)).symm)
    iexists f5; isplitr; · ipureintro; exact h5
    iexact H5
  isplitl [H6]
  · iapply (Entails.of_eq (open1 c t (kB W c t)).symm)
    iexists f6; isplitr; · ipureintro; exact h6
    iexact H6
  isplitl [H7]
  · iapply (Entails.of_eq (open2 c t (vB W c t)).symm)
    iexists f7; isplitr; · ipureintro; exact h7
    iexact H7
  isplitl [H8]
  · iapply (Entails.of_eq (open3 c t (gB W c t)).symm)
    iexists f8; isplitr; · ipureintro; exact h8
    iexact H8
  isplitl [H9]
  · iapply (Entails.of_eq (open4 c t (fB W c t)).symm)
    iexists f9; isplitr; · ipureintro; exact h9
    iexact H9
  by_cases hd : qN (pj t) = kN (pj t)
  · have hi : (cfg (F := F)).idle (5 : Fin 6) (grid0.coords t) = false := by
      rw [idle5, show k0_cond3 (lit0 (pj t)) (lit1 (pj t)) = 1#1 from (diag_iff _).2 hd]; rfl
    rw [hi]
    iapply (Entails.of_eq (open5 c t (k0_pay11 (stAt W c (t.val + 1)).acc (stAt W c (t.val + 1)).l)).symm)
    iexists g10; isplitr; · ipureintro; rw [e10, outAt, if_pos ((diag_iff _).2 hd)]
    iexact H10
  · have hi : (cfg (F := F)).idle (5 : Fin 6) (grid0.coords t) = true := by
      rw [idle5]
      have h1 : ¬ k0_cond3 (lit0 (pj t)) (lit1 (pj t)) = 1#1 := fun h => hd ((diag_iff _).1 h)
      rw [beq_eq_false_iff_ne.2 h1]; rfl
    have hf : ((cfg (F := F)).win (5 : Fin 6)).flush t = false := flush_off t hd
    rw [hi, hf]
    iexists d5
    iapply (Entails.of_eq (open5 c t ((dats W 0 c).before (5 : Fin 6) t d5)).symm)
    iexists g10; isplitr; · ipureintro; rw [e10, outAt, if_neg (fun h => hd ((diag_iff _).1 h))]; exact h10
    iexact H10

end Cert.Proof.Fox
-- ==== Proof.FoxState.lean ====
/-
  The kept state after each grid point, on one row: the running softmax of the row's scores.
-/
module

public import Idealize.ShloMosaic.Lib.Pipeline.ValueKit
public import proofs.«01_k».proof.Proof.FoxPay
public import proofs.«01_k».proof.Proof.FoxRun

@[expose] public section

noncomputable section

namespace Cert.Proof.Fox

open Idealize.ShloMosaic Idealize.ShloMosaic.Pipeline Cert.Proof.Online Cert.KernelFIdeal Cert.KernelFIdeal.Gen

variable (W : Dev nD → Valuation τ sig (Elt Ideal)) (c : Dev nD)

/-! ### The blocks a point reads, as entries of the projections and of the gates -/

/-- The array that holds queries, keys and values. -/
abbrev X : Mat 8192 5376 := arr W c 0

/-- The two layouts of the gates hold the gates `f`. -/
structure Gates (f : Mat 8192 128) : Prop where
  rows : ∀ (b : Fin 2) (h : Fin 16) (t : Fin 4096), (arr W c 3 : S2x16x4096x1.Idx → EReal) (ix4 b h t 0) = rd f (b.val * 4096 + t.val) h.val
  cols : ∀ (b : Fin 2) (h : Fin 16) (t : Fin 4096), (arr W c 4 : S2x16x1x4096.Idx → EReal) (ix4 b h 0 t) = rd f (b.val * 4096 + t.val) h.val

variable {f : Mat 8192 128} (G : Gates W c f)

theorem qB_apply (t : Fin grid0.N) (i : Fin 1024) (d : Fin 128) :
    qB W c t (ix2 i d) = rd (X W c) ((cb (grid0.coords t)).val * 4096 + (qN (pj t) * 1024 + i.val)) ((16 + (ch (grid0.coords t)).val) * 128 + d.val) := by
  have h := qN_lt (pj t)
  have hh := (ch (grid0.coords t)).isLt
  have hb := (cb (grid0.coords t)).isLt
  rw [rd_of _ (by omega) (by omega), qB, View.read_apply]
  refine congrArg (arr W c 0) (funext fun a => Fin.ext ?_)
  match a with
  | 0 =>
    show cc0_transform_0 Facts₀.k0_off1_inb Facts₀.numel1_S1 (tabs (F := Ideal)) (grid0.coords t) 0 * 1024 + 1 * i.val = _
    rw [ix_q0]
    show ((cb (grid0.coords t)).val * 4 + qN (pj t)) * 1024 + 1 * i.val = (cb (grid0.coords t)).val * 4096 + (qN (pj t) * 1024 + i.val)
    omega
  | 1 =>
    show cc0_transform_0 Facts₀.k0_off1_inb Facts₀.numel1_S1 (tabs (F := Ideal)) (grid0.coords t) 1 * 128 + 1 * d.val = _
    rw [ix_q1, Nat.one_mul]
    rfl

theorem kB_apply (t : Fin grid0.N) (i : Fin 1024) (d : Fin 128) :
    kB W c t (ix2 i d) = rd (X W c) ((cb (grid0.coords t)).val * 4096 + (kN (pj t) * 1024 + i.val)) ((32 + (ch (grid0.coords t)).val / 4) * 128 + d.val) := by
  have h := kN_lt (pj t)
  have hh := (ch (grid0.coords t)).isLt
  have hb := (cb (grid0.coords t)).isLt
  rw [rd_of _ (by omega) (by omega), kB, View.read_apply]
  refine congrArg (arr W c 0) (funext fun a => Fin.ext ?_)
  match a with
  | 0 =>
    show cc0_transform_1 Facts₀.k0_off1_inb Facts₀.numel1_S1 (tabs (F := Ideal)) (grid0.coords t) 0 * 1024 + 1 * i.val = _
    rw [ix_k0]
    show ((cb (grid0.coords t)).val * 4 + kN (pj t)) * 1024 + 1 * i.val = (cb (grid0.coords t)).val * 4096 + (kN (pj t) * 1024 + i.val)
    omega
  | 1 =>
    show cc0_transform_1 Facts₀.k0_off1_inb Facts₀.numel1_S1 (tabs (F := Ideal)) (grid0.coords t) 1 * 128 + 1 * d.val = _
    rw [ix_k1, Nat.one_mul]
    rfl

theorem vB_apply (t : Fin grid0.N) (i : Fin 1024) (d : Fin 128) :
    vB W c t (ix2 i d) = vl (X W c) (cb (grid0.coords t)).val (ch (grid0.coords t)).val d.val (kN (pj t) * 1024 + i.val) := by
  have h := kN_lt (pj t)
  have hh := (ch (grid0.coords t)).isLt
  have hb := (cb (grid0.coords t)).isLt
  rw [vl, rd_of _ (by omega) (by omega), vB, View.read_apply]
  refine congrArg (arr W c 0) (funext fun a => Fin.ext ?_)
  match a with
  | 0 =>
    show cc0_transform_2 Facts₀.k0_off1_inb Facts₀.numel1_S1 (tabs (F := Ideal)) (grid0.coords t) 0 * 1024 + 1 * i.val = _
    rw [ix_v0]
    show ((cb (grid0.coords t)).val * 4 + kN (pj t)) * 1024 + 1 * i.val = (cb (grid0.coords t)).val * 4096 + (kN (pj t) * 1024 + i.val)
    omega
  | 1 =>
    show cc0_transform_2 Facts₀.k0_off1_inb Facts₀.numel1_S1 (tabs (F := Ideal)) (grid0.coords t) 1 * 128 + 1 * d.val = _
    rw [ix_v1, Nat.one_mul]
    rfl

include G

theorem gB_apply (t : Fin grid0.N) (i : Fin 1024) :
    gB W c t (ix4 0 0 i 0) = rd f ((cb (grid0.coords t)).val * 4096 + (qN (pj t) * 1024 + i.val)) (ch (grid0.coords t)).val := by
  have h := qN_lt (pj t)
  refine Eq.trans ?_ (G.rows (cb (grid0.coords t)) (ch (grid0.coords t)) ⟨qN (pj t) * 1024 + i.val, by omega⟩)
  rw [gB, View.read_apply]
  refine congrArg (arr W c 3) (funext fun a => Fin.ext ?_)
  match a with
  | 0 =>
    show cc0_transform_3 Facts₀.k0_off1_inb Facts₀.numel1_S1 (tabs (F := Ideal)) (grid0.coords t) 0 * 1 + 1 * 0 = _
    rw [ix_f0]; exact Nat.mul_one _
  | 1 =>
    show cc0_transform_3 Facts₀.k0_off1_inb Facts₀.numel1_S1 (tabs (F := Ideal)) (grid0.coords t) 1 * 1 + 1 * 0 = _
    rw [ix_f1]; exact Nat.mul_one _
  | 2 =>
    show cc0_transform_3 Facts₀.k0_off1_inb Facts₀.numel1_S1 (tabs (F := Ideal)) (grid0.coords t) 2 * 1024 + 1 * i.val = _
    rw [ix_f2, Nat.one_mul]
    rfl
  | 3 => rfl

theorem fB_apply (t : Fin grid0.N) (i : Fin 1024) :
    fB W c t (ix4 0 0 0 i) = rd f ((cb (grid0.coords t)).val * 4096 + (kN (pj t) * 1024 + i.val)) (ch (grid0.coords t)).val := by
  have h := kN_lt (pj t)
  refine Eq.trans ?_ (G.cols (cb (grid0.coords t)) (ch (grid0.coords t)) ⟨kN (pj t) * 1024 + i.val, by omega⟩)
  rw [fB, View.read_apply]
  refine congrArg (arr W c 4) (funext fun a => Fin.ext ?_)
  match a with
  | 0 =>
    show cc0_transform_4 Facts₀.k0_off1_inb Facts₀.numel1_S1 (tabs (F := Ideal)) (grid0.coords t) 0 * 1 + 1 * 0 = _
    rw [ix_g0]; exact Nat.mul_one _
  | 1 =>
    show cc0_transform_4 Facts₀.k0_off1_inb Facts₀.numel1_S1 (tabs (F := Ideal)) (grid0.coords t) 1 * 1 + 1 * 0 = _
    rw [ix_g1]; exact Nat.mul_one _
  | 2 => rfl
  | 3 =>
    show cc0_transform_4 Facts₀.k0_off1_inb Facts₀.numel1_S1 (tabs (F := Ideal)) (grid0.coords t) 3 * 1024 + 1 * i.val = _
    rw [ix_g3, Nat.one_mul]
    rfl

omit G

/-! ### The state on one row -/

/-- The scores of row `i` of the query block of point `t`. -/
abbrev rowS (f : Mat 8192 128) (t : Fin grid0.N) (i : Fin 1024) : ℕ → EReal :=
  sc (X W c) f (cb (grid0.coords t)).val (ch (grid0.coords t)).val (qN (pj t) * 1024 + i.val)

/-- The values of point `t`'s head. -/
abbrev rowV (t : Fin grid0.N) : ℕ → ℕ → EReal :=
  fun e => vl (X W c) (cb (grid0.coords t)).val (ch (grid0.coords t)).val e

theorem k_le_q : ∀ j : Fin 10, kN j ≤ qN j := by decide

/-- A point that does not start a query block continues the point before it. -/
theorem prev_point : ∀ t : Fin 320, kN (pj t) ≠ 0 → ∃ t' : Fin 320, t'.val + 1 = t.val
    ∧ cb (grid0.coords t') = cb (grid0.coords t) ∧ ch (grid0.coords t') = ch (grid0.coords t)
    ∧ qN (pj t') = qN (pj t) ∧ kN (pj t') + 1 = kN (pj t) := by
  intro t h
  have hs : ∀ t : Fin 320, kN (pj t) ≠ 0 → 0 < t.val ∧ ∀ h : t.val - 1 < 320,
      cb (grid0.coords ⟨t.val - 1, h⟩) = cb (grid0.coords t) ∧ ch (grid0.coords ⟨t.val - 1, h⟩) = ch (grid0.coords t)
      ∧ qN (pj ⟨t.val - 1, h⟩) = qN (pj t) ∧ kN (pj ⟨t.val - 1, h⟩) + 1 = kN (pj t) := by
    decide +kernel
  obtain ⟨h0, h1⟩ := hs t h
  exact ⟨⟨t.val - 1, by omega⟩, by show t.val - 1 + 1 = t.val; omega, h1 (by omega)⟩

include G

/-- The product of two blocks, with the gates, is the scores of the pair, when no key of the block comes after the query. -/
theorem score_full (t : Fin grid0.N) (i j : Fin 1024) (h : kN (pj t) * 1024 + j.val ≤ qN (pj t) * 1024 + i.val) :
    k0_pay4 (F := Ideal) (qB W c t) (kB W c t) (gB W c t) (fB W c t) (ix2 i j) = rowS W c f t i (kN (pj t) * 1024 + j.val) := by
  rw [score_apply, rowS, sc, if_pos h, raw, gB_apply W c G, fB_apply W c G]
  simp only [qB_apply, kB_apply]

theorem score_diag (t : Fin grid0.N) (i j : Fin 1024) (h : qN (pj t) = kN (pj t)) :
    k0_pay12 (F := Ideal) (k0_pay4 (F := Ideal) (qB W c t) (kB W c t) (gB W c t) (fB W c t)) (ix2 i j) = rowS W c f t i (kN (pj t) * 1024 + j.val) := by
  rw [masked_apply]
  by_cases hj : j.val ≤ i.val
  · rw [if_pos hj, score_full W c G t i j (by omega)]
  · rw [if_neg hj, rowS, sc, if_neg (by omega)]

/-- One point takes its block of keys. -/
theorem row_step (t : Fin grid0.N) (i : Fin 1024) (st : St Ideal)
    (h : kN (pj t) = 0 ∨ Row st i (rowS W c f t i) (rowV W c t) (kN (pj t) * 1024)) :
    Row (st.step (lit0 (pj t)) (lit1 (pj t)) (qB W c t) (kB W c t) (gB W c t) (fB W c t) (vB W c t)) i (rowS W c f t i) (rowV W c t)
      (kN (pj t) * 1024 + 1024) := by
  have h' : Row (if isFirst (lit1 (pj t)) then St.zero else st) i (rowS W c f t i) (rowV W c t) (kN (pj t) * 1024) := by
    split
    · rename_i hf
      rw [(first_iff _).mp hf]
      exact row_zero i _ _
    · rename_i hf
      exact h.resolve_left fun h0 => hf ((first_iff _).mpr h0)
  unfold St.step
  rcases Nat.lt_or_eq_of_le (k_le_q (pj t)) with hk | hk
  · have h1 : isBelow (lit0 (pj t)) (lit1 (pj t)) := (below_iff _).mpr hk
    have h2 : ¬ isDiag (lit0 (pj t)) (lit1 (pj t)) := fun hd => by have := (diag_iff _).mp hd; omega
    simp only [if_pos h1, if_neg h2]
    refine row_full _ _ _ _ _ h' (fun j => score_full W c G t i j ?_) fun j d => vB_apply W c t j d
    omega
  · have h1 : ¬ isBelow (lit0 (pj t)) (lit1 (pj t)) := fun hd => by have := (below_iff _).mp hd; omega
    have h2 : isDiag (lit0 (pj t)) (lit1 (pj t)) := (diag_iff _).mpr hk.symm
    simp only [if_neg h1, if_pos h2]
    exact row_diag _ _ _ _ _ h' (fun j => score_diag W c G t i j hk.symm) fun j d => vB_apply W c t j d

/-- After point `t` each row holds the running softmax of its keys up to the end of the point's key block. -/
theorem row_at : ∀ (n : ℕ) (t : Fin grid0.N), t.val = n → ∀ i : Fin 1024,
    Row (stAt W c (t.val + 1)) i (rowS W c f t i) (rowV W c t) (kN (pj t) * 1024 + 1024) := by
  intro n
  induction n with
  | zero =>
    intro t ht i
    rw [stAt_succ]
    refine row_step W c G t i _ (.inl ?_)
    by_contra h0
    obtain ⟨t', h, -⟩ := prev_point t h0
    omega
  | succ n ih =>
    intro t ht i
    rw [stAt_succ]
    refine row_step W c G t i _ ?_
    by_cases h0 : kN (pj t) = 0
    · exact .inl h0
    · obtain ⟨t', hv, hb, hh, hq, hk⟩ := prev_point t h0
      have := ih t' (by omega) i
      rw [hv] at this
      refine .inr ?_
      have e : kN (pj t) * 1024 = kN (pj t') * 1024 + 1024 := by omega
      have eS : rowS W c f t i = rowS W c f t' i := by unfold rowS; rw [hb, hh, hq]
      have eV : rowV W c t = rowV W c t' := by unfold rowV; rw [hb, hh]
      rw [e, eS, eV]
      exact this

/-- What a point on the diagonal writes back: the attention of its block. -/
theorem written (t : Fin grid0.N) (h : qN (pj t) = kN (pj t)) (i : Fin 1024) (d : Fin 128) :
    k0_pay11 (F := Ideal) (stAt W c (t.val + 1)).acc (stAt W c (t.val + 1)).l (ix2 i d)
      = att (X W c) f ((cb (grid0.coords t)).val * 4096 + (qN (pj t) * 1024 + i.val))
          ((ch (grid0.coords t)).val * 128 + d.val) := by
  have hr := row_at W c G t.val t rfl i
  have hq := qN_lt (pj t)
  have hS : ∀ j, kN (pj t) * 1024 + 1024 ≤ j → rowS W c f t i j = ⊥ := fun j hj => by
    rw [rowS, sc, if_neg (by omega)]
  rw [out_apply, hr.l, hr.acc, att]
  have e1 : ((cb (grid0.coords t)).val * 4096 + (qN (pj t) * 1024 + i.val)) / 4096 = (cb (grid0.coords t)).val := by omega
  have e2 : ((cb (grid0.coords t)).val * 4096 + (qN (pj t) * 1024 + i.val)) % 4096 = qN (pj t) * 1024 + i.val := by omega
  have e3 : ((ch (grid0.coords t)).val * 128 + d.val) / 128 = (ch (grid0.coords t)).val := by omega
  have e4 : ((ch (grid0.coords t)).val * 128 + d.val) % 128 = d.val := by omega
  rw [e1, e2, e3, e4, num_pad _ _ (n := kN (pj t) * 1024 + 1024) (N := 4096) (by omega) hS, den_pad _ (n := kN (pj t) * 1024 + 1024) (N := 4096) (by omega) hS]

end Cert.Proof.Fox

end
-- ==== Proof.FoxLaunched.lean ====
module

public import proofs.«01_k».proof.Proof.FoxRun
public import Idealize.ShloMosaic.Lib.Pipeline.FrameSuffix

/-!
# The launch of the forgetting attention call

The program is one host stretch (the two tables and the gates in two layouts) and one region. Three windows of the
region read one array, each at its share of it. Every run of it ends with every unscoped buffer at
what the region leaves and every semaphore counter at zero.
-/

@[expose] public section

noncomputable section

namespace Cert.Proof.Fox

open Cert.KernelFIdeal Cert.KernelFIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F]

local notation "𝕄" => MT nD τ sig Unit (Elt F) ℕ (UU nD τ) ℕ

/-- The pipeline library's algebra is the left component of ours. -/
abbrev EP : Emb (UR sig nD τ) (MT nD τ sig Unit (Elt F) ℕ (UU nD τ) ℕ) := embL

variable (m : (ℓ : Loc nD τ sig) → Buf (Elt F) ℓ) (ρ : Dev nD → PrngReg)

/-- Core `c`'s buffers at launch, and when the region is entered. -/
abbrev V₀ (c : Dev nD) : Valuation τ sig (Elt F) := fun b => (s₀ m ρ).mem ((c : Dev nD), b)
def V (c : Dev nD) : Valuation τ sig (Elt F) := StableHlo.after hostOps0 (V₀ m ρ c)

/-- The two arguments are not written by the host stretch. -/
theorem V_arg0 (c : Dev nD) : V m ρ c (Proc.devRef .tc main_arg0) = m ((c : Thread nD τ).loc main_arg0) := by
  show StableHlo.after hostOps0 (V₀ m ρ c) (Proc.devRef .tc main_arg0) = _
  after_results <;> rfl
theorem V_arg1 (c : Dev nD) : V m ρ c (Proc.devRef .tc main_arg1) = m ((c : Thread nD τ).loc main_arg1) := by
  show StableHlo.after hostOps0 (V₀ m ρ c) (Proc.devRef .tc main_arg1) = _
  after_results <;> rfl

theorem V_tab0 (c : Dev nD) : V m ρ c (Proc.devRef .tc main_c) = fun i => lit0 (S10.rowMajor i) := by
  show StableHlo.after hostOps0 (V₀ m ρ c) (Proc.devRef .tc main_c) = _
  after_results <;> rfl
theorem V_tab1 (c : Dev nD) : V m ρ c (Proc.devRef .tc main_c_0) = fun i => lit1 (S10.rowMajor i) := by
  show StableHlo.after hostOps0 (V₀ m ρ c) (Proc.devRef .tc main_c_0) = _
  after_results <;> rfl

theorem V_tab (c : Dev nD) : ∀ k, (tabs (F := F)) k = V m ρ c (Proc.devRef .tc (pre0.ref k)) := fun
  | ⟨0, _⟩ => (V_tab0 m ρ c).symm
  | ⟨1, _⟩ => (V_tab1 m ρ c).symm

/-- Levels: one at every cell of the TensorCores. -/
abbrev L : GSem nD τ sig → Finset Unit := fun g => if g.1.2 = .tc then {()} else ∅
abbrev lv : GSem nD τ sig → Unit → ℕ := fun _ _ => 0

/-- What rides beside the buffers: what the core owes, nothing. -/
abbrev R (c : Dev nD) : sProp 𝕄 := iprop(∃ W, owes (c : Thread nD τ) (0 : CellTallies nD τ sig Unit) W)

/-- The host stretch. -/
def seg0 : Pipeline.HostSeg (Name := ℕ) (U := UU nD τ) (pcfgs (F := F)) defs₀ Variants.none L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m ρ) R

theorem hin (W : Dev nD → Valuation τ sig (Elt F)) (c : Dev nD) :
    (iprop(iprop(Pipeline.scopedRest spec0 c ∗ emp) ∗ tbl c) : sProp 𝕄) ⊢ Φc W c 0 := by
  unfold Φc held; rw [scopedRest0_eq]
  iintro ⟨⟨⟨⟨%f9, H9⟩, ⟨%f10, H10⟩, ⟨%f11, H11⟩⟩, -⟩, HT⟩
  isplitr [HT]
  · iexists ⟨(Memref.whole cc0_scratch0).view.read (Elt F) f9, (Memref.whole cc0_scratch1).view.read (Elt F) f10, (Memref.whole cc0_scratch2).view.read (Elt F) f11⟩
    isplitr; · ipureintro; exact Or.inl rfl
    isplitl [H9]; · iexists f9; isplitr; · ipureintro; rfl
                    iexact H9
    isplitl [H10]; · iexists f10; isplitr; · ipureintro; rfl
                     iexact H10
    iexists f11; isplitr; · ipureintro; rfl
    iexact H11
  · iexact HT

theorem hout (W : Dev nD → Valuation τ sig (Elt F)) (c : Dev nD) (n : ℕ) :
    Φc W c n ⊢ (iprop(iprop(Pipeline.scopedRest spec0 c ∗ emp) ∗ tbl c) : sProp 𝕄) := by
  unfold Φc held; rw [scopedRest0_eq]
  iintro ⟨⟨%s, -, ⟨%f9, -, H9⟩, ⟨%f10, -, H10⟩, ⟨%f11, -, H11⟩⟩, HT⟩
  isplitr [HT]
  · isplitl
    · isplitl [H9]; · iexists f9; iexact H9
      isplitl [H10]; · iexists f10; iexact H10
      iexists f11; iexact H11
    · iempintro
  · iexact HT

theorem hcut : Pipeline.LevelCut (pcfgs (F := F)) adm () L lv 0 (fun _ => 0) (fun _ => 0) where
  hι c w s := by show () ∈ L ((c : Thread nD τ), _); exact Finset.mem_singleton_self _
  hιb _ _ _ := le_refl _
  hD _ _ _ h := absurd h (Nat.lt_irrefl 0)

/-- What rides beside the region: the unscoped buffers that are neither an array nor a table. -/
abbrev rest (c : Dev nD) : sProp 𝕄 :=
  StableHlo.held (c : Thread nD τ) ((ucRefs τ sig \ Pipeline.arrRefs spec0) \ Pipeline.tblRefs pre0) (V m ρ c)

set_option backward.isDefEq.respectTransparency.types false in
/-- The region. -/
def reg0 : Pipeline.RegionSeg (pcfgs (F := F)) adm (dats (V m ρ)) () defs₀ Variants.none L lv 0 :=
  Pipeline.RegionSeg.ofArraysT (pcfgs (F := F)) adm (dats (V m ρ)) () defs₀ Variants.none L lv 0 (fun _ => 0)
    (fun _ => iprop(emp)) (fun _ => iprop(emp)) launch₀0 (fun c => (body_obligation (V m ρ) c).loose)
    (fun _ _ => rfl) (fun _ => rfl) (fun c => hin (V m ρ) c) (fun c => hout (V m ρ) c _)
    (fun _ => 0) hcut (rest m ρ)

/-- The unscoped buffers after the region. -/
def final (c : Dev nD) : Valuation τ sig (Elt F) :=
  Pipeline.withArrays spec0 c (V m ρ c) (fun w => (dats (V m ρ) 0 c).arrAt w (cfg (F := F)).N)

theorem hS : Pipeline.arrRefs (τ := τ) spec0 ⊆ ucRefs τ sig := Pipeline.arrRefs_sub_ucRefs spec0 (by decide)
theorem hS' : Pipeline.tblRefs (τ := τ) pre0 ⊆ ucRefs τ sig := Pipeline.tblRefs_sub_ucRefs pre0 (by decide)

/-- The buffers behind the windows' arrays. -/
theorem held_arrs (c : Dev nD) (U : Valuation τ sig (Elt F)) :
    (StableHlo.held (c : Thread nD τ) (Pipeline.arrRefs spec0) U : sProp 𝕄) = Pipeline.arrBufs spec0 c (fun b => U (Proc.devRef .tc b)) := by
  unfold StableHlo.held Pipeline.arrRefs Pipeline.arrBufs
  rw [bigSep_map]; rfl

theorem final_arr (c : Dev nD) (w : Fin 6) :
    final m ρ c (Proc.devRef .tc (Pipeline.arrRef spec0 w)) = (dats (V m ρ) 0 c).arrAt w (cfg (F := F)).N :=
  (dats (V m ρ) 0 c).withArrays_arrAt sharedIn0 (V m ρ c) (fun w => A_eq (V m ρ) c w) w

/-- Off the arrays the region changes nothing. -/
theorem final_off (c : Dev nD) (b : DevRef τ sig) (hb : b ∉ Pipeline.arrRefs (τ := τ) spec0) : final m ρ c b = V m ρ c b := by
  unfold final Pipeline.withArrays
  refine dif_neg ?_
  rintro ⟨w, rfl⟩
  exact hb (Finset.mem_map_of_mem _ (Finset.mem_image_of_mem _ (Finset.mem_univ w)))

/-- The unscoped buffers are the arrays, the tables and the rest. -/
theorem held_split (c : Dev nD) (U : Valuation τ sig (Elt F)) : (StableHlo.held (c : Thread nD τ) (ucRefs τ sig) U : sProp 𝕄)
    = iprop(StableHlo.held (c : Thread nD τ) (Pipeline.arrRefs spec0) U ∗ StableHlo.held (c : Thread nD τ) (Pipeline.tblRefs pre0) U
      ∗ StableHlo.held (c : Thread nD τ) ((ucRefs τ sig \ Pipeline.arrRefs spec0) \ Pipeline.tblRefs pre0) U) := by
  rw [StableHlo.held_sub_split _ hS U, StableHlo.held_sub_split _ (Pipeline.tblRefs_sub_sdiff spec0 pre0 preFacts0.disj hS') U]

set_option backward.isDefEq.respectTransparency.types false in
theorem arrays_at (c : Dev nD) (U : Valuation τ sig (Elt F)) (n : ℕ)
    (h : ∀ w : Fin 6, (dats (V m ρ) 0 c).arrAt w n = U (Proc.devRef .tc (Pipeline.arrRef spec0 w))) :
    (StableHlo.held (c : Thread nD τ) (Pipeline.arrRefs spec0) U : sProp 𝕄) = (dats (V m ρ) 0 c).arrays ((dats (V m ρ) 0 c).arrAt · n) :=
  (held_arrs c U).trans ((dats (V m ρ) 0 c).arrBufs_eq_arrays sharedIn0 arr_whole0 (fun _ _ => rfl) _ _ h)

theorem tables_at (c : Dev nD) (U : Valuation τ sig (Elt F)) (h : ∀ k, (tabs (F := F)) k = U (Proc.devRef .tc (pre0.ref k))) :
    (StableHlo.held (c : Thread nD τ) (Pipeline.tblRefs pre0) U : sProp 𝕄) = tbl c :=
  (Pipeline.prefHeld_held pre0 preFacts0.inj c tabs U h).symm

theorem rest_eq (c : Dev nD) : (StableHlo.held (c : Thread nD τ) ((ucRefs τ sig \ Pipeline.arrRefs spec0) \ Pipeline.tblRefs pre0) (final m ρ c) : sProp 𝕄) = rest m ρ c :=
  StableHlo.held_congr _ fun b hb => final_off m ρ c b (Finset.mem_sdiff.mp (Finset.mem_sdiff.mp hb).1).2

theorem final_tab (c : Dev nD) (k) : (tabs (F := F)) k = final m ρ c (Proc.devRef .tc (pre0.ref k)) :=
  (V_tab m ρ c k).trans (final_off m ρ c _ fun hb =>
    Finset.disjoint_left.mp (Pipeline.tblRefs_disjoint_arrRefs spec0 pre0 preFacts0.disj)
      (Finset.mem_map_of_mem _ (Finset.mem_image_of_mem _ (Finset.mem_univ k))) hb).symm

set_option backward.isDefEq.respectTransparency.types false in
/-- The host stretch's end is the region's entry; -/
theorem pre_entry (c : Dev nD) : iprop(StableHlo.held (c : Thread nD τ) (ucRefs τ sig) (V m ρ c) ∗ R c) ⊢ (reg0 m ρ).pre c := by
  show _ ⊢ iprop((dats (V m ρ) 0 c).arrays ((dats (V m ρ) 0 c).arrAt · 0) ∗ tbl c ∗ emp ∗ rest m ρ c ∗ R c)
  rw [held_split, arrays_at m ρ c (V m ρ c) 0 (fun w => A_eq (V m ρ) c w), tables_at c (V m ρ c) (V_tab m ρ c)]
  iintro ⟨⟨HA, HT, HX⟩, HO⟩
  isplitl [HA]; · iexact HA
  isplitl [HT]; · iexact HT
  isplitr; · iempintro
  isplitl [HX]; · iexact HX
  iexact HO

set_option backward.isDefEq.respectTransparency.types false in
/-- and the region's end is what `final` says. -/
theorem post_exit (c : Dev nD) : (reg0 m ρ).post c ⊢ iprop(StableHlo.held (c : Thread nD τ) (ucRefs τ sig) (final m ρ c) ∗ R c) := by
  show iprop((dats (V m ρ) 0 c).arrays ((dats (V m ρ) 0 c).arrAt · (cfg (F := F)).N) ∗ tbl c ∗ emp ∗ rest m ρ c ∗ R c) ⊢ _
  rw [held_split, arrays_at m ρ c (final m ρ c) (cfg (F := F)).N (fun w => (final_arr m ρ c w).symm), tables_at c (final m ρ c) (final_tab m ρ c), rest_eq]
  iintro ⟨HA, HT, -, HX, HO⟩
  isplitr [HO]
  · isplitl [HA]; · iexact HA
    isplitl [HT]; · iexact HT
    iexact HX
  iexact HO

abbrev segs : List (Pipeline.Seg (pcfgs (F := F)) adm (dats (V m ρ)) () defs₀ Variants.none L lv) := [.host (seg0 m ρ), .region (reg0 m ρ)]

/-- The launch element. -/
def u₀ : UU nD τ := (initOf (Pipeline.cells (Pipeline.pin (pcfgs (F := F)) adm) (cellOf_inj adm)) (Pipeline.launchToks (Pipeline.pin (pcfgs (F := F)) adm) (cellOf_inj adm)), 1)

set_option maxHeartbeats 1000000 in
set_option backward.isDefEq.respectTransparency.types false in
/-- Every run ends with the unscoped buffers at what the region leaves and every counter at zero. -/
theorem run_main : θ_run defs (onTc (τ := τ) (main (F := F))) (s₀ m ρ)
    (fun r => (∀ c : Dev nD, ∀ b ∈ ucRefs τ sig, r.2.mem ((c : Thread nD τ).1, b) = final m ρ c b) ∧ r.2.sem = fun _ => 0) :=
  Pipeline.θ_run_regions_kit_sems (pcfgs (F := F)) adm (dats (V m ρ)) () (cellOf_inj adm) EP defs₀ Variants.none L lv m ρ main (segs m ρ)
    (fun c Q => by rw [main_segs adm (dats (V m ρ)) () Variants.none L lv (seg0 m ρ) (reg0 m ρ) rfl c])
    (by simp only [Pipeline.Seg.pipes_host, Pipeline.Seg.pipes_region, Pipeline.Seg.pipes_nil]; decide) (O₀ := 0) (hL := fun g h => if_neg h) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (final m ρ c))
    (hch := ⟨fun _ => .rfl, fun c => pre_entry m ρ c, fun c => post_exit m ρ c⟩)
    (hinit := by
      refine Pipeline.initEach L lv fun c => ?_
      rw [show unscopedBufs c (fun b => m ((c : Thread nD τ).loc b)) = StableHlo.held (c : Thread nD τ) (ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = final m ρ c b)
    (hfin := fun c s' => by
      unfold StableHlo.held
      iintro ⟨Hh, HSI⟩
      ihave Hr := (pointsTo_read_all (ucRefs τ sig) (fun b => ((c : Thread nD τ).1, b)) (final m ρ c) s') $$ [Hh HSI]
      · isplitl [Hh] <;> iassumption
      imodintro; iexact Hr)
    (hQ := fun _ h hz => ⟨h, funext fun g => hz g (.inr (by revert g; decide))⟩)

end Cert.Proof.Fox
-- ==== Proof.FoxResult.lean ====
/-
  The kernel's result array: the attention of the three argument arrays; the arguments end unchanged.
-/
module

public import proofs.«01_k».proof.Proof.FoxState
public import proofs.«01_k».proof.Proof.FoxLaunched
public import Idealize.ShloMosaic.Lib.Pointwise

@[expose] public section

noncomputable section

namespace Cert.Proof.Fox

open Idealize.ShloMosaic Idealize.ShloMosaic.TcCoe Idealize.ShloMosaic.Pipeline Cert.Proof.Online Cert.KernelFIdeal Cert.KernelFIdeal.Gen
open Idealize.SL.Sem

section Args

variable {F : FTy → Type} [FloatOps F] [Named F] (m : (ℓ : Loc nD τ sig) → Buf (Elt F) ℓ) (ρ : Dev nD → PrngReg) (c : Dev nD)

theorem final_arg0 : final m ρ c (Proc.devRef .tc main_arg0) = m ((c : Thread nD τ).loc main_arg0) :=
  (final_arr m ρ c 0).trans (((dats (V m ρ) 0 c).arrAt_in 0 rfl _).trans ((A_eq (V m ρ) c 0).trans (V_arg0 m ρ c)))
theorem final_arg1 : final m ρ c (Proc.devRef .tc main_arg1) = m ((c : Thread nD τ).loc main_arg1) :=
  (Pipeline.withArrays_of_ne spec0 c (V m ρ c) _ main_arg1 (by decide)).trans (V_arg1 m ρ c)

/-- The frame, over any floats: the call terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (devRef_mem_ucRefs (b := main_arg0) rfl)).trans (final_arg0 m ρ c),
      (h.1 c _ (devRef_mem_ucRefs (b := main_arg1) rfl)).trans (final_arg1 m ρ c)⟩, h.2⟩) (run_main m ρ)

end Args

/-! ### The result over the extended reals -/

variable (W : Dev nD → Valuation τ sig (Elt Ideal)) (c : Dev nD)

/-- The attention as contents of the result's array. -/
def res (f : Mat 8192 128) : Mat 8192 2048 := fun x => att (X W c) f (x 0).val (x 1).val

theorem out_emb (t : Fin grid0.N) (i : Fin 1024) (d : Fin 128) :
    ((((cfg (F := Ideal)).win 5).blk t).view.emb (ix2 i d) 0).val = (cb (grid0.coords t)).val * 4096 + (qN (pj t) * 1024 + i.val)
    ∧ ((((cfg (F := Ideal)).win 5).blk t).view.emb (ix2 i d) 1).val = (ch (grid0.coords t)).val * 128 + d.val := by
  constructor
  · show cc0_transform_5 Facts₀.k0_off1_inb Facts₀.numel1_S1 (tabs (F := Ideal)) (grid0.coords t) 0 * 1024 + 1 * i.val = _
    rw [ix_o0]
    show ((cb (grid0.coords t)).val * 4 + qN (pj t)) * 1024 + 1 * i.val = _
    omega
  · show cc0_transform_5 Facts₀.k0_off1_inb Facts₀.numel1_S1 (tabs (F := Ideal)) (grid0.coords t) 1 * 128 + 1 * d.val = _
    rw [ix_o1, Nat.one_mul]

/-- Where each query block meets the diagonal among the ten pairs. -/
def dj : Fin 4 → ℕ := ![0, 2, 5, 9]

theorem dj_facts : ∀ q : Fin 4, ∀ j : Fin 10, j.val = dj q → qN j = q.val ∧ kN j = q.val := by decide
theorem dj_lt : ∀ q : Fin 4, dj q < 10 := by decide

theorem diag_point (b : Fin 2) (h : Fin 16) (q : Fin 4) : ∃ t : Fin 320,
    (cb (grid0.coords t)).val = b.val ∧ (ch (grid0.coords t)).val = h.val ∧ qN (pj t) = q.val ∧ kN (pj t) = q.val := by
  have hd := dj_lt q
  obtain ⟨hb, hh, hj⟩ := coords_facts ⟨b.val * 160 + h.val * 10 + dj q, by omega⟩
  refine ⟨⟨b.val * 160 + h.val * 10 + dj q, by omega⟩, hb.trans ?_, hh.trans ?_, ?_⟩
  · show (b.val * 160 + h.val * 10 + dj q) / 160 = b.val
    omega
  · show (b.val * 160 + h.val * 10 + dj q) / 10 % 16 = h.val
    omega
  · refine dj_facts q _ (hj.trans ?_)
    show (b.val * 160 + h.val * 10 + dj q) % 10 = dj q
    omega

set_option backward.isDefEq.respectTransparency.types false in
theorem result_arr {f : Mat 8192 128} (G : Gates W c f) : (dats W 0 c).arrAt (5 : Fin 6) (cfg (F := Ideal)).N = res W c f := by
  refine (dats W 0 c).arrAt_eq_of_emb (5 : Fin 6) (res W c f) (fun t hf y => ?_) fun x => ?_
  · have hd : qN (pj t) = kN (pj t) := by
      by_contra hne
      have := flush_off (F := Ideal) t hne
      rw [this] at hf
      exact absurd hf (by decide)
    obtain ⟨i, d, rfl⟩ : ∃ (i : Fin 1024) (d : Fin 128), y = (ix2 i d : S1024x128.Idx) := ⟨y 0, y 1, eq_ix2 _⟩
    obtain ⟨h0, h1⟩ := out_emb t i d
    exact (written W c G t hd i d).trans (congrArg₂ (att (X W c) f) h0.symm h1.symm)
  · obtain ⟨t, hb, hh, hq, hk⟩ := diag_point ⟨(x 0).val / 4096, by have : (x 0).val < 8192 := (x 0).isLt; omega⟩
      ⟨(x 1).val / 128, by have : (x 1).val < 2048 := (x 1).isLt; omega⟩ ⟨(x 0).val % 4096 / 1024, by omega⟩
    refine ⟨t, flush_on (F := Ideal) t (hq.trans hk.symm), ?_⟩
    have hx : x = (((cfg (F := Ideal)).win 5).blk t).view.emb (ix2 (⟨(x 0).val % 1024, by omega⟩ : Fin 1024) (⟨(x 1).val % 128, by omega⟩ : Fin 128)) := by
      obtain ⟨h0, h1⟩ := out_emb t ⟨(x 0).val % 1024, by omega⟩ ⟨(x 1).val % 128, by omega⟩
      funext a
      refine Fin.ext ?_
      match a with
      | 0 => refine Eq.trans ?_ h0.symm; rw [hb, hq]; show (x 0).val = (x 0).val / 4096 * 4096 + ((x 0).val % 4096 / 1024 * 1024 + (x 0).val % 1024); omega
      | 1 => refine Eq.trans ?_ h1.symm; rw [hh]; show (x 1).val = (x 1).val / 128 * 128 + (x 1).val % 128; omega
    rw [hx]
    exact View.emb_mem_set _ _

/-! ### What the region is entered with -/

/-- The gates in the layout of the score's rows, and of its columns. -/
def rowsOf (f : FVec Ideal S8192x128 .f32) : FVec Ideal S2x16x4096x1 .f32 :=
  broadcastInDim S2x16x4096x1 ![0, 1, 2] bcast_S2x16x4096_S2x16x4096x1_0_1_2 (transpose S2x16x4096 [0, 2, 1] (shapeCast S2x4096x16 (extractStridedSlice S8192x16 ![0, 0] f slices_S8192x128_S8192x16_0_0) shapeCasts_S8192x16_S2x4096x16) transposes_S2x4096x16_S2x16x4096_0_2_1)
def colsOf (f : FVec Ideal S8192x128 .f32) : FVec Ideal S2x16x1x4096 .f32 :=
  broadcastInDim S2x16x1x4096 ![0, 1, 3] bcast_S2x16x4096_S2x16x1x4096_0_1_3 (transpose S2x16x4096 [0, 2, 1] (shapeCast S2x4096x16 (extractStridedSlice S8192x16 ![0, 0] f slices_S8192x128_S8192x16_0_0) shapeCasts_S8192x16_S2x4096x16) transposes_S2x4096x16_S2x16x4096_0_2_1)

theorem rows_apply (f : FVec Ideal S8192x128 .f32) (b : Fin 2) (h : Fin 16) (t : Fin 4096) :
    rowsOf f (ix4 b h t 0) = rd f (b.val * 4096 + t.val) h.val := by
  rw [rd_of f (by omega) (by omega)]
  pointwise [rowsOf]
theorem cols_apply (f : FVec Ideal S8192x128 .f32) (b : Fin 2) (h : Fin 16) (t : Fin 4096) :
    colsOf f (ix4 b h 0 t) = rd f (b.val * 4096 + t.val) h.val := by
  rw [rd_of f (by omega) (by omega)]
  pointwise [colsOf]

variable (m : (ℓ : Loc nD τ sig) → Buf (Elt Ideal) ℓ) (ρ : Dev nD → PrngReg)

theorem V_rows : V m ρ c (Proc.devRef .tc main_v4) = rowsOf (m ((c : Thread nD τ).loc main_arg1)) := by
  show StableHlo.after hostOps0 (V₀ m ρ c) (Proc.devRef .tc main_v4) = _
  after_results <;> rfl
theorem V_cols : V m ρ c (Proc.devRef .tc main_v3) = colsOf (m ((c : Thread nD τ).loc main_arg1)) := by
  show StableHlo.after hostOps0 (V₀ m ρ c) (Proc.devRef .tc main_v3) = _
  after_results <;> rfl

theorem gates : Gates (V m ρ) c (m ((c : Thread nD τ).loc main_arg1)) where
  rows b h t := (congrFun (V_rows c m ρ) _).trans (rows_apply _ b h t)
  cols b h t := (congrFun (V_cols c m ρ) _).trans (cols_apply _ b h t)

end Cert.Proof.Fox

end
-- ==== Proof.FoxRef.lean ====
/-
  The reference's forgetting attention read at an index over the extended reals.
-/
module

public import Idealize.ShloMosaic.Lib.Pointwise
public import proofs.«01_k».proof.Proof.Gen.ReferenceFIdeal.Run
public import proofs.«01_k».proof.Proof.FoxSpec

@[expose] public section

noncomputable section

namespace Cert.Proof.Fox.Ref

open Idealize.ShloMosaic Cert.Proof.Online Cert.ReferenceFIdeal Cert.ReferenceFIdeal.Gen Cert.ReferenceFIdeal.Value

variable (x : FVec Ideal S8192x5376 .f32) (f : FVec Ideal S8192x128 .f32)

/-- The gates by key head, query head of it, and place. -/
def gates : FVec Ideal S2x4x4x4096 .f32 :=
  transpose S2x4x4x4096 [0, 2, 3, 1] (shapeCast _ (extractStridedSlice S8192x16 ![0, 0] f slices_S8192x128_S8192x16_0_0) shapeCasts_S8192x16_S2x4096x4x4) transposes_S2x4096x4x4_S2x4x4x4096_0_2_3_1

/-- The products of queries and keys, divided by the root of their length. -/
def prods : FVec Ideal S2x4x4x4096x4096 .f32 :=
  Host.divf (transpose S2x4x4x4096x4096 [0, 1, 4, 3, 2] (Host.dotGeneral dot_S2x4096x4x128_S2x4096x4x4x128_S2x4x4096x4096x4_3_4_1_13_02_02 none (shapeCast _ (extractStridedSlice S8192x512 ![0, 4096] x slices_S8192x5376_S8192x512_0_4096) shapeCasts_S8192x512_S2x4096x4x128) (shapeCast _ (extractStridedSlice S8192x2048 ![0, 2048] x slices_S8192x5376_S8192x2048_0_2048) shapeCasts_S8192x2048_S2x4096x4x4x128)) transposes_S2x4x4096x4096x4_S2x4x4x4096x4096_0_1_4_3_2) (broadcastInDim S2x4x4x4096x4096 ![] bcast_S_S2x4x4x4096x4096 (Host.sqrt (constant S_ .f32 0x43000000#32)))

/-- The gates' differences. -/
def diffs (g : FVec Ideal S2x4x4x4096 .f32) : FVec Ideal S2x4x4x4096x4096 .f32 :=
  subf (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 g)) (broadcastInDim S2x4x4x4096x4096 ![0, 1, 2, 3, 4] bcast_S2x4x4x1x4096_S2x4x4x4096x4096_0_1_2_3_4 (broadcastInDim S2x4x4x1x4096 ![0, 1, 2, 4] bcast_S2x4x4x4096_S2x4x4x1x4096_0_1_2_4 g))

/-- The scores under the causal mask. -/
def masked (s : FVec Ideal S2x4x4x4096x4096 .f32) : FVec Ideal S2x4x4x4096x4096 .f32 :=
  select (broadcastInDim S2x4x4x4096x4096 ![3, 4] bcast_S4096x4096_S2x4x4x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S2x4x4x4096x4096 ![] bcast_S_S2x4x4x4096x4096 (id (constant S_ .f32 0xFF800000#32)))

/-- Each row's largest score. -/
def tops (s : FVec Ideal S2x4x4x4096x4096 .f32) : FVec Ideal S2x4x4x4096 .f32 :=
  maximumf (broadcastInDim S2x4x4x4096 ![] bcast_S_S2x4x4x4096 (constant S_ .f32 0xFF800000#32)) (Host.reduce FloatOps.maximumf s (constant S_ .f32 0xFF800000#32) reducesTo_S2x4x4x4096x4096_S2x4x4x4096_d4 h_S_)

/-- The exponentials. -/
def exps (s : FVec Ideal S2x4x4x4096x4096 .f32) : FVec Ideal S2x4x4x4096x4096 .f32 :=
  Host.exp (subf s (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (tops s))))

/-- The softmax of the scores. -/
def soft (e : FVec Ideal S2x4x4x4096x4096 .f32) : FVec Ideal S2x4x4x4096x4096 .f32 :=
  Host.divf e (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd e (constant S_ .f32 0x00000000#32) reducesTo_S2x4x4x4096x4096_S2x4x4x4096_d4 h_S_)))

/-- The weighted sum of the values. -/
def out (p : FVec Ideal S2x4x4x4096x4096 .f32) : FVec Ideal S8192x2048 .f32 :=
  shapeCast _ (transpose S2x4096x4x4x128 [0, 4, 1, 3, 2] (Host.dotGeneral dot_S2x4096x4x128_S2x4x4x4096x4096_S2x4x128x4x4096_1_4_3_23_02_01 none (shapeCast _ (extractStridedSlice S8192x512 ![0, 4608] x slices_S8192x5376_S8192x512_0_4608) shapeCasts_S8192x512_S2x4096x4x128) p) transposes_S2x4x128x4x4096_S2x4096x4x4x128_0_4_1_3_2) shapeCasts_S2x4096x4x4x128_S8192x2048

theorem res_eq (m : (ℓ : Loc nD τ sig) → Buf (Elt Ideal) ℓ) (c : Dev nD) :
    res_out0 m c = out (m ((c.tc : Thread nD τ).loc main_arg0))
      (soft (exps (masked (addf (prods (m ((c.tc : Thread nD τ).loc main_arg0))) (diffs (gates (m ((c.tc : Thread nD τ).loc main_arg1)))))))) := rfl

/-- The host's maximum along the last of five axes, from `-∞`, at an index. -/
theorem max_last {a b c d n : ℕ} {u : Shape} (h' : (⟨5, ![a, b, c, d, n]⟩ : Shape).ReducesTo [4] ⟨4, ![a, b, c, d]⟩) (hu : 0 < u.numel)
    (hb : (⟨0, ![]⟩ : Shape).BroadcastsInDim ⟨4, ![a, b, c, d]⟩ ![])
    (x : FVec Ideal ⟨5, ![a, b, c, d, n]⟩ .f32) (p : Fin a) (q : Fin b) (r : Fin c) (w : Fin d) :
    maximumf (broadcastInDim ⟨4, ![a, b, c, d]⟩ ![] hb (constant ⟨0, ![]⟩ .f32 0xFF800000#32))
        (Host.reduce FloatOps.maximumf x (constant u .f32 0xFF800000#32) h' hu) (ix4 p q r w)
      = Finset.univ.fold max ⊥ fun k : Fin n => x (ix5 p q r w k) := by
  pointwise []
  rw [minus_inf]
  exact bot_sup_eq _

theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

theorem div_sqrt (x : EReal) : Ideal.div x (Ideal.sqrt (Ideal.ofBits .f32 0x43000000#32)) = x * scale := by
  rw [sqrt_128, Ideal.div_coe (by positivity), one_div, scale]

theorem gates_apply (b : Fin 2) (k g : Fin 4) (t : Fin 4096) :
    gates f (ix4 b k g t) = rd f (b.val * 4096 + t.val) (k.val * 4 + g.val) := by
  rw [rd_of f (by omega) (by omega)]
  pointwise [gates]

theorem diffs_apply (s : FVec Ideal S2x4x4x4096 .f32) (b : Fin 2) (k g : Fin 4) (t j : Fin 4096) :
    diffs s (ix5 b k g t j) = s (ix4 b k g t) - s (ix4 b k g j) := by
  pointwise [diffs]

theorem prods_apply (b : Fin 2) (k g : Fin 4) (t j : Fin 4096) :
    prods x (ix5 b k g t j) = (∑ d : Fin 128, rd x (b.val * 4096 + t.val) ((16 + (k.val * 4 + g.val)) * 128 + d.val)
      * rd x (b.val * 4096 + j.val) ((32 + (k.val * 4 + g.val) / 4) * 128 + d.val)) * scale := by
  pointwise [prods]
  rw [div_sqrt]
  congr 1
  refine Finset.sum_congr rfl fun d _ => ?_
  rw [rd_of x (by omega) (by omega), rd_of x (by omega) (by omega), mul_comm]
  congr 3 <;> exact Fin.ext (by dsimp only; omega)

theorem masked_apply (s : FVec Ideal S2x4x4x4096x4096 .f32) (b : Fin 2) (k g : Fin 4) (t j : Fin 4096) :
    masked s (ix5 b k g t j) = if j.val ≤ t.val then s (ix5 b k g t j) else ⊥ := by
  pointwise [masked]
  rw [select_sle j.isLt t.isLt]
  exact if_congr Iff.rfl rfl minus_inf

/-- The scores. -/
abbrev scores : FVec Ideal S2x4x4x4096x4096 .f32 := masked (addf (prods x) (diffs (gates f)))

theorem scores_apply (b : Fin 2) (k g : Fin 4) (t j : Fin 4096) :
    scores x f (ix5 b k g t j) = sc x f b.val (k.val * 4 + g.val) t.val j.val := by
  rw [scores, masked_apply, sc, raw]
  refine if_congr Iff.rfl ?_ rfl
  show prods x (ix5 b k g t j) + diffs (gates f) (ix5 b k g t j) = _
  rw [prods_apply, diffs_apply, gates_apply, gates_apply]

theorem tops_apply (s : FVec Ideal S2x4x4x4096x4096 .f32) (b : Fin 2) (k g : Fin 4) (t : Fin 4096) :
    tops s (ix4 b k g t) = Finset.univ.fold max ⊥ fun j : Fin 4096 => s (ix5 b k g t j) := by
  unfold tops
  exact max_last _ _ _ s b k g t

theorem exps_apply (s : FVec Ideal S2x4x4x4096x4096 .f32) (b : Fin 2) (k g : Fin 4) (t j : Fin 4096) :
    exps s (ix5 b k g t j) = Ideal.exp (s (ix5 b k g t j) - tops s (ix4 b k g t)) := by
  pointwise [exps]

theorem soft_apply (s : FVec Ideal S2x4x4x4096x4096 .f32) (b : Fin 2) (k g : Fin 4) (t j : Fin 4096) :
    soft s (ix5 b k g t j) = Ideal.div (s (ix5 b k g t j)) (∑ y : Fin 4096, s (ix5 b k g t y)) := by
  pointwise [soft]

theorem out_apply (s : FVec Ideal S2x4x4x4096x4096 .f32) (r : Fin 8192) (l : Fin 2048) :
    out x s (ix2 r l) = ∑ y : Fin 4096, vl x (r.val / 4096) (l.val / 128) (l.val % 128) y.val
      * s (ix5 ⟨r.val / 4096, by omega⟩ ⟨l.val / 512, by omega⟩ ⟨l.val / 128 % 4, by omega⟩ ⟨r.val % 4096, by omega⟩ y) := by
  pointwise [out]
  refine Finset.sum_congr rfl fun y _ => ?_
  rw [vl, rd_of x (by omega) (by omega)]
  congr 3
  all_goals (refine Fin.ext ?_; dsimp only; omega)

/-- The reference's result at an index, when every score is a real number: the attention. -/
theorem result_apply (r : Fin 8192) (l : Fin 2048)
    (h0 : sc x f (r.val / 4096) (l.val / 128) (r.val % 4096) 0 ≠ ⊥) (hS : ∀ j, sc x f (r.val / 4096) (l.val / 128) (r.val % 4096) j ≠ ⊤) :
    out x (soft (exps (scores x f))) (ix2 r l) = att x f r.val l.val := by
  rw [out_apply, att, quotient _ _ (j₀ := 0) (by omega) h0 hS]
  have eh : l.val / 512 * 4 + l.val / 128 % 4 = l.val / 128 := by omega
  have hs : ∀ j : Fin 4096, scores x f (ix5 ⟨r.val / 4096, by omega⟩ ⟨l.val / 512, by omega⟩ ⟨l.val / 128 % 4, by omega⟩ ⟨r.val % 4096, by omega⟩ j)
      = sc x f (r.val / 4096) (l.val / 128) (r.val % 4096) j.val := fun j => by
    rw [scores_apply]; dsimp only; rw [eh]
  have ht : tops (scores x f) (ix4 ⟨r.val / 4096, by omega⟩ ⟨l.val / 512, by omega⟩ ⟨l.val / 128 % 4, by omega⟩ ⟨r.val % 4096, by omega⟩)
      = top (sc x f (r.val / 4096) (l.val / 128) (r.val % 4096)) 4096 := by
    rw [tops_apply]
    simp only [hs]
    have := top_add (sc x f (r.val / 4096) (l.val / 128) (r.val % 4096)) 0 4096
    rw [top_zero, blockTop] at this
    simpa using this
  refine Finset.sum_congr rfl fun y _ => ?_
  refine congrArg (fun z : EReal => vl x (r.val / 4096) (l.val / 128) (l.val % 128) y.val * z) ?_
  refine (soft_apply _ _ _ _ _ _).trans ?_
  simp only [exps_apply, ht, hs]
  rw [den, Finset.sum_range]

end Cert.Proof.Fox.Ref

end
-- ==== Proof.FoxFinite.lean ====
/-
  What the precondition says: the queries, keys and gates are real numbers, so every score is one.
-/
module

public import proofs.«01_k».proof.Proof.Finite
public import proofs.«01_k».proof.Proof.Gen.Pre_finite_fox
public import proofs.«01_k».proof.Proof.FoxSpec

@[expose] public section

noncomputable section

namespace Cert.Proof.Fox

open Idealize.ShloMosaic Cert.Proof.Online

/-- The columns from `a` up to `b` hold real numbers. -/
def RealOn {R C : ℕ} (X : Mat R C) (a b : ℕ) : Prop := ∀ r c, a ≤ c → c < b → ∃ x : ℝ, rd X r c = (x : EReal)

theorem raw_real {X : Mat 8192 5376} {f : Mat 8192 128} (hX : RealOn X 2048 4608) (hf : RealOn f 0 16) (b h t j : ℕ) (hh : h < 16) :
    ∃ x : ℝ, raw X f b h t j = (x : EReal) := by
  choose q hq using fun d : Fin 128 => hX (b * 4096 + t) ((16 + h) * 128 + d.val) (by omega) (by omega)
  choose k hk using fun d : Fin 128 => hX (b * 4096 + j) ((32 + h / 4) * 128 + d.val) (by omega) (by omega)
  obtain ⟨u, hu⟩ := hf (b * 4096 + t) h (Nat.zero_le _) hh
  obtain ⟨v, hv⟩ := hf (b * 4096 + j) h (Nat.zero_le _) hh
  refine ⟨(∑ d, q d * k d) * (Real.sqrt 128)⁻¹ + (u - v), ?_⟩
  rw [raw, EReal.coe_add, EReal.coe_mul, coe_sum, scale, hu, hv, EReal.coe_sub]
  simp only [hq, hk, EReal.coe_mul]

theorem sc_ne_top {X : Mat 8192 5376} {f : Mat 8192 128} (hX : RealOn X 2048 4608) (hf : RealOn f 0 16) (b h t j : ℕ) (hh : h < 16) :
    sc X f b h t j ≠ ⊤ := by
  unfold sc
  split
  · obtain ⟨x, hx⟩ := raw_real hX hf b h t j hh
    rw [hx]; exact EReal.coe_ne_top x
  · exact bot_ne_top

theorem sc_zero_ne_bot {X : Mat 8192 5376} {f : Mat 8192 128} (hX : RealOn X 2048 4608) (hf : RealOn f 0 16) (b h t : ℕ) (hh : h < 16) :
    sc X f b h t 0 ≠ ⊥ := by
  rw [sc, if_pos (Nat.zero_le _)]
  obtain ⟨x, hx⟩ := raw_real hX hf b h t 0 hh
  rw [hx]; exact EReal.coe_ne_bot x

open Cert.Pre_finite_fox Cert.Pre_finite_fox.Gen

theorem slice0 (X : FVec Ideal S8192x5376 .f32) (r : Fin 8192) (c : Fin 2560) :
    extractStridedSlice S8192x2560 ![0, 2048] X slices_S8192x5376_S8192x2560_0_2048 (ix2 r c) = X (ix2 r ⟨2048 + c.val, by omega⟩) := by
  pointwise []

theorem slice1 (f : FVec Ideal S8192x128 .f32) (r : Fin 8192) (c : Fin 16) :
    extractStridedSlice S8192x16 ![0, 0] f slices_S8192x128_S8192x16_0_0 (ix2 r c) = f (ix2 r ⟨c.val, by omega⟩) := by
  pointwise []

theorem finite_of (x0 : FVec Ideal S8192x5376 .f32) (x1 : FVec Ideal S8192x128 .f32)
    (h : fn (F := Ideal) x0 x1 = fun _ => 1#1) : RealOn (R := 8192) (C := 5376) x0 2048 4608 ∧ RealOn (R := 8192) (C := 128) x1 0 16 := by
  have h0 := congrFun h ix0
  obtain ⟨ha, hb⟩ := Flash.and_one h0
  refine ⟨fun r c hc hc' => ?_, fun r c _ hc' => ?_⟩
  · by_cases hr : r < 8192
    · obtain ⟨h1, h2⟩ := Flash.and_one (Host.reduce_andi_all _ _ _ _ _ ha (ix2 ⟨r, hr⟩ ⟨c - 2048, by omega⟩))
      obtain ⟨hbot, htop⟩ := Flash.passes _ h1 h2
      have e : rd (R := 8192) (C := 5376) x0 r c
          = extractStridedSlice S8192x2560 ![0, 2048] x0 slices_S8192x5376_S8192x2560_0_2048 (ix2 ⟨r, hr⟩ ⟨c - 2048, by omega⟩) := by
        rw [rd_of _ hr (by omega), slice0]
        exact congrArg x0 (congrArg (ix2 _) (Fin.ext (by dsimp only; omega)))
      exact ⟨_, e.trans (EReal.coe_toReal htop hbot).symm⟩
    · exact ⟨0, by rw [rd, dif_neg (fun hh => hr hh.1)]; rfl⟩
  · by_cases hr : r < 8192
    · obtain ⟨h1, h2⟩ := Flash.and_one (Host.reduce_andi_all _ _ _ _ _ hb (ix2 ⟨r, hr⟩ ⟨c, hc'⟩))
      obtain ⟨hbot, htop⟩ := Flash.passes _ h1 h2
      have e : rd (R := 8192) (C := 128) x1 r c
          = extractStridedSlice S8192x16 ![0, 0] x1 slices_S8192x128_S8192x16_0_0 (ix2 ⟨r, hr⟩ ⟨c, hc'⟩) := by
        rw [rd_of _ hr (by omega), slice1]
      exact ⟨_, e.trans (EReal.coe_toReal htop hbot).symm⟩
    · exact ⟨0, by rw [rd, dif_neg (fun hh => hr hh.1)]; rfl⟩

end Cert.Proof.Fox

end
-- ==== Proof.Fox.lean ====
/-
  The forgetting attention's claims: the frame of both prints of the call, and the value.
-/
module

public import proofs.«01_k».proof.Defs
public import proofs.«01_k».proof.Proof.Gen.KernelF
public import proofs.«01_k».proof.Proof.FoxResult
public import proofs.«01_k».proof.Proof.FoxRef
public import proofs.«01_k».proof.Proof.FoxFinite
public import Idealize.ShloMosaic.Adequacy
public import Idealize.ShloMosaic.Init

@[expose] public section

noncomputable section

namespace Cert.Proof.Fox

open Idealize.ShloMosaic Idealize.ShloMosaic.TcCoe Idealize.SL.Sem Cert.Proof.Online

/-- A named constant read as its own bits: the kernel as printed. -/
local instance bitsNamed : Named Bits where
  named _ _ _ b := FloatOps.ofBits (F := Bits) _ b

attribute [local instance] Cert.KernelF.Gen.facts Cert.KernelFIdeal.Gen.facts
attribute [local instance] Cert.KernelF.Gen.facts₀ Cert.KernelFIdeal.Gen.facts₀

/-- With a named constant read as its own bits, the two prints of the kernel are one program. -/
theorem body_eq : Cert.KernelF.cc0_flash_prompt (F := Bits) = Cert.KernelFIdeal.cc0_flash_prompt (F := Bits) := by
  unfold Cert.KernelF.cc0_flash_prompt Cert.KernelFIdeal.cc0_flash_prompt
  rfl
theorem bodies_eq : Cert.KernelF.defs₀ (F := Bits) = Cert.KernelFIdeal.defs₀ (F := Bits) := by
  unfold Cert.KernelF.defs₀ Cert.KernelFIdeal.defs₀
  refine congrArg Defs.onTc (funext fun l => funext fun p => ?_)
  match l, p with
  | ⟨0, _⟩, (t, s) =>
    show Cert.KernelF.cc0_flash_prompt (F := Bits) _ _ _ _ _ _ _ _ _ _ _ _ _ _ _ _ _ _ _ _ _ _ _ = _
    rw [body_eq]
    rfl
  | ⟨n + 1, h⟩, _ => exact absurd h (Nat.not_lt.2 (Nat.le_add_left _ _))
theorem defs_eq : Cert.KernelF.defs (F := Bits) = Cert.KernelFIdeal.defs (F := Bits) := by
  show Pipeline.defs (Cert.KernelF.pcfgs (F := Bits)) (Cert.KernelF.defs₀ (F := Bits)) = _
  rw [bodies_eq]
  rfl
theorem main_eq : Cert.KernelF.main (F := Bits) = Cert.KernelFIdeal.main (F := Bits) := by
  unfold Cert.KernelF.main Cert.KernelFIdeal.main
  rfl
theorem frame_k : Cert.quiescent_KernelF (hKernelF := Cert.KernelF.Gen.facts) := fun m g _ => by
  rw [defs_eq, main_eq]
  exact frame (F := Bits) m g

theorem frame_i : Cert.quiescent_KernelFIdeal (hKernelFIdeal := Cert.KernelFIdeal.Gen.facts) := fun m g _ =>
  frame (F := Ideal) m g

theorem frame_r (m : (ℓ : Loc Cert.ReferenceFIdeal.nD Cert.ReferenceFIdeal.τ Cert.ReferenceFIdeal.sig) → Buf (Elt Ideal) ℓ)
    (g : Dev Cert.ReferenceFIdeal.nD → PrngReg) :
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0) :=
  (θ_run Cert.ReferenceFIdeal.defs _ _).mono (fun r h => ⟨fun c => (h c).2, Idealize.ShloMosaic.sem_eq_zero_of_no_sems (by decide) r.2⟩)
    (Cert.ReferenceFIdeal.Value.run (F := Ideal) m g)

theorem preserves : Cert.preserves_KernelF_KernelFIdeal :=
  IdealRules.named_const.statement Cert.KernelFIdeal.κ "scale" .f32 0x3DB504F3#32 (((Real.sqrt 128)⁻¹ : ℝ) : EReal) rfl

/-- The kernel's result and the reference's are the same forgetting attention of the same two arrays. -/
theorem algebraic : Cert.algebraic_KernelFIdeal_ReferenceFIdeal_pre_finite_fox (hKernelFIdeal := Cert.KernelFIdeal.Gen.facts)
    (hReferenceFIdeal := Cert.ReferenceFIdeal.Gen.facts) (hPre_finite_fox := Cert.Pre_finite_fox.Gen.facts) := by
  intro m g m' g' hpre hagree
  refine ⟨fun c => res (V m g) c (m ((c.tc : Thread Cert.KernelFIdeal.nD Cert.KernelFIdeal.τ).loc Cert.KernelFIdeal.main_arg1)), ?_, ?_⟩
  · refine (θ_run Cert.KernelFIdeal.defs _ _).mono (fun _ h c => ?_) (run_main (F := Ideal) m g)
    refine ⟨(h.1 c _ (Pipeline.devRef_mem_ucRefs (b := Cert.KernelFIdeal.main_v5) rfl)).trans ?_,
      (h.1 c _ (Pipeline.devRef_mem_ucRefs (b := Cert.KernelFIdeal.main_arg0) rfl)).trans (final_arg0 m g c),
      (h.1 c _ (Pipeline.devRef_mem_ucRefs (b := Cert.KernelFIdeal.main_arg1) rfl)).trans (final_arg1 m g c)⟩
    exact (final_arr m g c (5 : Fin 6)).trans (result_arr (V m g) c (gates c m g))
  · refine (θ_run Cert.ReferenceFIdeal.defs _ _).mono (fun _ h c => ⟨(h c).1.trans ?_, (h c).2⟩)
      (Cert.ReferenceFIdeal.Value.run (F := Ideal) m' g')
    obtain ⟨hX, hf⟩ := finite_of _ _ (hpre c)
    refine (Ref.res_eq m' c).trans ?_
    rw [(hagree c).1, (hagree c).2]
    funext x
    obtain ⟨r, l, rfl⟩ : ∃ (r : Fin 8192) (l : Fin 2048), x = (ix2 r l : Cert.ReferenceFIdeal.S8192x2048.Idx) := ⟨x 0, x 1, eq_ix2 _⟩
    refine (Ref.result_apply _ _ r l (sc_zero_ne_bot hX hf _ _ _ (by omega)) (fun j => sc_ne_top hX hf _ _ _ j (by omega))).trans ?_
    have e0 : X (V m g) c = m ((c.tc : Thread Cert.KernelFIdeal.nD Cert.KernelFIdeal.τ).loc Cert.KernelFIdeal.main_arg0) := V_arg0 m g c
    rw [← e0]
    rfl

end Cert.Proof.Fox

end
-- ==== Proof.SbBody.lean ====
/- The stick-breaking attention step's body, run once at symbolic operands. -/
module

public import proofs.«01_k».proof.Proof.Gen.KernelSIdeal
public import proofs.«01_k».proof.Proof.Gen.KernelSIdeal.Skeleton
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.Pipeline.ReadBack

@[expose] public section

noncomputable section

namespace Cert.Proof.Sb

open Cert.KernelSIdeal Cert.KernelSIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's running state for one block of queries: the queries of the four heads of a group, stacked; the
numerators; each row's logarithm of what is left of the stick. -/
structure St (F : FTy → Type) where
  q : FVec F S1024x128 .bf16
  acc : FVec F S1024x128 .f32
  car : FVec F S1024x1 .f32

/-- The four places of a stack of four heads. -/
abbrev up0 : Rect S1024x128 := Rect.unit (s := S1024x128) ![0, 0] S256x128.size inb_S1024x128_S256x128_0_0
abbrev up1 : Rect S1024x128 := Rect.unit (s := S1024x128) ![256, 0] S256x128.size inb_S1024x128_S256x128_256_0
abbrev up2 : Rect S1024x128 := Rect.unit (s := S1024x128) ![512, 0] S256x128.size inb_S1024x128_S256x128_512_0
abbrev up3 : Rect S1024x128 := Rect.unit (s := S1024x128) ![768, 0] S256x128.size inb_S1024x128_S256x128_768_0

/-- The four places of four heads side by side. -/
abbrev ac0 : Rect S256x512 := Rect.unit (s := S256x512) ![0, 0] S256x128.size inb_S256x512_S256x128_0_0
abbrev ac1 : Rect S256x512 := Rect.unit (s := S256x512) ![0, 128] S256x128.size inb_S256x512_S256x128_0_128
abbrev ac2 : Rect S256x512 := Rect.unit (s := S256x512) ![0, 256] S256x128.size inb_S256x512_S256x128_0_256
abbrev ac3 : Rect S256x512 := Rect.unit (s := S256x512) ![0, 384] S256x128.size inb_S256x512_S256x128_0_384

/-- Four heads side by side, stacked. -/
def stack [∀ e, Nonempty (Elt F e)] (q : Vec F S256x512 .f32) : FVec F S1024x128 .bf16 :=
  View.canon ([⟨up3, k0_pay8 (View.ld q ac3)⟩, ⟨up2, k0_pay7 (View.ld q ac2)⟩, ⟨up1, k0_pay6 (View.ld q ac1)⟩, ⟨up0, k0_pay5 (View.ld q ac0)⟩] : List (View.Piece (Elt F) S1024x128 .bf16))

/-- A stack of four heads, side by side. -/
def unstack [∀ e, Nonempty (Elt F e)] (a : FVec F S1024x128 .f32) : FVec F S256x512 .f32 :=
  View.canon ([⟨ac3, View.ld a up3⟩, ⟨ac2, View.ld a up2⟩, ⟨ac1, View.ld a up1⟩, ⟨ac0, View.ld a up0⟩] : List (View.Piece (Elt F) S256x512 .f32))

/-- The state that a block of queries starts from. -/
def St.zero [∀ e, Nonempty (Elt F e)] (q : Vec F S256x512 .f32) : St F := ⟨stack q, k0_pay9, k0_pay10⟩

/-- One block of keys below the diagonal taken in. -/
def St.full (k v : Vec F S256x128 .f32) (L : Vec F S256x256 .bf16) (s : St F) : St F :=
  ⟨s.q, k0_pay3 (k0_pay21 s.q k L s.car s.acc v), k0_pay4 (k0_pay19 s.q k) (k0_pay20 s.q k L) s.car⟩

/-- The block of keys on the diagonal taken in, behind the strict causal mask. -/
def St.diag (k v : Vec F S256x128 .f32) (L : Vec F S256x256 .bf16) (s : St F) : St F :=
  ⟨s.q, k0_pay1 s.acc (k0_pay16 s.q k L s.car) v, k0_pay2 (k0_pay14 s.q k) (k0_pay15 s.q k L) s.car⟩

/-- The kernel's three conditions, of the query block's number `a` and the key block's number `b`. -/
def isDiag (a b : BitVec 32) : Prop := Scalar.cmpi .ne (Scalar.extui (Scalar.cmpi .eq b a) : BitVec 32) 0#32 = 1#1
def isBelow (a b : BitVec 32) : Prop := Scalar.cmpi .ne (Scalar.extui (Scalar.cmpi .slt b a) : BitVec 32) 0#32 = 1#1
def isLast (b : BitVec 32) : Prop := k0_cond3 b = 1#1

instance (a b : BitVec 32) : Decidable (isDiag a b) := by unfold isDiag; infer_instance
instance (a b : BitVec 32) : Decidable (isBelow a b) := by unfold isBelow; infer_instance
instance (b : BitVec 32) : Decidable (isLast b) := by unfold isLast; infer_instance

/-- What one grid step does to the state. -/
def St.step [∀ e, Nonempty (Elt F e)] (a b : BitVec 32) (q : Vec F S256x512 .f32) (k v : Vec F S256x128 .f32) (L : Vec F S256x256 .bf16) (s : St F) : St F :=
  let s₁ := if isDiag a b then (St.zero q).diag k v L else s
  if isBelow a b then s₁.full k v L else s₁

/-- What one grid step leaves in the result's staging buffer. -/
def outAt [∀ e, Nonempty (Elt F e)] (b : BitVec 32) (s : St F) (o : FVec F S256x512 .f32) : FVec F S256x512 .f32 :=
  if isLast b then unstack s.acc else o

/-- The word a scalar load of a table reads at grid point `i`. -/
abbrev word (c : Dev nD) (i : grid0.Coords) (T : Memref sig .tc .smem S136 .i32) (t : Bf (F := F) c T) : BitVec 32 :=
  View.readAt (Elt F) T.view (Rect.unit (s := S136) (k0_off1 i) S1.size (k0_off1_inb i)).toLoadRect t (Shape.Idx.first (by show 0 < S1.numel; decide))

theorem hz : (![0, 0] : Fin 2 → Nat) = fun _ => 0 := by decide

variable {d : Fin 2 → Nat} {sp : Space} {e : EltTy}

theorem mem_whole2 (inb : ∀ a, (![0, 0] : Fin 2 → Nat) a + d a ≤ d a) (y : (⟨2, d⟩ : Shape).Idx) :
    y ∈ (Rect.unit (s := ⟨2, d⟩) ![0, 0] d inb).set := by
  have h : Rect.unit (s := ⟨2, d⟩) ![0, 0] d inb = Rect.whole ⟨2, d⟩ := by
    unfold Rect.whole; congr 1; exact hz
  rw [h, Rect.set_whole]; exact Finset.mem_univ y

/-- A store over the whole of a rank-two buffer, read back. -/
theorem read_st [∀ e, Nonempty (Elt F e)] (M : Memref sig .tc sp ⟨2, d⟩ e) (f : M.view.ty.Contents (Elt F))
    (inb : ∀ a, (![0, 0] : Fin 2 → Nat) a + d a ≤ d a) (w : (⟨2, d⟩ : Shape).Idx → Elt F e) (L : List (View.Piece (Elt F) ⟨2, d⟩ e)) :
    M.view.read (Elt F) (M.view.writes (Elt F) f (⟨Rect.unit (s := ⟨2, d⟩) ![0, 0] d inb, w⟩ :: L)) = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  exact (View.read_writes_eq_canon M.view f _ hc).trans (View.canon_cons_unit_zero (S := ⟨2, d⟩) hz inb w L)

/-- A load of the whole of it. -/
theorem read_ld (M : Memref sig .tc sp ⟨2, d⟩ e) (f : M.view.ty.Contents (Elt F))
    (inb : ∀ a, (![0, 0] : Fin 2 → Nat) a + d a ≤ d a) :
    View.readAt (Elt F) M.view (Rect.unit (s := ⟨2, d⟩) ![0, 0] d inb).toLoadRect f = M.view.read (Elt F) f :=
  View.ld_unit_zero (S := ⟨2, d⟩) hz inb _

/-- A load of the whole of it after a store. -/
theorem read_cov [∀ e, Nonempty (Elt F e)] (M : Memref sig .tc sp ⟨2, d⟩ e)
    (inb : ∀ a, (![0, 0] : Fin 2 → Nat) a + d a ≤ d a) (w : (⟨2, d⟩ : Shape).Idx → Elt F e) (L : List (View.Piece (Elt F) ⟨2, d⟩ e)) :
    M.view.readCov ((⟨Rect.unit (s := ⟨2, d⟩) ![0, 0] d inb, w⟩ : View.Piece (Elt F) ⟨2, d⟩ e) :: L) (Rect.unit (s := ⟨2, d⟩) ![0, 0] d inb).toLoadRect = w := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  refine (View.readCov_eq_canon_ld M.view _ _ hc).trans ?_
  exact (congrArg (fun X => View.ld X _) (View.canon_cons_unit_zero (S := ⟨2, d⟩) hz inb w L)).trans (View.ld_unit_zero (S := ⟨2, d⟩) hz inb w)

theorem cover_up (p0 p1 p2 p3 : S256x128.Idx → Elt F .bf16) (y : S1024x128.Idx) :
    ∃ p ∈ ([⟨up3, p3⟩, ⟨up2, p2⟩, ⟨up1, p1⟩, ⟨up0, p0⟩] : List (View.Piece (Elt F) S1024x128 .bf16)), y ∈ p.1.set := by
  have h0 : (y 0).val < 1024 := (y 0).isLt
  have h1 : (y 1).val < 128 := (y 1).isLt
  have hm : ∀ (o : ℕ) (inb : ∀ a, (![o, 0] : Fin 2 → ℕ) a + S256x128.size a ≤ S1024x128.size a), o ≤ (y 0).val → (y 0).val < o + 256 →
      y ∈ (Rect.unit (s := S1024x128) ![o, 0] S256x128.size inb).set := fun o inb ha hb => by
    rw [Rect.mem_set_unit]; intro a; match a with
    | 0 => exact ⟨ha, hb⟩
    | 1 => exact ⟨Nat.zero_le _, by show (y 1).val < 0 + 128; omega⟩
  rcases (by omega : (y 0).val < 256 ∨ (256 ≤ (y 0).val ∧ (y 0).val < 512) ∨ (512 ≤ (y 0).val ∧ (y 0).val < 768) ∨ 768 ≤ (y 0).val) with h | h | h | h
  · exact ⟨⟨up0, p0⟩, by simp, hm 0 inb_S1024x128_S256x128_0_0 (Nat.zero_le _) (by omega)⟩
  · exact ⟨⟨up1, p1⟩, by simp, hm 256 inb_S1024x128_S256x128_256_0 (by omega) (by omega)⟩
  · exact ⟨⟨up2, p2⟩, by simp, hm 512 inb_S1024x128_S256x128_512_0 (by omega) (by omega)⟩
  · exact ⟨⟨up3, p3⟩, by simp, hm 768 inb_S1024x128_S256x128_768_0 (by omega) (by omega)⟩
theorem cover_ac (p0 p1 p2 p3 : S256x128.Idx → Elt F .f32) (y : S256x512.Idx) :
    ∃ p ∈ ([⟨ac3, p3⟩, ⟨ac2, p2⟩, ⟨ac1, p1⟩, ⟨ac0, p0⟩] : List (View.Piece (Elt F) S256x512 .f32)), y ∈ p.1.set := by
  have h0 : (y 0).val < 256 := (y 0).isLt
  have h1 : (y 1).val < 512 := (y 1).isLt
  have hm : ∀ (o : ℕ) (inb : ∀ a, (![0, o] : Fin 2 → ℕ) a + S256x128.size a ≤ S256x512.size a), o ≤ (y 1).val → (y 1).val < o + 128 →
      y ∈ (Rect.unit (s := S256x512) ![0, o] S256x128.size inb).set := fun o inb ha hb => by
    rw [Rect.mem_set_unit]; intro a; match a with
    | 0 => exact ⟨Nat.zero_le _, by show (y 0).val < 0 + 256; omega⟩
    | 1 => exact ⟨ha, hb⟩
  rcases (by omega : (y 1).val < 128 ∨ (128 ≤ (y 1).val ∧ (y 1).val < 256) ∨ (256 ≤ (y 1).val ∧ (y 1).val < 384) ∨ 384 ≤ (y 1).val) with h | h | h | h
  · exact ⟨⟨ac0, p0⟩, by simp, hm 0 inb_S256x512_S256x128_0_0 (Nat.zero_le _) (by omega)⟩
  · exact ⟨⟨ac1, p1⟩, by simp, hm 128 inb_S256x512_S256x128_0_128 (by omega) (by omega)⟩
  · exact ⟨⟨ac2, p2⟩, by simp, hm 256 inb_S256x512_S256x128_0_256 (by omega) (by omega)⟩
  · exact ⟨⟨ac3, p3⟩, by simp, hm 384 inb_S256x512_S256x128_0_384 (by omega) (by omega)⟩

/-- A load of a part after a store of the whole. -/
theorem read_cov_sub [∀ e, Nonempty (Elt F e)] (M : Memref sig .tc sp ⟨2, d⟩ e)
    (inb : ∀ a, (![0, 0] : Fin 2 → Nat) a + d a ≤ d a) (w : (⟨2, d⟩ : Shape).Idx → Elt F e) (L : List (View.Piece (Elt F) ⟨2, d⟩ e)) (R : Rect ⟨2, d⟩) :
    M.view.readCov ((⟨Rect.unit (s := ⟨2, d⟩) ![0, 0] d inb, w⟩ : View.Piece (Elt F) ⟨2, d⟩ e) :: L) R.toLoadRect = View.ld w R := by
  have hc : ∀ y : (⟨2, d⟩ : Shape).Idx, ∃ p ∈ ((⟨Rect.unit (s := ⟨2, d⟩) ![0, 0] d inb, w⟩ : View.Piece (Elt F) ⟨2, d⟩ e) :: L), y ∈ p.1.set :=
    fun y => ⟨⟨Rect.unit (s := ⟨2, d⟩) ![0, 0] d inb, w⟩, List.mem_cons_self, mem_whole2 inb y⟩
  refine (View.readCov_eq_canon_ld M.view _ _ hc).trans ?_
  exact congrArg (fun X => View.ld X _) (View.canon_cons_unit_zero (S := ⟨2, d⟩) hz inb w L)

/-- A load of the whole after the four stores that fill a stack. -/
theorem read_stack [∀ e, Nonempty (Elt F e)] (M : Memref sig .tc sp S1024x128 .bf16) (q : Vec F S256x512 .f32)
    (inb : ∀ a, (![0, 0] : Fin 2 → Nat) a + S1024x128.size a ≤ S1024x128.size a) :
    M.view.readCov ([⟨up3, k0_pay8 (View.ld q ac3)⟩, ⟨up2, k0_pay7 (View.ld q ac2)⟩, ⟨up1, k0_pay6 (View.ld q ac1)⟩, ⟨up0, k0_pay5 (View.ld q ac0)⟩] : List (View.Piece (Elt F) S1024x128 .bf16)) (Rect.unit (s := S1024x128) ![0, 0] S1024x128.size inb).toLoadRect = stack q :=
  (View.readCov_eq_canon_ld M.view _ _ (cover_up _ _ _ _)).trans (View.ld_unit_zero (S := S1024x128) hz inb _)

theorem read_stack_raw [∀ e, Nonempty (Elt F e)] (M : Memref sig .tc sp S1024x128 .bf16) (M5 : Memref sig .tc .vmem S256x512 .f32) (f5 : M5.view.ty.Contents (Elt F))
    (inb : ∀ a, (![0, 0] : Fin 2 → Nat) a + S1024x128.size a ≤ S1024x128.size a) :
    M.view.readCov ([⟨Rect.unit (s := S1024x128) ![768, 0] ![256, 128] inb_S1024x128_S256x128_768_0, k0_pay8 (View.readAt (Elt F) M5.view (Rect.unit (s := S256x512) ![0, 384] ![256, 128] inb_S256x512_S256x128_0_384).toLoadRect f5)⟩, ⟨Rect.unit (s := S1024x128) ![512, 0] ![256, 128] inb_S1024x128_S256x128_512_0, k0_pay7 (View.readAt (Elt F) M5.view (Rect.unit (s := S256x512) ![0, 256] ![256, 128] inb_S256x512_S256x128_0_256).toLoadRect f5)⟩, ⟨Rect.unit (s := S1024x128) ![256, 0] ![256, 128] inb_S1024x128_S256x128_256_0, k0_pay6 (View.readAt (Elt F) M5.view (Rect.unit (s := S256x512) ![0, 128] ![256, 128] inb_S256x512_S256x128_0_128).toLoadRect f5)⟩, ⟨Rect.unit (s := S1024x128) ![0, 0] ![256, 128] inb_S1024x128_S256x128_0_0, k0_pay5 (View.readAt (Elt F) M5.view (Rect.unit (s := S256x512) ![0, 0] ![256, 128] inb_S256x512_S256x128_0_0).toLoadRect f5)⟩] : List (View.Piece (Elt F) S1024x128 .bf16)) (Rect.unit (s := S1024x128) ![0, 0] ![1024, 128] inb).toLoadRect = stack (View.read (Elt F) M5.view f5) :=
  read_stack M _ inb

theorem read_stack' [∀ e, Nonempty (Elt F e)] (M : Memref sig .tc sp S1024x128 .bf16) (f : M.view.ty.Contents (Elt F)) (q : Vec F S256x512 .f32) :
    M.view.read (Elt F) (M.view.writes (Elt F) f ([⟨up3, k0_pay8 (View.ld q ac3)⟩, ⟨up2, k0_pay7 (View.ld q ac2)⟩, ⟨up1, k0_pay6 (View.ld q ac1)⟩, ⟨up0, k0_pay5 (View.ld q ac0)⟩] : List (View.Piece (Elt F) S1024x128 .bf16))) = stack q :=
  View.read_writes_eq_canon M.view f _ (cover_up _ _ _ _)

theorem read_unstack [∀ e, Nonempty (Elt F e)] (M : Memref sig .tc sp S256x512 .f32) (f : M.view.ty.Contents (Elt F)) (a : Vec F S1024x128 .f32) :
    M.view.read (Elt F) (M.view.writes (Elt F) f ([⟨ac3, View.ld a up3⟩, ⟨ac2, View.ld a up2⟩, ⟨ac1, View.ld a up1⟩, ⟨ac0, View.ld a up0⟩] : List (View.Piece (Elt F) S256x512 .f32))) = unstack a :=
  View.read_writes_eq_canon M.view f _ (cover_ac _ _ _ _)

set_option maxHeartbeats 2000000 in
theorem kernelRun (c : Dev nD) (i : grid0.Coords)
    (T3 T4 : Memref sig .tc .smem S136 .i32) (ht3 : T3.IsWhole) (ht4 : T4.IsWhole)
    (M5 : Memref sig .tc .vmem S256x512 .f32) (h5 : M5.IsWhole)
    (M6 M7 : Memref sig .tc .vmem S256x128 .f32) (h6 : M6.IsWhole) (h7 : M7.IsWhole)
    (M8 : Memref sig .tc .vmem S256x256 .bf16) (h8 : M8.IsWhole)
    (M9 : Memref sig .tc .vmem S256x512 .f32) (h9 : M9.IsWhole)
    (M10 : Memref sig .tc .vmem S1024x128 .bf16) (h10 : M10.IsWhole)
    (M11 : Memref sig .tc .vmem S1024x128 .f32) (h11 : M11.IsWhole)
    (M12 : Memref sig .tc .vmem S1024x1 .f32) (h12 : M12.IsWhole)
    (t3 : Bf (F := F) c T3) (t4 : Bf (F := F) c T4) (f5 : Bf (F := F) c M5) (f6 : Bf (F := F) c M6) (f7 : Bf (F := F) c M7)
    (f8 : Bf (F := F) c M8) (f9 : Bf (F := F) c M9) (f10 : Bf (F := F) c M10) (f11 : Bf (F := F) c M11) (f12 : Bf (F := F) c M12)
    (a b : BitVec 32) (ha : word c i T3 t3 = a) (hb : word c i T4 t4 = b) (s : St F)
    (hq : M10.view.read (Elt F) f10 = s.q) (hacc : M11.view.read (Elt F) f11 = s.acc) (hcar : M12.view.read (Elt F) f12 = s.car)
    (Q : PUnit → sProp 𝕄) :
    iprop(pt c T3 t3 ∗ pt c T4 t4 ∗ pt c M5 f5 ∗ pt c M6 f6 ∗ pt c M7 f7 ∗ pt c M8 f8 ∗ pt c M9 f9 ∗ pt c M10 f10 ∗ pt c M11 f11 ∗ pt c M12 f12
      ∗ (iprop(pt c T3 t3 ∗ pt c T4 t4 ∗ pt c M5 f5 ∗ pt c M6 f6 ∗ pt c M7 f7 ∗ pt c M8 f8
            ∗ (∃ f, ⌜M9.view.read (Elt F) f = outAt b (s.step a b (M5.view.read (Elt F) f5) (M6.view.read (Elt F) f6) (M7.view.read (Elt F) f7) (M8.view.read (Elt F) f8)) (M9.view.read (Elt F) f9)⌝ ∗ pt c M9 f)
            ∗ (∃ f, ⌜M10.view.read (Elt F) f = (s.step a b (M5.view.read (Elt F) f5) (M6.view.read (Elt F) f6) (M7.view.read (Elt F) f7) (M8.view.read (Elt F) f8)).q⌝ ∗ pt c M10 f)
            ∗ (∃ f, ⌜M11.view.read (Elt F) f = (s.step a b (M5.view.read (Elt F) f5) (M6.view.read (Elt F) f6) (M7.view.read (Elt F) f7) (M8.view.read (Elt F) f8)).acc⌝ ∗ pt c M11 f)
            ∗ (∃ f, ⌜M12.view.read (Elt F) f = (s.step a b (M5.view.read (Elt F) f5) (M6.view.read (Elt F) f6) (M7.view.read (Elt F) f7) (M8.view.read (Elt F) f8)).car⌝ ∗ pt c M12 f)) -∗ Q ⟨⟩))
    ⊢ wp frame (wpE (defs₀ (F := F)) Variants.none c none) Set.univ
        (cc0_sb_prompt i T3 ht3 T4 ht4 M5 h5 M6 h6 M7 h7 M8 h8 M9 h9 M10 h10 M11 h11 M12 h12) Q := by
  rw [cc0_sb_prompt_eq_skeleton]; unfold cc0_sb_prompt_skel
  rw [k0_part1_eq_skeleton, k0_part2_eq_skeleton, k0_part3_eq_skeleton]; unfold k0_part1_skel k0_part2_skel k0_part3_skel
  subst ha hb
  obtain ⟨sq, sa, sc⟩ := s
  dsimp only at hq hacc hcar
  subst hq hacc hcar
  by_cases h1 : isDiag (word c i T3 t3) (word c i T4 t4) <;> by_cases h2 : isBelow (word c i T3 t3) (word c i T4 t4) <;>
      by_cases h3 : isLast (word c i T4 t4) <;>
  ( have g1 := h1; have g2 := h2; have g3 := h3
    unfold isDiag at g1; unfold isBelow at g2; unfold isLast at g3
    iintro ⟨H3, H4, H5, H6, H7, H8, H9, H10, H11, H12, Hk⟩
    sl_exec! (disch := first | sl_exact g1 | sl_exact g2 | sl_exact g3)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; rotate_left
    isplitl [H10]; rotate_left
    isplitl [H11]; rotate_left
    all_goals iexists _; isplitr; rotate_left; first | iexact H9 | iexact H10 | iexact H11 | iexact H12
    all_goals ipureintro
    all_goals sl_unfold_words
    all_goals try simp only [outAt, St.step, h1, h2, h3, if_true, if_false, St.full, St.diag, St.zero]
    all_goals try simp only [read_st, read_ld, read_cov, shapeCast_self]
    all_goals try simp only [read_cov_sub]
    all_goals try simp only [read_stack_raw]
    all_goals first
      | rfl
      | exact read_stack' _ _ _
      | exact read_unstack _ _ _
      | skip)

end Cert.Proof.Sb

end
-- ==== Proof.SbSpec.lean ====
/-
  The stick-breaking attention over arrays: each key's share of what the later keys have left of the stick.
-/
module

public import proofs.«01_k».proof.Proof.Online

@[expose] public section

noncomputable section

namespace Cert.Proof.Sb

open Idealize.ShloMosaic Cert.Proof.Online Finset

/-- The number the products are multiplied by: the reciprocal of the square root of 128. -/
def scale : EReal := (((Real.sqrt 128)⁻¹ : ℝ) : EReal)

/-- The score of query `t` and key `j` of head `h` of sequence `b`. Queries, keys and values lie side by side in `X`;
    four heads share a key head. -/
def raw (X : Mat 8192 5120) (b h t j : ℕ) : EReal :=
  (∑ d : Fin 128, rd X (b * 4096 + t) ((16 + h) * 128 + d.val) * rd X (b * 4096 + j) ((32 + h / 4) * 128 + d.val)) * scale

/-- The same as a real number. -/
def zr (X : Mat 8192 5120) (b h t j : ℕ) : ℝ := (raw X b h t j).toReal

/-- Column `e` of the value of key `j` of head `h` of sequence `b`. -/
def vl (X : Mat 8192 5120) (b h e j : ℕ) : EReal := rd X (b * 4096 + j) ((36 + h / 4) * 128 + e)

/-- The logarithm of the logistic function. -/
def lsg (z : ℝ) : ℝ := min z 0 - Real.log (1 + Real.exp (-|z|))

/-- The logarithm of what key `s` leaves of the stick; nothing is taken from query `t` on. -/
def lk (z : ℕ → ℝ) (t s : ℕ) : ℝ := if s < t then lsg (z s) - z s else 0

/-- The weight of key `s`: its share of what the keys between it and the query left. -/
def wt (z : ℕ → ℝ) (t s : ℕ) : EReal :=
  if s < t then ((Real.exp (lsg (z s) + ∑ r ∈ Ico (s + 1) 4096, lk z t r) : ℝ) : EReal) else 0

/-- The attention's output: the values' weighted sum over a sequence's 4096 keys. -/
def att (X : Mat 8192 5120) (r l : ℕ) : EReal :=
  ∑ s ∈ Ico 0 4096, wt (zr X (r / 4096) (l / 128) (r % 4096)) (r % 4096) s * vl X (r / 4096) (l / 128) (l % 128) s

/-! ### The logarithms over the extended reals -/

theorem log_one_add (x : ℝ) : Ideal.log (1 + ((Real.exp x : ℝ) : EReal)) = ((Real.log (1 + Real.exp x) : ℝ) : EReal) := by
  have h : (1 : EReal) + ((Real.exp x : ℝ) : EReal) = ((1 + Real.exp x : ℝ) : EReal) := by rw [EReal.coe_add, EReal.coe_one]
  rw [h, Ideal.log_coe, if_neg (not_le.mpr (by positivity))]

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

theorem max_neg (z : ℝ) : max (z : EReal) (-(z : EReal)) = ((|z| : ℝ) : EReal) := by
  rw [← EReal.coe_neg, ← coe_max]; rfl

/-- The kernel's spelling. -/
theorem lsg_kernel (z : ℝ) : min (z : EReal) 0 - Ideal.log (1 + Ideal.exp (0 - max (z : EReal) (-(z : EReal)))) = ((lsg z : ℝ) : EReal) := by
  rw [max_neg, zero_sub, ← EReal.coe_neg, Ideal.exp_coe, log_one_add, lsg, EReal.coe_sub, coe_min, EReal.coe_zero]

/-- The reference's spelling, at the score. -/
theorem lsg_ref (z : ℝ) : -(max (-(z : EReal)) 0 + Ideal.log (1 + Ideal.exp (-(max (-(z : EReal)) (-(-(z : EReal))))))) = ((lsg z : ℝ) : EReal) := by
  rw [← EReal.coe_neg, max_neg, ← EReal.coe_neg, Ideal.exp_coe, log_one_add, ← EReal.coe_zero, ← coe_max, ← EReal.coe_add, ← EReal.coe_neg, abs_neg, lsg]
  congr 1
  have : max (-z) 0 = - min z 0 := by
    rcases le_total z 0 with h | h
    · rw [min_eq_left h, max_eq_left (by linarith)]
    · rw [min_eq_right h, max_eq_right (by linarith), neg_zero]
  rw [this]; ring

/-- The same at the score with its sign changed. -/
theorem lsg_neg (z : ℝ) : lsg (-z) = lsg z - z := by
  have : min (-z) 0 = min z 0 - z := by
    rcases le_total z 0 with h | h
    · rw [min_eq_right (by linarith), min_eq_left h]; ring
    · rw [min_eq_left (by linarith), min_eq_right h]; ring
  rw [lsg, lsg, abs_neg, this]; ring

/-! ### A block of 256 keys -/

/-- The sum of a block's entries after its `j`-th. -/
theorem later_sum (f : ℕ → ℝ) (n : ℕ) (j : Fin 256) :
    (∑ r : Fin 256, if j.val < r.val then f (n + r.val) else 0) = ∑ r ∈ Ico (n + j.val + 1) (n + 256), f r := by
  rw [Fin.sum_univ_eq_sum_range (fun r => if j.val < r then f (n + r) else 0) 256, ← sum_filter,
    show (range 256).filter (fun r => j.val < r) = Ico (j.val + 1) 256 from by ext r; simp only [mem_filter, mem_range, mem_Ico]; omega,
    sum_Ico_add f (j.val + 1) 256 n]
  refine sum_congr ?_ fun _ _ => rfl
  congr 1 <;> omega

/-- The kernel's two products with the matrix of later places. -/
theorem later_products (f : Fin 256 → ℝ) (L : Fin 256 → EReal) (j : Fin 256) (hL : ∀ r, L r = if j.val < r.val then 1 else 0) :
    (∑ r : Fin 256, (f r : EReal) * L r) + (∑ r : Fin 256, ((f r : EReal) - (f r : EReal)) * L r)
      = ((∑ r : Fin 256, if j.val < r.val then f r else 0 : ℝ) : EReal) := by
  rw [coe_sum]
  have h1 : ∀ r : Fin 256, ((f r : EReal) - (f r : EReal)) * L r = 0 := fun r => by
    rw [← EReal.coe_sub, sub_self, EReal.coe_zero, zero_mul]
  have h2 : ∀ r : Fin 256, (f r : EReal) * L r = ((if j.val < r.val then f r else 0 : ℝ) : EReal) := fun r => by
    rw [hL]; split <;> simp
  rw [sum_congr rfl fun r _ => h1 r, sum_const_zero, add_zero, sum_congr rfl fun r _ => h2 r]

/-- A block taken into a sum that runs down from the end. -/
theorem block_add {M : Type*} [AddCommMonoid M] (g : ℕ → M) {n : ℕ} (hn : n + 256 ≤ 4096) :
    (∑ s ∈ Ico (n + 256) 4096, g s) + (∑ j : Fin 256, g (n + j.val)) = ∑ s ∈ Ico n 4096, g s := by
  rw [Fin.sum_univ_eq_sum_range (fun j => g (n + j)) 256, add_comm, ← sum_Ico_consecutive g (Nat.le_add_right n 256) hn]
  congr 1
  rw [sum_Ico_eq_sum_range]
  congr 2
  omega

/-- What a block's later keys and the keys after the block leave. -/
theorem tail_add (f : ℕ → ℝ) {n : ℕ} (hn : n + 256 ≤ 4096) (j : Fin 256) :
    ((∑ r ∈ Ico (n + j.val + 1) (n + 256), f r) + ∑ r ∈ Ico (n + 256) 4096, f r) = ∑ r ∈ Ico (n + j.val + 1) 4096, f r :=
  sum_Ico_consecutive f (by omega) hn

/-- The whole block and the keys after it. -/
theorem head_add (f : ℕ → ℝ) {n : ℕ} (hn : n + 256 ≤ 4096) :
    ((∑ r ∈ Ico (n + 256) 4096, f r) + ((∑ r ∈ Ico (n + 1) (n + 256), f r) + f n)) = ∑ r ∈ Ico n 4096, f r := by
  rw [sum_eq_sum_Ico_succ_bot (show n < 4096 by omega), ← sum_Ico_consecutive f (show n + 1 ≤ n + 256 by omega) hn]
  ring

theorem lk_after {z : ℕ → ℝ} {t n : ℕ} (h : t ≤ n) : (∑ r ∈ Ico n 4096, lk z t r) = 0 :=
  sum_eq_zero fun r hr => if_neg (by have := (mem_Ico.mp hr).1; omega)

theorem wt_after {z : ℕ → ℝ} {t n : ℕ} (V : ℕ → EReal) (h : t ≤ n) : (∑ s ∈ Ico n 4096, wt z t s * V s) = 0 :=
  sum_eq_zero fun s hs => by rw [wt, if_neg (by have := (mem_Ico.mp hs).1; omega), zero_mul]

end Cert.Proof.Sb

end
-- ==== Proof.SbPay.lean ====
/-
  The kernel body's arrays read at an index over the extended reals.
-/
module

public import Idealize.ShloMosaic.Lib.Pointwise
public import proofs.«01_k».proof.Proof.SbBody
public import proofs.«01_k».proof.Proof.SbSpec

@[expose] public section

noncomputable section

namespace Cert.Proof.Sb

open Idealize.ShloMosaic Cert.Proof.Online Cert.KernelSIdeal Cert.KernelSIdeal.Gen

/-- A strict comparison of two small places. -/
theorem select_slt {α : Type} {a b : ℕ} (ha : a < 4096) (hb : b < 4096) (x y : α) :
    Scalar.select (IntOp.cmpi .slt (BitVec.ofNat 32 a) (BitVec.ofNat 32 b)) x y = if a < b then x else y := by
  rw [Idealize.ShloMosaic.WordCmp.cmpi_slt_ofNat (by omega) (by omega)]
  by_cases h : a < b <;> simp [Scalar.select, h]

theorem low8 : ∀ i : Fin 1024, IntOp.andi (BitVec.ofNat 32 i.val) 255#32 = BitVec.ofNat 32 (i.val % 256) := by decide +kernel

theorem start_acc (i : Fin 1024) (d : Fin 128) : (k0_pay9 (F := Ideal)) (ix2 i d) = 0 := by
  pointwise [k0_pay9]
theorem start_car (i : Fin 1024) : (k0_pay10 (F := Ideal)) (ix2 i 0) = 0 := by
  pointwise [k0_pay10]

section Block

variable (q : Vec Ideal S1024x128 .bf16) (k v : Vec Ideal S256x128 .f32) (L : Vec Ideal S256x256 .bf16) (c : Vec Ideal S1024x1 .f32)
variable (a : Vec Ideal S1024x128 .f32) (i : Fin 1024) (j : Fin 256)

theorem diag_score : k0_pay11 (F := Ideal) q k (ix2 i j) = (∑ d : Fin 128, q (ix2 i d) * k (ix2 j d)) * scale := by
  pointwise [k0_pay11]
  rfl
theorem full_score : k0_pay17 (F := Ideal) q k (ix2 i j) = (∑ d : Fin 128, q (ix2 i d) * k (ix2 j d)) * scale := by
  pointwise [k0_pay17]
  rfl

theorem diag_lsg : k0_pay12 (F := Ideal) q k (ix2 i j)
      = min (k0_pay11 (F := Ideal) q k (ix2 i j)) 0 - Ideal.log (1 + Ideal.exp (0 - max (k0_pay11 (F := Ideal) q k (ix2 i j)) (-(k0_pay11 (F := Ideal) q k (ix2 i j))))) := by
  pointwise [k0_pay12]
  rfl
theorem full_lsg : k0_pay18 (F := Ideal) q k (ix2 i j)
      = min (k0_pay17 (F := Ideal) q k (ix2 i j)) 0 - Ideal.log (1 + Ideal.exp (0 - max (k0_pay17 (F := Ideal) q k (ix2 i j)) (-(k0_pay17 (F := Ideal) q k (ix2 i j))))) := by
  pointwise [k0_pay18]
  rfl

theorem diag_lk : k0_pay14 (F := Ideal) q k (ix2 i j)
      = if j.val < i.val % 256 then k0_pay12 (F := Ideal) q k (ix2 i j) - k0_pay11 (F := Ideal) q k (ix2 i j) else 0 := by
  pointwise [k0_pay14, k0_pay13]
  rw [low8, select_slt (by omega) (by omega)]
theorem full_lk : k0_pay19 (F := Ideal) q k (ix2 i j) = k0_pay18 (F := Ideal) q k (ix2 i j) - k0_pay17 (F := Ideal) q k (ix2 i j) := by
  pointwise [k0_pay19]

theorem diag_later : k0_pay15 (F := Ideal) q k L (ix2 i j)
      = (∑ r : Fin 256, k0_pay14 (F := Ideal) q k (ix2 i r) * L (ix2 r j))
        + ∑ r : Fin 256, (k0_pay14 (F := Ideal) q k (ix2 i r) - k0_pay14 (F := Ideal) q k (ix2 i r)) * L (ix2 r j) := by
  pointwise [k0_pay15]
theorem full_later : k0_pay20 (F := Ideal) q k L (ix2 i j)
      = (∑ r : Fin 256, k0_pay19 (F := Ideal) q k (ix2 i r) * L (ix2 r j))
        + ∑ r : Fin 256, (k0_pay19 (F := Ideal) q k (ix2 i r) - k0_pay19 (F := Ideal) q k (ix2 i r)) * L (ix2 r j) := by
  pointwise [k0_pay20]

theorem diag_wt : k0_pay16 (F := Ideal) q k L c (ix2 i j)
      = if j.val < i.val % 256 then Ideal.exp (k0_pay12 (F := Ideal) q k (ix2 i j) + k0_pay15 (F := Ideal) q k L (ix2 i j) + c (ix2 i 0)) else 0 := by
  pointwise [k0_pay16, k0_pay13]
  rw [low8, select_slt (by omega) (by omega)]

theorem diag_acc (w : FVec Ideal S1024x256 .bf16) (d : Fin 128) : k0_pay1 (F := Ideal) a w v (ix2 i d)
      = a (ix2 i d) + ∑ j : Fin 256, w (ix2 i j) * v (ix2 j d) := by
  pointwise [k0_pay1]
theorem full_acc (d : Fin 128) : k0_pay3 (F := Ideal) (k0_pay21 (F := Ideal) q k L c a v) (ix2 i d)
      = a (ix2 i d) + ∑ j : Fin 256, Ideal.exp (k0_pay18 (F := Ideal) q k (ix2 i j) + k0_pay20 (F := Ideal) q k L (ix2 i j) + c (ix2 i 0)) * v (ix2 j d) := by
  pointwise [k0_pay3, k0_pay21]

theorem diag_car (x y : FVec Ideal S1024x256 .f32) : k0_pay2 (F := Ideal) x y c (ix2 i 0) = c (ix2 i 0) + (y (ix2 i 0) + x (ix2 i 0)) := by
  pointwise [k0_pay2]
theorem full_car (x y : FVec Ideal S1024x256 .f32) : k0_pay4 (F := Ideal) x y c (ix2 i 0) = c (ix2 i 0) + (y (ix2 i 0) + x (ix2 i 0)) := by
  pointwise [k0_pay4]

end Block

/-! ### The stack of four heads -/

theorem pay_id5 (x : Vec Ideal S256x128 .f32) (i : Fin 256) (d : Fin 128) : k0_pay5 (F := Ideal) x (ix2 i d) = x (ix2 i d) := by
  pointwise [k0_pay5]
theorem pay_id6 (x : Vec Ideal S256x128 .f32) (i : Fin 256) (d : Fin 128) : k0_pay6 (F := Ideal) x (ix2 i d) = x (ix2 i d) := by
  pointwise [k0_pay6]
theorem pay_id7 (x : Vec Ideal S256x128 .f32) (i : Fin 256) (d : Fin 128) : k0_pay7 (F := Ideal) x (ix2 i d) = x (ix2 i d) := by
  pointwise [k0_pay7]
theorem pay_id8 (x : Vec Ideal S256x128 .f32) (i : Fin 256) (d : Fin 128) : k0_pay8 (F := Ideal) x (ix2 i d) = x (ix2 i d) := by
  pointwise [k0_pay8]

/-- Row `i` of the stack is row `i % 256` of head `i / 256`. -/
theorem stack_apply (q : Vec Ideal S256x512 .f32) (i : Fin 1024) (d : Fin 128) :
    stack (F := Ideal) q (ix2 i d) = q (ix2 ⟨i.val % 256, by omega⟩ ⟨i.val / 256 * 128 + d.val, by omega⟩) := by
  unfold stack
  refine View.canon_apply_of_pieces (Val := Elt Ideal) (e := .bf16) (fun y : S1024x128.Idx => q (ix2 ⟨(y 0).val % 256, by omega⟩ ⟨(y 0).val / 256 * 128 + (y 1).val, by have h0 : (y 0).val < 1024 := (y 0).isLt; have h1 : (y 1).val < 128 := (y 1).isLt; omega⟩)) _ ?_ (ix2 i d) (cover_up _ _ _ _ _)
  intro p hp x
  rcases List.mem_cons.mp hp with rfl | hp
  · obtain ⟨r, e, rfl⟩ : ∃ (r : Fin 256) (e : Fin 128), x = (ix2 r e : S256x128.Idx) := ⟨x 0, x 1, eq_ix2 _⟩
    refine (pay_id8 _ r e).trans (congrArg q (funext fun a => Fin.ext ?_))
    match a with
    | 0 => show 0 + 1 * r.val = (768 + 1 * r.val) % 256; omega
    | 1 => show 384 + 1 * e.val = (768 + 1 * r.val) / 256 * 128 + (0 + 1 * e.val); omega
  rcases List.mem_cons.mp hp with rfl | hp
  · obtain ⟨r, e, rfl⟩ : ∃ (r : Fin 256) (e : Fin 128), x = (ix2 r e : S256x128.Idx) := ⟨x 0, x 1, eq_ix2 _⟩
    refine (pay_id7 _ r e).trans (congrArg q (funext fun a => Fin.ext ?_))
    match a with
    | 0 => show 0 + 1 * r.val = (512 + 1 * r.val) % 256; omega
    | 1 => show 256 + 1 * e.val = (512 + 1 * r.val) / 256 * 128 + (0 + 1 * e.val); omega
  rcases List.mem_cons.mp hp with rfl | hp
  · obtain ⟨r, e, rfl⟩ : ∃ (r : Fin 256) (e : Fin 128), x = (ix2 r e : S256x128.Idx) := ⟨x 0, x 1, eq_ix2 _⟩
    refine (pay_id6 _ r e).trans (congrArg q (funext fun a => Fin.ext ?_))
    match a with
    | 0 => show 0 + 1 * r.val = (256 + 1 * r.val) % 256; omega
    | 1 => show 128 + 1 * e.val = (256 + 1 * r.val) / 256 * 128 + (0 + 1 * e.val); omega
  rcases List.mem_cons.mp hp with rfl | hp
  · obtain ⟨r, e, rfl⟩ : ∃ (r : Fin 256) (e : Fin 128), x = (ix2 r e : S256x128.Idx) := ⟨x 0, x 1, eq_ix2 _⟩
    refine (pay_id5 _ r e).trans (congrArg q (funext fun a => Fin.ext ?_))
    match a with
    | 0 => show 0 + 1 * r.val = (0 + 1 * r.val) % 256; omega
    | 1 => show 0 + 1 * e.val = (0 + 1 * r.val) / 256 * 128 + (0 + 1 * e.val); omega
  · exact absurd hp List.not_mem_nil

/-- And back. -/
theorem unstack_apply (s : Vec Ideal S1024x128 .f32) (i : Fin 256) (l : Fin 512) :
    unstack (F := Ideal) s (ix2 i l) = s (ix2 ⟨l.val / 128 * 256 + i.val, by omega⟩ ⟨l.val % 128, by omega⟩) := by
  unfold unstack
  refine View.canon_apply_of_pieces (fun y : S256x512.Idx => s (ix2 ⟨(y 1).val / 128 * 256 + (y 0).val, by have h0 : (y 0).val < 256 := (y 0).isLt; have h1 : (y 1).val < 512 := (y 1).isLt; omega⟩ ⟨(y 1).val % 128, by omega⟩)) _ ?_ (ix2 i l) (cover_ac _ _ _ _ _)
  intro p hp x
  rcases List.mem_cons.mp hp with rfl | hp
  · have h1 : (x 1).val < 128 := (x 1).isLt
    refine congrArg s (funext fun a => Fin.ext ?_)
    match a with
    | 0 => show 768 + 1 * (x 0).val = (384 + 1 * (x 1).val) / 128 * 256 + (0 + 1 * (x 0).val); omega
    | 1 => show 0 + 1 * (x 1).val = (384 + 1 * (x 1).val) % 128; omega
  rcases List.mem_cons.mp hp with rfl | hp
  · have h1 : (x 1).val < 128 := (x 1).isLt
    refine congrArg s (funext fun a => Fin.ext ?_)
    match a with
    | 0 => show 512 + 1 * (x 0).val = (256 + 1 * (x 1).val) / 128 * 256 + (0 + 1 * (x 0).val); omega
    | 1 => show 0 + 1 * (x 1).val = (256 + 1 * (x 1).val) % 128; omega
  rcases List.mem_cons.mp hp with rfl | hp
  · have h1 : (x 1).val < 128 := (x 1).isLt
    refine congrArg s (funext fun a => Fin.ext ?_)
    match a with
    | 0 => show 256 + 1 * (x 0).val = (128 + 1 * (x 1).val) / 128 * 256 + (0 + 1 * (x 0).val); omega
    | 1 => show 0 + 1 * (x 1).val = (128 + 1 * (x 1).val) % 128; omega
  rcases List.mem_cons.mp hp with rfl | hp
  · have h1 : (x 1).val < 128 := (x 1).isLt
    refine congrArg s (funext fun a => Fin.ext ?_)
    match a with
    | 0 => show 0 + 1 * (x 0).val = (0 + 1 * (x 1).val) / 128 * 256 + (0 + 1 * (x 0).val); omega
    | 1 => show 0 + 1 * (x 1).val = (0 + 1 * (x 1).val) % 128; omega
  · exact absurd hp List.not_mem_nil

/-! ### One grid point on one row -/

/-- Row `i` of the kept state holds the query `Q` at place `t` with scores `z`, and the stick and the weighted sum of
the values `V d` over the keys from `n` on. -/
structure Row (st : St Ideal) (i : Fin 1024) (Q : Fin 128 → EReal) (z : ℕ → ℝ) (t : ℕ) (V : ℕ → ℕ → EReal) (n : ℕ) : Prop where
  q : ∀ d : Fin 128, st.q (ix2 i d) = Q d
  acc : ∀ d : Fin 128, st.acc (ix2 i d) = ∑ s ∈ Finset.Ico n 4096, wt z t s * V d.val s
  car : st.car (ix2 i 0) = ((∑ r ∈ Finset.Ico n 4096, lk z t r : ℝ) : EReal)

variable {st : St Ideal} {i : Fin 1024} {Q : Fin 128 → EReal} {z : ℕ → ℝ} {t : ℕ} {V : ℕ → ℕ → EReal} {n : ℕ}

theorem row_zero (q : Vec Ideal S256x512 .f32) (i : Fin 1024) (z : ℕ → ℝ) (V : ℕ → ℕ → EReal) (h : t ≤ n) :
    Row (St.zero q) i (fun d => q (ix2 ⟨i.val % 256, by omega⟩ ⟨i.val / 256 * 128 + d.val, by omega⟩)) z t V n :=
  ⟨fun d => stack_apply q i d, fun d => (start_acc i d).trans (wt_after _ h).symm,
    (start_car i).trans (by rw [lk_after h, EReal.coe_zero])⟩

variable (k v : Vec Ideal S256x128 .f32) (L : Vec Ideal S256x256 .bf16) (hn : n + 256 ≤ 4096)
  (hz : ∀ j : Fin 256, (∑ d : Fin 128, Q d * k (ix2 j d)) * scale = ((z (n + j.val) : ℝ) : EReal))
  (hv : ∀ (j : Fin 256) (d : Fin 128), v (ix2 j d) = V d.val (n + j.val))
  (hL : ∀ r j : Fin 256, L (ix2 r j) = if j.val < r.val then 1 else 0)

include hn hz hv hL

theorem row_full (h : Row st i Q z t V (n + 256)) (ht : n + 256 ≤ t) : Row (st.full k v L) i Q z t V n := by
  have e1 : ∀ j : Fin 256, k0_pay17 (F := Ideal) st.q k (ix2 i j) = ((z (n + j.val) : ℝ) : EReal) := fun j => by
    rw [full_score, ← hz j]; simp only [h.q]
  have e2 : ∀ j : Fin 256, k0_pay18 (F := Ideal) st.q k (ix2 i j) = ((lsg (z (n + j.val)) : ℝ) : EReal) := fun j => by
    rw [full_lsg, e1, lsg_kernel]
  have e3 : ∀ j : Fin 256, k0_pay19 (F := Ideal) st.q k (ix2 i j) = ((lk z t (n + j.val) : ℝ) : EReal) := fun j => by
    rw [full_lk, e1, e2, lk, if_pos (by omega), EReal.coe_sub]
  have e4 : ∀ j : Fin 256, k0_pay20 (F := Ideal) st.q k L (ix2 i j) = ((∑ r ∈ Finset.Ico (n + j.val + 1) (n + 256), lk z t r : ℝ) : EReal) := fun j => by
    rw [full_later]; simp only [e3]
    rw [later_products (fun r => lk z t (n + r.val)) (fun r => L (ix2 r j)) j (fun r => hL r j), later_sum]
  refine ⟨h.q, fun d => ?_, ?_⟩
  · refine (full_acc st.q k v L st.car st.acc i d).trans ?_
    rw [h.acc, ← block_add (fun s => wt z t s * V d.val s) hn]
    refine congrArg (fun x : EReal => _ + x) (Finset.sum_congr rfl fun j _ => ?_)
    rw [e2, e4, h.car, hv, wt, if_pos (by omega), ← EReal.coe_add, ← EReal.coe_add, Ideal.exp_coe, add_assoc, tail_add _ hn]
  · refine (full_car st.car i _ _).trans ?_
    rw [h.car, e4, e3, ← EReal.coe_add, ← EReal.coe_add]
    exact congrArg _ (head_add (lk z t) hn)

theorem row_diag (h : Row st i Q z t V (n + 256)) (ht : t = n + i.val % 256) : Row (st.diag k v L) i Q z t V n := by
  have e1 : ∀ j : Fin 256, k0_pay11 (F := Ideal) st.q k (ix2 i j) = ((z (n + j.val) : ℝ) : EReal) := fun j => by
    rw [diag_score, ← hz j]; simp only [h.q]
  have e2 : ∀ j : Fin 256, k0_pay12 (F := Ideal) st.q k (ix2 i j) = ((lsg (z (n + j.val)) : ℝ) : EReal) := fun j => by
    rw [diag_lsg, e1, lsg_kernel]
  have e3 : ∀ j : Fin 256, k0_pay14 (F := Ideal) st.q k (ix2 i j) = ((lk z t (n + j.val) : ℝ) : EReal) := fun j => by
    rw [diag_lk, e1, e2, lk]
    by_cases hj : j.val < i.val % 256
    · rw [if_pos hj, if_pos (by omega), EReal.coe_sub]
    · rw [if_neg hj, if_neg (by omega), EReal.coe_zero]
  have e4 : ∀ j : Fin 256, k0_pay15 (F := Ideal) st.q k L (ix2 i j) = ((∑ r ∈ Finset.Ico (n + j.val + 1) (n + 256), lk z t r : ℝ) : EReal) := fun j => by
    rw [diag_later]; simp only [e3]
    rw [later_products (fun r => lk z t (n + r.val)) (fun r => L (ix2 r j)) j (fun r => hL r j), later_sum]
  refine ⟨h.q, fun d => ?_, ?_⟩
  · refine (diag_acc v st.acc i _ d).trans ?_
    rw [h.acc, ← block_add (fun s => wt z t s * V d.val s) hn]
    refine congrArg (fun x : EReal => _ + x) (Finset.sum_congr rfl fun j _ => ?_)
    rw [diag_wt, hv, wt]
    by_cases hj : j.val < i.val % 256
    · rw [if_pos hj, if_pos (by omega), e2, e4, h.car, ← EReal.coe_add, ← EReal.coe_add, Ideal.exp_coe, add_assoc, tail_add _ hn]
    · rw [if_neg hj, if_neg (by omega)]
  · refine (diag_car st.car i _ _).trans ?_
    rw [h.car, e4, e3, ← EReal.coe_add, ← EReal.coe_add]
    exact congrArg _ (head_add (lk z t) hn)

end Cert.Proof.Sb

end
-- ==== Proof.SbGrid.lean ====
module

public import proofs.«01_k».proof.Proof.SbBody

/-!
# The grid of the stick-breaking attention call and its prefetched tables

The grid is (batch, head, j); the two tables list, for each j, the query block and the key block of the j-th
block pair of the causal triangle, each query block's key blocks from the diagonal down. At the tables as the program computes them every window's block index is a
number read off the grid point.
-/

@[expose] public section

noncomputable section

namespace Cert.Proof.Sb

open Cert.KernelSIdeal Cert.KernelSIdeal.Gen
open Idealize.ShloMosaic

variable {F : FTy → Type} [FloatOps F] [Named F]

/-- The tables' contents as the program writes them. -/
def tabs : pre0.Contents (Elt F) := fun
  | 0 => fun i => lit0 (S136.rowMajor i)
  | 1 => fun i => lit1 (S136.rowMajor i)
  | ⟨_ + 2, h⟩ => absurd h (Nat.not_lt.2 (Nat.le_add_left _ _))

/-- The query block of the `j`-th pair. -/
def qN (j : Fin 136) : ℕ := (lit0 j).toNat
/-- The key block of the `j`-th pair. -/
def kN (j : Fin 136) : ℕ := (lit1 j).toNat

/-- A grid point's batch, head and pair. -/
def cb (i : grid0.Coords) : Fin 2 := i 0
def ch (i : grid0.Coords) : Fin 4 := i 1
def cj (i : grid0.Coords) : Fin 136 := i 2

/-- The offset of the word a grid point reads off a table. -/
theorem off_val (i : grid0.Coords) : k0_off1 i 0 = (cj i).val := by
  show (BitVec.ofNat 32 (i 2).val).toNat = (i 2).val
  have h : (i 2).val < 136 := (i 2).isLt
  simp only [BitVec.toNat_ofNat]; exact Nat.mod_eq_of_lt (lt_trans h (by decide))

/-- The index of a table's `x`-th word. -/
def one (x : Fin 136) : S136.Idx := fun | 0 => x | ⟨_ + 1, h⟩ => absurd h (Nat.not_lt.2 (Nat.le_add_left _ _))

theorem rowMajor_val : ∀ x : Fin 136, (S136.rowMajor (one x)).val = x.val := by decide
theorem rowMajor_one (x : Fin 136) : S136.rowMajor (one x) = (x : Fin S136.numel) := Fin.ext (rowMajor_val x)

/-- The word of a table that a grid point reads is at its last coordinate. -/
theorem emb_eq (i : grid0.Coords) (z : (Rect.unit (s := S136) (k0_off1 i) S1.size (Facts₀.k0_off1_inb i)).shape.Idx) :
    (Rect.unit (s := S136) (k0_off1 i) S1.size (Facts₀.k0_off1_inb i)).emb z = one (cj i) := by
  funext a; apply Fin.ext
  match a with
  | 0 =>
    show k0_off1 i 0 + 1 * (z 0).val = (cj i).val
    have : (z 0).val < 1 := (z 0).isLt
    rw [off_val]; omega

theorem word_q : ∀ (x : Fin 2) (j : Fin 136), (Scalar.addi (Scalar.muli (BitVec.ofNat 32 x.val) 16#32) (lit0 j)).toNat = x.val * 16 + qN j := by
  decide +kernel
theorem word_k : ∀ (x : Fin 2) (j : Fin 136), (Scalar.addi (Scalar.muli (BitVec.ofNat 32 x.val) 16#32) (lit1 j)).toNat = x.val * 16 + kN j := by
  decide +kernel

theorem at_q (i : grid0.Coords) : (tabs (F := F)).at 0 (Rect.unit (s := S136) (k0_off1 i) S1.size (Facts₀.k0_off1_inb i)) Facts₀.numel1_S1 = lit0 (cj i) :=
  congrArg lit0 ((congrArg S136.rowMajor (emb_eq i _)).trans (rowMajor_one (cj i)))
theorem at_k (i : grid0.Coords) : (tabs (F := F)).at 1 (Rect.unit (s := S136) (k0_off1 i) S1.size (Facts₀.k0_off1_inb i)) Facts₀.numel1_S1 = lit1 (cj i) :=
  congrArg lit1 ((congrArg S136.rowMajor (emb_eq i _)).trans (rowMajor_one (cj i)))

/-- The point with head `y` and nothing else. -/
def headPt (y : Fin 4) : grid0.Coords := fun | 0 => (0 : Fin 2) | 1 => y | 2 => (0 : Fin 136) | ⟨_ + 3, h⟩ => absurd h (Nat.not_lt.2 (Nat.le_add_left _ _))

theorem head_q : ∀ y : Fin 4, cc0_transform_0 (F := Ideal) Facts₀.k0_off1_inb Facts₀.numel1_S1 tabs (headPt y) 1 = 4 + y.val := by decide +kernel
theorem head_k : ∀ y : Fin 4, cc0_transform_1 (F := Ideal) Facts₀.k0_off1_inb Facts₀.numel1_S1 tabs (headPt y) 1 = 32 + y.val := by decide +kernel
theorem head_v : ∀ y : Fin 4, cc0_transform_2 (F := Ideal) Facts₀.k0_off1_inb Facts₀.numel1_S1 tabs (headPt y) 1 = 36 + y.val := by decide +kernel
theorem head_o : ∀ y : Fin 4, cc0_transform_4 (F := Ideal) Facts₀.k0_off1_inb Facts₀.numel1_S1 tabs (headPt y) 1 = y.val := by decide +kernel

theorem ix_q0 (i : grid0.Coords) : cc0_transform_0 Facts₀.k0_off1_inb Facts₀.numel1_S1 (tabs (F := F)) i 0 = (cb i).val * 16 + qN (cj i) :=
  (congrArg (fun w => (Scalar.addi (Scalar.muli (BitVec.ofNat 32 (cb i).val) 16#32) w).toNat) (at_q (F := F) i)).trans (word_q _ _)
theorem ix_k0 (i : grid0.Coords) : cc0_transform_1 Facts₀.k0_off1_inb Facts₀.numel1_S1 (tabs (F := F)) i 0 = (cb i).val * 16 + kN (cj i) :=
  (congrArg (fun w => (Scalar.addi (Scalar.muli (BitVec.ofNat 32 (cb i).val) 16#32) w).toNat) (at_k (F := F) i)).trans (word_k _ _)
theorem ix_v0 (i : grid0.Coords) : cc0_transform_2 Facts₀.k0_off1_inb Facts₀.numel1_S1 (tabs (F := F)) i 0 = (cb i).val * 16 + kN (cj i) :=
  (congrArg (fun w => (Scalar.addi (Scalar.muli (BitVec.ofNat 32 (cb i).val) 16#32) w).toNat) (at_k (F := F) i)).trans (word_k _ _)
theorem ix_o0 (i : grid0.Coords) : cc0_transform_4 Facts₀.k0_off1_inb Facts₀.numel1_S1 (tabs (F := F)) i 0 = (cb i).val * 16 + qN (cj i) :=
  (congrArg (fun w => (Scalar.addi (Scalar.muli (BitVec.ofNat 32 (cb i).val) 16#32) w).toNat) (at_q (F := F) i)).trans (word_q _ _)
theorem ix_q1 (i : grid0.Coords) : cc0_transform_0 Facts₀.k0_off1_inb Facts₀.numel1_S1 (tabs (F := F)) i 1 = 4 + (ch i).val := head_q (ch i)
theorem ix_k1 (i : grid0.Coords) : cc0_transform_1 Facts₀.k0_off1_inb Facts₀.numel1_S1 (tabs (F := F)) i 1 = 32 + (ch i).val := head_k (ch i)
theorem ix_v1 (i : grid0.Coords) : cc0_transform_2 Facts₀.k0_off1_inb Facts₀.numel1_S1 (tabs (F := F)) i 1 = 36 + (ch i).val := head_v (ch i)
theorem ix_o1 (i : grid0.Coords) : cc0_transform_4 Facts₀.k0_off1_inb Facts₀.numel1_S1 (tabs (F := F)) i 1 = (ch i).val := head_o (ch i)

theorem qN_lt : ∀ j, qN j < 16 := by decide +kernel
theorem kN_lt : ∀ j, kN j < 16 := by decide +kernel

/-- A block with such an index lies inside its array of two batches of 4096 rows. -/
theorem inb_of {x : Fin 2} {n y B W : ℕ} (hn : n < 16) (hy : (y + 1) * B ≤ W)
    (f : Fin 2 → ℕ) (h0 : f 0 = x.val * 16 + n) (h1 : f 1 = y) : ∀ a : Fin 2, (f a + 1) * (![256, B] : Fin 2 → ℕ) a ≤ (![8192, W] : Fin 2 → ℕ) a := by
  have := x.isLt
  intro a; match a with
  | 0 => show (f 0 + 1) * 256 ≤ 8192; omega
  | 1 => show (f 1 + 1) * B ≤ W; rw [h1]; exact hy

/-- The tables as the program writes them keep every block inside its array. -/
theorem tabs_ok : ok0 (tabs (F := F)) := by
  refine ⟨fun i => ⟨?_, .inl rfl⟩, fun i => ⟨?_, .inl rfl⟩, fun i => ⟨?_, .inl rfl⟩, fun i => ⟨?_, .inl rfl⟩⟩
  · exact inb_of (B := 512) (W := 5120) (qN_lt _) (by have := (ch i).isLt; omega) _ (ix_q0 i) (ix_q1 i)
  · exact inb_of (B := 128) (W := 5120) (kN_lt _) (by have := (ch i).isLt; omega) _ (ix_k0 i) (ix_k1 i)
  · exact inb_of (B := 128) (W := 5120) (kN_lt _) (by have := (ch i).isLt; omega) _ (ix_v0 i) (ix_v1 i)
  · exact inb_of (B := 512) (W := 2048) (qN_lt _) (by have := (ch i).isLt; omega) _ (ix_o0 i) (ix_o1 i)

end Cert.Proof.Sb

end
-- ==== Proof.SbRun.lean ====
module

public import proofs.«01_k».proof.Proof.SbGrid
public import proofs.«01_k».proof.Proof.Gen.KernelSIdeal.Launch
public import Idealize.ShloMosaic.Lib.Pipeline.Regions
public import Idealize.ShloMosaic.Lib.Pipeline.RegionArraysTS
public import Idealize.ShloMosaic.Lib.Pipeline.Frame
public import Idealize.ShloMosaic.Lib.Pipeline.TableIdle

/-!
# The run of the stick-breaking attention call

The pipeline's proof data (the state after each grid point, by recursion over the points), the body's obligation
and the launch of the program as one host stretch and one region.
-/

@[expose] public section

noncomputable section

namespace Cert.Proof.Sb

open Cert.KernelSIdeal Cert.KernelSIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F] [∀ e, Nonempty (Elt F e)]

local notation "𝕄" => MT nD τ sig Unit (Elt F) ℕ (UU nD τ) ℕ

/-- The tables' contents, admissible. -/
abbrev adm0 : (pcfg0 (F := F)).Adm := ⟨tabs, tabs_ok⟩
abbrev adm : (p : Fin 1) → (pcfgs (F := F) p).Adm := fun _ => adm0
abbrev cfg : Cfg sig Λ₀ := cfg0 (F := F) adm0

variable (W : Dev nD → Valuation τ sig (Elt F))

/-- A window's array when the region is entered. -/
abbrev arr (c : Dev nD) (w : Fin 5) : Buf (Elt F) ((((cfg (F := F)).win w).arr.view.loc (c : Thread nD τ))) :=
  W c (Proc.devRef .tc (Pipeline.arrRef spec0 w))

/-- The blocks staged at a point: queries, keys, values, and the matrix of later places. -/
def qB (c : Dev nD) (t : Fin grid0.N) : Vec F S256x512 .f32 := (((cfg (F := F)).win 0).blk t).view.read (Elt F) (arr W c 0)
def kB (c : Dev nD) (t : Fin grid0.N) : Vec F S256x128 .f32 := (((cfg (F := F)).win 1).blk t).view.read (Elt F) (arr W c 1)
def vB (c : Dev nD) (t : Fin grid0.N) : Vec F S256x128 .f32 := (((cfg (F := F)).win 2).blk t).view.read (Elt F) (arr W c 2)
def lB (c : Dev nD) (t : Fin grid0.N) : Vec F S256x256 .bf16 := (((cfg (F := F)).win 3).blk t).view.read (Elt F) (arr W c 3)

/-- The block pair of a point. -/
abbrev pj (t : Fin grid0.N) : Fin 136 := cj (grid0.coords t)

/-- The state before the `n`-th point. -/
def stAt (c : Dev nD) : ℕ → St F
  | 0 => St.zero (qB W c ⟨0, Nat.lt_of_lt_of_eq (by decide : 0 < 1088) N_0.symm⟩)
  | n + 1 => if h : n < grid0.N then (stAt c n).step (lit0 (pj ⟨n, h⟩)) (lit1 (pj ⟨n, h⟩)) (qB W c ⟨n, h⟩) (kB W c ⟨n, h⟩) (vB W c ⟨n, h⟩) (lB W c ⟨n, h⟩) else stAt c n

theorem stAt_succ (c : Dev nD) (t : Fin grid0.N) :
    stAt W c (t.val + 1) = (stAt W c t.val).step (lit0 (pj t)) (lit1 (pj t)) (qB W c t) (kB W c t) (vB W c t) (lB W c t) := by
  rw [stAt, dif_pos t.isLt]

/-- A step that starts a block of queries ignores the state before it. -/
theorem step_first {a b : BitVec 32} (h : isDiag a b) (q : Vec F S256x512 .f32) (k v : Vec F S256x128 .f32) (L : Vec F S256x256 .bf16) (s s' : St F) :
    St.step a b q k v L s = St.step a b q k v L s' := by
  unfold St.step; simp only [if_pos h]

/-- The three scratch buffers at a state. -/
def held (c : Dev nD) (s : St F) : sProp 𝕄 :=
  iprop((∃ f, ⌜(Memref.whole cc0_scratch0).view.read (Elt F) f = s.q⌝ ∗ pt c (Memref.whole cc0_scratch0) f)
    ∗ (∃ f, ⌜(Memref.whole cc0_scratch1).view.read (Elt F) f = s.acc⌝ ∗ pt c (Memref.whole cc0_scratch1) f)
    ∗ (∃ f, ⌜(Memref.whole cc0_scratch2).view.read (Elt F) f = s.car⌝ ∗ pt c (Memref.whole cc0_scratch2) f))

/-- The tables, whole, as the program writes them. -/
abbrev tbl (c : Dev nD) : sProp 𝕄 := Pipeline.prefHeld pre0 c (fun _ => fullShare) (tabs (F := F))

theorem tbl_eq (c : Dev nD) : (tbl c : sProp 𝕄) = iprop(pt c (Memref.whole main_c) (tabs (F := F) 0) ∗ pt c (Memref.whole main_c_0) (tabs (F := F) 1)) := by
  unfold tbl Pipeline.prefHeld
  exact bigSep_univ_eq_bigSepL [(0 : Fin 2), (1 : Fin 2)] (by decide) (by decide) _

/-- The invariant before a point. -/
def Φc (c : Dev nD) (n : ℕ) : sProp 𝕄 := iprop((∃ s, ⌜n = 0 ∨ s = stAt W c n⌝ ∗ held c s) ∗ tbl c)

/-- The proof data on core `c`. -/
def dats (_ : Fin 1) (c : Dev nD) : Dat τ (Elt F) Unit ℕ (UU nD τ) ℕ (cfg (F := F)) c where
  A w := arr W c w
  after w t := match w with
    | ⟨0, _⟩ => qB W c t
    | ⟨1, _⟩ => kB W c t
    | ⟨2, _⟩ => vB W c t
    | ⟨3, _⟩ => lB W c t
    | ⟨4, _⟩ => unstack (stAt W c (t.val + 1)).acc
  Φ t := Φc W c t.val
  q w := Pipeline.shareOf spec0 w
  owed _ := 0

theorem A_eq (c : Dev nD) (w : Fin 5) : (dats W 0 c).A w = arr W c w := by dsimp only [dats]

theorem before0 (c : Dev nD) (t : Fin (cfg (F := F)).N) (d) : (dats W 0 c).before (0 : Fin 5) t d = qB W c t :=
  (dats W 0 c).before_in_eq_fetched 0 rfl (fun _ => rfl) (fun _ _ _ => rfl) (fun _ => rfl) t d
theorem before1 (c : Dev nD) (t : Fin (cfg (F := F)).N) (d) : (dats W 0 c).before (1 : Fin 5) t d = kB W c t :=
  (dats W 0 c).before_in_eq_fetched 1 rfl (fun _ => rfl) (fun _ _ _ => rfl) (fun _ => rfl) t d
theorem before2 (c : Dev nD) (t : Fin (cfg (F := F)).N) (d) : (dats W 0 c).before (2 : Fin 5) t d = vB W c t :=
  (dats W 0 c).before_in_eq_fetched 2 rfl (fun _ => rfl) (fun _ _ _ => rfl) (fun _ => rfl) t d
theorem before3 (c : Dev nD) (t : Fin (cfg (F := F)).N) (d) : (dats W 0 c).before (3 : Fin 5) t d = lB W c t :=
  (dats W 0 c).before_in_eq_fetched 3 rfl (fun _ => rfl) (fun _ _ _ => rfl) (fun _ => rfl) t d

theorem word_eq0 (c : Dev nD) (i : grid0.Coords) : word c i (Memref.whole main_c) (tabs (F := F) 0) = lit0 (cj i) := at_q (F := F) i
theorem word_eq1 (c : Dev nD) (i : grid0.Coords) : word c i (Memref.whole main_c_0) (tabs (F := F) 1) = lit1 (cj i) := at_k (F := F) i

theorem atD_q (i : grid0.Coords) : (tabs (F := F)).atD 0 (k0_off1 i) = lit0 (cj i) := by
  have h : ∀ a : Fin 1, k0_off1 i a + 1 ≤ S136.size a := fun | ⟨0, _⟩ => (congrArg (· + 1) (off_val i)).trans_le (cj i).isLt | ⟨_ + 1, h⟩ => absurd h (Nat.not_lt.2 (Nat.le_add_left _ _))
  refine (dif_pos h).trans ?_
  refine congrArg lit0 ((congrArg S136.rowMajor ?_).trans (rowMajor_one (cj i)))
  funext a; match a with
  | ⟨0, _⟩ => exact Fin.ext (off_val i)
theorem atD_k (i : grid0.Coords) : (tabs (F := F)).atD 1 (k0_off1 i) = lit1 (cj i) := by
  have h : ∀ a : Fin 1, k0_off1 i a + 1 ≤ S136.size a := fun | ⟨0, _⟩ => (congrArg (· + 1) (off_val i)).trans_le (cj i).isLt | ⟨_ + 1, h⟩ => absurd h (Nat.not_lt.2 (Nat.le_add_left _ _))
  refine (dif_pos h).trans ?_
  refine congrArg lit1 ((congrArg S136.rowMajor ?_).trans (rowMajor_one (cj i)))
  funext a; match a with
  | ⟨0, _⟩ => exact Fin.ext (off_val i)

/-- Where the result's window is idle: before the last block of keys. -/
theorem idle4 (i : grid0.Coords) : (cfg (F := F)).idle 4 i = !(k0_cond3 (lit1 (cj i)) == 1#1) := by
  show (!(k0_cond3 ((tabs (F := F)).atD 1 (k0_off1 i)) == 1#1)) = _
  rw [atD_k]

theorem coords_facts : ∀ t : Fin 1088, (cb (grid0.coords t)).val = t.val / 544 ∧ (ch (grid0.coords t)).val = t.val / 136 % 4 ∧ (cj (grid0.coords t)).val = t.val % 136 := by
  decide +kernel

theorem diag_iff : ∀ j : Fin 136, isDiag (lit0 j) (lit1 j) ↔ kN j = qN j := by decide +kernel
theorem last_iff : ∀ j : Fin 136, isLast (lit1 j) ↔ kN j = 0 := by decide +kernel
theorem below_iff : ∀ j : Fin 136, isBelow (lit0 j) (lit1 j) ↔ kN j < qN j := by decide +kernel

/-- The result's block index at a point. -/
theorem oix (t : Fin grid0.N) : ((cfg (F := F)).win 4).index t = cc0_transform_4 Facts₀.k0_off1_inb Facts₀.numel1_S1 (tabs (F := F)) (grid0.coords t) := rfl

/-- A point before the last block of keys has the next point's result block. -/
theorem next_same : ∀ t : Fin 1088, kN (pj t) ≠ 0 → ∃ h : t.val + 1 < 1088,
    cb (grid0.coords ⟨t.val + 1, h⟩) = cb (grid0.coords t) ∧ ch (grid0.coords ⟨t.val + 1, h⟩) = ch (grid0.coords t)
      ∧ qN (pj ⟨t.val + 1, h⟩) = qN (pj t) := by
  decide +kernel

/-- Before the last block of keys the result is not written back; -/
theorem flush_off (t : Fin grid0.N) (h : kN (pj t) ≠ 0) : ((cfg (F := F)).win 4).flush t = false := by
  obtain ⟨h1, hb, hh, hq⟩ := next_same t h
  unfold Window.flush
  have e : ((cfg (F := F)).win 4).index ⟨t.val + 1, h1⟩ = ((cfg (F := F)).win 4).index t := by
    rw [oix, oix]; funext a; match a with
    | 0 => exact (ix_o0 _).trans ((congrArg₂ (fun (x : Fin 2) y => x.val * 16 + y) hb hq).trans (ix_o0 _).symm)
    | 1 => exact (ix_o1 _).trans ((congrArg Fin.val hh).trans (ix_o1 _).symm)
  have h2 : ¬ (t.val + 1 = (cfg (F := F)).grid.N) := fun e => Nat.ne_of_lt h1 e
  rw [decide_eq_false h2, decide_eq_false (fun ⟨_, hne⟩ => hne e)]
  rfl

/-- and at it, it is. -/
theorem next_diff : ∀ t : Fin 1088, kN (pj t) = 0 → t.val + 1 = 1088 ∨ ∃ h : t.val + 1 < 1088,
    (cb (grid0.coords ⟨t.val + 1, h⟩)).val * 16 + qN (pj ⟨t.val + 1, h⟩) ≠ (cb (grid0.coords t)).val * 16 + qN (pj t) ∨ ch (grid0.coords ⟨t.val + 1, h⟩) ≠ ch (grid0.coords t) := by
  decide +kernel

theorem flush_on (t : Fin grid0.N) (h : kN (pj t) = 0) : ((cfg (F := F)).win 4).flush t = true := by
  unfold Window.flush
  rcases next_diff t h with h1 | ⟨h1, h2⟩
  · have h3 : t.val + 1 = (cfg (F := F)).grid.N := h1
    rw [decide_eq_true h3]; rfl
  · have e : ((cfg (F := F)).win 4).index ⟨t.val + 1, h1⟩ ≠ ((cfg (F := F)).win 4).index t := fun e => by
      rw [oix, oix] at e
      rcases h2 with h2 | h2
      · exact h2 ((ix_o0 _).symm.trans ((congrFun e 0).trans (ix_o0 _)))
      · exact h2 (Fin.ext ((ix_o1 _).symm.trans ((congrFun e 1).trans (ix_o1 _))))
    have h3 : (∃ h : t.val + 1 < (cfg (F := F)).grid.N, ((cfg (F := F)).win 4).index ⟨t.val + 1, h⟩ ≠ ((cfg (F := F)).win 4).index t) := ⟨h1, e⟩
    rw [decide_eq_true h3, Bool.or_true]; rfl

theorem Φ_cast (c : Dev nD) (t : Fin (cfg (F := F)).N) : (dats W 0 c).Φ t.castSucc = Φc W c t.val := by dsimp only [dats, Fin.val_castSucc]
theorem Φ_succ (c : Dev nD) (t : Fin (cfg (F := F)).N) : (dats W 0 c).Φ t.succ = Φc W c (t.val + 1) := by dsimp only [dats, Fin.val_succ]
theorem owed_eq (c : Dev nD) (t) : (dats W 0 c).owed t = 0 := by dsimp only [dats]

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem open0 (c : Dev nD) (t : Fin (cfg (F := F)).N) (X : S256x512.Idx → Elt F .f32) :
    (owns (c : Thread nD τ) (((cfg (F := F)).win (0 : Fin 5)).stage ((cfg (F := F)).slots t (0 : Fin 5))) fullShare X : sProp 𝕄)
      = iprop(∃ f, ⌜(spec0_0.stage ((cfg (F := F)).slots t 0)).view.read (Elt F) f = X⌝ ∗ pt c (spec0_0.stage ((cfg (F := F)).slots t 0)) f) :=
  owns_pt c (spec0_0.stage ((cfg (F := F)).slots t 0)) (hstage0_0 (((cfg (F := F)).slots t 0).cast nbuf0_0)) X
theorem open1 (c : Dev nD) (t : Fin (cfg (F := F)).N) (X : S256x128.Idx → Elt F .f32) :
    (owns (c : Thread nD τ) (((cfg (F := F)).win (1 : Fin 5)).stage ((cfg (F := F)).slots t (1 : Fin 5))) fullShare X : sProp 𝕄)
      = iprop(∃ f, ⌜(spec0_1.stage ((cfg (F := F)).slots t 1)).view.read (Elt F) f = X⌝ ∗ pt c (spec0_1.stage ((cfg (F := F)).slots t 1)) f) :=
  owns_pt c (spec0_1.stage ((cfg (F := F)).slots t 1)) (hstage0_1 (((cfg (F := F)).slots t 1).cast nbuf0_1)) X
theorem open2 (c : Dev nD) (t : Fin (cfg (F := F)).N) (X : S256x128.Idx → Elt F .f32) :
    (owns (c : Thread nD τ) (((cfg (F := F)).win (2 : Fin 5)).stage ((cfg (F := F)).slots t (2 : Fin 5))) fullShare X : sProp 𝕄)
      = iprop(∃ f, ⌜(spec0_2.stage ((cfg (F := F)).slots t 2)).view.read (Elt F) f = X⌝ ∗ pt c (spec0_2.stage ((cfg (F := F)).slots t 2)) f) :=
  owns_pt c (spec0_2.stage ((cfg (F := F)).slots t 2)) (hstage0_2 (((cfg (F := F)).slots t 2).cast nbuf0_2)) X
theorem open3 (c : Dev nD) (t : Fin (cfg (F := F)).N) (X : S256x256.Idx → Elt F .bf16) :
    (owns (c : Thread nD τ) (((cfg (F := F)).win (3 : Fin 5)).stage ((cfg (F := F)).slots t (3 : Fin 5))) fullShare X : sProp 𝕄)
      = iprop(∃ f, ⌜(spec0_3.stage ((cfg (F := F)).slots t 3)).view.read (Elt F) f = X⌝ ∗ pt c (spec0_3.stage ((cfg (F := F)).slots t 3)) f) :=
  owns_pt c (spec0_3.stage ((cfg (F := F)).slots t 3)) (hstage0_3 (((cfg (F := F)).slots t 3).cast nbuf0_3)) X
theorem open4 (c : Dev nD) (t : Fin (cfg (F := F)).N) (X : S256x512.Idx → Elt F .f32) :
    (owns (c : Thread nD τ) (((cfg (F := F)).win (4 : Fin 5)).stage ((cfg (F := F)).slots t (4 : Fin 5))) fullShare X : sProp 𝕄)
      = iprop(∃ f, ⌜(spec0_4.stage ((cfg (F := F)).slots t 4)).view.read (Elt F) f = X⌝ ∗ pt c (spec0_4.stage ((cfg (F := F)).slots t 4)) f) :=
  owns_pt c (spec0_4.stage ((cfg (F := F)).slots t 4)) (hstage0_4 (((cfg (F := F)).slots t 4).cast nbuf0_4)) X

set_option maxHeartbeats 2000000 in
set_option backward.isDefEq.respectTransparency.types false in
/-- The kernel's arguments are what the pipeline hands it; one step of the recursion on the state. -/
theorem body_obligation (c : Dev nD) : BodyObligation (dats W 0 c) (defs₀ (F := F)) Variants.none () Set.univ := fun t => by
  rw [bigSep_W0, bigSep_W0]
  rw [Φ_cast, Φ_succ]
  unfold Φc Dat.owesAt Pipeline.owesWithin held; rw [tbl_eq]
  rw [owed_eq, owed_eq]
  iintro ⟨⟨⟨%s, %hs, ⟨%f10, %h10, H10⟩, ⟨%f11, %h11, H11⟩, ⟨%f12, %h12, H12⟩⟩, T3, T4⟩, ⟨%Wd, %hW, HO⟩, ⟨%d0, H5⟩, ⟨%d1, H6⟩, ⟨%d2, H7⟩, ⟨%d3, H8⟩, ⟨%d4, H9⟩⟩
  ihave H5' := (Entails.of_eq (open0 c t ((dats W 0 c).before (0 : Fin 5) t d0))) $$ H5
  icases H5' with ⟨%f5, %h5, H5⟩
  ihave H6' := (Entails.of_eq (open1 c t ((dats W 0 c).before (1 : Fin 5) t d1))) $$ H6
  icases H6' with ⟨%f6, %h6, H6⟩
  ihave H7' := (Entails.of_eq (open2 c t ((dats W 0 c).before (2 : Fin 5) t d2))) $$ H7
  icases H7' with ⟨%f7, %h7, H7⟩
  ihave H8' := (Entails.of_eq (open3 c t ((dats W 0 c).before (3 : Fin 5) t d3))) $$ H8
  icases H8' with ⟨%f8, %h8, H8⟩
  ihave H9' := (Entails.of_eq (open4 c t ((dats W 0 c).before (4 : Fin 5) t d4))) $$ H9
  icases H9' with ⟨%f9, %h9, H9⟩
  rw [before0] at h5; rw [before1] at h6; rw [before2] at h7; rw [before3] at h8
  have hst : St.step (lit0 (pj t)) (lit1 (pj t)) (qB W c t) (kB W c t) (vB W c t) (lB W c t) s = stAt W c (t.val + 1) := by
    rw [stAt_succ]
    rcases hs with h0 | rfl
    · exact step_first ((diag_iff _).2 (by have := (coords_facts t).2.2; rw [h0] at this; rw [show pj t = 0 from Fin.ext this]; rfl)) _ _ _ _ _ _
    · rfl
  iapply (kernelRun c (grid0.coords t) (Memref.whole main_c) (Memref.whole main_c_0) (Memref.isWhole_whole _) (Memref.isWhole_whole _)
    (spec0_0.stage ((cfg (F := F)).slots t 0)) (hstage0_0 (((cfg (F := F)).slots t 0).cast nbuf0_0)) (spec0_1.stage ((cfg (F := F)).slots t 1)) (spec0_2.stage ((cfg (F := F)).slots t 2)) (hstage0_1 (((cfg (F := F)).slots t 1).cast nbuf0_1)) (hstage0_2 (((cfg (F := F)).slots t 2).cast nbuf0_2))
    (spec0_3.stage ((cfg (F := F)).slots t 3)) (hstage0_3 (((cfg (F := F)).slots t 3).cast nbuf0_3)) (spec0_4.stage ((cfg (F := F)).slots t 4)) (hstage0_4 (((cfg (F := F)).slots t 4).cast nbuf0_4))
    (Memref.whole cc0_scratch0) (Memref.isWhole_whole _) (Memref.whole cc0_scratch1) (Memref.isWhole_whole _) (Memref.whole cc0_scratch2) (Memref.isWhole_whole _)
    (tabs (F := F) 0) (tabs (F := F) 1) f5 f6 f7 f8 f9 f10 f11 f12 (lit0 (pj t)) (lit1 (pj t)) (word_eq0 c _) (word_eq1 c _) s h10 h11 h12)
  isplitl [T3]; · iexact T3
  isplitl [T4]; · iexact T4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [h5, h6, h7, h8, hst]
  iintro ⟨T3, T4, H5, H6, H7, H8, ⟨%g9, %e9, H9⟩, ⟨%g10, %e10, H10⟩, ⟨%g11, %e11, H11⟩, ⟨%g12, %e12, H12⟩⟩
  isplitl [T3 T4 H10 H11 H12]
  · isplitr [T3 T4]
    · iexists stAt W c (t.val + 1)
      isplitr; · ipureintro; exact Or.inr rfl
      isplitl [H10]; · iexists g10; isplitr; · ipureintro; exact e10
                       iexact H10
      isplitl [H11]; · iexists g11; isplitr; · ipureintro; exact e11
                       iexact H11
      iexists g12; isplitr; · ipureintro; exact e12
      iexact H12
    · isplitl [T3] <;> iassumption
  isplitl [HO]
  · iexists Wd; isplitr; · ipureintro; exact fun _ _ => Or.inl trivial
    iexact HO
  isplitl [H5]
  · iapply (Entails.of_eq (open0 c t (qB W c t)).symm)
    iexists f5; isplitr; · ipureintro; exact h5
    iexact H5
  isplitl [H6]
  · iapply (Entails.of_eq (open1 c t (kB W c t)).symm)
    iexists f6; isplitr; · ipureintro; exact h6
    iexact H6
  isplitl [H7]
  · iapply (Entails.of_eq (open2 c t (vB W c t)).symm)
    iexists f7; isplitr; · ipureintro; exact h7
    iexact H7
  isplitl [H8]
  · iapply (Entails.of_eq (open3 c t (lB W c t)).symm)
    iexists f8; isplitr; · ipureintro; exact h8
    iexact H8
  by_cases hd : kN (pj t) = 0
  · have hi : (cfg (F := F)).idle (4 : Fin 5) (grid0.coords t) = false := by
      rw [idle4, show k0_cond3 (lit1 (pj t)) = 1#1 from (last_iff _).2 hd]; rfl
    rw [hi]
    iapply (Entails.of_eq (open4 c t (unstack (stAt W c (t.val + 1)).acc)).symm)
    iexists g9; isplitr; · ipureintro; rw [e9, outAt, if_pos ((last_iff _).2 hd)]
    iexact H9
  · have hi : (cfg (F := F)).idle (4 : Fin 5) (grid0.coords t) = true := by
      rw [idle4]
      have h1 : ¬ k0_cond3 (lit1 (pj t)) = 1#1 := fun h => hd ((last_iff _).1 h)
      rw [beq_eq_false_iff_ne.2 h1]; rfl
    have hf : ((cfg (F := F)).win (4 : Fin 5)).flush t = false := flush_off t hd
    rw [hi, hf]
    iexists d4
    iapply (Entails.of_eq (open4 c t ((dats W 0 c).before (4 : Fin 5) t d4)).symm)
    iexists g9; isplitr; · ipureintro; rw [e9, outAt, if_neg (fun h => hd ((last_iff _).1 h))]; exact h9
    iexact H9

end Cert.Proof.Sb
-- ==== Proof.SbState.lean ====
/-
  The kept state after each grid point, on one row: what the later keys left of the row's stick, and their weighted sum.
-/
module

public import Idealize.ShloMosaic.Lib.Pipeline.ValueKit
public import proofs.«01_k».proof.Proof.SbPay
public import proofs.«01_k».proof.Proof.SbRun

@[expose] public section

noncomputable section

namespace Cert.Proof.Sb

open Idealize.ShloMosaic Idealize.ShloMosaic.Pipeline Cert.Proof.Online Cert.KernelSIdeal Cert.KernelSIdeal.Gen

variable (W : Dev nD → Valuation τ sig (Elt Ideal)) (c : Dev nD)

/-! ### The blocks a point reads, as entries of the projections -/

/-- The array that holds queries, keys and values. -/
abbrev X : Mat 8192 5120 := arr W c 0

/-- Every score is a real number. -/
def RealScores (X : Mat 8192 5120) : Prop :=
  ∀ b h t j : ℕ, b < 2 → h < 16 → t < 4096 → j < 4096 → raw X b h t j = ((zr X b h t j : ℝ) : EReal)

/-- The kernel's matrix marks the places after a column. -/
def Later : Prop := ∀ r j : Fin 256, (arr W c 3 : S256x256.Idx → EReal) (ix2 r j) = (if j.val < r.val then 1 else 0 : EReal)

/-- The head and the place of row `i` of the query block of point `t`. -/
abbrev hd (t : Fin grid0.N) (i : Fin 1024) : ℕ := (ch (grid0.coords t)).val * 4 + i.val / 256
abbrev tq (t : Fin grid0.N) (i : Fin 1024) : ℕ := qN (pj t) * 256 + i.val % 256

theorem qB_apply (t : Fin grid0.N) (i : Fin 1024) (d : Fin 128) :
    qB W c t (ix2 ⟨i.val % 256, by omega⟩ ⟨i.val / 256 * 128 + d.val, by omega⟩)
      = rd (X W c) ((cb (grid0.coords t)).val * 4096 + tq t i) ((16 + hd t i) * 128 + d.val) := by
  have h := qN_lt (pj t)
  have hh := (ch (grid0.coords t)).isLt
  have hb := (cb (grid0.coords t)).isLt
  have hi := i.isLt
  rw [rd_of _ (by simp only [tq]; omega) (by simp only [hd]; omega), qB, View.read_apply]
  refine congrArg (arr W c 0) (funext fun a => Fin.ext ?_)
  match a with
  | 0 =>
    show cc0_transform_0 Facts₀.k0_off1_inb Facts₀.numel1_S1 (tabs (F := Ideal)) (grid0.coords t) 0 * 256 + 1 * (i.val % 256) = _
    rw [ix_q0]
    show ((cb (grid0.coords t)).val * 16 + qN (pj t)) * 256 + 1 * (i.val % 256) = (cb (grid0.coords t)).val * 4096 + (qN (pj t) * 256 + i.val % 256)
    omega
  | 1 =>
    show cc0_transform_0 Facts₀.k0_off1_inb Facts₀.numel1_S1 (tabs (F := Ideal)) (grid0.coords t) 1 * 512 + 1 * (i.val / 256 * 128 + d.val) = _
    rw [ix_q1]
    show (4 + (ch (grid0.coords t)).val) * 512 + 1 * (i.val / 256 * 128 + d.val) = (16 + ((ch (grid0.coords t)).val * 4 + i.val / 256)) * 128 + d.val
    omega

theorem hd_div (t : Fin grid0.N) (i : Fin 1024) : hd t i / 4 = (ch (grid0.coords t)).val := by simp only [hd]; omega

theorem kB_apply (t : Fin grid0.N) (i : Fin 1024) (j : Fin 256) (d : Fin 128) :
    kB W c t (ix2 j d) = rd (X W c) ((cb (grid0.coords t)).val * 4096 + (kN (pj t) * 256 + j.val)) ((32 + hd t i / 4) * 128 + d.val) := by
  have h := kN_lt (pj t)
  have hh := (ch (grid0.coords t)).isLt
  have hb := (cb (grid0.coords t)).isLt
  rw [hd_div, rd_of _ (by omega) (by omega), kB, View.read_apply]
  refine congrArg (arr W c 0) (funext fun a => Fin.ext ?_)
  match a with
  | 0 =>
    show cc0_transform_1 Facts₀.k0_off1_inb Facts₀.numel1_S1 (tabs (F := Ideal)) (grid0.coords t) 0 * 256 + 1 * j.val = _
    rw [ix_k0]
    show ((cb (grid0.coords t)).val * 16 + kN (pj t)) * 256 + 1 * j.val = (cb (grid0.coords t)).val * 4096 + (kN (pj t) * 256 + j.val)
    omega
  | 1 =>
    show cc0_transform_1 Facts₀.k0_off1_inb Facts₀.numel1_S1 (tabs (F := Ideal)) (grid0.coords t) 1 * 128 + 1 * d.val = _
    rw [ix_k1, Nat.one_mul]
    rfl

theorem vB_apply (t : Fin grid0.N) (i : Fin 1024) (j : Fin 256) (d : Fin 128) :
    vB W c t (ix2 j d) = vl (X W c) (cb (grid0.coords t)).val (hd t i) d.val (kN (pj t) * 256 + j.val) := by
  have h := kN_lt (pj t)
  have hh := (ch (grid0.coords t)).isLt
  have hb := (cb (grid0.coords t)).isLt
  rw [vl, hd_div, rd_of _ (by omega) (by omega), vB, View.read_apply]
  refine congrArg (arr W c 0) (funext fun a => Fin.ext ?_)
  match a with
  | 0 =>
    show cc0_transform_2 Facts₀.k0_off1_inb Facts₀.numel1_S1 (tabs (F := Ideal)) (grid0.coords t) 0 * 256 + 1 * j.val = _
    rw [ix_v0]
    show ((cb (grid0.coords t)).val * 16 + kN (pj t)) * 256 + 1 * j.val = (cb (grid0.coords t)).val * 4096 + (kN (pj t) * 256 + j.val)
    omega
  | 1 =>
    show cc0_transform_2 Facts₀.k0_off1_inb Facts₀.numel1_S1 (tabs (F := Ideal)) (grid0.coords t) 1 * 128 + 1 * d.val = _
    rw [ix_v1, Nat.one_mul]
    rfl

theorem lB_apply (hL : Later W c) (t : Fin grid0.N) (r j : Fin 256) : lB W c t (ix2 r j) = (if j.val < r.val then 1 else 0 : EReal) := by
  refine Eq.trans ?_ (hL r j)
  rw [lB, View.read_apply]
  refine congrArg (arr W c 3) (funext fun a => Fin.ext ?_)
  match a with
  | 0 => show 0 * 256 + 1 * r.val = r.val; omega
  | 1 => show 0 * 256 + 1 * j.val = j.val; omega

/-! ### The state on one row -/

/-- The query, the scores and the values of row `i` of the query block of point `t`. -/
abbrev rowQ (t : Fin grid0.N) (i : Fin 1024) : Fin 128 → EReal :=
  fun d => rd (X W c) ((cb (grid0.coords t)).val * 4096 + tq t i) ((16 + hd t i) * 128 + d.val)
abbrev rowZ (t : Fin grid0.N) (i : Fin 1024) : ℕ → ℝ := zr (X W c) (cb (grid0.coords t)).val (hd t i) (tq t i)
abbrev rowV (t : Fin grid0.N) (i : Fin 1024) : ℕ → ℕ → EReal := fun e => vl (X W c) (cb (grid0.coords t)).val (hd t i) e

theorem k_le_q : ∀ j : Fin 136, kN j ≤ qN j := by decide +kernel

/-- A point that does not start a query block continues the point before it. -/
theorem prev_point : ∀ t : Fin 1088, kN (pj t) ≠ qN (pj t) → ∃ t' : Fin 1088, t'.val + 1 = t.val
    ∧ cb (grid0.coords t') = cb (grid0.coords t) ∧ ch (grid0.coords t') = ch (grid0.coords t)
    ∧ qN (pj t') = qN (pj t) ∧ kN (pj t') = kN (pj t) + 1 := by
  intro t h
  have hs : ∀ t : Fin 1088, kN (pj t) ≠ qN (pj t) → 0 < t.val ∧ ∀ h : t.val - 1 < 1088,
      cb (grid0.coords ⟨t.val - 1, h⟩) = cb (grid0.coords t) ∧ ch (grid0.coords ⟨t.val - 1, h⟩) = ch (grid0.coords t)
      ∧ qN (pj ⟨t.val - 1, h⟩) = qN (pj t) ∧ kN (pj ⟨t.val - 1, h⟩) = kN (pj t) + 1 := by
    decide +kernel
  obtain ⟨h0, h1⟩ := hs t h
  exact ⟨⟨t.val - 1, by omega⟩, by show t.val - 1 + 1 = t.val; omega, h1 (by omega)⟩

variable (hR : RealScores (X W c)) (hL : Later W c)
include hR hL

/-- One point takes its block of keys. -/
theorem row_step (t : Fin grid0.N) (i : Fin 1024) (st : St Ideal)
    (h : kN (pj t) = qN (pj t) ∨ Row st i (rowQ W c t i) (rowZ W c t i) (tq t i) (rowV W c t i) (kN (pj t) * 256 + 256)) :
    Row (st.step (lit0 (pj t)) (lit1 (pj t)) (qB W c t) (kB W c t) (vB W c t) (lB W c t)) i (rowQ W c t i) (rowZ W c t i) (tq t i) (rowV W c t i)
      (kN (pj t) * 256) := by
  have hq := qN_lt (pj t)
  have hk := kN_lt (pj t)
  have hi := i.isLt
  have hh := (ch (grid0.coords t)).isLt
  have hz : ∀ j : Fin 256, (∑ d : Fin 128, rowQ W c t i d * kB W c t (ix2 j d)) * scale = ((rowZ W c t i (kN (pj t) * 256 + j.val) : ℝ) : EReal) := fun j => by
    rw [rowZ, ← hR _ _ _ _ (cb (grid0.coords t)).isLt (by simp only [hd]; omega) (by simp only [tq]; omega) (by omega), raw]
    simp only [kB_apply W c t i]
  unfold St.step
  rcases Nat.lt_or_eq_of_le (k_le_q (pj t)) with hlt | he
  · have h1 : isBelow (lit0 (pj t)) (lit1 (pj t)) := (below_iff _).mpr hlt
    have h2 : ¬ isDiag (lit0 (pj t)) (lit1 (pj t)) := fun hd => by have := (diag_iff _).mp hd; omega
    simp only [if_pos h1, if_neg h2]
    exact row_full _ _ _ (by omega) hz (fun j d => vB_apply W c t i j d) (fun r j => lB_apply W c hL t r j) (h.resolve_left (by omega)) (by simp only [tq]; omega)
  · have h1 : ¬ isBelow (lit0 (pj t)) (lit1 (pj t)) := fun hd => by have := (below_iff _).mp hd; omega
    have h2 : isDiag (lit0 (pj t)) (lit1 (pj t)) := (diag_iff _).mpr he
    simp only [if_neg h1, if_pos h2]
    refine row_diag _ _ _ (by omega) hz (fun j d => vB_apply W c t i j d) (fun r j => lB_apply W c hL t r j) ?_ (by simp only [tq]; omega)
    have e : (fun d : Fin 128 => qB W c t (ix2 ⟨i.val % 256, by omega⟩ ⟨i.val / 256 * 128 + d.val, by omega⟩)) = rowQ W c t i :=
      funext fun d => qB_apply W c t i d
    rw [← e]
    exact row_zero (qB W c t) i _ _ (by simp only [tq]; omega)

/-- After point `t` each row holds its keys from the start of the point's key block on. -/
theorem row_at : ∀ (n : ℕ) (t : Fin grid0.N), t.val = n → ∀ i : Fin 1024,
    Row (stAt W c (t.val + 1)) i (rowQ W c t i) (rowZ W c t i) (tq t i) (rowV W c t i) (kN (pj t) * 256) := by
  intro n
  induction n with
  | zero =>
    intro t ht i
    rw [stAt_succ]
    refine row_step W c hR hL t i _ (.inl ?_)
    by_contra h0
    obtain ⟨t', h, -⟩ := prev_point t h0
    omega
  | succ n ih =>
    intro t ht i
    rw [stAt_succ]
    refine row_step W c hR hL t i _ ?_
    by_cases h0 : kN (pj t) = qN (pj t)
    · exact .inl h0
    · obtain ⟨t', hv, hb, hh, hq, hk⟩ := prev_point t h0
      have := ih t' (by omega) i
      rw [hv] at this
      refine .inr ?_
      have e : kN (pj t) * 256 + 256 = kN (pj t') * 256 := by omega
      have eh : hd t i = hd t' i := by simp only [hd]; rw [hh]
      have et : tq t i = tq t' i := by simp only [tq]; rw [hq]
      have eQ : rowQ W c t i = rowQ W c t' i := by unfold rowQ; rw [hb, eh, et]
      have eZ : rowZ W c t i = rowZ W c t' i := by unfold rowZ; rw [hb, eh, et]
      have eV : rowV W c t i = rowV W c t' i := by unfold rowV; rw [hb, eh]
      rw [e, eQ, eZ, eV, et]
      exact this

/-- What the last point of a query block writes back: the attention of its block. -/
theorem written (t : Fin grid0.N) (h : kN (pj t) = 0) (i : Fin 256) (l : Fin 512) :
    unstack (F := Ideal) (stAt W c (t.val + 1)).acc (ix2 i l)
      = att (X W c) ((cb (grid0.coords t)).val * 4096 + (qN (pj t) * 256 + i.val)) ((ch (grid0.coords t)).val * 512 + l.val) := by
  have hi := i.isLt
  have hl := l.isLt
  have hq := qN_lt (pj t)
  rw [unstack_apply, (row_at W c hR hL t.val t rfl _).acc, att, h]
  have e1 : ((cb (grid0.coords t)).val * 4096 + (qN (pj t) * 256 + i.val)) / 4096 = (cb (grid0.coords t)).val := by omega
  have e2 : ((cb (grid0.coords t)).val * 4096 + (qN (pj t) * 256 + i.val)) % 4096 = tq t ⟨l.val / 128 * 256 + i.val, by omega⟩ := by simp only [tq]; omega
  have e3 : ((ch (grid0.coords t)).val * 512 + l.val) / 128 = hd t ⟨l.val / 128 * 256 + i.val, by omega⟩ := by simp only [hd]; omega
  have e4 : ((ch (grid0.coords t)).val * 512 + l.val) % 128 = l.val % 128 := by omega
  rw [e1, e2, e3, e4, Nat.zero_mul]

end Cert.Proof.Sb

end
-- ==== Proof.SbLaunched.lean ====
module

public import proofs.«01_k».proof.Proof.SbRun
public import Idealize.ShloMosaic.Lib.Pipeline.FrameSuffix

/-!
# The launch of the stick-breaking attention call

The program is one host stretch (the two tables and the matrix of later places) and one region. Three windows of the
region read one array, each at its share of it. Every run of it ends with every unscoped buffer at
what the region leaves and every semaphore counter at zero.
-/

@[expose] public section

noncomputable section

namespace Cert.Proof.Sb

open Cert.KernelSIdeal Cert.KernelSIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F] [∀ e, Nonempty (Elt F e)]

local notation "𝕄" => MT nD τ sig Unit (Elt F) ℕ (UU nD τ) ℕ

/-- The pipeline library's algebra is the left component of ours. -/
abbrev EP : Emb (UR sig nD τ) (MT nD τ sig Unit (Elt F) ℕ (UU nD τ) ℕ) := embL

variable (m : (ℓ : Loc nD τ sig) → Buf (Elt F) ℓ) (ρ : Dev nD → PrngReg)

/-- The host stretch: the two tables, then the 0/1 matrix whose entry (r, c) is one where c comes before r. -/
abbrev hostOps : List (HloOp τ sig (Elt F)) :=
  [ StableHlo.nullary main_c (fun i => lit0 (S136.rowMajor i)),
    StableHlo.nullary main_c_0 (fun i => lit1 (S136.rowMajor i)),
    StableHlo.nullary main_v0 (iotaInDim S256x256 32 0),
    StableHlo.nullary main_v1 (iotaInDim S256x256 32 1),
    StableHlo.binary main_v0 main_v1 main_v2 (cmpi .sgt : (⟨S256x256, .i32⟩ : BufTy).Contents (Elt F) → (⟨S256x256, .i32⟩ : BufTy).Contents (Elt F) → (⟨S256x256, .i1⟩ : BufTy).Contents (Elt F)),
    StableHlo.nullary main_cst (constant S_ .f32 0x3F800000#32),
    StableHlo.nullary main_cst_1 (constant S_ .f32 0x00000000#32),
    StableHlo.TRef.unary (.of main_cst : StableHlo.TRef sig ⟨S_, .f32⟩) (.of main_call0_v0 : StableHlo.TRef sig ⟨S256x256, .f32⟩) (broadcastInDim S256x256 ![] bcast_S_S256x256),
    StableHlo.TRef.unary (.of main_cst_1 : StableHlo.TRef sig ⟨S_, .f32⟩) (.of main_call0_v1 : StableHlo.TRef sig ⟨S256x256, .f32⟩) (broadcastInDim S256x256 ![] bcast_S_S256x256),
    StableHlo.TRef.ternary (.of main_v2 : StableHlo.TRef sig ⟨S256x256, .i1⟩) (.of main_call0_v0 : StableHlo.TRef sig ⟨S256x256, .f32⟩) (.of main_call0_v1 : StableHlo.TRef sig ⟨S256x256, .f32⟩) (.of main_v3 : StableHlo.TRef sig ⟨S256x256, .f32⟩) select,
    StableHlo.unary main_v3 main_v4 ((truncf .bf16 · bitsLt_bf16_f32) : (⟨S256x256, .f32⟩ : BufTy).Contents (Elt F) → (⟨S256x256, .bf16⟩ : BufTy).Contents (Elt F)) ]
theorem hostOps_eq : (hostOps : List (HloOp τ sig (Elt F))) = hostOps0 ++ (hostOps0_1 ++ hostOps0_2) := rfl
theorem hostOps_sub (op : HloOp τ sig (Elt F)) (h : op ∈ (hostOps : List (HloOp τ sig (Elt F)))) : op.bufs ⊆ StableHlo.tcRefs τ sig := by
  rw [hostOps_eq] at h
  rcases List.mem_append.1 h with h | h
  · exact (List.forall_iff_forall_mem.mp hostOps0_sub) op h
  · rcases List.mem_append.1 h with h | h
    · exact (List.forall_iff_forall_mem.mp hostOps0_1_sub) op h
    · exact (List.forall_iff_forall_mem.mp hostOps0_2_sub) op h

/-- Core `c`'s buffers at launch, and when the region is entered. -/
abbrev V₀ (c : Dev nD) : Valuation τ sig (Elt F) := fun b => (s₀ m ρ).mem ((c : Dev nD), b)
def V (c : Dev nD) : Valuation τ sig (Elt F) := StableHlo.after hostOps (V₀ m ρ c)

/-- The argument is not written by the host stretch. -/
theorem V_arg0 (c : Dev nD) : V m ρ c (Proc.devRef .tc main_arg0) = m ((c : Thread nD τ).loc main_arg0) := by
  show StableHlo.after hostOps (V₀ m ρ c) (Proc.devRef .tc main_arg0) = _
  after_results <;> rfl

theorem V_tab0 (c : Dev nD) : V m ρ c (Proc.devRef .tc main_c) = fun i => lit0 (S136.rowMajor i) := by
  show StableHlo.after hostOps (V₀ m ρ c) (Proc.devRef .tc main_c) = _
  after_results <;> rfl
theorem V_tab1 (c : Dev nD) : V m ρ c (Proc.devRef .tc main_c_0) = fun i => lit1 (S136.rowMajor i) := by
  show StableHlo.after hostOps (V₀ m ρ c) (Proc.devRef .tc main_c_0) = _
  after_results <;> rfl

theorem V_tab (c : Dev nD) : ∀ k, (tabs (F := F)) k = V m ρ c (Proc.devRef .tc (pre0.ref k)) := fun
  | ⟨0, _⟩ => (V_tab0 m ρ c).symm
  | ⟨1, _⟩ => (V_tab1 m ρ c).symm

/-- Levels: one at every cell of the TensorCores. -/
abbrev L : GSem nD τ sig → Finset Unit := fun g => if g.1.2 = .tc then {()} else ∅
abbrev lv : GSem nD τ sig → Unit → ℕ := fun _ _ => 0

/-- What rides beside the buffers: what the core owes, nothing. -/
abbrev R (c : Dev nD) : sProp 𝕄 := iprop(∃ W, owes (c : Thread nD τ) (0 : CellTallies nD τ sig Unit) W)

/-- The host stretch. -/
def seg0 : Pipeline.HostSeg (Name := ℕ) (U := UU nD τ) (pcfgs (F := F)) defs₀ Variants.none L lv :=
  Pipeline.HostSeg.ofOps _ _ _ _ _ (ucRefs τ sig) hostOps (fun op h => Pipeline.sub_ucRefs op (hostOps_sub op h))
    (by intro _ h; (repeat (cases h with | head => rfl | tail _ h => ?_)); exact nomatch h) (V₀ m ρ) R

theorem hin (W : Dev nD → Valuation τ sig (Elt F)) (c : Dev nD) :
    (iprop(iprop(Pipeline.scopedRest spec0 c ∗ emp) ∗ tbl c) : sProp 𝕄) ⊢ Φc W c 0 := by
  unfold Φc held; rw [scopedRest0_eq]
  iintro ⟨⟨⟨⟨%f9, H9⟩, ⟨%f10, H10⟩, ⟨%f11, H11⟩⟩, -⟩, HT⟩
  isplitr [HT]
  · iexists ⟨(Memref.whole cc0_scratch0).view.read (Elt F) f9, (Memref.whole cc0_scratch1).view.read (Elt F) f10, (Memref.whole cc0_scratch2).view.read (Elt F) f11⟩
    isplitr; · ipureintro; exact Or.inl rfl
    isplitl [H9]; · iexists f9; isplitr; · ipureintro; rfl
                    iexact H9
    isplitl [H10]; · iexists f10; isplitr; · ipureintro; rfl
                     iexact H10
    iexists f11; isplitr; · ipureintro; rfl
    iexact H11
  · iexact HT

theorem hout (W : Dev nD → Valuation τ sig (Elt F)) (c : Dev nD) (n : ℕ) :
    Φc W c n ⊢ (iprop(iprop(Pipeline.scopedRest spec0 c ∗ emp) ∗ tbl c) : sProp 𝕄) := by
  unfold Φc held; rw [scopedRest0_eq]
  iintro ⟨⟨%s, -, ⟨%f9, -, H9⟩, ⟨%f10, -, H10⟩, ⟨%f11, -, H11⟩⟩, HT⟩
  isplitr [HT]
  · isplitl
    · isplitl [H9]; · iexists f9; iexact H9
      isplitl [H10]; · iexists f10; iexact H10
      iexists f11; iexact H11
    · iempintro
  · iexact HT

theorem hcut : Pipeline.LevelCut (pcfgs (F := F)) adm () L lv 0 (fun _ => 0) (fun _ => 0) where
  hι c w s := by show () ∈ L ((c : Thread nD τ), _); exact Finset.mem_singleton_self _
  hιb _ _ _ := le_refl _
  hD _ _ _ h := absurd h (Nat.lt_irrefl 0)

/-- What rides beside the region: the unscoped buffers that are neither an array nor a table. -/
abbrev rest (c : Dev nD) : sProp 𝕄 :=
  StableHlo.held (c : Thread nD τ) ((ucRefs τ sig \ Pipeline.arrRefs spec0) \ Pipeline.tblRefs pre0) (V m ρ c)

set_option backward.isDefEq.respectTransparency.types false in
/-- The region. -/
def reg0 : Pipeline.RegionSeg (pcfgs (F := F)) adm (dats (V m ρ)) () defs₀ Variants.none L lv 0 :=
  Pipeline.RegionSeg.ofArraysT (pcfgs (F := F)) adm (dats (V m ρ)) () defs₀ Variants.none L lv 0 (fun _ => 0)
    (fun _ => iprop(emp)) (fun _ => iprop(emp)) launch₀0 (fun c => (body_obligation (V m ρ) c).loose)
    (fun _ _ => rfl) (fun _ => rfl) (fun c => hin (V m ρ) c) (fun c => hout (V m ρ) c _)
    (fun _ => 0) hcut (rest m ρ)

/-- The unscoped buffers after the region. -/
def final (c : Dev nD) : Valuation τ sig (Elt F) :=
  Pipeline.withArrays spec0 c (V m ρ c) (fun w => (dats (V m ρ) 0 c).arrAt w (cfg (F := F)).N)

theorem hS : Pipeline.arrRefs (τ := τ) spec0 ⊆ ucRefs τ sig := Pipeline.arrRefs_sub_ucRefs spec0 (by decide)
theorem hS' : Pipeline.tblRefs (τ := τ) pre0 ⊆ ucRefs τ sig := Pipeline.tblRefs_sub_ucRefs pre0 (by decide)

/-- The buffers behind the windows' arrays. -/
theorem held_arrs (c : Dev nD) (U : Valuation τ sig (Elt F)) :
    (StableHlo.held (c : Thread nD τ) (Pipeline.arrRefs spec0) U : sProp 𝕄) = Pipeline.arrBufs spec0 c (fun b => U (Proc.devRef .tc b)) := by
  unfold StableHlo.held Pipeline.arrRefs Pipeline.arrBufs
  rw [bigSep_map]; rfl

theorem final_arr (c : Dev nD) (w : Fin 5) :
    final m ρ c (Proc.devRef .tc (Pipeline.arrRef spec0 w)) = (dats (V m ρ) 0 c).arrAt w (cfg (F := F)).N :=
  (dats (V m ρ) 0 c).withArrays_arrAt sharedIn0 (V m ρ c) (fun w => A_eq (V m ρ) c w) w

/-- Off the arrays the region changes nothing. -/
theorem final_off (c : Dev nD) (b : DevRef τ sig) (hb : b ∉ Pipeline.arrRefs (τ := τ) spec0) : final m ρ c b = V m ρ c b := by
  unfold final Pipeline.withArrays
  refine dif_neg ?_
  rintro ⟨w, rfl⟩
  exact hb (Finset.mem_map_of_mem _ (Finset.mem_image_of_mem _ (Finset.mem_univ w)))

/-- The unscoped buffers are the arrays, the tables and the rest. -/
theorem held_split (c : Dev nD) (U : Valuation τ sig (Elt F)) : (StableHlo.held (c : Thread nD τ) (ucRefs τ sig) U : sProp 𝕄)
    = iprop(StableHlo.held (c : Thread nD τ) (Pipeline.arrRefs spec0) U ∗ StableHlo.held (c : Thread nD τ) (Pipeline.tblRefs pre0) U
      ∗ StableHlo.held (c : Thread nD τ) ((ucRefs τ sig \ Pipeline.arrRefs spec0) \ Pipeline.tblRefs pre0) U) := by
  rw [StableHlo.held_sub_split _ hS U, StableHlo.held_sub_split _ (Pipeline.tblRefs_sub_sdiff spec0 pre0 preFacts0.disj hS') U]

set_option backward.isDefEq.respectTransparency.types false in
theorem arrays_at (c : Dev nD) (U : Valuation τ sig (Elt F)) (n : ℕ)
    (h : ∀ w : Fin 5, (dats (V m ρ) 0 c).arrAt w n = U (Proc.devRef .tc (Pipeline.arrRef spec0 w))) :
    (StableHlo.held (c : Thread nD τ) (Pipeline.arrRefs spec0) U : sProp 𝕄) = (dats (V m ρ) 0 c).arrays ((dats (V m ρ) 0 c).arrAt · n) :=
  (held_arrs c U).trans ((dats (V m ρ) 0 c).arrBufs_eq_arrays sharedIn0 arr_whole0 (fun _ _ => rfl) _ _ h)

theorem tables_at (c : Dev nD) (U : Valuation τ sig (Elt F)) (h : ∀ k, (tabs (F := F)) k = U (Proc.devRef .tc (pre0.ref k))) :
    (StableHlo.held (c : Thread nD τ) (Pipeline.tblRefs pre0) U : sProp 𝕄) = tbl c :=
  (Pipeline.prefHeld_held pre0 preFacts0.inj c tabs U h).symm

theorem rest_eq (c : Dev nD) : (StableHlo.held (c : Thread nD τ) ((ucRefs τ sig \ Pipeline.arrRefs spec0) \ Pipeline.tblRefs pre0) (final m ρ c) : sProp 𝕄) = rest m ρ c :=
  StableHlo.held_congr _ fun b hb => final_off m ρ c b (Finset.mem_sdiff.mp (Finset.mem_sdiff.mp hb).1).2

theorem final_tab (c : Dev nD) (k) : (tabs (F := F)) k = final m ρ c (Proc.devRef .tc (pre0.ref k)) :=
  (V_tab m ρ c k).trans (final_off m ρ c _ fun hb =>
    Finset.disjoint_left.mp (Pipeline.tblRefs_disjoint_arrRefs spec0 pre0 preFacts0.disj)
      (Finset.mem_map_of_mem _ (Finset.mem_image_of_mem _ (Finset.mem_univ k))) hb).symm

set_option backward.isDefEq.respectTransparency.types false in
/-- The host stretch's end is the region's entry; -/
theorem pre_entry (c : Dev nD) : iprop(StableHlo.held (c : Thread nD τ) (ucRefs τ sig) (V m ρ c) ∗ R c) ⊢ (reg0 m ρ).pre c := by
  show _ ⊢ iprop((dats (V m ρ) 0 c).arrays ((dats (V m ρ) 0 c).arrAt · 0) ∗ tbl c ∗ emp ∗ rest m ρ c ∗ R c)
  rw [held_split, arrays_at m ρ c (V m ρ c) 0 (fun w => A_eq (V m ρ) c w), tables_at c (V m ρ c) (V_tab m ρ c)]
  iintro ⟨⟨HA, HT, HX⟩, HO⟩
  isplitl [HA]; · iexact HA
  isplitl [HT]; · iexact HT
  isplitr; · iempintro
  isplitl [HX]; · iexact HX
  iexact HO

set_option backward.isDefEq.respectTransparency.types false in
/-- and the region's end is what `final` says. -/
theorem post_exit (c : Dev nD) : (reg0 m ρ).post c ⊢ iprop(StableHlo.held (c : Thread nD τ) (ucRefs τ sig) (final m ρ c) ∗ R c) := by
  show iprop((dats (V m ρ) 0 c).arrays ((dats (V m ρ) 0 c).arrAt · (cfg (F := F)).N) ∗ tbl c ∗ emp ∗ rest m ρ c ∗ R c) ⊢ _
  rw [held_split, arrays_at m ρ c (final m ρ c) (cfg (F := F)).N (fun w => (final_arr m ρ c w).symm), tables_at c (final m ρ c) (final_tab m ρ c), rest_eq]
  iintro ⟨HA, HT, -, HX, HO⟩
  isplitr [HO]
  · isplitl [HA]; · iexact HA
    isplitl [HT]; · iexact HT
    iexact HX
  iexact HO

abbrev segs : List (Pipeline.Seg (pcfgs (F := F)) adm (dats (V m ρ)) () defs₀ Variants.none L lv) := [.host (seg0 m ρ), .region (reg0 m ρ)]

/-- The program is the host stretch, then the region. -/
theorem main_segs (c : Dev nD) : main (F := F) c = Pipeline.Seg.run (segs m ρ) := by
  rw [main_chain]
  simp only [Pipeline.Seg.run]
  rw [show (seg0 m ρ).prog = StableHlo.seq hostOps from rfl, hostOps_eq, StableHlo.seq_append, StableHlo.seq_append]
  simp only [Pipeline.chain_cons, Pipeline.chain_nil, bind_assoc]
  rfl

/-- The launch element. -/
def u₀ : UU nD τ := (initOf (Pipeline.cells (Pipeline.pin (pcfgs (F := F)) adm) (cellOf_inj adm)) (Pipeline.launchToks (Pipeline.pin (pcfgs (F := F)) adm) (cellOf_inj adm)), 1)

set_option maxHeartbeats 1000000 in
set_option backward.isDefEq.respectTransparency.types false in
/-- Every run ends with the unscoped buffers at what the region leaves and every counter at zero. -/
theorem run_main : θ_run defs (onTc (τ := τ) (main (F := F))) (s₀ m ρ)
    (fun r => (∀ c : Dev nD, ∀ b ∈ ucRefs τ sig, r.2.mem ((c : Thread nD τ).1, b) = final m ρ c b) ∧ r.2.sem = fun _ => 0) :=
  Pipeline.θ_run_regions_kit_sems (pcfgs (F := F)) adm (dats (V m ρ)) () (cellOf_inj adm) EP defs₀ Variants.none L lv m ρ main (segs m ρ)
    (fun c Q => by rw [main_segs m ρ c])
    (by simp only [Pipeline.Seg.pipes_host, Pipeline.Seg.pipes_region, Pipeline.Seg.pipes_nil]; decide) (O₀ := 0) (hL := fun g h => if_neg h) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (final m ρ c))
    (hch := ⟨fun _ => .rfl, fun c => pre_entry m ρ c, fun c => post_exit m ρ c⟩)
    (hinit := by
      refine Pipeline.initEach L lv fun c => ?_
      rw [show unscopedBufs c (fun b => m ((c : Thread nD τ).loc b)) = StableHlo.held (c : Thread nD τ) (ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = final m ρ c b)
    (hfin := fun c s' => by
      unfold StableHlo.held
      iintro ⟨Hh, HSI⟩
      ihave Hr := (pointsTo_read_all (ucRefs τ sig) (fun b => ((c : Thread nD τ).1, b)) (final m ρ c) s') $$ [Hh HSI]
      · isplitl [Hh] <;> iassumption
      imodintro; iexact Hr)
    (hQ := fun _ h hz => ⟨h, funext fun g => hz g (.inr (by revert g; decide))⟩)

end Cert.Proof.Sb
-- ==== Proof.SbResult.lean ====
/-
  The kernel's result array: the stick-breaking attention of the argument array; the argument ends unchanged.
-/
module

public import proofs.«01_k».proof.Proof.SbState
public import proofs.«01_k».proof.Proof.SbLaunched
public import Idealize.ShloMosaic.Lib.Pointwise

@[expose] public section

noncomputable section

namespace Cert.Proof.Sb

open Idealize.ShloMosaic Idealize.ShloMosaic.TcCoe Idealize.ShloMosaic.Pipeline Cert.Proof.Online Cert.KernelSIdeal Cert.KernelSIdeal.Gen
open Idealize.SL.Sem

section Args

variable {F : FTy → Type} [FloatOps F] [Named F] [∀ e, Nonempty (Elt F e)] (m : (ℓ : Loc nD τ sig) → Buf (Elt F) ℓ) (ρ : Dev nD → PrngReg) (c : Dev nD)

theorem final_arg0 : final m ρ c (Proc.devRef .tc main_arg0) = m ((c : Thread nD τ).loc main_arg0) :=
  (final_arr m ρ c 0).trans (((dats (V m ρ) 0 c).arrAt_in 0 rfl _).trans ((A_eq (V m ρ) c 0).trans (V_arg0 m ρ c)))

/-- The frame, over any floats: the call terminates, its argument ends unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    (h.1 c _ (devRef_mem_ucRefs (b := main_arg0) rfl)).trans (final_arg0 m ρ c), h.2⟩) (run_main m ρ)

end Args

/-! ### The result over the extended reals -/

variable (W : Dev nD → Valuation τ sig (Elt Ideal)) (c : Dev nD)

/-- The attention as contents of the result's array. -/
def res : Mat 8192 2048 := fun x => att (X W c) (x 0).val (x 1).val

theorem out_emb (t : Fin grid0.N) (i : Fin 256) (l : Fin 512) :
    ((((cfg (F := Ideal)).win 4).blk t).view.emb (ix2 i l) 0).val = (cb (grid0.coords t)).val * 4096 + (qN (pj t) * 256 + i.val)
    ∧ ((((cfg (F := Ideal)).win 4).blk t).view.emb (ix2 i l) 1).val = (ch (grid0.coords t)).val * 512 + l.val := by
  constructor
  · show cc0_transform_4 Facts₀.k0_off1_inb Facts₀.numel1_S1 (tabs (F := Ideal)) (grid0.coords t) 0 * 256 + 1 * i.val = _
    rw [ix_o0]
    show ((cb (grid0.coords t)).val * 16 + qN (pj t)) * 256 + 1 * i.val = _
    omega
  · show cc0_transform_4 Facts₀.k0_off1_inb Facts₀.numel1_S1 (tabs (F := Ideal)) (grid0.coords t) 1 * 512 + 1 * l.val = _
    rw [ix_o1, Nat.one_mul]

/-- Where each query block meets the first keys among the pairs. -/
def dj (q : Fin 16) : ℕ := q.val * (q.val + 1) / 2 + q.val

theorem dj_facts : ∀ q : Fin 16, ∀ j : Fin 136, j.val = dj q → qN j = q.val ∧ kN j = 0 := by decide +kernel
theorem dj_lt : ∀ q : Fin 16, dj q < 136 := by decide +kernel

theorem last_point (b : Fin 2) (h : Fin 4) (q : Fin 16) : ∃ t : Fin 1088,
    (cb (grid0.coords t)).val = b.val ∧ (ch (grid0.coords t)).val = h.val ∧ qN (pj t) = q.val ∧ kN (pj t) = 0 := by
  have hd := dj_lt q
  obtain ⟨hb, hh, hj⟩ := coords_facts ⟨b.val * 544 + h.val * 136 + dj q, by omega⟩
  refine ⟨⟨b.val * 544 + h.val * 136 + dj q, by omega⟩, hb.trans ?_, hh.trans ?_, ?_⟩
  · show (b.val * 544 + h.val * 136 + dj q) / 544 = b.val
    omega
  · show (b.val * 544 + h.val * 136 + dj q) / 136 % 4 = h.val
    omega
  · refine dj_facts q _ (hj.trans ?_)
    show (b.val * 544 + h.val * 136 + dj q) % 136 = dj q
    omega

set_option backward.isDefEq.respectTransparency.types false in
theorem result_arr (hR : RealScores (X W c)) (hL : Later W c) : (dats W 0 c).arrAt (4 : Fin 5) (cfg (F := Ideal)).N = res W c := by
  refine (dats W 0 c).arrAt_eq_of_emb (4 : Fin 5) (res W c) (fun t hf y => ?_) fun x => ?_
  · have hd : kN (pj t) = 0 := by
      by_contra hne
      have := flush_off (F := Ideal) t hne
      rw [this] at hf
      exact absurd hf (by decide)
    obtain ⟨i, d, rfl⟩ : ∃ (i : Fin 256) (d : Fin 512), y = (ix2 i d : S256x512.Idx) := ⟨y 0, y 1, eq_ix2 _⟩
    obtain ⟨h0, h1⟩ := out_emb t i d
    show unstack (F := Ideal) (stAt W c (t.val + 1)).acc (ix2 i d)
      = att (X W c) ((((cfg (F := Ideal)).win 4).blk t).view.emb (ix2 i d) 0).val ((((cfg (F := Ideal)).win 4).blk t).view.emb (ix2 i d) 1).val
    rw [h0, h1]
    exact written W c hR hL t hd i d
  · obtain ⟨t, hb, hh, hq, hk⟩ := last_point ⟨(x 0).val / 4096, by have : (x 0).val < 8192 := (x 0).isLt; omega⟩
      ⟨(x 1).val / 512, by have : (x 1).val < 2048 := (x 1).isLt; omega⟩ ⟨(x 0).val % 4096 / 256, by omega⟩
    refine ⟨t, flush_on (F := Ideal) t hk, ?_⟩
    have hx : x = (((cfg (F := Ideal)).win 4).blk t).view.emb (ix2 (⟨(x 0).val % 256, by omega⟩ : Fin 256) (⟨(x 1).val % 512, by omega⟩ : Fin 512)) := by
      obtain ⟨h0, h1⟩ := out_emb t ⟨(x 0).val % 256, by omega⟩ ⟨(x 1).val % 512, by omega⟩
      funext a
      refine Fin.ext ?_
      match a with
      | 0 => refine Eq.trans ?_ h0.symm; rw [hb, hq]; show (x 0).val = (x 0).val / 4096 * 4096 + ((x 0).val % 4096 / 256 * 256 + (x 0).val % 256); omega
      | 1 => refine Eq.trans ?_ h1.symm; rw [hh]; show (x 1).val = (x 1).val / 512 * 512 + (x 1).val % 512; omega
    rw [hx]
    exact View.emb_mem_set _ _

/-! ### What the region is entered with -/

/-- The matrix of later places. -/
def laterMat : FVec Ideal S256x256 .bf16 :=
  truncf .bf16 (select (cmpi .sgt (iotaInDim S256x256 32 0 : IVec S256x256 32) (iotaInDim S256x256 32 1)) (broadcastInDim S256x256 ![] bcast_S_S256x256 (constant (F := Ideal) S_ .f32 0x3F800000#32)) (broadcastInDim S256x256 ![] bcast_S_S256x256 (constant (F := Ideal) S_ .f32 0x00000000#32))) bitsLt_bf16_f32

theorem one_eq : Ideal.ofBits .f32 0x3F800000#32 = 1 := by simp [Ideal.ofBits, Ideal.ieee, -EReal.coe_mul]; norm_num

theorem sgt_slt (x y : BitVec 32) : IntOp.cmpi .sgt x y = IntOp.cmpi .slt y x := rfl

theorem later_apply (r j : Fin 256) : laterMat (ix2 r j) = if j.val < r.val then 1 else 0 := by
  pointwise [laterMat]
  rw [sgt_slt, select_slt (by omega) (by omega)]

variable (m : (ℓ : Loc nD τ sig) → Buf (Elt Ideal) ℓ) (ρ : Dev nD → PrngReg)

theorem V_later : V m ρ c (Proc.devRef .tc main_v4) = laterMat := by
  show StableHlo.after hostOps (V₀ m ρ c) (Proc.devRef .tc main_v4) = _
  after_results <;> rfl

theorem later : Later (V m ρ) c := fun r j => (congrFun (V_later c m ρ) _).trans (later_apply r j)

end Cert.Proof.Sb

end
-- ==== Proof.SbRef.lean ====
/-
  The reference's stick-breaking attention read at an index over the extended reals.
-/
module

public import Idealize.ShloMosaic.Lib.Pointwise
public import proofs.«01_k».proof.Proof.Gen.ReferenceSIdeal.Run
public import proofs.«01_k».proof.Proof.SbSpec

@[expose] public section

noncomputable section

namespace Cert.Proof.Sb.Ref

open Idealize.ShloMosaic Cert.Proof.Online Cert.ReferenceSIdeal Cert.ReferenceSIdeal.Gen Cert.ReferenceSIdeal.Value

variable (x : FVec Ideal S8192x5120 .f32)

/-- The products of queries and keys, divided by the root of their length. -/
def prods : FVec Ideal S2x4x4x4096x4096 .f32 :=
  Host.divf (transpose S2x4x4x4096x4096 [0, 1, 4, 3, 2] (Host.dotGeneral dot_S2x4096x4x128_S2x4096x4x4x128_S2x4x4096x4096x4_3_4_1_13_02_02 none (shapeCast _ (extractStridedSlice S8192x512 ![0, 4096] x slices_S8192x5120_S8192x512_0_4096) shapeCasts_S8192x512_S2x4096x4x128) (shapeCast _ (extractStridedSlice S8192x2048 ![0, 2048] x slices_S8192x5120_S8192x2048_0_2048) shapeCasts_S8192x2048_S2x4096x4x4x128)) transposes_S2x4x4096x4096x4_S2x4x4x4096x4096_0_1_4_3_2) (broadcastInDim S2x4x4x4096x4096 ![] bcast_S_S2x4x4x4096x4096 (Host.sqrt (constant S_ .f32 0x43000000#32)))

/-- Zero from the query's own place on. -/
def masked (s : FVec Ideal S2x4x4x4096x4096 .f32) : FVec Ideal S2x4x4x4096x4096 .f32 :=
  select (broadcastInDim S2x4x4x4096x4096 ![3, 4] bcast_S4096x4096_S2x4x4x4096x4096_3_4 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S2x4x4x4096x4096 ![] bcast_S_S2x4x4x4096x4096 (id (constant S_ .f32 0x00000000#32)))

/-- An array of zeros. -/
def zeros : FVec Ideal S2x4x4x4096x4096 .f32 := broadcastInDim S2x4x4x4096x4096 ![] bcast_S_S2x4x4x4096x4096 (constant S_ .f32 0x00000000#32)

/-- The logarithm of the logistic function. -/
def ls (u : FVec Ideal S2x4x4x4096x4096 .f32) : FVec Ideal S2x4x4x4096x4096 .f32 :=
  Host.negf (select (cmpf .une (subf (Host.negf u) zeros) (subf (Host.negf u) zeros)) (addf (Host.negf u) zeros) (addf (maximumf (Host.negf u) zeros) (Host.log1p (Host.exp (Host.negf (Host.absf (subf (Host.negf u) zeros)))))))

/-- The running sum from the end. -/
def tails (s : FVec Ideal S2x4x4x4096x4096 .f32) : FVec Ideal S2x4x4x4096x4096 .f32 :=
  Host.reduceWindowAdd ![1, 1, 1, 1, 4096] ![1, 1, 1, 1, 1] ![0, 0, 0, 0, 0] ![0, 0, 0, 0, 4095] s (broadcastInDim S_ ![] bcast_S_S_ (constant S_ .f32 0x00000000#32)) reduceWindows_S2x4x4x4096x4096_S2x4x4x4096x4096_w1s1p0_0_w1s1p0_0_w1s1p0_0_w1s1p0_0_w4096s1p0_4095 h_S_

/-- The weights. -/
def wts (z : FVec Ideal S2x4x4x4096x4096 .f32) : FVec Ideal S2x4x4x4096x4096 .f32 :=
  masked (Host.exp (subf (addf (ls z) (tails (masked (ls (Host.negf z))))) (masked (ls (Host.negf z)))))

/-- The weighted sum of the values. -/
def out (p : FVec Ideal S2x4x4x4096x4096 .f32) : FVec Ideal S8192x2048 .f32 :=
  shapeCast _ (transpose S2x4096x4x4x128 [0, 4, 1, 3, 2] (Host.dotGeneral dot_S2x4096x4x128_S2x4x4x4096x4096_S2x4x128x4x4096_1_4_3_23_02_01 none (shapeCast _ (extractStridedSlice S8192x512 ![0, 4608] x slices_S8192x5120_S8192x512_0_4608) shapeCasts_S8192x512_S2x4096x4x128) p) transposes_S2x4x128x4x4096_S2x4096x4x4x128_0_4_1_3_2) shapeCasts_S2x4096x4x4x128_S8192x2048

theorem res_eq (m : (ℓ : Loc nD τ sig) → Buf (Elt Ideal) ℓ) (c : Dev nD) :
    res_out0 m c = out (m ((c.tc : Thread nD τ).loc main_arg0)) (wts (prods (m ((c.tc : Thread nD τ).loc main_arg0)))) := rfl

theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

theorem div_sqrt (x : EReal) : Ideal.div x (Ideal.sqrt (Ideal.ofBits .f32 0x43000000#32)) = x * scale := by
  rw [sqrt_128, Ideal.div_coe (by positivity), one_div, scale]

/-! ### The window's sum -/

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

theorem sum_window_idx {n : ℕ} (g : (⟨5, ![1, 1, 1, 1, n]⟩ : Shape).Idx → EReal) : (∑ y, g y) = ∑ k : Fin n, g (ix5 0 0 0 0 k) := by
  refine (Function.Bijective.sum_comp (e := fun k : Fin n => (ix5 0 0 0 0 k : (⟨5, ![1, 1, 1, 1, n]⟩ : Shape).Idx)) ⟨fun k k' h => ?_, fun y => ?_⟩ g).symm
  · exact congrFun h 4
  · refine ⟨y 4, funext fun a => ?_⟩
    match a with
    | 0 => exact Subsingleton.elim (α := Fin 1) _ _
    | 1 => exact Subsingleton.elim (α := Fin 1) _ _
    | 2 => exact Subsingleton.elim (α := Fin 1) _ _
    | 3 => exact Subsingleton.elim (α := Fin 1) _ _
    | 4 => rfl

/-- A window along the last of five axes, padded at its end with zeros, at an index. -/
theorem window_last {a b c d n n1 : ℕ} {u : Shape} (x : FVec Ideal ⟨5, ![a, b, c, d, n]⟩ .f32) (init : FVec Ideal u .f32)
    (h : (⟨5, ![a, b, c, d, n]⟩ : Shape).ReduceWindows (![1, 1, 1, 1, n] : Fin 5 → ℕ) ![1, 1, 1, 1, 1] ![0, 0, 0, 0, 0] ![0, 0, 0, 0, n1] ⟨5, ![a, b, c, d, n]⟩)
    (hu : 0 < u.numel) (hv : init (Shape.Idx.first hu) = 0) (p : Fin a) (q : Fin b) (r : Fin c) (w : Fin d) (s : Fin n) :
    Host.reduceWindowAdd ![1, 1, 1, 1, n] ![1, 1, 1, 1, 1] ![0, 0, 0, 0, 0] ![0, 0, 0, 0, n1] x init h hu (ix5 p q r w s)
      = ∑ k : Fin n, if hk : s.val + k.val < n then x (ix5 p q r w ⟨s.val + k.val, hk⟩) else 0 := by
  show Ideal.hostReduceWindowAdd ![1, 1, 1, 1, n] ![1, 1, 1, 1, 1] ![0, 0, 0, 0, 0] ![0, 0, 0, 0, n1] h x (init (Shape.Idx.first hu)) (ix5 p q r w s) = _
  rw [hv]
  unfold Ideal.hostReduceWindowAdd Host.reduceWindow
  dsimp only
  rw [foldl_add, zero_add, ← Fin.sum_univ_def]
  refine Eq.trans (Finset.sum_congr rfl fun i _ => ?_)
    ((Equiv.sum_comp (⟨5, ![1, 1, 1, 1, n]⟩ : Shape).rowMajor.symm (fun y : (⟨5, ![1, 1, 1, 1, n]⟩ : Shape).Idx =>
      if hk : s.val + (y 4).val < n then x (ix5 p q r w ⟨s.val + (y 4).val, hk⟩) else 0)).trans (sum_window_idx _))
  have y0 : ((⟨5, ![1, 1, 1, 1, n]⟩ : Shape).rowMajor.symm i 0).val = 0 := by have h : ((⟨5, ![1, 1, 1, 1, n]⟩ : Shape).rowMajor.symm i 0).val < 1 := ((⟨5, ![1, 1, 1, 1, n]⟩ : Shape).rowMajor.symm i 0).isLt; omega
  have y1 : ((⟨5, ![1, 1, 1, 1, n]⟩ : Shape).rowMajor.symm i 1).val = 0 := by have h : ((⟨5, ![1, 1, 1, 1, n]⟩ : Shape).rowMajor.symm i 1).val < 1 := ((⟨5, ![1, 1, 1, 1, n]⟩ : Shape).rowMajor.symm i 1).isLt; omega
  have y2 : ((⟨5, ![1, 1, 1, 1, n]⟩ : Shape).rowMajor.symm i 2).val = 0 := by have h : ((⟨5, ![1, 1, 1, 1, n]⟩ : Shape).rowMajor.symm i 2).val < 1 := ((⟨5, ![1, 1, 1, 1, n]⟩ : Shape).rowMajor.symm i 2).isLt; omega
  have y3 : ((⟨5, ![1, 1, 1, 1, n]⟩ : Shape).rowMajor.symm i 3).val = 0 := by have h : ((⟨5, ![1, 1, 1, 1, n]⟩ : Shape).rowMajor.symm i 3).val < 1 := ((⟨5, ![1, 1, 1, 1, n]⟩ : Shape).rowMajor.symm i 3).isLt; omega
  have hp := p.isLt
  have hq := q.isLt
  have hr := r.isLt
  have hw := w.isLt
  by_cases hk : s.val + ((⟨5, ![1, 1, 1, 1, n]⟩ : Shape).rowMajor.symm i 4).val < n
  · rw [dif_pos hk, dif_pos (fun e => by
      match e with
      | 0 => show 0 ≤ p.val * 1 + ((⟨5, ![1, 1, 1, 1, n]⟩ : Shape).rowMajor.symm i 0).val ∧ p.val * 1 + ((⟨5, ![1, 1, 1, 1, n]⟩ : Shape).rowMajor.symm i 0).val - 0 < a; omega
      | 1 => show 0 ≤ q.val * 1 + ((⟨5, ![1, 1, 1, 1, n]⟩ : Shape).rowMajor.symm i 1).val ∧ q.val * 1 + ((⟨5, ![1, 1, 1, 1, n]⟩ : Shape).rowMajor.symm i 1).val - 0 < b; omega
      | 2 => show 0 ≤ r.val * 1 + ((⟨5, ![1, 1, 1, 1, n]⟩ : Shape).rowMajor.symm i 2).val ∧ r.val * 1 + ((⟨5, ![1, 1, 1, 1, n]⟩ : Shape).rowMajor.symm i 2).val - 0 < c; omega
      | 3 => show 0 ≤ w.val * 1 + ((⟨5, ![1, 1, 1, 1, n]⟩ : Shape).rowMajor.symm i 3).val ∧ w.val * 1 + ((⟨5, ![1, 1, 1, 1, n]⟩ : Shape).rowMajor.symm i 3).val - 0 < d; omega
      | 4 => show 0 ≤ s.val * 1 + ((⟨5, ![1, 1, 1, 1, n]⟩ : Shape).rowMajor.symm i 4).val ∧ s.val * 1 + ((⟨5, ![1, 1, 1, 1, n]⟩ : Shape).rowMajor.symm i 4).val - 0 < n; omega)]
    refine congrArg x (funext fun e => Fin.ext ?_)
    match e with
    | 0 => show p.val * 1 + ((⟨5, ![1, 1, 1, 1, n]⟩ : Shape).rowMajor.symm i 0).val - 0 = p.val; omega
    | 1 => show q.val * 1 + ((⟨5, ![1, 1, 1, 1, n]⟩ : Shape).rowMajor.symm i 1).val - 0 = q.val; omega
    | 2 => show r.val * 1 + ((⟨5, ![1, 1, 1, 1, n]⟩ : Shape).rowMajor.symm i 2).val - 0 = r.val; omega
    | 3 => show w.val * 1 + ((⟨5, ![1, 1, 1, 1, n]⟩ : Shape).rowMajor.symm i 3).val - 0 = w.val; omega
    | 4 => show s.val * 1 + ((⟨5, ![1, 1, 1, 1, n]⟩ : Shape).rowMajor.symm i 4).val - 0 = s.val + ((⟨5, ![1, 1, 1, 1, n]⟩ : Shape).rowMajor.symm i 4).val; omega
  · rw [dif_neg hk, dif_neg (fun hin => hk ?_)]
    have h4 : s.val * 1 + ((⟨5, ![1, 1, 1, 1, n]⟩ : Shape).rowMajor.symm i 4).val - 0 < n := (hin 4).2
    omega

/-- The same over real entries. -/
theorem window_real (f : ℕ → ℝ) (n s : ℕ) : (∑ k : Fin n, if s + k.val < n then ((f (s + k.val) : ℝ) : EReal) else 0) = ((∑ r ∈ Finset.Ico s n, f r : ℝ) : EReal) := by
  rw [Fin.sum_univ_eq_sum_range (fun k => if s + k < n then ((f (s + k) : ℝ) : EReal) else 0) n, ← Finset.sum_filter, Finset.sum_Ico_eq_sum_range]
  rw [show (Finset.range n).filter (fun k => s + k < n) = Finset.range (n - s) from by ext k; simp only [Finset.mem_filter, Finset.mem_range]; omega]
  generalize Finset.range (n - s) = S
  induction S using Finset.induction_on with
  | empty => simp
  | insert k S hk ih => rw [Finset.sum_insert hk, Finset.sum_insert hk, ih, EReal.coe_add]

/-! ### The arrays at an index -/

theorem prods_apply (b : Fin 2) (k g : Fin 4) (t j : Fin 4096) :
    prods x (ix5 b k g t j) = raw x b.val (k.val * 4 + g.val) t.val j.val := by
  rw [raw]
  pointwise [prods]
  rw [div_sqrt]
  congr 1
  refine Finset.sum_congr rfl fun d _ => ?_
  rw [rd_of x (by omega) (by omega), rd_of x (by omega) (by omega), mul_comm]
  congr 3 <;> exact Fin.ext (by dsimp only; omega)

theorem select_slt {α : Type} {a b : ℕ} (ha : a < 4096) (hb : b < 4096) (x y : α) :
    Scalar.select (IntOp.cmpi .slt (BitVec.ofNat 32 a) (BitVec.ofNat 32 b)) x y = if a < b then x else y := by
  rw [Idealize.ShloMosaic.WordCmp.cmpi_slt_ofNat (by omega) (by omega)]
  by_cases h : a < b <;> simp [Scalar.select, h]

theorem zero_bits : Ideal.ofBits .f32 0x00000000#32 = 0 := by simp [Ideal.ofBits, Ideal.ieee]

theorem masked_apply (s : FVec Ideal S2x4x4x4096x4096 .f32) (b : Fin 2) (k g : Fin 4) (t j : Fin 4096) :
    masked s (ix5 b k g t j) = if j.val < t.val then s (ix5 b k g t j) else 0 := by
  pointwise [masked]
  rw [select_slt j.isLt t.isLt]
  exact if_congr Iff.rfl rfl zero_bits

theorem ls_apply (u : FVec Ideal S2x4x4x4096x4096 .f32) (b : Fin 2) (k g : Fin 4) (t j : Fin 4096) (y : ℝ) (hy : u (ix5 b k g t j) = (y : EReal)) :
    ls u (ix5 b k g t j) = ((lsg y : ℝ) : EReal) := by
  refine Eq.trans ?_ (lsg_ref y)
  rw [← hy]
  pointwise [ls, zeros]
  rw [if_neg (not_not_intro rfl)]
  rfl

theorem tails_apply (s : FVec Ideal S2x4x4x4096x4096 .f32) (b : Fin 2) (k g : Fin 4) (t j : Fin 4096) (f : ℕ → ℝ) (hf : ∀ r : Fin 4096, s (ix5 b k g t r) = ((f r.val : ℝ) : EReal)) :
    tails s (ix5 b k g t j) = ((∑ r ∈ Finset.Ico j.val 4096, f r : ℝ) : EReal) := by
  rw [← window_real]
  unfold tails
  refine (window_last s _ _ _ ?_ b k g t j).trans (Finset.sum_congr rfl fun y _ => ?_)
  · exact zero_bits
  · split
    · rw [hf]
    · rfl

theorem wts_apply (z : FVec Ideal S2x4x4x4096x4096 .f32) (b : Fin 2) (k g : Fin 4) (t j : Fin 4096) (y : ℕ → ℝ) (hy : ∀ r : Fin 4096, z (ix5 b k g t r) = ((y r.val : ℝ) : EReal)) :
    wts z (ix5 b k g t j) = wt y t.val j.val := by
  have hlk : ∀ r : Fin 4096, masked (ls (Host.negf z)) (ix5 b k g t r) = ((lk y t.val r.val : ℝ) : EReal) := fun r => by
    rw [masked_apply, ls_apply _ _ _ _ _ _ (-(y r.val)) (by
      show -(z (ix5 b k g t r)) = _
      rw [hy, EReal.coe_neg]), lsg_neg, lk]
    split
    · rfl
    · rw [EReal.coe_zero]
  rw [wts, masked_apply, wt]
  refine if_congr Iff.rfl ?_ rfl
  show Ideal.exp (ls z (ix5 b k g t j) + tails (masked (ls (Host.negf z))) (ix5 b k g t j) - masked (ls (Host.negf z)) (ix5 b k g t j)) = _
  rw [ls_apply _ _ _ _ _ _ _ (hy j), tails_apply _ _ _ _ _ _ _ hlk, hlk, ← EReal.coe_add, ← EReal.coe_sub, Ideal.exp_coe,
    Finset.sum_eq_sum_Ico_succ_bot j.isLt]
  congr 2
  ring

theorem out_apply (s : FVec Ideal S2x4x4x4096x4096 .f32) (r : Fin 8192) (l : Fin 2048) :
    out x s (ix2 r l) = ∑ y : Fin 4096, vl x (r.val / 4096) (l.val / 128) (l.val % 128) y.val
      * s (ix5 ⟨r.val / 4096, by omega⟩ ⟨l.val / 512, by omega⟩ ⟨l.val / 128 % 4, by omega⟩ ⟨r.val % 4096, by omega⟩ y) := by
  pointwise [out]
  refine Finset.sum_congr rfl fun y _ => ?_
  rw [vl, rd_of x (by omega) (by omega)]
  congr 3
  all_goals (refine Fin.ext ?_; dsimp only; omega)

/-- The reference's result at an index, when every score is a real number: the attention. -/
theorem result_apply (r : Fin 8192) (l : Fin 2048)
    (hR : ∀ j : ℕ, j < 4096 → raw x (r.val / 4096) (l.val / 128) (r.val % 4096) j = ((zr x (r.val / 4096) (l.val / 128) (r.val % 4096) j : ℝ) : EReal)) :
    out x (wts (prods x)) (ix2 r l) = att x r.val l.val := by
  have eh : l.val / 512 * 4 + l.val / 128 % 4 = l.val / 128 := by omega
  rw [out_apply, att, Nat.Ico_zero_eq_range,
    ← Fin.sum_univ_eq_sum_range (fun s => wt (zr x (r.val / 4096) (l.val / 128) (r.val % 4096)) (r.val % 4096) s * vl x (r.val / 4096) (l.val / 128) (l.val % 128) s) 4096]
  refine Finset.sum_congr rfl fun y _ => ?_
  rw [mul_comm, wts_apply _ _ _ _ _ _ (zr x (r.val / 4096) (l.val / 128) (r.val % 4096)) fun j => by
    rw [prods_apply]; dsimp only; rw [eh]; exact hR j.val j.isLt]

end Cert.Proof.Sb.Ref

end
-- ==== Proof.SbFinite.lean ====
/-
  What the precondition says: the queries and keys are real numbers, so every score is one.
-/
module

public import proofs.«01_k».proof.Proof.Finite
public import proofs.«01_k».proof.Proof.Gen.Pre_finite_sb
public import proofs.«01_k».proof.Proof.SbSpec

@[expose] public section

noncomputable section

namespace Cert.Proof.Sb

open Idealize.ShloMosaic Cert.Proof.Online

/-- The columns from `a` up to `b` hold real numbers. -/
def RealOn {R C : ℕ} (X : Mat R C) (a b : ℕ) : Prop := ∀ r c, a ≤ c → c < b → ∃ x : ℝ, rd X r c = (x : EReal)

theorem raw_real {X : Mat 8192 5120} (hX : RealOn X 2048 4608) (b h t j : ℕ) (hh : h < 16) :
    raw X b h t j = ((zr X b h t j : ℝ) : EReal) := by
  choose q hq using fun d : Fin 128 => hX (b * 4096 + t) ((16 + h) * 128 + d.val) (by omega) (by omega)
  choose k hk using fun d : Fin 128 => hX (b * 4096 + j) ((32 + h / 4) * 128 + d.val) (by omega) (by omega)
  have e : raw X b h t j = (((∑ d, q d * k d) * (Real.sqrt 128)⁻¹ : ℝ) : EReal) := by
    rw [raw, EReal.coe_mul, coe_sum, scale]
    simp only [hq, hk, EReal.coe_mul]
  rw [zr, e, EReal.toReal_coe]

open Cert.Pre_finite_sb Cert.Pre_finite_sb.Gen

theorem slice0 (X : FVec Ideal S8192x5120 .f32) (r : Fin 8192) (c : Fin 2560) :
    extractStridedSlice S8192x2560 ![0, 2048] X slices_S8192x5120_S8192x2560_0_2048 (ix2 r c) = X (ix2 r ⟨2048 + c.val, by omega⟩) := by
  pointwise []

theorem finite_of (x0 : FVec Ideal S8192x5120 .f32)
    (h : fn (F := Ideal) x0 = fun _ => 1#1) : RealOn (R := 8192) (C := 5120) x0 2048 4608 := by
  have ha := congrFun h ix0
  refine fun r c hc hc' => ?_
  by_cases hr : r < 8192
  · obtain ⟨h1, h2⟩ := Flash.and_one (Host.reduce_andi_all _ _ _ _ _ ha (ix2 ⟨r, hr⟩ ⟨c - 2048, by omega⟩))
    obtain ⟨hbot, htop⟩ := Flash.passes _ h1 h2
    have e : rd (R := 8192) (C := 5120) x0 r c
        = extractStridedSlice S8192x2560 ![0, 2048] x0 slices_S8192x5120_S8192x2560_0_2048 (ix2 ⟨r, hr⟩ ⟨c - 2048, by omega⟩) := by
      rw [rd_of _ hr (by omega), slice0]
      exact congrArg x0 (congrArg (ix2 _) (Fin.ext (by dsimp only; omega)))
    exact ⟨_, e.trans (EReal.coe_toReal htop hbot).symm⟩
  · exact ⟨0, by rw [rd, dif_neg (fun hh => hr hh.1)]; rfl⟩

end Cert.Proof.Sb

end
-- ==== Proof.Sb.lean ====
/-
  The stick-breaking attention's claims: the frame of both prints of the call, and the value.
-/
module

public import proofs.«01_k».proof.Defs
public import proofs.«01_k».proof.Proof.Gen.KernelS
public import proofs.«01_k».proof.Proof.SbResult
public import proofs.«01_k».proof.Proof.SbRef
public import proofs.«01_k».proof.Proof.SbFinite
public import Idealize.ShloMosaic.Adequacy
public import Idealize.ShloMosaic.Init

@[expose] public section

noncomputable section

namespace Cert.Proof.Sb

open Idealize.ShloMosaic Idealize.ShloMosaic.TcCoe Idealize.SL.Sem Cert.Proof.Online

/-- A named constant read as its own bits: the kernel as printed. -/
local instance bitsNamed : Named Bits where
  named _ _ _ b := FloatOps.ofBits (F := Bits) _ b

attribute [local instance] Cert.KernelS.Gen.facts Cert.KernelSIdeal.Gen.facts
attribute [local instance] Cert.KernelS.Gen.facts₀ Cert.KernelSIdeal.Gen.facts₀

/-- With a named constant read as its own bits, the two prints of the kernel are one program. -/
theorem body_eq : Cert.KernelS.cc0_sb_prompt (F := Bits) = Cert.KernelSIdeal.cc0_sb_prompt (F := Bits) := by
  unfold Cert.KernelS.cc0_sb_prompt Cert.KernelSIdeal.cc0_sb_prompt
  rfl
theorem bodies_eq : Cert.KernelS.defs₀ (F := Bits) = Cert.KernelSIdeal.defs₀ (F := Bits) := by
  unfold Cert.KernelS.defs₀ Cert.KernelSIdeal.defs₀
  refine congrArg Defs.onTc (funext fun l => funext fun p => ?_)
  match l, p with
  | ⟨0, _⟩, (t, s) =>
    show Cert.KernelS.cc0_sb_prompt (F := Bits) _ _ _ _ _ _ _ _ _ _ _ _ _ _ _ _ _ _ _ _ _ = _
    rw [body_eq]
    rfl
  | ⟨n + 1, h⟩, _ => exact absurd h (Nat.not_lt.2 (Nat.le_add_left _ _))
theorem defs_eq : Cert.KernelS.defs (F := Bits) = Cert.KernelSIdeal.defs (F := Bits) := by
  show Pipeline.defs (Cert.KernelS.pcfgs (F := Bits)) (Cert.KernelS.defs₀ (F := Bits)) = _
  rw [bodies_eq]
  rfl
theorem main_eq : Cert.KernelS.main (F := Bits) = Cert.KernelSIdeal.main (F := Bits) := by
  unfold Cert.KernelS.main Cert.KernelSIdeal.main
  rfl
theorem frame_k : Cert.quiescent_KernelS (hKernelS := Cert.KernelS.Gen.facts) := fun m g _ => by
  rw [defs_eq, main_eq]
  exact frame (F := Bits) m g

theorem frame_i : Cert.quiescent_KernelSIdeal (hKernelSIdeal := Cert.KernelSIdeal.Gen.facts) := fun m g _ =>
  frame (F := Ideal) m g

theorem frame_r (m : (ℓ : Loc Cert.ReferenceSIdeal.nD Cert.ReferenceSIdeal.τ Cert.ReferenceSIdeal.sig) → Buf (Elt Ideal) ℓ)
    (g : Dev Cert.ReferenceSIdeal.nD → PrngReg) :
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0))
      ∧ r.2.sem = fun _ => 0) :=
  (θ_run Cert.ReferenceSIdeal.defs _ _).mono (fun r h => ⟨fun c => (h c).2, Idealize.ShloMosaic.sem_eq_zero_of_no_sems (by decide) r.2⟩)
    (Cert.ReferenceSIdeal.Value.run (F := Ideal) m g)

theorem preserves : Cert.preserves_KernelS_KernelSIdeal :=
  IdealRules.named_const.statement Cert.KernelSIdeal.κ "scale" .f32 0x3DB504F3#32 (((Real.sqrt 128)⁻¹ : ℝ) : EReal) rfl

/-- The kernel's result and the reference's are the same stick-breaking attention of the same array. -/
theorem algebraic : Cert.algebraic_KernelSIdeal_ReferenceSIdeal_pre_finite_sb (hKernelSIdeal := Cert.KernelSIdeal.Gen.facts)
    (hReferenceSIdeal := Cert.ReferenceSIdeal.Gen.facts) (hPre_finite_sb := Cert.Pre_finite_sb.Gen.facts) := by
  intro m g m' g' hpre hagree
  have hR : ∀ c, RealScores (X (V m g) c) := fun c b h t j _ hh _ _ => by
    have e0 : X (V m g) c = m ((c.tc : Thread Cert.KernelSIdeal.nD Cert.KernelSIdeal.τ).loc Cert.KernelSIdeal.main_arg0) := V_arg0 m g c
    rw [e0]
    exact raw_real (finite_of _ (hpre c)) b h t j hh
  refine ⟨fun c => res (V m g) c, ?_, ?_⟩
  · refine (θ_run Cert.KernelSIdeal.defs _ _).mono (fun _ h c => ?_) (run_main (F := Ideal) m g)
    refine ⟨(h.1 c _ (Pipeline.devRef_mem_ucRefs (b := Cert.KernelSIdeal.main_v5) rfl)).trans ?_,
      (h.1 c _ (Pipeline.devRef_mem_ucRefs (b := Cert.KernelSIdeal.main_arg0) rfl)).trans (final_arg0 m g c)⟩
    exact (final_arr m g c (4 : Fin 5)).trans (result_arr (V m g) c (hR c) (later c m g))
  · refine (θ_run Cert.ReferenceSIdeal.defs _ _).mono (fun _ h c => ⟨(h c).1.trans ?_, (h c).2⟩)
      (Cert.ReferenceSIdeal.Value.run (F := Ideal) m' g')
    refine (Ref.res_eq m' c).trans ?_
    rw [hagree c]
    funext x
    obtain ⟨r, l, rfl⟩ : ∃ (r : Fin 8192) (l : Fin 2048), x = (ix2 r l : Cert.ReferenceSIdeal.S8192x2048.Idx) := ⟨x 0, x 1, eq_ix2 _⟩
    have e0 : X (V m g) c = m ((c.tc : Thread Cert.KernelSIdeal.nD Cert.KernelSIdeal.τ).loc Cert.KernelSIdeal.main_arg0) := V_arg0 m g c
    rw [← e0]
    exact Ref.result_apply _ r l fun j hj => hR c _ _ _ _ (by omega) (by omega) (by omega) hj

end Cert.Proof.Sb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_finite_scores
public import proofs.«01_k».proof.Proof.Gen.KernelS
public import proofs.«01_k».proof.Proof.Gen.KernelS.Skeleton
public import proofs.«01_k».proof.Proof.Gen.KernelS.Launch
public import proofs.«01_k».proof.Proof.Gen.KernelS.Flash
public import proofs.«01_k».proof.Proof.Gen.KernelSIdeal
public import proofs.«01_k».proof.Proof.Gen.KernelSIdeal.Skeleton
public import proofs.«01_k».proof.Proof.Gen.KernelSIdeal.Launch
public import proofs.«01_k».proof.Proof.Gen.KernelSIdeal.Flash
public import proofs.«01_k».proof.Proof.Gen.ReferenceSIdeal
public import proofs.«01_k».proof.Proof.Gen.ReferenceSIdeal.Run
public import proofs.«01_k».proof.Proof.Gen.Pre_finite_sb
public import proofs.«01_k».proof.Proof.Gen.KernelF
public import proofs.«01_k».proof.Proof.Gen.KernelF.Skeleton
public import proofs.«01_k».proof.Proof.Gen.KernelF.Launch
public import proofs.«01_k».proof.Proof.Gen.KernelF.Flash
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Flash
public import proofs.«01_k».proof.Proof.Gen.ReferenceFIdeal
public import proofs.«01_k».proof.Proof.Gen.ReferenceFIdeal.Run
public import proofs.«01_k».proof.Proof.Gen.Pre_finite_fox
public import proofs.«01_k».proof.Proof.Gen.KernelO
public import proofs.«01_k».proof.Proof.Gen.KernelO.Frame
public import proofs.«01_k».proof.Proof.Gen.KernelOIdeal
public import proofs.«01_k».proof.Proof.Gen.KernelOIdeal.Value
public import proofs.«01_k».proof.Proof.Gen.ReferenceOIdeal
public import proofs.«01_k».proof.Proof.Gen.ReferenceOIdeal.Run
public import proofs.«01_k».proof.Proof.OutLn
public import proofs.«01_k».proof.Proof.ProjA
public import proofs.«01_k».proof.Proof.ProjB
public import proofs.«01_k».proof.Proof.ProjC
public import proofs.«01_k».proof.Proof.ProjD
public import proofs.«01_k».proof.Proof.Gen.KernelB
public import proofs.«01_k».proof.Proof.Gen.KernelBIdeal
public import proofs.«01_k».proof.Proof.Gen.KernelBIdeal.Value
public import proofs.«01_k».proof.Proof.Gen.ReferenceBIdeal
public import proofs.«01_k».proof.Proof.Gen.ReferenceBIdeal.Run
public import proofs.«01_k».proof.Proof.Gen.KernelB.Frame
public import proofs.«01_k».proof.Proof.Gen.KernelC
public import proofs.«01_k».proof.Proof.Gen.KernelCIdeal
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.KernelC.Frame
public import proofs.«01_k».proof.Proof.Gen.KernelA
public import proofs.«01_k».proof.Proof.Gen.KernelAIdeal
public import proofs.«01_k».proof.Proof.Gen.KernelAIdeal.Value
public import proofs.«01_k».proof.Proof.Gen.ReferenceAIdeal
public import proofs.«01_k».proof.Proof.Gen.ReferenceAIdeal.Run
public import proofs.«01_k».proof.Proof.Gen.KernelA.Frame
public import proofs.«01_k».proof.Proof.Gen.Pre_finite_proj
public import proofs.«01_k».proof.Proof.Gen.KernelD
public import proofs.«01_k».proof.Proof.Gen.KernelDIdeal
public import proofs.«01_k».proof.Proof.Gen.KernelDIdeal.Value
public import proofs.«01_k».proof.Proof.Gen.ReferenceDIdeal
public import proofs.«01_k».proof.Proof.Gen.ReferenceDIdeal.Run
public import proofs.«01_k».proof.Proof.Gen.KernelD.Frame
public import proofs.«01_k».proof.Proof.RefEq
public import proofs.«01_k».proof.Proof.Finite
public import proofs.«01_k».proof.Proof.Result
public import proofs.«01_k».proof.Proof.Fox
public import proofs.«01_k».proof.Proof.Sb
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- A named constant read as its own bits: the kernel as printed. -/
local instance bitsNamed : Named Bits where
  named _ _ _ b := FloatOps.ofBits (F := Bits) _ b

attribute [local instance] Cert.Kernel.Gen.facts Cert.KernelIdeal.Gen.facts
attribute [local instance] Cert.Kernel.Gen.facts₀ Cert.KernelIdeal.Gen.facts₀
/-- With a named constant read as its own bits, the two prints of the kernel are one program. -/
theorem body_eq : Cert.Kernel.cc0_flash_prompt (F := Bits) = Cert.KernelIdeal.cc0_flash_prompt (F := Bits) := by
  unfold Cert.Kernel.cc0_flash_prompt Cert.KernelIdeal.cc0_flash_prompt
  rfl
theorem bodies_eq : Cert.Kernel.defs₀ (F := Bits) = Cert.KernelIdeal.defs₀ (F := Bits) := by
  unfold Cert.Kernel.defs₀ Cert.KernelIdeal.defs₀
  refine congrArg Defs.onTc (funext fun l => funext fun p => ?_)
  match l, p with
  | ⟨0, _⟩, (t, s) =>
    show Cert.Kernel.cc0_flash_prompt (F := Bits) _ _ _ _ _ _ _ _ _ _ _ _ _ _ _ _ _ _ _ = _
    rw [body_eq]
    rfl
  | ⟨n + 1, h⟩, _ => exact absurd h (Nat.not_lt.2 (Nat.le_add_left _ _))
theorem defs_eq : Cert.Kernel.defs (F := Bits) = Cert.KernelIdeal.defs (F := Bits) := by
  show Pipeline.defs (Cert.Kernel.pcfgs (F := Bits)) (Cert.Kernel.defs₀ (F := Bits)) = _
  rw [bodies_eq]
  rfl
theorem main_eq : Cert.Kernel.main (F := Bits) = Cert.KernelIdeal.main (F := Bits) := rfl
theorem frame_k : Cert.quiescent_Kernel (hKernel := Cert.Kernel.Gen.facts) := fun m g _ => by
  rw [defs_eq, main_eq]
  exact Flash.frame (F := Bits) m g

theorem frame_i : Cert.quiescent_KernelIdeal (hKernelIdeal := Cert.KernelIdeal.Gen.facts) := fun m g _ =>
  Flash.frame (F := Ideal) m g

theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem preserves : Cert.preserves_Kernel_KernelIdeal :=
  IdealRules.named_const.statement Cert.KernelIdeal.κ "scale" .f32 0x3D93CD3A#32 (((Real.sqrt 192)⁻¹ : ℝ) : EReal) rfl

/-- The kernel's result and the reference's are the same attention of the same three arrays. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  refine ⟨fun c => Flash.G (Flash.V m g) c, ?_, ?_⟩
  · refine (θ_run Cert.KernelIdeal.defs _ _).mono (fun _ h c => ?_) (Flash.run_main (F := Ideal) m g)
    refine ⟨(h.1 c _ (Pipeline.devRef_mem_ucRefs (b := Cert.KernelIdeal.main_v0) rfl)).trans ?_,
      (h.1 c _ (Pipeline.devRef_mem_ucRefs (b := Cert.KernelIdeal.main_arg0) rfl)).trans (Flash.final_arg0 m g c),
      (h.1 c _ (Pipeline.devRef_mem_ucRefs (b := Cert.KernelIdeal.main_arg1) rfl)).trans (Flash.final_arg1 m g c),
      (h.1 c _ (Pipeline.devRef_mem_ucRefs (b := Cert.KernelIdeal.main_arg2) rfl)).trans (Flash.final_arg2 m g c)⟩
    exact (Pipeline.afterRegion_arr (Flash.dats (Flash.V m g) 0 c) (Flash.V m g c)
      (Cert.KernelIdeal.Gen.launch0 (F := Ideal)).win.arr_inj (3 : Fin 4)).trans (Flash.result_arr (Flash.V m g) c)
  · refine (θ_run Cert.ReferenceIdeal.defs _ _).mono (fun _ h c => ⟨(h c).1.trans ?_, (h c).2⟩)
      (Cert.ReferenceIdeal.Value.run (F := Ideal) m' g')
    obtain ⟨hQ, hK⟩ := Flash.finite_of _ _ _ (hpre c)
    refine (Flash.Ref.res_eq m' c).trans ?_
    rw [(hagree c).1, (hagree c).2.1, (hagree c).2.2]
    funext x
    obtain ⟨r, l, rfl⟩ : ∃ (r : Fin 8192) (l : Fin 2048), x = (ix2 r l : Cert.ReferenceIdeal.S8192x2048.Idx) := ⟨x 0, x 1, eq_ix2 _⟩
    refine (Flash.Ref.result_apply _ _ _ r l (fun b h t => Flash.sc_zero_ne_bot hQ hK b h t)
      (fun b h t j => Flash.sc_ne_top hQ hK b h t j)).trans ?_
    have e0 : Flash.Q (Flash.V m g) c = m ((c.tc : Thread Cert.KernelIdeal.nD Cert.KernelIdeal.τ).loc Cert.KernelIdeal.main_arg0) :=
      Flash.V_arg m g c Cert.KernelIdeal.main_arg0 (by decide) (by decide)
    have e1 : Flash.K (Flash.V m g) c = m ((c.tc : Thread Cert.KernelIdeal.nD Cert.KernelIdeal.τ).loc Cert.KernelIdeal.main_arg1) :=
      Flash.V_arg m g c Cert.KernelIdeal.main_arg1 (by decide) (by decide)
    have e2 : Flash.Vv (Flash.V m g) c = m ((c.tc : Thread Cert.KernelIdeal.nD Cert.KernelIdeal.τ).loc Cert.KernelIdeal.main_arg2) :=
      Flash.V_arg m g c Cert.KernelIdeal.main_arg2 (by decide) (by decide)
    rw [← e0, ← e1, ← e2]
    rfl

theorem claim : Cert.Claim :=
  ⟨Cert.Kernel.Gen.facts, Cert.KernelIdeal.Gen.facts, Cert.ReferenceIdeal.Gen.facts,
    Cert.KernelA.Gen.facts, Cert.KernelAIdeal.Gen.facts, Cert.ReferenceAIdeal.Gen.facts,
    Cert.KernelB.Gen.facts, Cert.KernelBIdeal.Gen.facts, Cert.ReferenceBIdeal.Gen.facts,
    Cert.KernelC.Gen.facts, Cert.KernelCIdeal.Gen.facts, Cert.ReferenceCIdeal.Gen.facts,
    Cert.KernelD.Gen.facts, Cert.KernelDIdeal.Gen.facts, Cert.ReferenceDIdeal.Gen.facts,
    Cert.KernelF.Gen.facts, Cert.KernelFIdeal.Gen.facts, Cert.ReferenceFIdeal.Gen.facts,
  Cert.KernelS.Gen.facts, Cert.KernelSIdeal.Gen.facts, Cert.ReferenceSIdeal.Gen.facts,
    Cert.KernelO.Gen.facts, Cert.KernelOIdeal.Gen.facts, Cert.ReferenceOIdeal.Gen.facts, Cert.Pre_finite_scores.Gen.facts, Cert.Pre_finite_proj.Gen.facts, Cert.Pre_finite_fox.Gen.facts, Cert.Pre_finite_sb.Gen.facts,
    frame_k, frame_i, fun m g _ => frame_i m g trivial, fun m g _ => frame_r m g, fun m g _ => frame_r m g,
    fun m g _ => Cert.KernelA.Gen.frame m g, fun m g _ => Cert.KernelAIdeal.Gen.frame m g, fun m g _ => Cert.KernelAIdeal.Gen.frame m g,
    fun m g _ => ProjA.frame_r m g, fun m g _ => ProjA.frame_r m g,
    fun m g _ => Cert.KernelB.Gen.frame m g, fun m g _ => Cert.KernelBIdeal.Gen.frame m g, ProjB.frame_r,
    fun m g _ => Cert.KernelC.Gen.frame m g, fun m g _ => Cert.KernelCIdeal.Gen.frame m g, ProjC.frame_r,
    fun m g _ => Cert.KernelD.Gen.frame m g, fun m g _ => Cert.KernelDIdeal.Gen.frame m g, ProjD.frame_r,
    Fox.frame_k, Fox.frame_i, fun m g _ => Fox.frame_i m g trivial, fun m g _ => Fox.frame_r m g, fun m g _ => Fox.frame_r m g,
  Sb.frame_k, Sb.frame_i, fun m g _ => Sb.frame_i m g trivial, fun m g _ => Sb.frame_r m g, fun m g _ => Sb.frame_r m g,
    fun m g _ => Cert.KernelO.Gen.frame m g, fun m g _ => Cert.KernelOIdeal.Gen.frame m g, OutLn.frame_r,
    preserves, algebraic, trivial, ProjA.algebraic, trivial, ProjB.algebraic, trivial, ProjC.algebraic, trivial, ProjD.algebraic, Fox.preserves, Fox.algebraic, Sb.preserves, Sb.algebraic,
    OutLn.preserves, OutLn.algebraic⟩

end Cert.Proof

end
